-- ==== Defs.lean ====
def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_NormA (m : (ℓ : Loc Cert.NormA.nD Cert.NormA.τ Cert.NormA.sig) → Buf (Elt Bits) ℓ) : Prop :=
  True

def Pre_NormAIdeal (m : (ℓ : Loc Cert.NormAIdeal.nD Cert.NormAIdeal.τ Cert.NormAIdeal.sig) → Buf (Elt Ideal) ℓ) : Prop :=
  True

def Pre_NormARefIdeal (m : (ℓ : Loc Cert.NormARefIdeal.nD Cert.NormARefIdeal.τ Cert.NormARefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2)
      ∧ r.2.mem ((c.tc : Thread Cert.Gu.nD Cert.Gu.τ).loc Cert.Gu.main_arg3) = m ((c.tc : Thread Cert.Gu.nD Cert.Gu.τ).loc Cert.Gu.main_arg3)
      ∧ r.2.mem ((c.tc : Thread Cert.Gu.nD Cert.Gu.τ).loc Cert.Gu.main_arg4) = m ((c.tc : Thread Cert.Gu.nD Cert.Gu.τ).loc Cert.Gu.main_arg4)
      ∧ r.2.mem ((c.tc : Thread Cert.Gu.nD Cert.Gu.τ).loc Cert.Gu.main_arg5) = m ((c.tc : Thread Cert.Gu.nD Cert.Gu.τ).loc Cert.Gu.main_arg5)
      ∧ r.2.mem ((c.tc : Thread Cert.Gu.nD Cert.Gu.τ).loc Cert.Gu.main_arg6) = m ((c.tc : Thread Cert.Gu.nD Cert.Gu.τ).loc Cert.Gu.main_arg6))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
      ∧ r.2.mem ((c.tc : Thread Cert.GuIdeal.nD Cert.GuIdeal.τ).loc Cert.GuIdeal.main_arg4) = m ((c.tc : Thread Cert.GuIdeal.nD Cert.GuIdeal.τ).loc Cert.GuIdeal.main_arg4)
      ∧ r.2.mem ((c.tc : Thread Cert.GuIdeal.nD Cert.GuIdeal.τ).loc Cert.GuIdeal.main_arg5) = m ((c.tc : Thread Cert.GuIdeal.nD Cert.GuIdeal.τ).loc Cert.GuIdeal.main_arg5)
      ∧ r.2.mem ((c.tc : Thread Cert.GuIdeal.nD Cert.GuIdeal.τ).loc Cert.GuIdeal.main_arg6) = m ((c.tc : Thread Cert.GuIdeal.nD Cert.GuIdeal.τ).loc Cert.GuIdeal.main_arg6))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3)
      ∧ r.2.mem ((c.tc : Thread Cert.GuRefIdeal.nD Cert.GuRefIdeal.τ).loc Cert.GuRefIdeal.main_arg4) = m ((c.tc : Thread Cert.GuRefIdeal.nD Cert.GuRefIdeal.τ).loc Cert.GuRefIdeal.main_arg4)
      ∧ r.2.mem ((c.tc : Thread Cert.GuRefIdeal.nD Cert.GuRefIdeal.τ).loc Cert.GuRefIdeal.main_arg5) = m ((c.tc : Thread Cert.GuRefIdeal.nD Cert.GuRefIdeal.τ).loc Cert.GuRefIdeal.main_arg5)
      ∧ r.2.mem ((c.tc : Thread Cert.GuRefIdeal.nD Cert.GuRefIdeal.τ).loc Cert.GuRefIdeal.main_arg6) = m ((c.tc : Thread Cert.GuRefIdeal.nD Cert.GuRefIdeal.τ).loc Cert.GuRefIdeal.main_arg6))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8))
      ∧ r.2.sem = fun _ => 0)

def quiescent_NormA [hNormA : Cert.NormA.Facts] : Prop :=
  ∀ (m : (ℓ : Loc Cert.NormA.nD Cert.NormA.τ Cert.NormA.sig) → Buf (Elt Bits) ℓ) (g : Dev Cert.NormA.nD → PrngReg), Pre_NormA m →
    θ_run (Cert.NormA.defs (F := Bits)) (onTc (τ := Cert.NormA.τ) (Cert.NormA.main (F := Bits))) ⟨m, fun _ => 0, g⟩ (fun r => (∀ c : Dev Cert.NormA.nD,
      r.2.mem ((c.tc : Thread Cert.NormA.nD Cert.NormA.τ).loc Cert.NormA.main_arg0) = m ((c.tc : Thread Cert.NormA.nD Cert.NormA.τ).loc Cert.NormA.main_arg0)
      ∧ r.2.mem ((c.tc : Thread Cert.NormA.nD Cert.NormA.τ).loc Cert.NormA.main_arg1) = m ((c.tc : Thread Cert.NormA.nD Cert.NormA.τ).loc Cert.NormA.main_arg1)
      ∧ r.2.mem ((c.tc : Thread Cert.NormA.nD Cert.NormA.τ).loc Cert.NormA.main_arg2) = m ((c.tc : Thread Cert.NormA.nD Cert.NormA.τ).loc Cert.NormA.main_arg2)
      ∧ r.2.mem ((c.tc : Thread Cert.NormA.nD Cert.NormA.τ).loc Cert.NormA.main_arg3) = m ((c.tc : Thread Cert.NormA.nD Cert.NormA.τ).loc Cert.NormA.main_arg3))
      ∧ r.2.sem = fun _ => 0)

def quiescent_NormAIdeal [hNormAIdeal : Cert.NormAIdeal.Facts] : Prop :=
  ∀ (m : (ℓ : Loc Cert.NormAIdeal.nD Cert.NormAIdeal.τ Cert.NormAIdeal.sig) → Buf (Elt Ideal) ℓ) (g : Dev Cert.NormAIdeal.nD → PrngReg), Pre_NormAIdeal m →
    θ_run (Cert.NormAIdeal.defs (F := Ideal)) (onTc (τ := Cert.NormAIdeal.τ) (Cert.NormAIdeal.main (F := Ideal))) ⟨m, fun _ => 0, g⟩ (fun r => (∀ c : Dev Cert.NormAIdeal.nD,
      r.2.mem ((c.tc : Thread Cert.NormAIdeal.nD Cert.NormAIdeal.τ).loc Cert.NormAIdeal.main_arg0) = m ((c.tc : Thread Cert.NormAIdeal.nD Cert.NormAIdeal.τ).loc Cert.NormAIdeal.main_arg0)
      ∧ r.2.mem ((c.tc : Thread Cert.NormAIdeal.nD Cert.NormAIdeal.τ).loc Cert.NormAIdeal.main_arg1) = m ((c.tc : Thread Cert.NormAIdeal.nD Cert.NormAIdeal.τ).loc Cert.NormAIdeal.main_arg1)
      ∧ r.2.mem ((c.tc : Thread Cert.NormAIdeal.nD Cert.NormAIdeal.τ).loc Cert.NormAIdeal.main_arg2) = m ((c.tc : Thread Cert.NormAIdeal.nD Cert.NormAIdeal.τ).loc Cert.NormAIdeal.main_arg2)
      ∧ r.2.mem ((c.tc : Thread Cert.NormAIdeal.nD Cert.NormAIdeal.τ).loc Cert.NormAIdeal.main_arg3) = m ((c.tc : Thread Cert.NormAIdeal.nD Cert.NormAIdeal.τ).loc Cert.NormAIdeal.main_arg3))
      ∧ r.2.sem = fun _ => 0)

def quiescent_NormARefIdeal [hNormARefIdeal : Cert.NormARefIdeal.Facts] : Prop :=
  ∀ (m : (ℓ : Loc Cert.NormARefIdeal.nD Cert.NormARefIdeal.τ Cert.NormARefIdeal.sig) → Buf (Elt Ideal) ℓ) (g : Dev Cert.NormARefIdeal.nD → PrngReg), Pre_NormARefIdeal m →
    θ_run (Cert.NormARefIdeal.defs (F := Ideal)) (onTc (τ := Cert.NormARefIdeal.τ) (Cert.NormARefIdeal.main (F := Ideal))) ⟨m, fun _ => 0, g⟩ (fun r => (∀ c : Dev Cert.NormARefIdeal.nD,
      r.2.mem ((c.tc : Thread Cert.NormARefIdeal.nD Cert.NormARefIdeal.τ).loc Cert.NormARefIdeal.main_arg0) = m ((c.tc : Thread Cert.NormARefIdeal.nD Cert.NormARefIdeal.τ).loc Cert.NormARefIdeal.main_arg0)
      ∧ r.2.mem ((c.tc : Thread Cert.NormARefIdeal.nD Cert.NormARefIdeal.τ).loc Cert.NormARefIdeal.main_arg1) = m ((c.tc : Thread Cert.NormARefIdeal.nD Cert.NormARefIdeal.τ).loc Cert.NormARefIdeal.main_arg1)
      ∧ r.2.mem ((c.tc : Thread Cert.NormARefIdeal.nD Cert.NormARefIdeal.τ).loc Cert.NormARefIdeal.main_arg2) = m ((c.tc : Thread Cert.NormARefIdeal.nD Cert.NormARefIdeal.τ).loc Cert.NormARefIdeal.main_arg2)
      ∧ r.2.mem ((c.tc : Thread Cert.NormARefIdeal.nD Cert.NormARefIdeal.τ).loc Cert.NormARefIdeal.main_arg3) = m ((c.tc : Thread Cert.NormARefIdeal.nD Cert.NormARefIdeal.τ).loc Cert.NormARefIdeal.main_arg3))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3))
      ∧ r.2.sem = fun _ => 0)

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)
      ∧ m' ((c.tc : Thread Cert.GuRefIdeal.nD Cert.GuRefIdeal.τ).loc Cert.GuRefIdeal.main_arg3) = m ((c.tc : Thread Cert.GuIdeal.nD Cert.GuIdeal.τ).loc Cert.GuIdeal.main_arg3)
      ∧ m' ((c.tc : Thread Cert.GuRefIdeal.nD Cert.GuRefIdeal.τ).loc Cert.GuRefIdeal.main_arg4) = m ((c.tc : Thread Cert.GuIdeal.nD Cert.GuIdeal.τ).loc Cert.GuIdeal.main_arg4)
      ∧ m' ((c.tc : Thread Cert.GuRefIdeal.nD Cert.GuRefIdeal.τ).loc Cert.GuRefIdeal.main_arg5) = m ((c.tc : Thread Cert.GuIdeal.nD Cert.GuIdeal.τ).loc Cert.GuIdeal.main_arg5)
      ∧ m' ((c.tc : Thread Cert.GuRefIdeal.nD Cert.GuRefIdeal.τ).loc Cert.GuRefIdeal.main_arg6) = m ((c.tc : Thread Cert.GuIdeal.nD Cert.GuIdeal.τ).loc Cert.GuIdeal.main_arg6)) →
    ∃ (v0 : (c : Dev Cert.GuIdeal.nD) → Buf (Elt Ideal) ((c.tc : Thread Cert.GuIdeal.nD Cert.GuIdeal.τ).loc Cert.GuIdeal.main_v2)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v2) = v0 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
          ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
          ∧ r.2.mem ((c.tc : Thread Cert.GuIdeal.nD Cert.GuIdeal.τ).loc Cert.GuIdeal.main_arg4) = m ((c.tc : Thread Cert.GuIdeal.nD Cert.GuIdeal.τ).loc Cert.GuIdeal.main_arg4)
          ∧ r.2.mem ((c.tc : Thread Cert.GuIdeal.nD Cert.GuIdeal.τ).loc Cert.GuIdeal.main_arg5) = m ((c.tc : Thread Cert.GuIdeal.nD Cert.GuIdeal.τ).loc Cert.GuIdeal.main_arg5)
          ∧ r.2.mem ((c.tc : Thread Cert.GuIdeal.nD Cert.GuIdeal.τ).loc Cert.GuIdeal.main_arg6) = m ((c.tc : Thread Cert.GuIdeal.nD Cert.GuIdeal.τ).loc Cert.GuIdeal.main_arg6))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v0) = v0 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2)
          ∧ r.2.mem ((c.tc : Thread Cert.GuRefIdeal.nD Cert.GuRefIdeal.τ).loc Cert.GuRefIdeal.main_arg3) = m' ((c.tc : Thread Cert.GuRefIdeal.nD Cert.GuRefIdeal.τ).loc Cert.GuRefIdeal.main_arg3)
          ∧ r.2.mem ((c.tc : Thread Cert.GuRefIdeal.nD Cert.GuRefIdeal.τ).loc Cert.GuRefIdeal.main_arg4) = m' ((c.tc : Thread Cert.GuRefIdeal.nD Cert.GuRefIdeal.τ).loc Cert.GuRefIdeal.main_arg4)
          ∧ r.2.mem ((c.tc : Thread Cert.GuRefIdeal.nD Cert.GuRefIdeal.τ).loc Cert.GuRefIdeal.main_arg5) = m' ((c.tc : Thread Cert.GuRefIdeal.nD Cert.GuRefIdeal.τ).loc Cert.GuRefIdeal.main_arg5)
          ∧ r.2.mem ((c.tc : Thread Cert.GuRefIdeal.nD Cert.GuRefIdeal.τ).loc Cert.GuRefIdeal.main_arg6) = m' ((c.tc : Thread Cert.GuRefIdeal.nD Cert.GuRefIdeal.τ).loc Cert.GuRefIdeal.main_arg6))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0) = v0 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_1) = v1 c
          ∧ r.2.mem ((c.tc : Thread Cert.QkvIdeal.nD Cert.QkvIdeal.τ).loc Cert.QkvIdeal.main_v1_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8))

def preserves_NormA_NormAIdeal : Prop :=
  True

def algebraic_NormAIdeal_NormARefIdeal [hNormAIdeal : Cert.NormAIdeal.Facts] [hNormARefIdeal : Cert.NormARefIdeal.Facts] : Prop :=
  ∀ (m : (ℓ : Loc Cert.NormAIdeal.nD Cert.NormAIdeal.τ Cert.NormAIdeal.sig) → Buf (Elt Ideal) ℓ) (g : Dev Cert.NormAIdeal.nD → PrngReg)
    (m' : (ℓ : Loc Cert.NormARefIdeal.nD Cert.NormARefIdeal.τ Cert.NormARefIdeal.sig) → Buf (Elt Ideal) ℓ) (g' : Dev Cert.NormARefIdeal.nD → PrngReg), Pre_NormAIdeal m →
    (∀ c : Dev Cert.NormAIdeal.nD,
      m' ((c.tc : Thread Cert.NormARefIdeal.nD Cert.NormARefIdeal.τ).loc Cert.NormARefIdeal.main_arg0) = m ((c.tc : Thread Cert.NormAIdeal.nD Cert.NormAIdeal.τ).loc Cert.NormAIdeal.main_arg0)
      ∧ m' ((c.tc : Thread Cert.NormARefIdeal.nD Cert.NormARefIdeal.τ).loc Cert.NormARefIdeal.main_arg1) = m ((c.tc : Thread Cert.NormAIdeal.nD Cert.NormAIdeal.τ).loc Cert.NormAIdeal.main_arg1)
      ∧ m' ((c.tc : Thread Cert.NormARefIdeal.nD Cert.NormARefIdeal.τ).loc Cert.NormARefIdeal.main_arg2) = m ((c.tc : Thread Cert.NormAIdeal.nD Cert.NormAIdeal.τ).loc Cert.NormAIdeal.main_arg2)
      ∧ m' ((c.tc : Thread Cert.NormARefIdeal.nD Cert.NormARefIdeal.τ).loc Cert.NormARefIdeal.main_arg3) = m ((c.tc : Thread Cert.NormAIdeal.nD Cert.NormAIdeal.τ).loc Cert.NormAIdeal.main_arg3)) →
    ∃ (v0 : (c : Dev Cert.NormAIdeal.nD) → Buf (Elt Ideal) ((c.tc : Thread Cert.NormAIdeal.nD Cert.NormAIdeal.τ).loc Cert.NormAIdeal.main_v3)),
      θ_run (Cert.NormAIdeal.defs (F := Ideal)) (onTc (τ := Cert.NormAIdeal.τ) (Cert.NormAIdeal.main (F := Ideal))) ⟨m, fun _ => 0, g⟩ (fun r => ∀ c : Dev Cert.NormAIdeal.nD,
          r.2.mem ((c.tc : Thread Cert.NormAIdeal.nD Cert.NormAIdeal.τ).loc Cert.NormAIdeal.main_v3) = v0 c
          ∧ r.2.mem ((c.tc : Thread Cert.NormAIdeal.nD Cert.NormAIdeal.τ).loc Cert.NormAIdeal.main_arg0) = m ((c.tc : Thread Cert.NormAIdeal.nD Cert.NormAIdeal.τ).loc Cert.NormAIdeal.main_arg0)
          ∧ r.2.mem ((c.tc : Thread Cert.NormAIdeal.nD Cert.NormAIdeal.τ).loc Cert.NormAIdeal.main_arg1) = m ((c.tc : Thread Cert.NormAIdeal.nD Cert.NormAIdeal.τ).loc Cert.NormAIdeal.main_arg1)
          ∧ r.2.mem ((c.tc : Thread Cert.NormAIdeal.nD Cert.NormAIdeal.τ).loc Cert.NormAIdeal.main_arg2) = m ((c.tc : Thread Cert.NormAIdeal.nD Cert.NormAIdeal.τ).loc Cert.NormAIdeal.main_arg2)
          ∧ r.2.mem ((c.tc : Thread Cert.NormAIdeal.nD Cert.NormAIdeal.τ).loc Cert.NormAIdeal.main_arg3) = m ((c.tc : Thread Cert.NormAIdeal.nD Cert.NormAIdeal.τ).loc Cert.NormAIdeal.main_arg3))
      ∧ θ_run (Cert.NormARefIdeal.defs (F := Ideal)) (onTc (τ := Cert.NormARefIdeal.τ) (Cert.NormARefIdeal.main (F := Ideal))) ⟨m', fun _ => 0, g'⟩ (fun r => ∀ c : Dev Cert.NormARefIdeal.nD,
          r.2.mem ((c.tc : Thread Cert.NormARefIdeal.nD Cert.NormARefIdeal.τ).loc Cert.NormARefIdeal.main_v22) = v0 c
          ∧ r.2.mem ((c.tc : Thread Cert.NormARefIdeal.nD Cert.NormARefIdeal.τ).loc Cert.NormARefIdeal.main_arg0) = m' ((c.tc : Thread Cert.NormARefIdeal.nD Cert.NormARefIdeal.τ).loc Cert.NormARefIdeal.main_arg0)
          ∧ r.2.mem ((c.tc : Thread Cert.NormARefIdeal.nD Cert.NormARefIdeal.τ).loc Cert.NormARefIdeal.main_arg1) = m' ((c.tc : Thread Cert.NormARefIdeal.nD Cert.NormARefIdeal.τ).loc Cert.NormARefIdeal.main_arg1)
          ∧ r.2.mem ((c.tc : Thread Cert.NormARefIdeal.nD Cert.NormARefIdeal.τ).loc Cert.NormARefIdeal.main_arg2) = m' ((c.tc : Thread Cert.NormARefIdeal.nD Cert.NormARefIdeal.τ).loc Cert.NormARefIdeal.main_arg2)
          ∧ r.2.mem ((c.tc : Thread Cert.NormARefIdeal.nD Cert.NormARefIdeal.τ).loc Cert.NormARefIdeal.main_arg3) = m' ((c.tc : Thread Cert.NormARefIdeal.nD Cert.NormARefIdeal.τ).loc Cert.NormARefIdeal.main_arg3))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)) →
    ∃ (v0 : (c : Dev Cert.NormBIdeal.nD) → Buf (Elt Ideal) ((c.tc : Thread Cert.NormBIdeal.nD Cert.NormBIdeal.τ).loc Cert.NormBIdeal.main_v2)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v2) = v0 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v20) = v0 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3))

def Claim : Prop :=
  ∃ (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts) (hNormA : Cert.NormA.Facts) (hNormAIdeal : Cert.NormAIdeal.Facts) (hNormARefIdeal : Cert.NormARefIdeal.Facts) (hNormB : Cert.NormB.Facts) (hNormBIdeal : Cert.NormBIdeal.Facts) (hNormBRefIdeal : Cert.NormBRefIdeal.Facts),
    quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ quiescent_NormA (hNormA := hNormA)
    ∧ quiescent_NormAIdeal (hNormAIdeal := hNormAIdeal)
    ∧ quiescent_NormARefIdeal (hNormARefIdeal := hNormARefIdeal)
    ∧ quiescent_NormB (hNormB := hNormB)
    ∧ quiescent_NormBIdeal (hNormBIdeal := hNormBIdeal)
    ∧ quiescent_NormBRefIdeal (hNormBRefIdeal := hNormBRefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
    ∧ preserves_NormA_NormAIdeal
    ∧ algebraic_NormAIdeal_NormARefIdeal (hNormAIdeal := hNormAIdeal) (hNormARefIdeal := hNormARefIdeal)
    ∧ preserves_NormB_NormBIdeal
    ∧ algebraic_NormBIdeal_NormBRefIdeal (hNormBIdeal := hNormBIdeal) (hNormBRefIdeal := hNormBRefIdeal)
-- ==== Gu.lean ====
abbrev S6144x8192 : Shape := ⟨2, ![6144, 8192]⟩
abbrev S1 : Shape := ⟨1, ![1]⟩
abbrev S1024x14336 : Shape := ⟨2, ![1024, 14336]⟩
abbrev S64x14336 : Shape := ⟨2, ![64, 14336]⟩
abbrev S14336 : Shape := ⟨1, ![14336]⟩
abbrev S7168 : Shape := ⟨1, ![7168]⟩
abbrev S1x14336 : Shape := ⟨2, ![1, 14336]⟩
abbrev S1x7168 : Shape := ⟨2, ![1, 7168]⟩
abbrev S6144x7168 : Shape := ⟨2, ![6144, 7168]⟩
abbrev S768x8192 : Shape := ⟨2, ![768, 8192]⟩
abbrev S128x512 : Shape := ⟨2, ![128, 512]⟩
abbrev S64x512 : Shape := ⟨2, ![64, 512]⟩
abbrev S1x512 : Shape := ⟨2, ![1, 512]⟩
abbrev S768x512 : Shape := ⟨2, ![768, 512]⟩
abbrev S8192x512 : Shape := ⟨2, ![8192, 512]⟩
abbrev S16x512 : Shape := ⟨2, ![16, 512]⟩
abbrev S16x1x512 : Shape := ⟨3, ![16, 1, 512]⟩
abbrev S16x8x512 : Shape := ⟨3, ![16, 8, 512]⟩
abbrev S256x8192 : Shape := ⟨2, ![256, 8192]⟩
abbrev S8192x256 : Shape := ⟨2, ![8192, 256]⟩
abbrev S256x256 : Shape := ⟨2, ![256, 256]⟩
abbrev S1x256 : Shape := ⟨2, ![1, 256]⟩

abbrev nBuf : Space → Nat
  | .hbm => 10
  | .vmem => 24
  | .smem => 2
  | _ => 0

abbrev bufTy : (tb : Table) → Fin (tcTables nBuf tb) → BufTy
  | .hbm, ⟨0, _⟩ => ⟨S6144x8192, .fp8e4m3⟩
  | .hbm, ⟨1, _⟩ => ⟨S1, .f32⟩
  | .hbm, ⟨2, _⟩ => ⟨S1024x14336, .i32⟩
  | .hbm, ⟨3, _⟩ => ⟨S64x14336, .fp8e4m3⟩
  | .hbm, ⟨4, _⟩ => ⟨S14336, .f32⟩
  | .hbm, ⟨5, _⟩ => ⟨S7168, .f32⟩
  | .hbm, ⟨6, _⟩ => ⟨S1, .f32⟩
  | .hbm, ⟨7, _⟩ => ⟨S1x14336, .f32⟩
  | .hbm, ⟨8, _⟩ => ⟨S1x7168, .f32⟩
  | .hbm, ⟨9, _⟩ => ⟨S6144x7168, .fp8e4m3⟩
  | .local _ .vmem, ⟨0, _⟩ => ⟨S768x8192, .fp8e4m3⟩
  | .local _ .vmem, ⟨1, _⟩ => ⟨S768x8192, .fp8e4m3⟩
  | .local _ .vmem, ⟨2, _⟩ => ⟨S128x512, .i32⟩
  | .local _ .vmem, ⟨3, _⟩ => ⟨S128x512, .i32⟩
  | .local _ .vmem, ⟨4, _⟩ => ⟨S128x512, .i32⟩
  | .local _ .vmem, ⟨5, _⟩ => ⟨S128x512, .i32⟩
  | .local _ .vmem, ⟨6, _⟩ => ⟨S64x512, .fp8e4m3⟩
  | .local _ .vmem, ⟨7, _⟩ => ⟨S64x512, .fp8e4m3⟩
  | .local _ .vmem, ⟨8, _⟩ => ⟨S64x512, .fp8e4m3⟩
  | .local _ .vmem, ⟨9, _⟩ => ⟨S64x512, .fp8e4m3⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S768x512, .fp8e4m3⟩
  | .local _ .vmem, ⟨17, _⟩ => ⟨S768x512, .fp8e4m3⟩
  | .local _ .vmem, ⟨18, _⟩ => ⟨S8192x512, .bf16⟩
  | .local _ .vmem, ⟨19, _⟩ => ⟨S8192x512, .bf16⟩
  | .local _ .vmem, ⟨20, _⟩ => ⟨S8192x512, .bf16⟩
  | .local _ .vmem, ⟨21, _⟩ => ⟨S8192x512, .bf16⟩
  | .local _ .vmem, ⟨22, _⟩ => ⟨S64x512, .f32⟩
  | .local _ .vmem, ⟨23, _⟩ => ⟨S64x512, .f32⟩
  | .local _ .smem, ⟨0, _⟩ => ⟨S1, .f32⟩
  | .local _ .smem, ⟨1, _⟩ => ⟨S1, .f32⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_stg5_0 : Ref sig .tc := ⟨.smem, 0, rfl⟩
abbrev cc0_stg9_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![15, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) (c0_i32_20 : BitVec 32) : Fin 2 → Nat :=
  let arg1 : BitVec 32 := BitVec.ofNat 32 (i 1).val
  let c8_i32 : BitVec 32 := 8#32
  let v37 : BitVec 32 := Scalar.muli arg1 c8_i32
  let v48 : BitVec 32 := Scalar.addi v37 c0_i32_20
  let v49 : Index := Scalar.indexCast v48
  let c0_21 : Index := 0#32
  ![v49.toNat, 0]
def k0_off2 (i : grid0.Coords) (c0_i32_22 : BitVec 32) : Fin 2 → Nat :=
  let arg1 : BitVec 32 := BitVec.ofNat 32 (i 1).val
  let c1024_i32 : BitVec 32 := 1024#32
  let v36 : BitVec 32 := Scalar.muli arg1 c1024_i32
  let v55 : BitVec 32 := Scalar.addi v36 c0_i32_22
  let v56 : Index := Scalar.indexCast v55
  let c0_23 : Index := 0#32
  ![v56.toNat, 0]
def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let c2_i32 : BitVec 32 := 2#32
  let c0_i32_4 : BitVec 32 := 0#32
  let v7 : BitVec 1 := Scalar.cmpi .eq c2_i32 c0_i32_4
  let c1_i32 : BitVec 32 := 1#32
  let v8 : BitVec 32 := Scalar.select v7 c1_i32 c2_i32
  let v9 : BitVec 32 := Scalar.remsi arg0 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c1_i32_8 : BitVec 32 := 1#32
  let v17 : BitVec 1 := Scalar.cmpi .eq v16 c1_i32_8
  let v18 : BitVec 1 := Scalar.andi v6 v17
  let v19 : BitVec 32 := Scalar.extui v18
  let c0_i32_9 : BitVec 32 := 0#32
  let v20 : BitVec 1 := Scalar.cmpi .ne v19 c0_i32_9
  v20

def k0_off3 (i : grid0.Coords) (c0_i32_20 : BitVec 32) : Fin 2 → Nat :=
  let arg1 : BitVec 32 := BitVec.ofNat 32 (i 1).val
  let c8_i32 : BitVec 32 := 8#32
  let v37 : BitVec 32 := Scalar.muli arg1 c8_i32
  let v48 : BitVec 32 := Scalar.addi v37 c0_i32_20
  let v49 : Index := Scalar.indexCast v48
  let c0_21 : Index := 0#32
  ![v49.toNat, 0]
def k0_off4 (i : grid0.Coords) (c0_i32_22 : BitVec 32) : Fin 2 → Nat :=
  let arg1 : BitVec 32 := BitVec.ofNat 32 (i 1).val
  let c1024_i32 : BitVec 32 := 1024#32
  let v36 : BitVec 32 := Scalar.muli arg1 c1024_i32
  let v55 : BitVec 32 := Scalar.addi v36 c0_i32_22
  let v56 : Index := Scalar.indexCast v55
  let c0_23 : Index := 0#32
  ![v56.toNat, 0]
def k0_cond4 (i : grid0.Coords) : BitVec 1 :=
  let arg0 : BitVec 32 := BitVec.ofNat 32 (i 0).val
  let c0_i32_10 : BitVec 32 := 0#32
  let v21 : BitVec 1 := Scalar.cmpi .sgt arg0 c0_i32_10
  let c2_i32_11 : BitVec 32 := 2#32
  let c0_i32_12 : BitVec 32 := 0#32
  let v22 : BitVec 1 := Scalar.cmpi .eq c2_i32_11 c0_i32_12
  let c1_i32_13 : BitVec 32 := 1#32
  let v23 : BitVec 32 := Scalar.select v22 c1_i32_13 c2_i32_11
  let v24 : BitVec 32 := Scalar.remsi arg0 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c0_i32_17 : BitVec 32 := 0#32
  let v32 : BitVec 1 := Scalar.cmpi .eq v31 c0_i32_17
  let v33 : BitVec 1 := Scalar.andi v21 v32
  let v34 : BitVec 32 := Scalar.extui v33
  let c0_i32_18 : BitVec 32 := 0#32
  let v35 : BitVec 1 := Scalar.cmpi .ne v34 c0_i32_18
  v35

def k0_off5 (i : grid0.Coords) (c0_i32_20 : BitVec 32) : Fin 2 → Nat :=
  let arg1 : BitVec 32 := BitVec.ofNat 32 (i 1).val
  let c8_i32 : BitVec 32 := 8#32
  let v37 : BitVec 32 := Scalar.muli arg1 c8_i32
  let v48 : BitVec 32 := Scalar.addi v37 c0_i32_20
  let v49 : Index := Scalar.indexCast v48
  let c0_21 : Index := 0#32
  ![v49.toNat, 0]
def k0_off6 (i : grid0.Coords) (c0_i32_22 : BitVec 32) : Fin 2 → Nat :=
  let arg1 : BitVec 32 := BitVec.ofNat 32 (i 1).val
  let c1024_i32 : BitVec 32 := 1024#32
  let v36 : BitVec 32 := Scalar.muli arg1 c1024_i32
  let v55 : BitVec 32 := Scalar.addi v36 c0_i32_22
  let v56 : Index := Scalar.indexCast v55
  let c0_23 : Index := 0#32
  ![v56.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.minsi arg0 c13_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.minsi arg0 c13_i32
  let c14_i32 : BitVec 32 := 14#32
  let v1 : BitVec 32 := Scalar.addi v0 c14_i32
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.minsi arg0 c13_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.minsi arg0 c13_i32
  let c14_i32 : BitVec 32 := 14#32
  let v1 : BitVec 32 := Scalar.addi v0 c14_i32
  let c0_i32 : BitVec 32 := 0#32
  let c0_i32_0 : BitVec 32 := 0#32
  ![c0_i32.toNat, v1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c14_i32 : BitVec 32 := 14#32
  let v2 : BitVec 32 := Scalar.addi v1 c14_i32
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S768x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S768x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GuRefIdeal.lean ====
abbrev S6144x8192 : Shape := ⟨2, ![6144, 8192]⟩
abbrev S1 : Shape := ⟨1, ![1]⟩
abbrev S1024x14336 : Shape := ⟨2, ![1024, 14336]⟩
abbrev S64x14336 : Shape := ⟨2, ![64, 14336]⟩
abbrev S14336 : Shape := ⟨1, ![14336]⟩
abbrev S7168 : Shape := ⟨1, ![7168]⟩
abbrev S6144x7168 : Shape := ⟨2, ![6144, 7168]⟩
abbrev S1x1024x14336 : Shape := ⟨3, ![1, 1024, 14336]⟩
abbrev S8x1024x14336 : Shape := ⟨3, ![8, 1024, 14336]⟩
abbrev S64x1x14336 : Shape := ⟨3, ![64, 1, 14336]⟩
abbrev S64x16x14336 : Shape := ⟨3, ![64, 16, 14336]⟩
abbrev S6144x1024x8 : Shape := ⟨3, ![6144, 1024, 8]⟩
abbrev S6144x14336 : Shape := ⟨2, ![6144, 14336]⟩
abbrev S1x14336 : Shape := ⟨2, ![1, 14336]⟩
abbrev S1x7168 : Shape := ⟨2, ![1, 7168]⟩

abbrev nBuf : Space → Nat
  | .hbm => 8
  | .vmem => 8
  | .smem => 0
  | _ => 0

abbrev bufTy : (tb : Table) → Fin (tcTables nBuf tb) → BufTy
  | .hbm, ⟨0, _⟩ => ⟨S6144x8192, .fp8e4m3⟩
  | .hbm, ⟨1, _⟩ => ⟨S1, .f32⟩
  | .hbm, ⟨2, _⟩ => ⟨S1024x14336, .i32⟩
  | .hbm, ⟨3, _⟩ => ⟨S64x14336, .fp8e4m3⟩
  | .hbm, ⟨4, _⟩ => ⟨S14336, .f32⟩
  | .hbm, ⟨5, _⟩ => ⟨S7168, .f32⟩
  | .hbm, ⟨6, _⟩ => ⟨S1, .f32⟩
  | .hbm, ⟨7, _⟩ => ⟨S6144x7168, .fp8e4m3⟩
  | .local _ .vmem, ⟨0, _⟩ => ⟨S6144x8192, .fp8e4m3⟩
  | .local _ .vmem, ⟨1, _⟩ => ⟨S1, .f32⟩
  | .local _ .vmem, ⟨2, _⟩ => ⟨S1024x14336, .i32⟩
  | .local _ .vmem, ⟨3, _⟩ => ⟨S64x14336, .fp8e4m3⟩
  | .local _ .vmem, ⟨4, _⟩ => ⟨S14336, .f32⟩
  | .local _ .vmem, ⟨5, _⟩ => ⟨S7168, .f32⟩
  | .local _ .vmem, ⟨6, _⟩ => ⟨S1, .f32⟩
  | .local _ .vmem, ⟨7, _⟩ => ⟨S6144x7168, .fp8e4m3⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x14336 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x14336 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S6144x7168 : Shape := ⟨2, ![6144, 7168]⟩
abbrev S1 : Shape := ⟨1, ![1]⟩
abbrev S896x8192 : Shape := ⟨2, ![896, 8192]⟩
abbrev S56x8192 : Shape := ⟨2, ![56, 8192]⟩
abbrev S8192 : Shape := ⟨1, ![8192]⟩
abbrev S6144x8192 : Shape := ⟨2, ![6144, 8192]⟩
abbrev S1x8192 : Shape := ⟨2, ![1, 8192]⟩
abbrev S768x7168 : Shape := ⟨2, ![768, 7168]⟩
abbrev S112x1024 : Shape := ⟨2, ![112, 1024]⟩
abbrev S56x1024 : Shape := ⟨2, ![56, 1024]⟩
abbrev S1x1024 : Shape := ⟨2, ![1, 1024]⟩
abbrev S768x1024 : Shape := ⟨2, ![768, 1024]⟩
abbrev S7168x1024 : Shape := ⟨2, ![7168, 1024]⟩
abbrev S16x1024 : Shape := ⟨2, ![16, 1024]⟩
abbrev S16x1x1024 : Shape := ⟨3, ![16, 1, 1024]⟩
abbrev S16x8x1024 : Shape := ⟨3, ![16, 8, 1024]⟩
abbrev S128x1024 : Shape := ⟨2, ![128, 1024]⟩
abbrev S256x7168 : Shape := ⟨2, ![256, 7168]⟩
abbrev S7168x512 : Shape := ⟨2, ![7168, 512]⟩
abbrev S256x512 : Shape := ⟨2, ![256, 512]⟩
abbrev S1x512 : Shape := ⟨2, ![1, 512]⟩

abbrev nBuf : Space → Nat
  | .hbm => 8
  | .vmem => 15
  | .smem => 1
  | _ => 0

abbrev bufTy : (tb : Table) → Fin (tcTables nBuf tb) → BufTy
  | .hbm, ⟨0, _⟩ => ⟨S6144x7168, .fp8e4m3⟩
  | .hbm, ⟨1, _⟩ => ⟨S1, .f32⟩
  | .hbm, ⟨2, _⟩ => ⟨S896x8192, .i32⟩
  | .hbm, ⟨3, _⟩ => ⟨S56x8192, .fp8e4m3⟩
  | .hbm, ⟨4, _⟩ => ⟨S8192, .f32⟩
  | .hbm, ⟨5, _⟩ => ⟨S6144x8192, .f32⟩
  | .hbm, ⟨6, _⟩ => ⟨S1x8192, .f32⟩
  | .hbm, ⟨7, _⟩ => ⟨S6144x8192, .bf16⟩
  | .local _ .vmem, ⟨0, _⟩ => ⟨S768x7168, .fp8e4m3⟩
  | .local _ .vmem, ⟨1, _⟩ => ⟨S768x7168, .fp8e4m3⟩
  | .local _ .vmem, ⟨2, _⟩ => ⟨S112x1024, .i32⟩
  | .local _ .vmem, ⟨3, _⟩ => ⟨S112x1024, .i32⟩
  | .local _ .vmem, ⟨4, _⟩ => ⟨S56x1024, .fp8e4m3⟩
  | .local _ .vmem, ⟨5, _⟩ => ⟨S56x1024, .fp8e4m3⟩
  | .local _ .vmem, ⟨6, _⟩ => ⟨S1x1024, .f32⟩
  | .local _ .vmem, ⟨7, _⟩ => ⟨S1x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .bf16⟩
  | .local _ .vmem, ⟨11, _⟩ => ⟨S768x1024, .bf16⟩
  | .local _ .vmem, ⟨12, _⟩ => ⟨S7168x1024, .bf16⟩
  | .local _ .vmem, ⟨13, _⟩ => ⟨S7168x1024, .bf16⟩
  | .local _ .vmem, ⟨14, _⟩ => ⟨S56x1024, .f32⟩
  | .local _ .smem, ⟨0, _⟩ => ⟨S1, .f32⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) (c0_i32_20 : BitVec 32) : Fin 2 → Nat :=
  let arg1 : BitVec 32 := BitVec.ofNat 32 (i 1).val
  let c7_i32 : BitVec 32 := 7#32
  let v37 : BitVec 32 := Scalar.muli arg1 c7_i32
  let v48 : BitVec 32 := Scalar.addi v37 c0_i32_20
  let v49 : Index := Scalar.indexCast v48
  let c0_21 : Index := 0#32
  ![v49.toNat, 0]
def k0_off2 (i : grid0.Coords) (c0_i32_22 : BitVec 32) : Fin 2 → Nat :=
  let arg1 : BitVec 32 := BitVec.ofNat 32 (i 1).val
  let c896_i32 : BitVec 32 := 896#32
  let v36 : BitVec 32 := Scalar.muli arg1 c896_i32
  let v55 : BitVec 32 := Scalar.addi v36 c0_i32_22
  let v56 : Index := Scalar.indexCast v55
  let c0_23 : Index := 0#32
  ![v56.toNat, 0]
def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let c2_i32 : BitVec 32 := 2#32
  let c0_i32_4 : BitVec 32 := 0#32
  let v7 : BitVec 1 := Scalar.cmpi .eq c2_i32 c0_i32_4
  let c1_i32 : BitVec 32 := 1#32
  let v8 : BitVec 32 := Scalar.select v7 c1_i32 c2_i32
  let v9 : BitVec 32 := Scalar.remsi arg0 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c1_i32_8 : BitVec 32 := 1#32
  let v17 : BitVec 1 := Scalar.cmpi .eq v16 c1_i32_8
  let v18 : BitVec 1 := Scalar.andi v6 v17
  let v19 : BitVec 32 := Scalar.extui v18
  let c0_i32_9 : BitVec 32 := 0#32
  let v20 : BitVec 1 := Scalar.cmpi .ne v19 c0_i32_9
  v20

def k0_off3 (i : grid0.Coords) (c0_i32_20 : BitVec 32) : Fin 2 → Nat :=
  let arg1 : BitVec 32 := BitVec.ofNat 32 (i 1).val
  let c7_i32 : BitVec 32 := 7#32
  let v37 : BitVec 32 := Scalar.muli arg1 c7_i32
  let v48 : BitVec 32 := Scalar.addi v37 c0_i32_20
  let v49 : Index := Scalar.indexCast v48
  let c0_21 : Index := 0#32
  ![v49.toNat, 0]
def k0_off4 (i : grid0.Coords) (c0_i32_22 : BitVec 32) : Fin 2 → Nat :=
  let arg1 : BitVec 32 := BitVec.ofNat 32 (i 1).val
  let c896_i32 : BitVec 32 := 896#32
  let v36 : BitVec 32 := Scalar.muli arg1 c896_i32
  let v55 : BitVec 32 := Scalar.addi v36 c0_i32_22
  let v56 : Index := Scalar.indexCast v55
  let c0_23 : Index := 0#32
  ![v56.toNat, 0]
def k0_cond4 (i : grid0.Coords) : BitVec 1 :=
  let arg0 : BitVec 32 := BitVec.ofNat 32 (i 0).val
  let c0_i32_10 : BitVec 32 := 0#32
  let v21 : BitVec 1 := Scalar.cmpi .sgt arg0 c0_i32_10
  let c2_i32_11 : BitVec 32 := 2#32
  let c0_i32_12 : BitVec 32 := 0#32
  let v22 : BitVec 1 := Scalar.cmpi .eq c2_i32_11 c0_i32_12
  let c1_i32_13 : BitVec 32 := 1#32
  let v23 : BitVec 32 := Scalar.select v22 c1_i32_13 c2_i32_11
  let v24 : BitVec 32 := Scalar.remsi arg0 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c0_i32_17 : BitVec 32 := 0#32
  let v32 : BitVec 1 := Scalar.cmpi .eq v31 c0_i32_17
  let v33 : BitVec 1 := Scalar.andi v21 v32
  let v34 : BitVec 32 := Scalar.extui v33
  let c0_i32_18 : BitVec 32 := 0#32
  let v35 : BitVec 1 := Scalar.cmpi .ne v34 c0_i32_18
  v35

def k0_off5 (i : grid0.Coords) (c0_i32_20 : BitVec 32) : Fin 2 → Nat :=
  let arg1 : BitVec 32 := BitVec.ofNat 32 (i 1).val
  let c7_i32 : BitVec 32 := 7#32
  let v37 : BitVec 32 := Scalar.muli arg1 c7_i32
  let v48 : BitVec 32 := Scalar.addi v37 c0_i32_20
  let v49 : Index := Scalar.indexCast v48
  let c0_21 : Index := 0#32
  ![v49.toNat, 0]
def k0_off6 (i : grid0.Coords) (c0_i32_22 : BitVec 32) : Fin 2 → Nat :=
  let arg1 : BitVec 32 := BitVec.ofNat 32 (i 1).val
  let c896_i32 : BitVec 32 := 896#32
  let v36 : BitVec 32 := Scalar.muli arg1 c896_i32
  let v55 : BitVec 32 := Scalar.addi v36 c0_i32_22
  let v56 : Index := Scalar.indexCast v55
  let c0_23 : Index := 0#32
  ![v56.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S768x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S112x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S56x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S6144x7168 : Shape := ⟨2, ![6144, 7168]⟩
abbrev S1 : Shape := ⟨1, ![1]⟩
abbrev S896x8192 : Shape := ⟨2, ![896, 8192]⟩
abbrev S56x8192 : Shape := ⟨2, ![56, 8192]⟩
abbrev S8192 : Shape := ⟨1, ![8192]⟩
abbrev S6144x8192 : Shape := ⟨2, ![6144, 8192]⟩
abbrev S1x896x8192 : Shape := ⟨3, ![1, 896, 8192]⟩
abbrev S8x896x8192 : Shape := ⟨3, ![8, 896, 8192]⟩
abbrev S56x1x8192 : Shape := ⟨3, ![56, 1, 8192]⟩
abbrev S56x16x8192 : Shape := ⟨3, ![56, 16, 8192]⟩
abbrev S6144x896x8 : Shape := ⟨3, ![6144, 896, 8]⟩
abbrev S1x8192 : Shape := ⟨2, ![1, 8192]⟩

abbrev nBuf : Space → Nat
  | .hbm => 7
  | .vmem => 7
  | .smem => 0
  | _ => 0

abbrev bufTy : (tb : Table) → Fin (tcTables nBuf tb) → BufTy
  | .hbm, ⟨0, _⟩ => ⟨S6144x7168, .fp8e4m3⟩
  | .hbm, ⟨1, _⟩ => ⟨S1, .f32⟩
  | .hbm, ⟨2, _⟩ => ⟨S896x8192, .i32⟩
  | .hbm, ⟨3, _⟩ => ⟨S56x8192, .fp8e4m3⟩
  | .hbm, ⟨4, _⟩ => ⟨S8192, .f32⟩
  | .hbm, ⟨5, _⟩ => ⟨S6144x8192, .f32⟩
  | .hbm, ⟨6, _⟩ => ⟨S6144x8192, .bf16⟩
  | .local _ .vmem, ⟨0, _⟩ => ⟨S6144x7168, .fp8e4m3⟩
  | .local _ .vmem, ⟨1, _⟩ => ⟨S1, .f32⟩
  | .local _ .vmem, ⟨2, _⟩ => ⟨S896x8192, .i32⟩
  | .local _ .vmem, ⟨3, _⟩ => ⟨S56x8192, .fp8e4m3⟩
  | .local _ .vmem, ⟨4, _⟩ => ⟨S8192, .f32⟩
  | .local _ .vmem, ⟨5, _⟩ => ⟨S6144x8192, .f32⟩
  | .local _ .vmem, ⟨6, _⟩ => ⟨S6144x8192, .bf16⟩
  | _, _ => ⟨S6144x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Oproj.lean ====
abbrev S6144x2048 : Shape := ⟨2, ![6144, 2048]⟩
abbrev S1 : Shape := ⟨1, ![1]⟩
abbrev S256x8192 : Shape := ⟨2, ![256, 8192]⟩
abbrev S16x8192 : Shape := ⟨2, ![16, 8192]⟩
abbrev S8192 : Shape := ⟨1, ![8192]⟩
abbrev S6144x8192 : Shape := ⟨2, ![6144, 8192]⟩
abbrev S1x8192 : Shape := ⟨2, ![1, 8192]⟩
abbrev S768x2048 : Shape := ⟨2, ![768, 2048]⟩
abbrev S32x1024 : Shape := ⟨2, ![32, 1024]⟩
abbrev S16x1024 : Shape := ⟨2, ![16, 1024]⟩
abbrev S1x1024 : Shape := ⟨2, ![1, 1024]⟩
abbrev S768x1024 : Shape := ⟨2, ![768, 1024]⟩
abbrev S2048x1024 : Shape := ⟨2, ![2048, 1024]⟩
abbrev S16x1x1024 : Shape := ⟨3, ![16, 1, 1024]⟩
abbrev S16x8x1024 : Shape := ⟨3, ![16, 8, 1024]⟩
abbrev S128x1024 : Shape := ⟨2, ![128, 1024]⟩
abbrev S256x2048 : Shape := ⟨2, ![256, 2048]⟩
abbrev S2048x512 : Shape := ⟨2, ![2048, 512]⟩
abbrev S256x512 : Shape := ⟨2, ![256, 512]⟩
abbrev S1x512 : Shape := ⟨2, ![1, 512]⟩

abbrev nBuf : Space → Nat
  | .hbm => 8
  | .vmem => 15
  | .smem => 1
  | _ => 0

abbrev bufTy : (tb : Table) → Fin (tcTables nBuf tb) → BufTy
  | .hbm, ⟨0, _⟩ => ⟨S6144x2048, .fp8e4m3⟩
  | .hbm, ⟨1, _⟩ => ⟨S1, .f32⟩
  | .hbm, ⟨2, _⟩ => ⟨S256x8192, .i32⟩
  | .hbm, ⟨3, _⟩ => ⟨S16x8192, .fp8e4m3⟩
  | .hbm, ⟨4, _⟩ => ⟨S8192, .f32⟩
  | .hbm, ⟨5, _⟩ => ⟨S6144x8192, .bf16⟩
  | .hbm, ⟨6, _⟩ => ⟨S1x8192, .f32⟩
  | .hbm, ⟨7, _⟩ => ⟨S6144x8192, .f32⟩
  | .local _ .vmem, ⟨0, _⟩ => ⟨S768x2048, .fp8e4m3⟩
  | .local _ .vmem, ⟨1, _⟩ => ⟨S768x2048, .fp8e4m3⟩
  | .local _ .vmem, ⟨2, _⟩ => ⟨S32x1024, .i32⟩
  | .local _ .vmem, ⟨3, _⟩ => ⟨S32x1024, .i32⟩
  | .local _ .vmem, ⟨4, _⟩ => ⟨S16x1024, .fp8e4m3⟩
  | .local _ .vmem, ⟨5, _⟩ => ⟨S16x1024, .fp8e4m3⟩
  | .local _ .vmem, ⟨6, _⟩ => ⟨S1x1024, .f32⟩
  | .local _ .vmem, ⟨7, _⟩ => ⟨S1x1024, .f32⟩
  | .local _ .vmem, ⟨8, _⟩ => ⟨S768x1024, .bf16⟩
  | .local _ .vmem, ⟨9, _⟩ => ⟨S768x1024, .bf16⟩
  | .local _ .vmem, ⟨10, _⟩ => ⟨S768x1024, .f32⟩
  | .local _ .vmem, ⟨11, _⟩ => ⟨S768x1024, .f32⟩
  | .local _ .vmem, ⟨12, _⟩ => ⟨S2048x1024, .bf16⟩
  | .local _ .vmem, ⟨13, _⟩ => ⟨S2048x1024, .bf16⟩
  | .local _ .vmem, ⟨14, _⟩ => ⟨S16x1024, .f32⟩
  | .local _ .smem, ⟨0, _⟩ => ⟨S1, .f32⟩
  | _, _ => ⟨S6144x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![9, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) (c0_i32_21 : BitVec 32) : Fin 2 → Nat :=
  let arg1 : BitVec 32 := BitVec.ofNat 32 (i 1).val
  let c2_i32_19 : BitVec 32 := 2#32
  let v37 : BitVec 32 := Scalar.muli arg1 c2_i32_19
  let v48 : BitVec 32 := Scalar.addi v37 c0_i32_21
  let v49 : Index := Scalar.indexCast v48
  let c0_22 : Index := 0#32
  ![v49.toNat, 0]
def k0_off2 (i : grid0.Coords) (c0_i32_23 : BitVec 32) : Fin 2 → Nat :=
  let arg1 : BitVec 32 := BitVec.ofNat 32 (i 1).val
  let c256_i32 : BitVec 32 := 256#32
  let v36 : BitVec 32 := Scalar.muli arg1 c256_i32
  let v55 : BitVec 32 := Scalar.addi v36 c0_i32_23
  let v56 : Index := Scalar.indexCast v55
  let c0_24 : Index := 0#32
  ![v56.toNat, 0]
def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let c2_i32 : BitVec 32 := 2#32
  let c0_i32_4 : BitVec 32 := 0#32
  let v7 : BitVec 1 := Scalar.cmpi .eq c2_i32 c0_i32_4
  let c1_i32 : BitVec 32 := 1#32
  let v8 : BitVec 32 := Scalar.select v7 c1_i32 c2_i32
  let v9 : BitVec 32 := Scalar.remsi arg0 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c1_i32_8 : BitVec 32 := 1#32
  let v17 : BitVec 1 := Scalar.cmpi .eq v16 c1_i32_8
  let v18 : BitVec 1 := Scalar.andi v6 v17
  let v19 : BitVec 32 := Scalar.extui v18
  let c0_i32_9 : BitVec 32 := 0#32
  let v20 : BitVec 1 := Scalar.cmpi .ne v19 c0_i32_9
  v20

def k0_off3 (i : grid0.Coords) (c0_i32_21 : BitVec 32) : Fin 2 → Nat :=
  let arg1 : BitVec 32 := BitVec.ofNat 32 (i 1).val
  let c2_i32_19 : BitVec 32 := 2#32
  let v37 : BitVec 32 := Scalar.muli arg1 c2_i32_19
  let v48 : BitVec 32 := Scalar.addi v37 c0_i32_21
  let v49 : Index := Scalar.indexCast v48
  let c0_22 : Index := 0#32
  ![v49.toNat, 0]
def k0_off4 (i : grid0.Coords) (c0_i32_23 : BitVec 32) : Fin 2 → Nat :=
  let arg1 : BitVec 32 := BitVec.ofNat 32 (i 1).val
  let c256_i32 : BitVec 32 := 256#32
  let v36 : BitVec 32 := Scalar.muli arg1 c256_i32
  let v55 : BitVec 32 := Scalar.addi v36 c0_i32_23
  let v56 : Index := Scalar.indexCast v55
  let c0_24 : Index := 0#32
  ![v56.toNat, 0]
def k0_cond4 (i : grid0.Coords) : BitVec 1 :=
  let arg0 : BitVec 32 := BitVec.ofNat 32 (i 0).val
  let c0_i32_10 : BitVec 32 := 0#32
  let v21 : BitVec 1 := Scalar.cmpi .sgt arg0 c0_i32_10
  let c2_i32_11 : BitVec 32 := 2#32
  let c0_i32_12 : BitVec 32 := 0#32
  let v22 : BitVec 1 := Scalar.cmpi .eq c2_i32_11 c0_i32_12
  let c1_i32_13 : BitVec 32 := 1#32
  let v23 : BitVec 32 := Scalar.select v22 c1_i32_13 c2_i32_11
  let v24 : BitVec 32 := Scalar.remsi arg0 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c0_i32_17 : BitVec 32 := 0#32
  let v32 : BitVec 1 := Scalar.cmpi .eq v31 c0_i32_17
  let v33 : BitVec 1 := Scalar.andi v21 v32
  let v34 : BitVec 32 := Scalar.extui v33
  let c0_i32_18 : BitVec 32 := 0#32
  let v35 : BitVec 1 := Scalar.cmpi .ne v34 c0_i32_18
  v35

def k0_off5 (i : grid0.Coords) (c0_i32_21 : BitVec 32) : Fin 2 → Nat :=
  let arg1 : BitVec 32 := BitVec.ofNat 32 (i 1).val
  let c2_i32_19 : BitVec 32 := 2#32
  let v37 : BitVec 32 := Scalar.muli arg1 c2_i32_19
  let v48 : BitVec 32 := Scalar.addi v37 c0_i32_21
  let v49 : Index := Scalar.indexCast v48
  let c0_22 : Index := 0#32
  ![v49.toNat, 0]
def k0_off6 (i : grid0.Coords) (c0_i32_23 : BitVec 32) : Fin 2 → Nat :=
  let arg1 : BitVec 32 := BitVec.ofNat 32 (i 1).val
  let c256_i32 : BitVec 32 := 256#32
  let v36 : BitVec 32 := Scalar.muli arg1 c256_i32
  let v55 : BitVec 32 := Scalar.addi v36 c0_i32_23
  let v56 : Index := Scalar.indexCast v55
  let c0_24 : Index := 0#32
  ![v56.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S768x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OprojRefIdeal.lean ====
abbrev S6144x2048 : Shape := ⟨2, ![6144, 2048]⟩
abbrev S1 : Shape := ⟨1, ![1]⟩
abbrev S256x8192 : Shape := ⟨2, ![256, 8192]⟩
abbrev S16x8192 : Shape := ⟨2, ![16, 8192]⟩
abbrev S8192 : Shape := ⟨1, ![8192]⟩
abbrev S6144x8192 : Shape := ⟨2, ![6144, 8192]⟩
abbrev S1x256x8192 : Shape := ⟨3, ![1, 256, 8192]⟩
abbrev S8x256x8192 : Shape := ⟨3, ![8, 256, 8192]⟩
abbrev S16x1x8192 : Shape := ⟨3, ![16, 1, 8192]⟩
abbrev S16x16x8192 : Shape := ⟨3, ![16, 16, 8192]⟩
abbrev S6144x256x8 : Shape := ⟨3, ![6144, 256, 8]⟩
abbrev S1x8192 : Shape := ⟨2, ![1, 8192]⟩

abbrev nBuf : Space → Nat
  | .hbm => 7
  | .vmem => 7
  | .smem => 0
  | _ => 0

abbrev bufTy : (tb : Table) → Fin (tcTables nBuf tb) → BufTy
  | .hbm, ⟨0, _⟩ => ⟨S6144x2048, .fp8e4m3⟩
  | .hbm, ⟨1, _⟩ => ⟨S1, .f32⟩
  | .hbm, ⟨2, _⟩ => ⟨S256x8192, .i32⟩
  | .hbm, ⟨3, _⟩ => ⟨S16x8192, .fp8e4m3⟩
  | .hbm, ⟨4, _⟩ => ⟨S8192, .f32⟩
  | .hbm, ⟨5, _⟩ => ⟨S6144x8192, .bf16⟩
  | .hbm, ⟨6, _⟩ => ⟨S6144x8192, .f32⟩
  | .local _ .vmem, ⟨0, _⟩ => ⟨S6144x2048, .fp8e4m3⟩
  | .local _ .vmem, ⟨1, _⟩ => ⟨S1, .f32⟩
  | .local _ .vmem, ⟨2, _⟩ => ⟨S256x8192, .i32⟩
  | .local _ .vmem, ⟨3, _⟩ => ⟨S16x8192, .fp8e4m3⟩
  | .local _ .vmem, ⟨4, _⟩ => ⟨S8192, .f32⟩
  | .local _ .vmem, ⟨5, _⟩ => ⟨S6144x8192, .bf16⟩
  | .local _ .vmem, ⟨6, _⟩ => ⟨S6144x8192, .f32⟩
  | _, _ => ⟨S6144x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Qkv.lean ====
abbrev S6144x8192 : Shape := ⟨2, ![6144, 8192]⟩
abbrev S1 : Shape := ⟨1, ![1]⟩
abbrev S1024x2560 : Shape := ⟨2, ![1024, 2560]⟩
abbrev S64x2560 : Shape := ⟨2, ![64, 2560]⟩
abbrev S2560 : Shape := ⟨1, ![2560]⟩
abbrev S6144x64 : Shape := ⟨2, ![6144, 64]⟩
abbrev S2 : Shape := ⟨1, ![2]⟩
abbrev S1x2560 : Shape := ⟨2, ![1, 2560]⟩
abbrev S6144x2048 : Shape := ⟨2, ![6144, 2048]⟩
abbrev S6144x256 : Shape := ⟨2, ![6144, 256]⟩
abbrev S768x8192 : Shape := ⟨2, ![768, 8192]⟩
abbrev S128x512 : Shape := ⟨2, ![128, 512]⟩
abbrev S64x512 : Shape := ⟨2, ![64, 512]⟩
abbrev S1x512 : Shape := ⟨2, ![1, 512]⟩
abbrev S768x64 : Shape := ⟨2, ![768, 64]⟩
abbrev S768x512 : Shape := ⟨2, ![768, 512]⟩
abbrev S768x256 : Shape := ⟨2, ![768, 256]⟩
abbrev S8192x512 : Shape := ⟨2, ![8192, 512]⟩
abbrev S16x512 : Shape := ⟨2, ![16, 512]⟩
abbrev S16x1x512 : Shape := ⟨3, ![16, 1, 512]⟩
abbrev S16x8x512 : Shape := ⟨3, ![16, 8, 512]⟩
abbrev S256x8192 : Shape := ⟨2, ![256, 8192]⟩
abbrev S8192x256 : Shape := ⟨2, ![8192, 256]⟩
abbrev S256x256 : Shape := ⟨2, ![256, 256]⟩
abbrev S1x256 : Shape := ⟨2, ![1, 256]⟩
abbrev S256x64 : Shape := ⟨2, ![256, 64]⟩
abbrev S256x128 : Shape := ⟨2, ![256, 128]⟩

abbrev nBuf : Space → Nat
  | .hbm => 13
  | .vmem => 21
  | .smem => 3
  | _ => 0

abbrev bufTy : (tb : Table) → Fin (tcTables nBuf tb) → BufTy
  | .hbm, ⟨0, _⟩ => ⟨S6144x8192, .fp8e4m3⟩
  | .hbm, ⟨1, _⟩ => ⟨S1, .f32⟩
  | .hbm, ⟨2, _⟩ => ⟨S1024x2560, .i32⟩
  | .hbm, ⟨3, _⟩ => ⟨S64x2560, .fp8e4m3⟩
  | .hbm, ⟨4, _⟩ => ⟨S2560, .f32⟩
  | .hbm, ⟨5, _⟩ => ⟨S6144x64, .f32⟩
  | .hbm, ⟨6, _⟩ => ⟨S6144x64, .f32⟩
  | .hbm, ⟨7, _⟩ => ⟨S2, .f32⟩
  | .hbm, ⟨8, _⟩ => ⟨S2, .f32⟩
  | .hbm, ⟨9, _⟩ => ⟨S1x2560, .f32⟩
  | .hbm, ⟨10, _⟩ => ⟨S6144x2048, .bf16⟩
  | .hbm, ⟨11, _⟩ => ⟨S6144x256, .fp8e4m3⟩
  | .hbm, ⟨12, _⟩ => ⟨S6144x256, .fp8e4m3⟩
  | .local _ .vmem, ⟨0, _⟩ => ⟨S768x8192, .fp8e4m3⟩
  | .local _ .vmem, ⟨1, _⟩ => ⟨S768x8192, .fp8e4m3⟩
  | .local _ .vmem, ⟨2, _⟩ => ⟨S128x512, .i32⟩
  | .local _ .vmem, ⟨3, _⟩ => ⟨S128x512, .i32⟩
  | .local _ .vmem, ⟨4, _⟩ => ⟨S64x512, .fp8e4m3⟩
  | .local _ .vmem, ⟨5, _⟩ => ⟨S64x512, .fp8e4m3⟩
  | .local _ .vmem, ⟨6, _⟩ => ⟨S1x512, .f32⟩
  | .local _ .vmem, ⟨7, _⟩ => ⟨S1x512, .f32⟩
  | .local _ .vmem, ⟨8, _⟩ => ⟨S768x64, .f32⟩
  | .local _ .vmem, ⟨9, _⟩ => ⟨S768x64, .f32⟩
  | .local _ .vmem, ⟨10, _⟩ => ⟨S768x64, .f32⟩
  | .local _ .vmem, ⟨11, _⟩ => ⟨S768x64, .f32⟩
  | .local _ .vmem, ⟨12, _⟩ => ⟨S768x512, .bf16⟩
  | .local _ .vmem, ⟨13, _⟩ => ⟨S768x512, .bf16⟩
  | .local _ .vmem, ⟨14, _⟩ => ⟨S768x256, .fp8e4m3⟩
  | .local _ .vmem, ⟨15, _⟩ => ⟨S768x256, .fp8e4m3⟩
  | .local _ .vmem, ⟨16, _⟩ => ⟨S768x256, .fp8e4m3⟩
  | .local _ .vmem, ⟨17, _⟩ => ⟨S768x256, .fp8e4m3⟩
  | .local _ .vmem, ⟨18, _⟩ => ⟨S8192x512, .bf16⟩
  | .local _ .vmem, ⟨19, _⟩ => ⟨S8192x512, .bf16⟩
  | .local _ .vmem, ⟨20, _⟩ => ⟨S64x512, .f32⟩
  | .local _ .smem, ⟨0, _⟩ => ⟨S1, .f32⟩
  | .local _ .smem, ⟨1, _⟩ => ⟨S2, .f32⟩
  | .local _ .smem, ⟨2, _⟩ => ⟨S2, .f32⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg3_0 : Ref sig .tc := ⟨.smem, 0, rfl⟩
abbrev cc0_stg7_0 : Ref sig .tc := ⟨.smem, 1, rfl⟩
abbrev cc0_stg8_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![6, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) (c0_i32_20 : BitVec 32) : Fin 2 → Nat :=
  let arg1 : BitVec 32 := BitVec.ofNat 32 (i 1).val
  let c8_i32 : BitVec 32 := 8#32
  let v37 : BitVec 32 := Scalar.muli arg1 c8_i32
  let v48 : BitVec 32 := Scalar.addi v37 c0_i32_20
  let v49 : Index := Scalar.indexCast v48
  let c0_21 : Index := 0#32
  ![v49.toNat, 0]
def k0_off2 (i : grid0.Coords) (c0_i32_22 : BitVec 32) : Fin 2 → Nat :=
  let arg1 : BitVec 32 := BitVec.ofNat 32 (i 1).val
  let c1024_i32 : BitVec 32 := 1024#32
  let v36 : BitVec 32 := Scalar.muli arg1 c1024_i32
  let v55 : BitVec 32 := Scalar.addi v36 c0_i32_22
  let v56 : Index := Scalar.indexCast v55
  let c0_23 : Index := 0#32
  ![v56.toNat, 0]
def k0_cond3 (i : grid0.Coords) : BitVec 1 :=
  let arg0 : BitVec 32 := BitVec.ofNat 32 (i 0).val
  let c0_i32_3 : BitVec 32 := 0#32
  let v6 : BitVec 1 := Scalar.cmpi .sgt arg0 c0_i32_3
  let c2_i32 : BitVec 32 := 2#32
  let c0_i32_4 : BitVec 32 := 0#32
  let v7 : BitVec 1 := Scalar.cmpi .eq c2_i32 c0_i32_4
  let c1_i32 : BitVec 32 := 1#32
  let v8 : BitVec 32 := Scalar.select v7 c1_i32 c2_i32
  let v9 : BitVec 32 := Scalar.remsi arg0 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let c1_i32_8 : BitVec 32 := 1#32
  let v17 : BitVec 1 := Scalar.cmpi .eq v16 c1_i32_8
  let v18 : BitVec 1 := Scalar.andi v6 v17
  let v19 : BitVec 32 := Scalar.extui v18
  let c0_i32_9 : BitVec 32 := 0#32
  let v20 : BitVec 1 := Scalar.cmpi .ne v19 c0_i32_9
  v20

def k0_off3 (i : grid0.Coords) (c0_i32_20 : BitVec 32) : Fin 2 → Nat :=
  let arg1 : BitVec 32 := BitVec.ofNat 32 (i 1).val
  let c8_i32 : BitVec 32 := 8#32
  let v37 : BitVec 32 := Scalar.muli arg1 c8_i32
  let v48 : BitVec 32 := Scalar.addi v37 c0_i32_20
  let v49 : Index := Scalar.indexCast v48
  let c0_21 : Index := 0#32
  ![v49.toNat, 0]
def k0_off4 (i : grid0.Coords) (c0_i32_22 : BitVec 32) : Fin 2 → Nat :=
  let arg1 : BitVec 32 := BitVec.ofNat 32 (i 1).val
  let c1024_i32 : BitVec 32 := 1024#32
  let v36 : BitVec 32 := Scalar.muli arg1 c1024_i32
  let v55 : BitVec 32 := Scalar.addi v36 c0_i32_22
  let v56 : Index := Scalar.indexCast v55
  let c0_23 : Index := 0#32
  ![v56.toNat, 0]
def k0_cond16 (i : grid0.Coords) : BitVec 1 :=
  let arg0 : BitVec 32 := BitVec.ofNat 32 (i 0).val
  let c0_i32_10 : BitVec 32 := 0#32
  let v21 : BitVec 1 := Scalar.cmpi .sgt arg0 c0_i32_10
  let c2_i32_11 : BitVec 32 := 2#32
  let c0_i32_12 : BitVec 32 := 0#32
  let v22 : BitVec 1 := Scalar.cmpi .eq c2_i32_11 c0_i32_12
  let c1_i32_13 : BitVec 32 := 1#32
  let v23 : BitVec 32 := Scalar.select v22 c1_i32_13 c2_i32_11
  let v24 : BitVec 32 := Scalar.remsi arg0 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c0_i32_17 : BitVec 32 := 0#32
  let v32 : BitVec 1 := Scalar.cmpi .eq v31 c0_i32_17
  let v33 : BitVec 1 := Scalar.andi v21 v32
  let v34 : BitVec 32 := Scalar.extui v33
  let c0_i32_18 : BitVec 32 := 0#32
  let v35 : BitVec 1 := Scalar.cmpi .ne v34 c0_i32_18
  v35

def k0_off5 (i : grid0.Coords) (c0_i32_20 : BitVec 32) : Fin 2 → Nat :=
  let arg1 : BitVec 32 := BitVec.ofNat 32 (i 1).val
  let c8_i32 : BitVec 32 := 8#32
  let v37 : BitVec 32 := Scalar.muli arg1 c8_i32
  let v48 : BitVec 32 := Scalar.addi v37 c0_i32_20
  let v49 : Index := Scalar.indexCast v48
  let c0_21 : Index := 0#32
  ![v49.toNat, 0]
def k0_off6 (i : grid0.Coords) (c0_i32_22 : BitVec 32) : Fin 2 → Nat :=
  let arg1 : BitVec 32 := BitVec.ofNat 32 (i 1).val
  let c1024_i32 : BitVec 32 := 1024#32
  let v36 : BitVec 32 := Scalar.muli arg1 c1024_i32
  let v55 : BitVec 32 := Scalar.addi v36 c0_i32_22
  let v56 : Index := Scalar.indexCast v55
  let c0_23 : Index := 0#32
  ![v56.toNat, 0]
def k0_cond4 (i : grid0.Coords) : BitVec 1 :=
  let arg0 : BitVec 32 := BitVec.ofNat 32 (i 0).val
  let c1_i32_59 : BitVec 32 := 1#32
  let v218 : BitVec 32 := Scalar.subi arg0 c1_i32_59
  let c4_i32_68 : BitVec 32 := 4#32
  let v234 : BitVec 1 := Scalar.cmpi .slt v218 c4_i32_68
  let v235 : BitVec 32 := Scalar.extui v234
  let c0_i32_69 : BitVec 32 := 0#32
  let v236 : BitVec 1 := Scalar.cmpi .ne v235 c0_i32_69
  v236

def k0_cond6 (i : grid0.Coords) : BitVec 1 :=
  let arg0 : BitVec 32 := BitVec.ofNat 32 (i 0).val
  let c1_i32_76 : BitVec 32 := 1#32
  let v244 : BitVec 32 := Scalar.subi arg0 c1_i32_76
  let c4_i32_85 : BitVec 32 := 4#32
  let v260 : BitVec 1 := Scalar.cmpi .slt v244 c4_i32_85
  let v261 : BitVec 32 := Scalar.extui v260
  let c0_i32_86 : BitVec 32 := 0#32
  let v262 : BitVec 1 := Scalar.cmpi .ne v261 c0_i32_86
  v262

def k0_cond8 (i : grid0.Coords) : BitVec 1 :=
  let arg0 : BitVec 32 := BitVec.ofNat 32 (i 0).val
  let c1_i32_94 : BitVec 32 := 1#32
  let v270 : BitVec 32 := Scalar.subi arg0 c1_i32_94
  let c4_i32_103 : BitVec 32 := 4#32
  let v286 : BitVec 1 := Scalar.cmpi .slt v270 c4_i32_103
  let v287 : BitVec 32 := Scalar.extui v286
  let c0_i32_104 : BitVec 32 := 0#32
  let v288 : BitVec 1 := Scalar.cmpi .ne v287 c0_i32_104
  v288

def k0_cond10 (i : grid0.Coords) : BitVec 1 :=
  let arg0 : BitVec 32 := BitVec.ofNat 32 (i 0).val
  let c1_i32_112 : BitVec 32 := 1#32
  let v296 : BitVec 32 := Scalar.subi arg0 c1_i32_112
  let c4_i32_121 : BitVec 32 := 4#32
  let v312 : BitVec 1 := Scalar.cmpi .slt v296 c4_i32_121
  let v313 : BitVec 32 := Scalar.extui v312
  let c0_i32_122 : BitVec 32 := 0#32
  let v314 : BitVec 1 := Scalar.cmpi .ne v313 c0_i32_122
  v314

def k0_cond12 (i : grid0.Coords) : BitVec 1 :=
  let arg0 : BitVec 32 := BitVec.ofNat 32 (i 0).val
  let c1_i32_129 : BitVec 32 := 1#32
  let v322 : BitVec 32 := Scalar.subi arg0 c1_i32_129
  let c4_i32_138 : BitVec 32 := 4#32
  let v338 : BitVec 1 := Scalar.cmpi .slt v322 c4_i32_138
  let v339 : BitVec 32 := Scalar.extui v338
  let c0_i32_139 : BitVec 32 := 0#32
  let v340 : BitVec 1 := Scalar.cmpi .ne v339 c0_i32_139
  v340

def k0_cond14 (i : grid0.Coords) : BitVec 1 :=
  let arg0 : BitVec 32 := BitVec.ofNat 32 (i 0).val
  let c1_i32_147 : BitVec 32 := 1#32
  let v348 : BitVec 32 := Scalar.subi arg0 c1_i32_147
  let c4_i32_156 : BitVec 32 := 4#32
  let v364 : BitVec 1 := Scalar.cmpi .slt v348 c4_i32_156
  let v365 : BitVec 32 := Scalar.extui v364
  let c0_i32_157 : BitVec 32 := 0#32
  let v366 : BitVec 1 := Scalar.cmpi .ne v365 c0_i32_157
  v366

def k0_cond17 (i : grid0.Coords) : BitVec 1 :=
  let arg0 : BitVec 32 := BitVec.ofNat 32 (i 0).val
  let c1_i32_59 : BitVec 32 := 1#32
  let v218 : BitVec 32 := Scalar.subi arg0 c1_i32_59
  let c4_i32_68 : BitVec 32 := 4#32
  let v234 : BitVec 1 := Scalar.cmpi .slt v218 c4_i32_68
  let v235 : BitVec 32 := Scalar.extui v234
  let c0_i32_69 : BitVec 32 := 0#32
  let v236 : BitVec 1 := Scalar.cmpi .ne v235 c0_i32_69
  v236

def k0_cond19 (i : grid0.Coords) : BitVec 1 :=
  let arg0 : BitVec 32 := BitVec.ofNat 32 (i 0).val
  let c1_i32_76 : BitVec 32 := 1#32
  let v244 : BitVec 32 := Scalar.subi arg0 c1_i32_76
  let c4_i32_85 : BitVec 32 := 4#32
  let v260 : BitVec 1 := Scalar.cmpi .slt v244 c4_i32_85
  let v261 : BitVec 32 := Scalar.extui v260
  let c0_i32_86 : BitVec 32 := 0#32
  let v262 : BitVec 1 := Scalar.cmpi .ne v261 c0_i32_86
  v262

def k0_cond21 (i : grid0.Coords) : BitVec 1 :=
  let arg0 : BitVec 32 := BitVec.ofNat 32 (i 0).val
  let c1_i32_94 : BitVec 32 := 1#32
  let v270 : BitVec 32 := Scalar.subi arg0 c1_i32_94
  let c4_i32_103 : BitVec 32 := 4#32
  let v286 : BitVec 1 := Scalar.cmpi .slt v270 c4_i32_103
  let v287 : BitVec 32 := Scalar.extui v286
  let c0_i32_104 : BitVec 32 := 0#32
  let v288 : BitVec 1 := Scalar.cmpi .ne v287 c0_i32_104
  v288

def k0_cond23 (i : grid0.Coords) : BitVec 1 :=
  let arg0 : BitVec 32 := BitVec.ofNat 32 (i 0).val
  let c1_i32_112 : BitVec 32 := 1#32
  let v296 : BitVec 32 := Scalar.subi arg0 c1_i32_112
  let c4_i32_121 : BitVec 32 := 4#32
  let v312 : BitVec 1 := Scalar.cmpi .slt v296 c4_i32_121
  let v313 : BitVec 32 := Scalar.extui v312
  let c0_i32_122 : BitVec 32 := 0#32
  let v314 : BitVec 1 := Scalar.cmpi .ne v313 c0_i32_122
  v314

def k0_cond25 (i : grid0.Coords) : BitVec 1 :=
  let arg0 : BitVec 32 := BitVec.ofNat 32 (i 0).val
  let c1_i32_129 : BitVec 32 := 1#32
  let v322 : BitVec 32 := Scalar.subi arg0 c1_i32_129
  let c4_i32_138 : BitVec 32 := 4#32
  let v338 : BitVec 1 := Scalar.cmpi .slt v322 c4_i32_138
  let v339 : BitVec 32 := Scalar.extui v338
  let c0_i32_139 : BitVec 32 := 0#32
  let v340 : BitVec 1 := Scalar.cmpi .ne v339 c0_i32_139
  v340

def k0_cond27 (i : grid0.Coords) : BitVec 1 :=
  let arg0 : BitVec 32 := BitVec.ofNat 32 (i 0).val
  let c1_i32_147 : BitVec 32 := 1#32
  let v348 : BitVec 32 := Scalar.subi arg0 c1_i32_147
  let c4_i32_156 : BitVec 32 := 4#32
  let v364 : BitVec 1 := Scalar.cmpi .slt v348 c4_i32_156
  let v365 : BitVec 32 := Scalar.extui v364
  let c0_i32_157 : BitVec 32 := 0#32
  let v366 : BitVec 1 := Scalar.cmpi .ne v365 c0_i32_157
  v366

def k0_cond5 (i : grid0.Coords) : BitVec 1 :=
  let arg0 : BitVec 32 := BitVec.ofNat 32 (i 0).val
  let c1_i32_59 : BitVec 32 := 1#32
  let v218 : BitVec 32 := Scalar.subi arg0 c1_i32_59
  let c4_i32_70 : BitVec 32 := 4#32
  let v237 : BitVec 1 := Scalar.cmpi .eq v218 c4_i32_70
  let v238 : BitVec 32 := Scalar.extui v237
  let c0_i32_71 : BitVec 32 := 0#32
  let v239 : BitVec 1 := Scalar.cmpi .ne v238 c0_i32_71
  v239

def k0_cond9 (i : grid0.Coords) : BitVec 1 :=
  let arg0 : BitVec 32 := BitVec.ofNat 32 (i 0).val
  let c1_i32_94 : BitVec 32 := 1#32
  let v270 : BitVec 32 := Scalar.subi arg0 c1_i32_94
  let c4_i32_105 : BitVec 32 := 4#32
  let v289 : BitVec 1 := Scalar.cmpi .eq v270 c4_i32_105
  let v290 : BitVec 32 := Scalar.extui v289
  let c0_i32_106 : BitVec 32 := 0#32
  let v291 : BitVec 1 := Scalar.cmpi .ne v290 c0_i32_106
  v291

def k0_cond13 (i : grid0.Coords) : BitVec 1 :=
  let arg0 : BitVec 32 := BitVec.ofNat 32 (i 0).val
  let c1_i32_129 : BitVec 32 := 1#32
  let v322 : BitVec 32 := Scalar.subi arg0 c1_i32_129
  let c4_i32_140 : BitVec 32 := 4#32
  let v341 : BitVec 1 := Scalar.cmpi .eq v322 c4_i32_140
  let v342 : BitVec 32 := Scalar.extui v341
  let c0_i32_141 : BitVec 32 := 0#32
  let v343 : BitVec 1 := Scalar.cmpi .ne v342 c0_i32_141
  v343

def k0_cond18 (i : grid0.Coords) : BitVec 1 :=
  let arg0 : BitVec 32 := BitVec.ofNat 32 (i 0).val
  let c1_i32_59 : BitVec 32 := 1#32
  let v218 : BitVec 32 := Scalar.subi arg0 c1_i32_59
  let c4_i32_70 : BitVec 32 := 4#32
  let v237 : BitVec 1 := Scalar.cmpi .eq v218 c4_i32_70
  let v238 : BitVec 32 := Scalar.extui v237
  let c0_i32_71 : BitVec 32 := 0#32
  let v239 : BitVec 1 := Scalar.cmpi .ne v238 c0_i32_71
  v239

def k0_cond22 (i : grid0.Coords) : BitVec 1 :=
  let arg0 : BitVec 32 := BitVec.ofNat 32 (i 0).val
  let c1_i32_94 : BitVec 32 := 1#32
  let v270 : BitVec 32 := Scalar.subi arg0 c1_i32_94
  let c4_i32_105 : BitVec 32 := 4#32
  let v289 : BitVec 1 := Scalar.cmpi .eq v270 c4_i32_105
  let v290 : BitVec 32 := Scalar.extui v289
  let c0_i32_106 : BitVec 32 := 0#32
  let v291 : BitVec 1 := Scalar.cmpi .ne v290 c0_i32_106
  v291

def k0_cond26 (i : grid0.Coords) : BitVec 1 :=
  let arg0 : BitVec 32 := BitVec.ofNat 32 (i 0).val
  let c1_i32_129 : BitVec 32 := 1#32
  let v322 : BitVec 32 := Scalar.subi arg0 c1_i32_129
  let c4_i32_140 : BitVec 32 := 4#32
  let v341 : BitVec 1 := Scalar.cmpi .eq v322 c4_i32_140
  let v342 : BitVec 32 := Scalar.extui v341
  let c0_i32_141 : BitVec 32 := 0#32
  let v343 : BitVec 1 := Scalar.cmpi .ne v342 c0_i32_141
  v343

def k0_cond7 (i : grid0.Coords) : BitVec 1 :=
  let arg0 : BitVec 32 := BitVec.ofNat 32 (i 0).val
  let c1_i32_76 : BitVec 32 := 1#32
  let v244 : BitVec 32 := Scalar.subi arg0 c1_i32_76
  let c4_i32_87 : BitVec 32 := 4#32
  let v263 : BitVec 1 := Scalar.cmpi .eq v244 c4_i32_87
  let v264 : BitVec 32 := Scalar.extui v263
  let c0_i32_88 : BitVec 32 := 0#32
  let v265 : BitVec 1 := Scalar.cmpi .ne v264 c0_i32_88
  v265

def k0_cond11 (i : grid0.Coords) : BitVec 1 :=
  let arg0 : BitVec 32 := BitVec.ofNat 32 (i 0).val
  let c1_i32_112 : BitVec 32 := 1#32
  let v296 : BitVec 32 := Scalar.subi arg0 c1_i32_112
  let c4_i32_123 : BitVec 32 := 4#32
  let v315 : BitVec 1 := Scalar.cmpi .eq v296 c4_i32_123
  let v316 : BitVec 32 := Scalar.extui v315
  let c0_i32_124 : BitVec 32 := 0#32
  let v317 : BitVec 1 := Scalar.cmpi .ne v316 c0_i32_124
  v317

def k0_cond15 (i : grid0.Coords) : BitVec 1 :=
  let arg0 : BitVec 32 := BitVec.ofNat 32 (i 0).val
  let c1_i32_147 : BitVec 32 := 1#32
  let v348 : BitVec 32 := Scalar.subi arg0 c1_i32_147
  let c4_i32_158 : BitVec 32 := 4#32
  let v367 : BitVec 1 := Scalar.cmpi .eq v348 c4_i32_158
  let v368 : BitVec 32 := Scalar.extui v367
  let c0_i32_159 : BitVec 32 := 0#32
  let v369 : BitVec 1 := Scalar.cmpi .ne v368 c0_i32_159
  v369

def k0_cond20 (i : grid0.Coords) : BitVec 1 :=
  let arg0 : BitVec 32 := BitVec.ofNat 32 (i 0).val
  let c1_i32_76 : BitVec 32 := 1#32
  let v244 : BitVec 32 := Scalar.subi arg0 c1_i32_76
  let c4_i32_87 : BitVec 32 := 4#32
  let v263 : BitVec 1 := Scalar.cmpi .eq v244 c4_i32_87
  let v264 : BitVec 32 := Scalar.extui v263
  let c0_i32_88 : BitVec 32 := 0#32
  let v265 : BitVec 1 := Scalar.cmpi .ne v264 c0_i32_88
  v265

def k0_cond24 (i : grid0.Coords) : BitVec 1 :=
  let arg0 : BitVec 32 := BitVec.ofNat 32 (i 0).val
  let c1_i32_112 : BitVec 32 := 1#32
  let v296 : BitVec 32 := Scalar.subi arg0 c1_i32_112
  let c4_i32_123 : BitVec 32 := 4#32
  let v315 : BitVec 1 := Scalar.cmpi .eq v296 c4_i32_123
  let v316 : BitVec 32 := Scalar.extui v315
  let c0_i32_124 : BitVec 32 := 0#32
  let v317 : BitVec 1 := Scalar.cmpi .ne v316 c0_i32_124
  v317

def k0_cond28 (i : grid0.Coords) : BitVec 1 :=
  let arg0 : BitVec 32 := BitVec.ofNat 32 (i 0).val
  let c1_i32_147 : BitVec 32 := 1#32
  let v348 : BitVec 32 := Scalar.subi arg0 c1_i32_147
  let c4_i32_158 : BitVec 32 := 4#32
  let v367 : BitVec 1 := Scalar.cmpi .eq v348 c4_i32_158
  let v368 : BitVec 32 := Scalar.extui v367
  let c0_i32_159 : BitVec 32 := 0#32
  let v369 : BitVec 1 := Scalar.cmpi .ne v368 c0_i32_159
  v369

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg0 c4_i32
  let c0_i32 : BitVec 32 := 0#32
  let v1 : BitVec 32 := Scalar.addi v0 c0_i32
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.minsi arg0 c4_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 1 := Scalar.cmpi .slt v1 c4_i32
  let c0_i32_0 : BitVec 32 := 0#32
  let v3 : BitVec 1 := Scalar.cmpi .eq arg0 c0_i32_0
  let c0_i32_1 : BitVec 32 := 0#32
  let v4 : BitVec 32 := Scalar.select v3 c0_i32_1 arg1
  let c7_i32 : BitVec 32 := 7#32
  let v5 : BitVec 32 := Scalar.select v2 v4 c7_i32
  let c1_i32_2 : BitVec 32 := 1#32
  let v6 : BitVec 32 := Scalar.subi arg0 c1_i32_2
  let c0_i32_3 : BitVec 32 := 0#32
  let v7 : BitVec 32 := Scalar.maxsi v6 c0_i32_3
  let c3_i32 : BitVec 32 := 3#32
  let v8 : BitVec 32 := Scalar.minsi v7 c3_i32
  let c0_i32_4 : BitVec 32 := 0#32
  ![v5.toNat, v8.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 1 := Scalar.cmpi .eq v1 c4_i32
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 1 := Scalar.cmpi .eq v1 c4_i32
  let c0_i32_0 : BitVec 32 := 0#32
  let v3 : BitVec 32 := Scalar.select v2 arg1 c0_i32_0
  let c0_i32_1 : BitVec 32 := 0#32
  let c0_i32_2 : BitVec 32 := 0#32
  ![v3.toNat, c0_i32_1.toNat]

abbrev stage0_0 : Fin 2 → Memref sig .tc .vmem S768x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S768x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S768x256 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== QkvRefIdeal.lean ====
abbrev S6144x8192 : Shape := ⟨2, ![6144, 8192]⟩
abbrev S1 : Shape := ⟨1, ![1]⟩
abbrev S1024x2560 : Shape := ⟨2, ![1024, 2560]⟩
abbrev S64x2560 : Shape := ⟨2, ![64, 2560]⟩
abbrev S2560 : Shape := ⟨1, ![2560]⟩
abbrev S6144x64 : Shape := ⟨2, ![6144, 64]⟩
abbrev S2 : Shape := ⟨1, ![2]⟩
abbrev S6144x2048 : Shape := ⟨2, ![6144, 2048]⟩
abbrev S6144x256 : Shape := ⟨2, ![6144, 256]⟩
abbrev S1x1024x2560 : Shape := ⟨3, ![1, 1024, 2560]⟩
abbrev S8x1024x2560 : Shape := ⟨3, ![8, 1024, 2560]⟩
abbrev S64x1x2560 : Shape := ⟨3, ![64, 1, 2560]⟩
abbrev S64x16x2560 : Shape := ⟨3, ![64, 16, 2560]⟩
abbrev S6144x1024x8 : Shape := ⟨3, ![6144, 1024, 8]⟩
abbrev S6144x2560 : Shape := ⟨2, ![6144, 2560]⟩
abbrev S1x2560 : Shape := ⟨2, ![1, 2560]⟩
abbrev S6144x20x128 : Shape := ⟨3, ![6144, 20, 128]⟩
abbrev S6144x16x128 : Shape := ⟨3, ![6144, 16, 128]⟩
abbrev S6144x2x128 : Shape := ⟨3, ![6144, 2, 128]⟩
abbrev S6144x1x64 : Shape := ⟨3, ![6144, 1, 64]⟩
abbrev S6144x16x64 : Shape := ⟨3, ![6144, 16, 64]⟩
abbrev S6144x2x64 : Shape := ⟨3, ![6144, 2, 64]⟩
abbrev S2x1 : Shape := ⟨2, ![2, 1]⟩
abbrev S1x2x1 : Shape := ⟨3, ![1, 2, 1]⟩

abbrev nBuf : Space → Nat
  | .hbm => 12
  | .vmem => 12
  | .smem => 0
  | _ => 0

abbrev bufTy : (tb : Table) → Fin (tcTables nBuf tb) → BufTy
  | .hbm, ⟨0, _⟩ => ⟨S6144x8192, .fp8e4m3⟩
  | .hbm, ⟨1, _⟩ => ⟨S1, .f32⟩
  | .hbm, ⟨2, _⟩ => ⟨S1024x2560, .i32⟩
  | .hbm, ⟨3, _⟩ => ⟨S64x2560, .fp8e4m3⟩
  | .hbm, ⟨4, _⟩ => ⟨S2560, .f32⟩
  | .hbm, ⟨5, _⟩ => ⟨S6144x64, .f32⟩
  | .hbm, ⟨6, _⟩ => ⟨S6144x64, .f32⟩
  | .hbm, ⟨7, _⟩ => ⟨S2, .f32⟩
  | .hbm, ⟨8, _⟩ => ⟨S2, .f32⟩
  | .hbm, ⟨9, _⟩ => ⟨S6144x2048, .bf16⟩
  | .hbm, ⟨10, _⟩ => ⟨S6144x256, .fp8e4m3⟩
  | .hbm, ⟨11, _⟩ => ⟨S6144x256, .fp8e4m3⟩
  | .local _ .vmem, ⟨0, _⟩ => ⟨S6144x8192, .fp8e4m3⟩
  | .local _ .vmem, ⟨1, _⟩ => ⟨S1, .f32⟩
  | .local _ .vmem, ⟨2, _⟩ => ⟨S1024x2560, .i32⟩
  | .local _ .vmem, ⟨3, _⟩ => ⟨S64x2560, .fp8e4m3⟩
  | .local _ .vmem, ⟨4, _⟩ => ⟨S2560, .f32⟩
  | .local _ .vmem, ⟨5, _⟩ => ⟨S6144x64, .f32⟩
  | .local _ .vmem, ⟨6, _⟩ => ⟨S6144x64, .f32⟩
  | .local _ .vmem, ⟨7, _⟩ => ⟨S2, .f32⟩
  | .local _ .vmem, ⟨8, _⟩ => ⟨S2, .f32⟩
  | .local _ .vmem, ⟨9, _⟩ => ⟨S6144x2048, .bf16⟩
  | .local _ .vmem, ⟨10, _⟩ => ⟨S6144x256, .fp8e4m3⟩
  | .local _ .vmem, ⟨11, _⟩ => ⟨S6144x256, .fp8e4m3⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6144x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2560 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6144x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x256 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== NormA.lean ====
abbrev S6x1024x8192 : Shape := ⟨3, ![6, 1024, 8192]⟩
abbrev S8192 : Shape := ⟨1, ![8192]⟩
abbrev S1 : Shape := ⟨1, ![1]⟩
abbrev S6144x8192 : Shape := ⟨2, ![6144, 8192]⟩
abbrev S1x8192 : Shape := ⟨2, ![1, 8192]⟩
abbrev S256x8192 : Shape := ⟨2, ![256, 8192]⟩
abbrev S256 : Shape := ⟨1, ![256]⟩
abbrev S256x1 : Shape := ⟨2, ![256, 1]⟩

abbrev nBuf : Space → Nat
  | .hbm => 8
  | .vmem => 6
  | .smem => 1
  | _ => 0

abbrev bufTy : (tb : Table) → Fin (tcTables nBuf tb) → BufTy
  | .hbm, ⟨0, _⟩ => ⟨S6x1024x8192, .bf16⟩
  | .hbm, ⟨1, _⟩ => ⟨S8192, .f32⟩
  | .hbm, ⟨2, _⟩ => ⟨S8192, .f32⟩
  | .hbm, ⟨3, _⟩ => ⟨S1, .f32⟩
  | .hbm, ⟨4, _⟩ => ⟨S6144x8192, .bf16⟩
  | .hbm, ⟨5, _⟩ => ⟨S1x8192, .f32⟩
  | .hbm, ⟨6, _⟩ => ⟨S1x8192, .f32⟩
  | .hbm, ⟨7, _⟩ => ⟨S6144x8192, .fp8e4m3⟩
  | .local _ .vmem, ⟨0, _⟩ => ⟨S256x8192, .bf16⟩
  | .local _ .vmem, ⟨1, _⟩ => ⟨S256x8192, .bf16⟩
  | .local _ .vmem, ⟨2, _⟩ => ⟨S1x8192, .f32⟩
  | .local _ .vmem, ⟨3, _⟩ => ⟨S1x8192, .f32⟩
  | .local _ .vmem, ⟨4, _⟩ => ⟨S256x8192, .fp8e4m3⟩
  | .local _ .vmem, ⟨5, _⟩ => ⟨S256x8192, .fp8e4m3⟩
  | .local _ .smem, ⟨0, _⟩ => ⟨S1, .f32⟩
  | _, _ => ⟨S6x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormARefIdeal.lean ====
abbrev S6x1024x8192 : Shape := ⟨3, ![6, 1024, 8192]⟩
abbrev S8192 : Shape := ⟨1, ![8192]⟩
abbrev S1 : Shape := ⟨1, ![1]⟩
abbrev S_ : Shape := ⟨0, ![]⟩
abbrev S6x1024 : Shape := ⟨2, ![6, 1024]⟩
abbrev S6x1024x1 : Shape := ⟨3, ![6, 1024, 1]⟩
abbrev S1x1x8192 : Shape := ⟨3, ![1, 1, 8192]⟩
abbrev S6144x8192 : Shape := ⟨2, ![6144, 8192]⟩

abbrev nBuf : Space → Nat
  | .hbm => 37
  | .vmem => 0
  | .smem => 0
  | _ => 0

abbrev bufTy : (tb : Table) → Fin (tcTables nBuf tb) → BufTy
  | .hbm, ⟨0, _⟩ => ⟨S6x1024x8192, .bf16⟩
  | .hbm, ⟨1, _⟩ => ⟨S8192, .f32⟩
  | .hbm, ⟨2, _⟩ => ⟨S8192, .f32⟩
  | .hbm, ⟨3, _⟩ => ⟨S1, .f32⟩
  | .hbm, ⟨4, _⟩ => ⟨S6x1024x8192, .f32⟩
  | .hbm, ⟨5, _⟩ => ⟨S6x1024x8192, .f32⟩
  | .hbm, ⟨6, _⟩ => ⟨S_, .f32⟩
  | .hbm, ⟨7, _⟩ => ⟨S6x1024, .f32⟩
  | .hbm, ⟨8, _⟩ => ⟨S6x1024x1, .f32⟩
  | .hbm, ⟨9, _⟩ => ⟨S_, .f32⟩
  | .hbm, ⟨10, _⟩ => ⟨S6x1024x1, .f32⟩
  | .hbm, ⟨11, _⟩ => ⟨S6x1024x1, .f32⟩
  | .hbm, ⟨12, _⟩ => ⟨S_, .f32⟩
  | .hbm, ⟨13, _⟩ => ⟨S6x1024x1, .f32⟩
  | .hbm, ⟨14, _⟩ => ⟨S6x1024x1, .f32⟩
  | .hbm, ⟨15, _⟩ => ⟨S6x1024x1, .f32⟩
  | .hbm, ⟨16, _⟩ => ⟨S6x1024x8192, .f32⟩
  | .hbm, ⟨17, _⟩ => ⟨S6x1024x8192, .f32⟩
  | .hbm, ⟨18, _⟩ => ⟨S1x1x8192, .f32⟩
  | .hbm, ⟨19, _⟩ => ⟨S6x1024x8192, .f32⟩
  | .hbm, ⟨20, _⟩ => ⟨S6x1024x8192, .f32⟩
  | .hbm, ⟨21, _⟩ => ⟨S1x1x8192, .f32⟩
  | .hbm, ⟨22, _⟩ => ⟨S6x1024x8192, .f32⟩
  | .hbm, ⟨23, _⟩ => ⟨S6x1024x8192, .f32⟩
  | .hbm, ⟨24, _⟩ => ⟨S_, .f32⟩
  | .hbm, ⟨25, _⟩ => ⟨S6x1024x8192, .f32⟩
  | .hbm, ⟨26, _⟩ => ⟨S6x1024x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S6x1024x8192, .f32⟩
  | .hbm, ⟨31, _⟩ => ⟨S6x1024x8192, .f32⟩
  | .hbm, ⟨32, _⟩ => ⟨S_, .f32⟩
  | .hbm, ⟨33, _⟩ => ⟨S6x1024x8192, .f32⟩
  | .hbm, ⟨34, _⟩ => ⟨S6x1024x8192, .f32⟩
  | .hbm, ⟨35, _⟩ => ⟨S6x1024x8192, .fp8e4m3⟩
  | .hbm, ⟨36, _⟩ => ⟨S6144x8192, .fp8e4m3⟩
  | _, _ => ⟨S6x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== NormB.lean ====
abbrev S6144x8192 : Shape := ⟨2, ![6144, 8192]⟩
abbrev S8192 : Shape := ⟨1, ![8192]⟩
abbrev S1 : Shape := ⟨1, ![1]⟩
abbrev S1x8192 : Shape := ⟨2, ![1, 8192]⟩
abbrev S256x8192 : Shape := ⟨2, ![256, 8192]⟩
abbrev S256 : Shape := ⟨1, ![256]⟩
abbrev S256x1 : Shape := ⟨2, ![256, 1]⟩

abbrev nBuf : Space → Nat
  | .hbm => 7
  | .vmem => 6
  | .smem => 1
  | _ => 0

abbrev bufTy : (tb : Table) → Fin (tcTables nBuf tb) → BufTy
  | .hbm, ⟨0, _⟩ => ⟨S6144x8192, .f32⟩
  | .hbm, ⟨1, _⟩ => ⟨S8192, .f32⟩
  | .hbm, ⟨2, _⟩ => ⟨S8192, .f32⟩
  | .hbm, ⟨3, _⟩ => ⟨S1, .f32⟩
  | .hbm, ⟨4, _⟩ => ⟨S1x8192, .f32⟩
  | .hbm, ⟨5, _⟩ => ⟨S1x8192, .f32⟩
  | .hbm, ⟨6, _⟩ => ⟨S6144x8192, .fp8e4m3⟩
  | .local _ .vmem, ⟨0, _⟩ => ⟨S256x8192, .f32⟩
  | .local _ .vmem, ⟨1, _⟩ => ⟨S256x8192, .f32⟩
  | .local _ .vmem, ⟨2, _⟩ => ⟨S1x8192, .f32⟩
  | .local _ .vmem, ⟨3, _⟩ => ⟨S1x8192, .f32⟩
  | .local _ .vmem, ⟨4, _⟩ => ⟨S256x8192, .fp8e4m3⟩
  | .local _ .vmem, ⟨5, _⟩ => ⟨S256x8192, .fp8e4m3⟩
  | .local _ .smem, ⟨0, _⟩ => ⟨S1, .f32⟩
  | _, _ => ⟨S6144x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormBRefIdeal.lean ====
abbrev S6144x8192 : Shape := ⟨2, ![6144, 8192]⟩
abbrev S8192 : Shape := ⟨1, ![8192]⟩
abbrev S1 : Shape := ⟨1, ![1]⟩
abbrev S_ : Shape := ⟨0, ![]⟩
abbrev S6144 : Shape := ⟨1, ![6144]⟩
abbrev S6144x1 : Shape := ⟨2, ![6144, 1]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S6144x8192, .f32⟩
  | .hbm, ⟨1, _⟩ => ⟨S8192, .f32⟩
  | .hbm, ⟨2, _⟩ => ⟨S8192, .f32⟩
  | .hbm, ⟨3, _⟩ => ⟨S1, .f32⟩
  | .hbm, ⟨4, _⟩ => ⟨S6144x8192, .f32⟩
  | .hbm, ⟨5, _⟩ => ⟨S_, .f32⟩
  | .hbm, ⟨6, _⟩ => ⟨S6144, .f32⟩
  | .hbm, ⟨7, _⟩ => ⟨S6144x1, .f32⟩
  | .hbm, ⟨8, _⟩ => ⟨S_, .f32⟩
  | .hbm, ⟨9, _⟩ => ⟨S6144x1, .f32⟩
  | .hbm, ⟨10, _⟩ => ⟨S6144x1, .f32⟩
  | .hbm, ⟨11, _⟩ => ⟨S_, .f32⟩
  | .hbm, ⟨12, _⟩ => ⟨S6144x1, .f32⟩
  | .hbm, ⟨13, _⟩ => ⟨S6144x1, .f32⟩
  | .hbm, ⟨14, _⟩ => ⟨S6144x1, .f32⟩
  | .hbm, ⟨15, _⟩ => ⟨S6144x8192, .f32⟩
  | .hbm, ⟨16, _⟩ => ⟨S6144x8192, .f32⟩
  | .hbm, ⟨17, _⟩ => ⟨S1x8192, .f32⟩
  | .hbm, ⟨18, _⟩ => ⟨S6144x8192, .f32⟩
  | .hbm, ⟨19, _⟩ => ⟨S6144x8192, .f32⟩
  | .hbm, ⟨20, _⟩ => ⟨S1x8192, .f32⟩
  | .hbm, ⟨21, _⟩ => ⟨S6144x8192, .f32⟩
  | .hbm, ⟨22, _⟩ => ⟨S6144x8192, .f32⟩
  | .hbm, ⟨23, _⟩ => ⟨S_, .f32⟩
  | .hbm, ⟨24, _⟩ => ⟨S6144x8192, .f32⟩
  | .hbm, ⟨25, _⟩ => ⟨S6144x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S6144x8192, .f32⟩
  | .hbm, ⟨30, _⟩ => ⟨S6144x8192, .f32⟩
  | .hbm, ⟨31, _⟩ => ⟨S_, .f32⟩
  | .hbm, ⟨32, _⟩ => ⟨S6144x8192, .f32⟩
  | .hbm, ⟨33, _⟩ => ⟨S6144x8192, .f32⟩
  | .hbm, ⟨34, _⟩ => ⟨S6144x8192, .fp8e4m3⟩
  | _, _ => ⟨S6144x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.GuIdealConds.lean ====
module

public import proofs.«01_k».proof.Proof.Gen.GuIdeal.Launch
public import proofs.«01_k».proof.Proof.Gen.GuIdeal.Skeleton
public import proofs.«01_k».proof.Proof.Gen.GuIdeal.Points
public import proofs.«01_k».proof.Proof.Gen.GuIdeal.Frame
public import Idealize.ShloMosaic.Lib.Pipeline.FrameBody
public import Idealize.ShloMosaic.Lib.Pipeline.Value
public import Idealize.ShloMosaic.Lib.Tactic
public import Idealize.ShloMosaic.Lib.WordCmp
public import Idealize.ShloMosaic.Lib.WritesUnit

@[expose] public section

set_option maxRecDepth 16384

noncomputable section

namespace Cert.GuIdeal.Hand

open Cert.GuIdeal Cert.GuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's four branch conditions, over the grid's points. -/

/-- A tile of weights is begun: its scales are copied. -/
abbrev cond0 (i : grid0.Coords) : Prop := (Scalar.cmpi .ne (Scalar.extui (Scalar.cmpi .eq (BitVec.ofNat 32 (i 1).val) 0#32)) 0#32) = 1#1
/-- The first column step, which multiplies nothing. -/
abbrev cond1 (i : grid0.Coords) : Prop := k0_cond2 i = 1#1
/-- An odd column step. -/
abbrev cond2 (i : grid0.Coords) : Prop := k0_cond3 i = 1#1
/-- An even column step after the first. -/
abbrev cond3 (i : grid0.Coords) : Prop := k0_cond4 i = 1#1

theorem hcond0 : ∀ t : Fin cfg0.N, cond0 (grid0.coords t) ↔ t.val % 8 = 0 :=
  (by decide +kernel : ∀ t : Fin grid0.N, cond0 (grid0.coords t) ↔ t.val % 8 = 0)
theorem hcond1 : ∀ t : Fin cfg0.N, cond1 (grid0.coords t) ↔ t.val / 8 = 0 :=
  (by decide +kernel : ∀ t : Fin grid0.N, cond1 (grid0.coords t) ↔ t.val / 8 = 0)
theorem hcond2 : ∀ t : Fin cfg0.N, cond2 (grid0.coords t) ↔ t.val / 8 % 2 = 1 :=
  (by decide +kernel : ∀ t : Fin grid0.N, cond2 (grid0.coords t) ↔ t.val / 8 % 2 = 1)
theorem hcond3 : ∀ t : Fin cfg0.N, cond3 (grid0.coords t) ↔ (t.val / 8 ≠ 0 ∧ t.val / 8 % 2 = 0) :=
  (by decide +kernel : ∀ t : Fin grid0.N, cond3 (grid0.coords t) ↔ (t.val / 8 ≠ 0 ∧ t.val / 8 % 2 = 0))

/-- A whole buffer still at its contents is owned at them. -/
theorem own_back {sp : Space} {s : Shape} {e : EltTy} (c : Dev nD) {a : Memref sig .tc sp s e} (h : a.IsWhole) {x : Vec F s e} :
    (iprop(a.view.loc (c : Thread nD τ) ↦[a.view.set]{fullShare} h.unread x) : sProp 𝕄)
      ⊢ iprop(∃ f, ⌜a.view.read (Elt F) f = x⌝ ∗ (a.view.loc (c : Thread nD τ) ↦[a.view.set]{fullShare} f)) := by
  iintro H
  iexists _
  isplitr
  · ipureintro; exact h.read_unread _
  iexact H

end Cert.GuIdeal.Hand

end
-- ==== Proof.GuIdealRunA.lean ====
module

public import proofs.«01_k».proof.Proof.GuIdealConds

@[expose] public section

set_option maxRecDepth 16384

noncomputable section

namespace Cert.GuIdeal.Hand

open Cert.GuIdeal Cert.GuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S768x8192 .fp8e4m3) (harg2 : arg2.IsWhole) (arg3 : Memref sig .tc .vmem S128x512 .i32) (harg3 : arg3.IsWhole) (arg4 : Memref sig .tc .vmem S128x512 .i32) (harg4 : arg4.IsWhole) (arg5 : Memref sig .tc .vmem S64x512 .fp8e4m3) (harg5 : arg5.IsWhole) (arg6 : Memref sig .tc .vmem S64x512 .fp8e4m3) (harg6 : arg6.IsWhole) (arg7 : Memref sig .tc .smem S1 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .smem S1 .f32) (harg11 : arg11.IsWhole) (arg12 : Memref sig .tc .vmem S768x512 .fp8e4m3) (harg12 : arg12.IsWhole) (arg13 : Memref sig .tc .vmem S8192x512 .bf16) (harg13 : arg13.IsWhole) (arg14 : Memref sig .tc .vmem S8192x512 .bf16) (harg14 : arg14.IsWhole) (arg15 : Memref sig .tc .vmem S8192x512 .bf16) (harg15 : arg15.IsWhole) (arg16 : Memref sig .tc .vmem S8192x512 .bf16) (harg16 : arg16.IsWhole) (arg17 : Memref sig .tc .vmem S64x512 .f32) (harg17 : arg17.IsWhole) (arg18 : Memref sig .tc .vmem S64x512 .f32) (harg18 : arg18.IsWhole)

-- the run's proof term is large: what follows the definition's elaboration walks it past the default budget
set_option maxHeartbeats 1000000 in
/-- The body before the first product (only the second buffer is filled), at a tile of weights not begun: run from whole
    buffers at named contents, it leaves each buffer it stored into with the pieces the run finds. -/
noncomputable def runZ0 (hc0 : cond0 i) (hc1 : cond1 i) (hc2 : ¬cond2 i) (hc3 : ¬cond3 i)
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32) :
    Σ' (L2 : List (View.Piece (Elt F) S8192x512 .bf16)), Σ' (L3 : List (View.Piece (Elt F) S8192x512 .bf16)), Σ' (L4 : List (View.Piece (Elt F) S64x512 .f32)), { L5 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ d, owns (c : Thread nD τ) arg12 fullShare d)
                ∗ owns (c : Thread nD τ) arg13 fullShare xs0
                ∗ owns (c : Thread nD τ) arg14 fullShare xs1
                ∗ (arg15.view.loc (c : Thread nD τ) ↦[arg15.view.set]{fullShare} arg15.view.writes (Elt F) (harg15.unread xs2) L2)
                ∗ (arg16.view.loc (c : Thread nD τ) ↦[arg16.view.set]{fullShare} arg16.view.writes (Elt F) (harg16.unread xs3) L3)
                ∗ (∃ f, arg17.view.loc (c : Thread nD τ) ↦[arg17.view.set]{fullShare} arg17.view.writes (Elt F) f L4)
                ∗ (∃ f, arg18.view.loc (c : Thread nD τ) ↦[arg18.view.set]{fullShare} arg18.view.writes (Elt F) f L5)) -∗ K ⟨⟩))
          ⊢ wp frame (wpE (defs₀ (F := F)) Variants.none c none) E (cc0_gu i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_gu_eq_skeleton]; unfold cc0_gu_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [H6]; · iapply (own_back c harg8); iexact H6
    isplitl [H7]; · iapply (own_back c harg9); iexact H7
    isplitl [H8]; · iapply (own_back c harg10); iexact H8
    isplitl [H9]; · iapply (own_back c harg11); iexact H9
    isplitl [H10]
    · iexists _, _; isplitr; swap; · iexact H10
      ipureintro; rfl
    isplitl [HS0]; · iapply (own_back c harg13); iexact HS0
    isplitl [HS1]; · iapply (own_back c harg14); iexact HS1
    isplitl [HS2]; · iexact HS2
    isplitl [HS3]; · iexact HS3
    isplitl [HS4]; · iexists _; iexact HS4
    iexists _; iexact HS5

-- the run's proof term is large: what follows the definition's elaboration walks it past the default budget
set_option maxHeartbeats 1000000 in
/-- The body before the first product (only the second buffer is filled), within a tile of weights: run from whole
    buffers at named contents, it leaves each buffer it stored into with the pieces the run finds. -/
noncomputable def runZ1 (hc0 : ¬cond0 i) (hc1 : cond1 i) (hc2 : ¬cond2 i) (hc3 : ¬cond3 i)
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32) :
    Σ' (L2 : List (View.Piece (Elt F) S8192x512 .bf16)), { L3 : List (View.Piece (Elt F) S8192x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ d, owns (c : Thread nD τ) arg12 fullShare d)
                ∗ owns (c : Thread nD τ) arg13 fullShare xs0
                ∗ owns (c : Thread nD τ) arg14 fullShare xs1
                ∗ (arg15.view.loc (c : Thread nD τ) ↦[arg15.view.set]{fullShare} arg15.view.writes (Elt F) (harg15.unread xs2) L2)
                ∗ (arg16.view.loc (c : Thread nD τ) ↦[arg16.view.set]{fullShare} arg16.view.writes (Elt F) (harg16.unread xs3) L3)
                ∗ owns (c : Thread nD τ) arg17 fullShare xs4
                ∗ owns (c : Thread nD τ) arg18 fullShare xs5) -∗ K ⟨⟩))
          ⊢ wp frame (wpE (defs₀ (F := F)) Variants.none c none) E (cc0_gu i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_gu_eq_skeleton]; unfold cc0_gu_skel
    simp only [k0_part37_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [H6]; · iapply (own_back c harg8); iexact H6
    isplitl [H7]; · iapply (own_back c harg9); iexact H7
    isplitl [H8]; · iapply (own_back c harg10); iexact H8
    isplitl [H9]; · iapply (own_back c harg11); iexact H9
    isplitl [H10]
    · iexists _, _; isplitr; swap; · iexact H10
      ipureintro; rfl
    isplitl [HS0]; · iapply (own_back c harg13); iexact HS0
    isplitl [HS1]; · iapply (own_back c harg14); iexact HS1
    isplitl [HS2]; · iexact HS2
    isplitl [HS3]; · iexact HS3
    isplitl [HS4]; · iapply (own_back c harg17); iexact HS4
    iapply (own_back c harg18); iexact HS5

-- the run's proof term is large: what follows the definition's elaboration walks it past the default budget
set_option maxHeartbeats 1000000 in
/-- The body at an odd step (the second buffer is multiplied, the first filled), at a tile of weights not begun: run from whole
    buffers at named contents, it leaves each buffer it stored into with the pieces the run finds. -/
noncomputable def runO0 (hc0 : cond0 i) (hc1 : ¬cond1 i) (hc2 : cond2 i) (hc3 : ¬cond3 i)
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32) :
    Σ' (L10 : List (View.Piece (Elt F) S768x512 .fp8e4m3)), Σ' (L0 : List (View.Piece (Elt F) S8192x512 .bf16)), Σ' (L1 : List (View.Piece (Elt F) S8192x512 .bf16)), Σ' (L4 : List (View.Piece (Elt F) S64x512 .f32)), { L5 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10)
                ∗ (arg13.view.loc (c : Thread nD τ) ↦[arg13.view.set]{fullShare} arg13.view.writes (Elt F) (harg13.unread xs0) L0)
                ∗ (arg14.view.loc (c : Thread nD τ) ↦[arg14.view.set]{fullShare} arg14.view.writes (Elt F) (harg14.unread xs1) L1)
                ∗ owns (c : Thread nD τ) arg15 fullShare xs2
                ∗ owns (c : Thread nD τ) arg16 fullShare xs3
                ∗ (∃ f, arg17.view.loc (c : Thread nD τ) ↦[arg17.view.set]{fullShare} arg17.view.writes (Elt F) f L4)
                ∗ (∃ f, arg18.view.loc (c : Thread nD τ) ↦[arg18.view.set]{fullShare} arg18.view.writes (Elt F) f L5)) -∗ K ⟨⟩))
          ⊢ wp frame (wpE (defs₀ (F := F)) Variants.none c none) E (cc0_gu i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_gu_eq_skeleton]; unfold cc0_gu_skel
    simp only [k0_part37_eq_skeleton, k0_part22_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [H6]; · iapply (own_back c harg8); iexact H6
    isplitl [H7]; · iapply (own_back c harg9); iexact H7
    isplitl [H8]; · iapply (own_back c harg10); iexact H8
    isplitl [H9]; · iapply (own_back c harg11); iexact H9
    isplitl [H10]; · iexists _; iexact H10
    isplitl [HS0]; · iexact HS0
    isplitl [HS1]; · iexact HS1
    isplitl [HS2]; · iapply (own_back c harg15); iexact HS2
    isplitl [HS3]; · iapply (own_back c harg16); iexact HS3
    isplitl [HS4]; · iexists _; iexact HS4
    iexists _; iexact HS5

end

end Cert.GuIdeal.Hand

end
-- ==== Proof.GuIdealRunB.lean ====
module

public import proofs.«01_k».proof.Proof.GuIdealConds

@[expose] public section

set_option maxRecDepth 16384

noncomputable section

namespace Cert.GuIdeal.Hand

open Cert.GuIdeal Cert.GuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S768x8192 .fp8e4m3) (harg2 : arg2.IsWhole) (arg3 : Memref sig .tc .vmem S128x512 .i32) (harg3 : arg3.IsWhole) (arg4 : Memref sig .tc .vmem S128x512 .i32) (harg4 : arg4.IsWhole) (arg5 : Memref sig .tc .vmem S64x512 .fp8e4m3) (harg5 : arg5.IsWhole) (arg6 : Memref sig .tc .vmem S64x512 .fp8e4m3) (harg6 : arg6.IsWhole) (arg7 : Memref sig .tc .smem S1 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .smem S1 .f32) (harg11 : arg11.IsWhole) (arg12 : Memref sig .tc .vmem S768x512 .fp8e4m3) (harg12 : arg12.IsWhole) (arg13 : Memref sig .tc .vmem S8192x512 .bf16) (harg13 : arg13.IsWhole) (arg14 : Memref sig .tc .vmem S8192x512 .bf16) (harg14 : arg14.IsWhole) (arg15 : Memref sig .tc .vmem S8192x512 .bf16) (harg15 : arg15.IsWhole) (arg16 : Memref sig .tc .vmem S8192x512 .bf16) (harg16 : arg16.IsWhole) (arg17 : Memref sig .tc .vmem S64x512 .f32) (harg17 : arg17.IsWhole) (arg18 : Memref sig .tc .vmem S64x512 .f32) (harg18 : arg18.IsWhole)

-- the run's proof term is large: what follows the definition's elaboration walks it past the default budget
set_option maxHeartbeats 1000000 in
/-- The body at an odd step (the second buffer is multiplied, the first filled), within a tile of weights: run from whole
    buffers at named contents, it leaves each buffer it stored into with the pieces the run finds. -/
noncomputable def runO1 (hc0 : ¬cond0 i) (hc1 : ¬cond1 i) (hc2 : cond2 i) (hc3 : ¬cond3 i)
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32) :
    Σ' (L10 : List (View.Piece (Elt F) S768x512 .fp8e4m3)), Σ' (L0 : List (View.Piece (Elt F) S8192x512 .bf16)), { L1 : List (View.Piece (Elt F) S8192x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10)
                ∗ (arg13.view.loc (c : Thread nD τ) ↦[arg13.view.set]{fullShare} arg13.view.writes (Elt F) (harg13.unread xs0) L0)
                ∗ (arg14.view.loc (c : Thread nD τ) ↦[arg14.view.set]{fullShare} arg14.view.writes (Elt F) (harg14.unread xs1) L1)
                ∗ owns (c : Thread nD τ) arg15 fullShare xs2
                ∗ owns (c : Thread nD τ) arg16 fullShare xs3
                ∗ owns (c : Thread nD τ) arg17 fullShare xs4
                ∗ owns (c : Thread nD τ) arg18 fullShare xs5) -∗ K ⟨⟩))
          ⊢ wp frame (wpE (defs₀ (F := F)) Variants.none c none) E (cc0_gu i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_gu_eq_skeleton]; unfold cc0_gu_skel
    simp only [k0_part37_eq_skeleton, k0_part22_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [H6]; · iapply (own_back c harg8); iexact H6
    isplitl [H7]; · iapply (own_back c harg9); iexact H7
    isplitl [H8]; · iapply (own_back c harg10); iexact H8
    isplitl [H9]; · iapply (own_back c harg11); iexact H9
    isplitl [H10]; · iexists _; iexact H10
    isplitl [HS0]; · iexact HS0
    isplitl [HS1]; · iexact HS1
    isplitl [HS2]; · iapply (own_back c harg15); iexact HS2
    isplitl [HS3]; · iapply (own_back c harg16); iexact HS3
    isplitl [HS4]; · iapply (own_back c harg17); iexact HS4
    iapply (own_back c harg18); iexact HS5

-- the run's proof term is large: what follows the definition's elaboration walks it past the default budget
set_option maxHeartbeats 1000000 in
/-- The body at an even step (the first buffer is multiplied, the second filled), at a tile of weights not begun: run from whole
    buffers at named contents, it leaves each buffer it stored into with the pieces the run finds. -/
noncomputable def runE0 (hc0 : cond0 i) (hc1 : ¬cond1 i) (hc2 : ¬cond2 i) (hc3 : cond3 i)
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32) :
    Σ' (L10 : List (View.Piece (Elt F) S768x512 .fp8e4m3)), Σ' (L2 : List (View.Piece (Elt F) S8192x512 .bf16)), Σ' (L3 : List (View.Piece (Elt F) S8192x512 .bf16)), Σ' (L4 : List (View.Piece (Elt F) S64x512 .f32)), { L5 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10)
                ∗ owns (c : Thread nD τ) arg13 fullShare xs0
                ∗ owns (c : Thread nD τ) arg14 fullShare xs1
                ∗ (arg15.view.loc (c : Thread nD τ) ↦[arg15.view.set]{fullShare} arg15.view.writes (Elt F) (harg15.unread xs2) L2)
                ∗ (arg16.view.loc (c : Thread nD τ) ↦[arg16.view.set]{fullShare} arg16.view.writes (Elt F) (harg16.unread xs3) L3)
                ∗ (∃ f, arg17.view.loc (c : Thread nD τ) ↦[arg17.view.set]{fullShare} arg17.view.writes (Elt F) f L4)
                ∗ (∃ f, arg18.view.loc (c : Thread nD τ) ↦[arg18.view.set]{fullShare} arg18.view.writes (Elt F) f L5)) -∗ K ⟨⟩))
          ⊢ wp frame (wpE (defs₀ (F := F)) Variants.none c none) E (cc0_gu i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_gu_eq_skeleton]; unfold cc0_gu_skel
    simp only [k0_part37_eq_skeleton, k0_part36_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [H6]; · iapply (own_back c harg8); iexact H6
    isplitl [H7]; · iapply (own_back c harg9); iexact H7
    isplitl [H8]; · iapply (own_back c harg10); iexact H8
    isplitl [H9]; · iapply (own_back c harg11); iexact H9
    isplitl [H10]; · iexists _; iexact H10
    isplitl [HS0]; · iapply (own_back c harg13); iexact HS0
    isplitl [HS1]; · iapply (own_back c harg14); iexact HS1
    isplitl [HS2]; · iexact HS2
    isplitl [HS3]; · iexact HS3
    isplitl [HS4]; · iexists _; iexact HS4
    iexists _; iexact HS5

-- the run's proof term is large: what follows the definition's elaboration walks it past the default budget
set_option maxHeartbeats 1000000 in
/-- The body at an even step (the first buffer is multiplied, the second filled), within a tile of weights: run from whole
    buffers at named contents, it leaves each buffer it stored into with the pieces the run finds. -/
noncomputable def runE1 (hc0 : ¬cond0 i) (hc1 : ¬cond1 i) (hc2 : ¬cond2 i) (hc3 : cond3 i)
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32) :
    Σ' (L10 : List (View.Piece (Elt F) S768x512 .fp8e4m3)), Σ' (L2 : List (View.Piece (Elt F) S8192x512 .bf16)), { L3 : List (View.Piece (Elt F) S8192x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
            ∗ (∃ d, owns (c : Thread nD τ) arg12 fullShare d) ∗ owns (c : Thread nD τ) arg13 fullShare xs0 ∗ owns (c : Thread nD τ) arg14 fullShare xs1 ∗ owns (c : Thread nD τ) arg15 fullShare xs2 ∗ owns (c : Thread nD τ) arg16 fullShare xs3 ∗ owns (c : Thread nD τ) arg17 fullShare xs4 ∗ owns (c : Thread nD τ) arg18 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9
                ∗ (∃ f, arg12.view.loc (c : Thread nD τ) ↦[arg12.view.set]{fullShare} arg12.view.writes (Elt F) f L10)
                ∗ owns (c : Thread nD τ) arg13 fullShare xs0
                ∗ owns (c : Thread nD τ) arg14 fullShare xs1
                ∗ (arg15.view.loc (c : Thread nD τ) ↦[arg15.view.set]{fullShare} arg15.view.writes (Elt F) (harg15.unread xs2) L2)
                ∗ (arg16.view.loc (c : Thread nD τ) ↦[arg16.view.set]{fullShare} arg16.view.writes (Elt F) (harg16.unread xs3) L3)
                ∗ owns (c : Thread nD τ) arg17 fullShare xs4
                ∗ owns (c : Thread nD τ) arg18 fullShare xs5) -∗ K ⟨⟩))
          ⊢ wp frame (wpE (defs₀ (F := F)) Variants.none c none) E (cc0_gu i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_gu_eq_skeleton]; unfold cc0_gu_skel
    simp only [k0_part37_eq_skeleton, k0_part36_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    obtain rfl := harg13.eq_unread hfs0; obtain rfl := harg14.eq_unread hfs1; obtain rfl := harg15.eq_unread hfs2; obtain rfl := harg16.eq_unread hfs3; obtain rfl := harg17.eq_unread hfs4; obtain rfl := harg18.eq_unread hfs5
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [H6]; · iapply (own_back c harg8); iexact H6
    isplitl [H7]; · iapply (own_back c harg9); iexact H7
    isplitl [H8]; · iapply (own_back c harg10); iexact H8
    isplitl [H9]; · iapply (own_back c harg11); iexact H9
    isplitl [H10]; · iexists _; iexact H10
    isplitl [HS0]; · iapply (own_back c harg13); iexact HS0
    isplitl [HS1]; · iapply (own_back c harg14); iexact HS1
    isplitl [HS2]; · iexact HS2
    isplitl [HS3]; · iexact HS3
    isplitl [HS4]; · iapply (own_back c harg17); iexact HS4
    iapply (own_back c harg18); iexact HS5

end

end Cert.GuIdeal.Hand

end
-- ==== Proof.GuIdealTiles.lean ====
module

public import proofs.«01_k».proof.Proof.GuIdealConds
public import Idealize.ShloMosaic.Lib.Pipeline.ValueKit
public import Idealize.ShloMosaic.Lib.Pointwise
public import Idealize.ShloMosaic.Lib.WholeRead

/-! What a point stores: one strip of dequantised weights, which tiles of weights the carried buffers then hold, and the block of the result. -/

@[expose] public section

set_option maxRecDepth 16384

noncomputable section

namespace Cert.GuIdeal.Hand

open Cert.GuIdeal Cert.GuIdeal.Gen
open Idealize.ShloMosaic Idealize.ShloMosaic.TcCoe Idealize.ShloMosaic.Tactic
open Idealize.ShloMosaic.ValueIdx hiding ix1 ix2

variable {F : FTy → Type} [FloatOps F]

section
/-- One dequantised weight: nibble `j` of a word, times its group's scale rounded to bf16. -/
def deq (w : BitVec 32) (j : ℕ) (g : F .f32) : F .bf16 :=
  FloatOps.mulf
    (FloatOps.sitofp .bf16
      ((IntOp.shrui .vector w (IntOp.muli (4#32) (BitVec.ofNat 32 j))).setWidth 4))
    (FloatOps.truncf .bf16 bitsLt_bf16_f32 g)

/-- A store's payload, entry by entry: row `r` is nibble `r % 8` of word row `r / 8`. -/
theorem pay2_apply (w : Vec F S16x512 .i32) (g : Vec F S1x512 .f32) (r : Fin 128) (c : Fin 512) :
    k0_pay2 w g (ix2 r c) = deq (w (ix2 ⟨r.val / 8, by omega⟩ c)) (r.val % 8) (g (ix2 0 c)) := by
  unfold k0_pay2 deq
  pointwise

/-- A scale, widened to f32. -/
theorem pay89_apply (g : Vec F S64x512 .fp8e4m3) (r : Fin 64) (c : Fin 512) :
    k0_pay89 g (ix2 r c) = FloatOps.extf .f32 bitsLt_fp8e4m3_f32 (g (ix2 r c)) := by
  unfold k0_pay89
  pointwise

/-- A weight buffer with rows `[1024 k, 1024 k + 1024)` filled from a block of packed words and the scales. -/
def strip (k : ℕ) (hk : k < 8) (w : Vec F S128x512 .i32) (g : Vec F S64x512 .f32) (old : Vec F S8192x512 .bf16) : Vec F S8192x512 .bf16 :=
  fun y => if (y 0).val / 1024 = k then
    deq (w (ix2 ⟨(y 0).val % 1024 / 8, by omega⟩ (y 1))) ((y 0).val % 8) (g (ix2 ⟨(y 0).val / 128, by have := (y 0).isLt; simp at this; omega⟩ (y 1)))
  else old y

theorem read_strip (arg : Memref sig .tc .vmem S8192x512 .bf16) (harg : arg.IsWhole) (xs : Vec F S8192x512 .bf16)
    (k : ℕ) (hk : k < 8) (a3 : Memref sig .tc .vmem S128x512 .i32) (ha3 : a3.IsWhole) (x1 : Vec F S128x512 .i32)
    (gl : Fin 8 → Vec F S1x512 .f32) (G : Vec F S64x512 .f32)
    (hgl : ∀ j : Fin 8, ∀ c : Fin 512, gl j (ix2 0 c) = G (ix2 ⟨8 * k + j.val, by omega⟩ c))
    (o2 : Fin 8 → Fin 2 → ℕ) (ho2 : ∀ j, o2 j = ![1024 * k + 128 * j.val, 0])
    (inb2 : ∀ j a, o2 j a + ![128, 512] a ≤ S8192x512.size a)
    (inbw : ∀ (j : Fin 8) a, ![16 * j.val, 0] a + ![16, 512] a ≤ S128x512.size a) :
    arg.view.read (Elt F) (arg.view.writes (Elt F) (harg.unread xs)
      (View.tilePieces ![128, 512] o2 inb2 (fun j => k0_pay2
        (View.readAt (Elt F) a3.view (Rect.unit (s := S128x512) ![16 * j.val, 0] ![16, 512] (inbw j)).toLoadRect (ha3.unread x1) : Vec F S16x512 .i32) (gl j)) 8 le_rfl))
      = strip k hk x1 G xs := by
  funext y
  have hy0 : (y 0).val < 8192 := (y 0).isLt
  have hy1 : (y 1).val < 512 := (y 1).isLt
  unfold strip
  by_cases h : (y 0).val / 1024 = k
  · rw [if_pos h]
    rw [View.read_tilePieces arg.view _ ![128, 512] o2 inb2 _ 8 le_rfl y ⟨(y 0).val % 1024 / 128, by omega⟩ (by show _ / _ < 8; omega)
      (ix2 ⟨(y 0).val % 128, by omega⟩ (y 1))
      (by
        intro a
        rw [ho2]
        match a with
        | ⟨0, _⟩ => show (y 0).val = 1024 * k + 128 * ((y 0).val % 1024 / 128) + (y 0).val % 128; omega
        | ⟨1, _⟩ => show (y 1).val = 0 + (y 1).val; omega) 0
      (by
        intro j hj
        have hj' : j.val ≠ (y 0).val % 1024 / 128 := fun e => hj (Fin.ext e)
        rw [ho2]
        show (y 0).val < 1024 * k + 128 * j.val ∨ 1024 * k + 128 * j.val + 128 ≤ (y 0).val
        omega)]
    refine (pay2_apply _ _ _ _).trans ?_
    rw [ha3.readAt_unread]; refine Eq.trans (congrArg _ (hgl _ _)) ?_
    have e1 : (Rect.unit (s := S128x512) ![16 * ((y 0).val % 1024 / 128), 0] ![16, 512] (inbw ⟨(y 0).val % 1024 / 128, by omega⟩)).toLoadRect.idx
        (ix2 (⟨(y 0).val % 128 / 8, by omega⟩ : Fin 16) (y 1)) = ix2 (⟨(y 0).val % 1024 / 8, by omega⟩ : Fin 128) (y 1) := by
      funext a; apply Fin.ext
      match a with
      | ⟨0, _⟩ => show 16 * ((y 0).val % 1024 / 128) + 1 * ((y 0).val % 128 / 8) = (y 0).val % 1024 / 8; omega
      | ⟨1, _⟩ => show 0 + 1 * (y 1).val = (y 1).val; omega
    have e2 : (y 0).val % 128 % 8 = (y 0).val % 8 := by omega
    have e3 : (⟨8 * k + (y 0).val % 1024 / 128, by omega⟩ : Fin 64) = ⟨(y 0).val / 128, by omega⟩ := Fin.ext (by show 8 * k + (y 0).val % 1024 / 128 = (y 0).val / 128; omega)
    exact congr (congrArg₂ deq (congrArg x1 e1) e2) (congrArg (fun q : Fin 64 => G (ix2 q (y 1))) e3)
  · rw [if_neg h]
    rw [View.read_tilePieces_miss arg.view _ ![128, 512] o2 inb2 _ 8 le_rfl y 0 (by
      intro j _
      rw [ho2]
      show (y 0).val < 1024 * k + 128 * j.val ∨ 1024 * k + 128 * j.val + 128 ≤ (y 0).val
      omega), harg.read_unread]

/-- The whole-buffer copy of a scale block, widened to f32. -/
theorem read_scales (a17 : Memref sig .tc .vmem S64x512 .f32) (f : a17.view.ty.Contents (Elt F))
    (a5 : Memref sig .tc .vmem S64x512 .fp8e4m3) (ha5 : a5.IsWhole) (x3 : Vec F S64x512 .fp8e4m3) (p : Vec F S64x512 .f32)
    (hp : p = k0_pay89 (View.readAt (Elt F) a5.view (Rect.unit ![0, 0] S64x512.size inb_S64x512_S64x512_0_0).toLoadRect (ha5.unread x3))) :
    a17.view.read (Elt F) (a17.view.writes (Elt F) f [⟨Rect.unit ![0, 0] S64x512.size inb_S64x512_S64x512_0_0, p⟩])
      = fun y => FloatOps.extf .f32 bitsLt_fp8e4m3_f32 (x3 y) := by
  funext y
  rw [View.read_writes_cons_unit_of_mem a17.view f inb_S64x512_S64x512_0_0 p [] y y rfl (by
    intro a
    match a with
    | ⟨0, _⟩ => exact (Nat.zero_add _).symm
    | ⟨1, _⟩ => exact (Nat.zero_add _).symm), hp]
  have hy : y = ix2 (y 0 : Fin 64) (y 1 : Fin 512) := funext fun a => by
    match a with
    | ⟨0, _⟩ => rfl
    | ⟨1, _⟩ => rfl
  rw [hy]
  refine (pay89_apply _ _ _).trans ?_
  rw [ha5.readAt_unread]
  refine congrArg (fun q => FloatOps.extf .f32 bitsLt_fp8e4m3_f32 (x3 q)) ?_
  funext a; apply Fin.ext
  match a with
  | ⟨0, _⟩ => show 0 + 1 * (y 0).val = (y 0).val; omega
  | ⟨1, _⟩ => show 0 + 1 * (y 1).val = (y 1).val; omega

/-- One row of the scales, loaded. -/
theorem readAt_scales (a17 : Memref sig .tc .vmem S64x512 .f32) (f : a17.view.ty.Contents (Elt F)) (G : Vec F S64x512 .f32)
    (hf : a17.view.read (Elt F) f = G) (q : ℕ) (hq : q < 64) (o : Fin 2 → ℕ) (ho : o = ![q, 0])
    (inb : ∀ a, o a + S1x512.size a ≤ S64x512.size a) (c : Fin 512) :
    View.readAt (Elt F) a17.view (Rect.unit (s := S64x512) o S1x512.size inb).toLoadRect f (ix2 (0 : Fin 1) c) = G (ix2 ⟨q, hq⟩ c) := by
  subst ho
  rw [← hf]
  refine congrArg (a17.view.read (Elt F) f) ?_
  funext a; apply Fin.ext
  match a with
  | ⟨0, _⟩ => show q + 1 * 0 = q; omega
  | ⟨1, _⟩ => show 0 + 1 * c.val = c.val; omega

theorem scale_inb {o : Fin 2 → ℕ} {k : ℕ} {j : Fin 8} (h : o = ![8 * (k % 8) + j.val, 0]) : ∀ a, o a + S1x512.size a ≤ S64x512.size a := by
  subst h
  intro a
  match a with
  | ⟨0, _⟩ => show 8 * (k % 8) + j.val + 1 ≤ 64; omega
  | ⟨1, _⟩ => show 0 + 512 ≤ 512; omega

theorem strip_inb {o : Fin 2 → ℕ} {k : ℕ} {j : Fin 8} (h : o = ![1024 * (k % 8) + 128 * j.val, 0]) : ∀ a, o a + ![128, 512] a ≤ S8192x512.size a := by
  subst h
  intro a
  match a with
  | ⟨0, _⟩ => show 1024 * (k % 8) + 128 * j.val + 128 ≤ 8192; omega
  | ⟨1, _⟩ => show 0 + 512 ≤ 512; omega

theorem words_inb (j : Fin 8) : ∀ a, ![16 * j.val, 0] a + ![16, 512] a ≤ S128x512.size a := by
  intro a
  match a with
  | ⟨0, _⟩ => show 16 * j.val + 16 ≤ 128; omega
  | ⟨1, _⟩ => show 0 + 512 ≤ 512; omega

theorem off1 : ∀ t : Fin grid0.N, ∀ c : Fin 8, (k0_off1 (grid0.coords t) (BitVec.ofNat 32 c.val)) = ![8 * (t.val % 8) + c.val, 0] := by decide +kernel
theorem off2 : ∀ t : Fin grid0.N, ∀ c : Fin 8, (k0_off2 (grid0.coords t) (BitVec.ofNat 32 (128 * c.val))) = ![1024 * (t.val % 8) + 128 * c.val, 0] := by decide +kernel
theorem off3 : ∀ t : Fin grid0.N, ∀ c : Fin 8, (k0_off3 (grid0.coords t) (BitVec.ofNat 32 c.val)) = ![8 * (t.val % 8) + c.val, 0] := by decide +kernel
theorem off4 : ∀ t : Fin grid0.N, ∀ c : Fin 8, (k0_off4 (grid0.coords t) (BitVec.ofNat 32 (128 * c.val))) = ![1024 * (t.val % 8) + 128 * c.val, 0] := by decide +kernel
theorem off5 : ∀ t : Fin grid0.N, ∀ c : Fin 8, (k0_off5 (grid0.coords t) (BitVec.ofNat 32 c.val)) = ![8 * (t.val % 8) + c.val, 0] := by decide +kernel
theorem off6 : ∀ t : Fin grid0.N, ∀ c : Fin 8, (k0_off6 (grid0.coords t) (BitVec.ofNat 32 (128 * c.val))) = ![1024 * (t.val % 8) + 128 * c.val, 0] := by decide +kernel

end

/-! The carried buffers between two points: which tiles of weights they hold. -/

section
/-- Column `l` of tile `n` of the gate (`g = 0`) or the up (`g = 1`) weights. -/
def col (g : Fin 2) (n : Fin 14) (l : Fin 512) : Fin 14336 := ⟨7168 * g.val + 512 * n.val + l.val, by omega⟩

/-- A tile's scales, widened. -/
def scl (S : Vec F S64x14336 .fp8e4m3) (g : Fin 2) (n : Fin 14) : Vec F S64x512 .f32 :=
  fun y => FloatOps.extf .f32 bitsLt_fp8e4m3_f32 (S (ix2 (y 0 : Fin 64) (col g n (y 1))))

/-- A tile of dequantised weights. -/
def tile (W : Vec F S1024x14336 .i32) (S : Vec F S64x14336 .fp8e4m3) (g : Fin 2) (n : Fin 14) : Vec F S8192x512 .bf16 :=
  fun y => deq (W (ix2 (⟨(y 0).val / 8, by have : (y 0).val < 8192 := (y 0).isLt; omega⟩ : Fin 1024) (col g n (y 1)))) ((y 0).val % 8)
    (scl S g n (ix2 (⟨(y 0).val / 128, by have : (y 0).val < 8192 := (y 0).isLt; omega⟩ : Fin 64) (y 1 : Fin 512)))

/-- The first `k` rows of a buffer hold a tile. -/
def Hold (W : Vec F S1024x14336 .i32) (S : Vec F S64x14336 .fp8e4m3) (g : Fin 2) (n : Fin 14) (d : Vec F S8192x512 .bf16) (k : ℕ) : Prop :=
  ∀ y : S8192x512.Idx, (y 0).val < k → d y = tile W S g n y

/-- The tile being filled at point `t`, -/
def nxt (t : ℕ) : Fin 14 := ⟨min (t / 8) 13, by omega⟩
/-- and the tile being multiplied. -/
def cur (t : ℕ) : Fin 14 := ⟨min (t / 8 - 1) 13, by omega⟩

variable (W : Vec F S1024x14336 .i32) (S : Vec F S64x14336 .fp8e4m3)

theorem hold_zero (g : Fin 2) (n : Fin 14) (d : Vec F S8192x512 .bf16) : Hold W S g n d 0 := fun y h => absurd h (Nat.not_lt_zero _)

theorem eq_of_hold {g : Fin 2} {n : Fin 14} {d : Vec F S8192x512 .bf16} (h : Hold W S g n d 8192) : d = tile W S g n :=
  funext fun y => h y (y 0).isLt

/-- A strip stored extends what is held. -/
theorem hold_strip {g : Fin 2} {n : Fin 14} {k : ℕ} (hk : k < 8) (w : Vec F S128x512 .i32)
    (hw : ∀ y : S128x512.Idx, w y = W (ix2 (⟨128 * k + (y 0).val, by have : (y 0).val < 128 := (y 0).isLt; omega⟩ : Fin 1024) (col g n (y 1))))
    {d : Vec F S8192x512 .bf16} (hd : Hold W S g n d (1024 * k)) : Hold W S g n (strip k hk w (scl S g n) d) (1024 * k + 1024) := by
  intro y hy
  have hy0 : (y 0).val < 8192 := (y 0).isLt
  unfold strip
  by_cases h : (y 0).val / 1024 = k
  · rw [if_pos h, hw]
    unfold tile
    have e : (⟨128 * k + ((y 0).val % 1024 / 8), by omega⟩ : Fin 1024) = ⟨(y 0).val / 8, by omega⟩ := Fin.ext (by show 128 * k + (y 0).val % 1024 / 8 = (y 0).val / 8; omega)
    exact congrArg (fun q : Fin 1024 => deq (W (ix2 q (col g n (y 1)))) ((y 0).val % 8) (scl S g n (ix2 (⟨(y 0).val / 128, by omega⟩ : Fin 64) (y 1 : Fin 512)))) e
  · rw [if_neg h]
    exact hd y (by omega)

/-- The carried buffers before point `t`: the buffer being filled holds the next tile down to the strip of the point, the
    other one the tile to be multiplied, and within a tile the scales are the next tile's. -/
def Inv (t : ℕ) (xs0 xs1 xs2 xs3 : Vec F S8192x512 .bf16) (xs4 xs5 : Vec F S64x512 .f32) : Prop :=
  (t / 8 % 2 = 1 → Hold W S 0 (nxt t) xs0 (1024 * (t % 8)) ∧ Hold W S 1 (nxt t) xs1 (1024 * (t % 8)) ∧ xs2 = tile W S 0 (cur t) ∧ xs3 = tile W S 1 (cur t))
  ∧ (t / 8 % 2 = 0 → Hold W S 0 (nxt t) xs2 (1024 * (t % 8)) ∧ Hold W S 1 (nxt t) xs3 (1024 * (t % 8)) ∧ (t / 8 ≠ 0 → xs0 = tile W S 0 (cur t) ∧ xs1 = tile W S 1 (cur t)))
  ∧ (t % 8 ≠ 0 → xs4 = scl S 0 (nxt t) ∧ xs5 = scl S 1 (nxt t))

variable {W S} in
theorem inv_zero (xs0 xs1 xs2 xs3 : Vec F S8192x512 .bf16) (xs4 xs5 : Vec F S64x512 .f32) : Inv W S 0 xs0 xs1 xs2 xs3 xs4 xs5 :=
  ⟨fun h => absurd h (by decide), fun _ => ⟨hold_zero W S _ _ _, hold_zero W S _ _ _, fun h => absurd rfl h⟩, fun h => absurd rfl h⟩

/-- A step that fills the second buffer. -/
theorem inv_even {t : ℕ} (h2 : t / 8 % 2 = 0) {xs0 xs1 xs2 xs3 : Vec F S8192x512 .bf16} {xs4 xs5 : Vec F S64x512 .f32}
    (h : Inv W S t xs0 xs1 xs2 xs3 xs4 xs5) (w0 w1 : Vec F S128x512 .i32)
    (hw0 : ∀ y : S128x512.Idx, w0 y = W (ix2 (⟨128 * (t % 8) + (y 0).val, by have : (y 0).val < 128 := (y 0).isLt; omega⟩ : Fin 1024) (col 0 (nxt t) (y 1))))
    (hw1 : ∀ y : S128x512.Idx, w1 y = W (ix2 (⟨128 * (t % 8) + (y 0).val, by have : (y 0).val < 128 := (y 0).isLt; omega⟩ : Fin 1024) (col 1 (nxt t) (y 1)))) :
    Inv W S (t + 1) xs0 xs1 (strip (t % 8) (Nat.mod_lt _ (by decide)) w0 (scl S 0 (nxt t)) xs2)
      (strip (t % 8) (Nat.mod_lt _ (by decide)) w1 (scl S 1 (nxt t)) xs3) (scl S 0 (nxt t)) (scl S 1 (nxt t)) := by
  obtain ⟨ha, hb, hf⟩ := h.2.1 h2
  have ha' := hold_strip W S (Nat.mod_lt t (by decide : 8 > 0)) w0 hw0 ha
  have hb' := hold_strip W S (Nat.mod_lt t (by decide : 8 > 0)) w1 hw1 hb
  by_cases h7 : t % 8 = 7
  · have hc : cur (t + 1) = nxt t := Fin.ext (by show min ((t + 1) / 8 - 1) 13 = min (t / 8) 13; omega)
    rw [show 1024 * (t % 8) + 1024 = 8192 by omega] at ha' hb'
    refine ⟨fun _ => ?_, fun h0 => absurd h0 (by omega), fun h0 => absurd h0 (by omega)⟩
    rw [show (t + 1) % 8 = 0 by omega, hc]
    exact ⟨hold_zero W S _ _ _, hold_zero W S _ _ _, eq_of_hold W S ha', eq_of_hold W S hb'⟩
  · have hn : nxt (t + 1) = nxt t := Fin.ext (by show min ((t + 1) / 8) 13 = min (t / 8) 13; omega)
    have hc : cur (t + 1) = cur t := Fin.ext (by show min ((t + 1) / 8 - 1) 13 = min (t / 8 - 1) 13; omega)
    refine ⟨fun h0 => absurd h0 (by omega), fun _ => ?_, fun _ => ⟨by rw [hn], by rw [hn]⟩⟩
    rw [hn, hc, show 1024 * ((t + 1) % 8) = 1024 * (t % 8) + 1024 by omega]
    exact ⟨ha', hb', fun h0 => hf (by omega)⟩

/-- A step that fills the first buffer. -/
theorem inv_odd {t : ℕ} (h2 : t / 8 % 2 = 1) {xs0 xs1 xs2 xs3 : Vec F S8192x512 .bf16} {xs4 xs5 : Vec F S64x512 .f32}
    (h : Inv W S t xs0 xs1 xs2 xs3 xs4 xs5) (w0 w1 : Vec F S128x512 .i32)
    (hw0 : ∀ y : S128x512.Idx, w0 y = W (ix2 (⟨128 * (t % 8) + (y 0).val, by have : (y 0).val < 128 := (y 0).isLt; omega⟩ : Fin 1024) (col 0 (nxt t) (y 1))))
    (hw1 : ∀ y : S128x512.Idx, w1 y = W (ix2 (⟨128 * (t % 8) + (y 0).val, by have : (y 0).val < 128 := (y 0).isLt; omega⟩ : Fin 1024) (col 1 (nxt t) (y 1)))) :
    Inv W S (t + 1) (strip (t % 8) (Nat.mod_lt _ (by decide)) w0 (scl S 0 (nxt t)) xs0)
      (strip (t % 8) (Nat.mod_lt _ (by decide)) w1 (scl S 1 (nxt t)) xs1) xs2 xs3 (scl S 0 (nxt t)) (scl S 1 (nxt t)) := by
  obtain ⟨ha, hb, hf, hg⟩ := h.1 h2
  have ha' := hold_strip W S (Nat.mod_lt t (by decide : 8 > 0)) w0 hw0 ha
  have hb' := hold_strip W S (Nat.mod_lt t (by decide : 8 > 0)) w1 hw1 hb
  by_cases h7 : t % 8 = 7
  · have hc : cur (t + 1) = nxt t := Fin.ext (by show min ((t + 1) / 8 - 1) 13 = min (t / 8) 13; omega)
    rw [show 1024 * (t % 8) + 1024 = 8192 by omega] at ha' hb'
    refine ⟨fun h0 => absurd h0 (by omega), fun _ => ?_, fun h0 => absurd h0 (by omega)⟩
    rw [show (t + 1) % 8 = 0 by omega, hc]
    exact ⟨hold_zero W S _ _ _, hold_zero W S _ _ _, fun _ => ⟨eq_of_hold W S ha', eq_of_hold W S hb'⟩⟩
  · have hn : nxt (t + 1) = nxt t := Fin.ext (by show min ((t + 1) / 8) 13 = min (t / 8) 13; omega)
    have hc : cur (t + 1) = cur t := Fin.ext (by show min ((t + 1) / 8 - 1) 13 = min (t / 8 - 1) 13; omega)
    refine ⟨fun _ => ?_, fun h0 => absurd h0 (by omega), fun _ => ⟨by rw [hn], by rw [hn]⟩⟩
    rw [hn, hc, show 1024 * ((t + 1) % 8) = 1024 * (t % 8) + 1024 by omega]
    exact ⟨ha', hb', hf, hg⟩

/-! The windows' blocks, at coordinates. -/

theorem idx0 : ∀ t : Fin cfg0.N, win0_0.index t = ![if t.val < 8 then 0 else t.val % 8, 0] := (by decide +kernel : ∀ t : Fin grid0.N, win0_0.index t = ![if t.val < 8 then 0 else t.val % 8, 0])
theorem idx1 : ∀ t : Fin cfg0.N, win0_1.index t = ![t.val % 8, min (t.val / 8) 13] := (by decide +kernel : ∀ t : Fin grid0.N, win0_1.index t = ![t.val % 8, min (t.val / 8) 13])
theorem idx2 : ∀ t : Fin cfg0.N, win0_2.index t = ![t.val % 8, 14 + min (t.val / 8) 13] := (by decide +kernel : ∀ t : Fin grid0.N, win0_2.index t = ![t.val % 8, 14 + min (t.val / 8) 13])
theorem idx3 : ∀ t : Fin cfg0.N, win0_3.index t = ![0, min (t.val / 8) 13] := (by decide +kernel : ∀ t : Fin grid0.N, win0_3.index t = ![0, min (t.val / 8) 13])
theorem idx4 : ∀ t : Fin cfg0.N, win0_4.index t = ![0, 14 + min (t.val / 8) 13] := (by decide +kernel : ∀ t : Fin grid0.N, win0_4.index t = ![0, 14 + min (t.val / 8) 13])
theorem idx5 : ∀ t : Fin cfg0.N, win0_5.index t = ![0] := (by decide +kernel : ∀ t : Fin grid0.N, win0_5.index t = ![0])
theorem idx6 : ∀ t : Fin cfg0.N, win0_6.index t = ![0, t.val / 8 - 1] := (by decide +kernel : ∀ t : Fin grid0.N, win0_6.index t = ![0, t.val / 8 - 1])
theorem idx7 : ∀ t : Fin cfg0.N, win0_7.index t = ![0, 14 + (t.val / 8 - 1)] := (by decide +kernel : ∀ t : Fin grid0.N, win0_7.index t = ![0, 14 + (t.val / 8 - 1)])
theorem idx8 : ∀ t : Fin cfg0.N, win0_8.index t = ![0, t.val / 8 - 1] := (by decide +kernel : ∀ t : Fin grid0.N, win0_8.index t = ![0, t.val / 8 - 1])
theorem idx9 : ∀ t : Fin cfg0.N, win0_9.index t = ![0] := (by decide +kernel : ∀ t : Fin grid0.N, win0_9.index t = ![0])

variable (m : (ℓ : Loc nD τ sig) → Buf (Elt F) ℓ)

theorem iblk1 (c : Dev nD) (t : Fin cfg0.N) (y : S128x512.Idx) : (iblk m c 1 t : Vec F S128x512 .i32) y
    = (V m c main_arg2 : Vec F S1024x14336 .i32) (ix2 (⟨128 * (t.val % 8) + (y 0).val, by have : (y 0).val < 128 := (y 0).isLt; omega⟩ : Fin 1024) (col 0 (nxt t.val) (y 1))) := by
  unfold iblk
  rw [View.read_apply]
  refine congrArg (V m c main_arg2 : Vec F S1024x14336 .i32) (funext fun a => Fin.ext ?_)
  match a with
  | ⟨0, _⟩ => show win0_1.index t 0 * 128 + 1 * (y 0).val = 128 * (t.val % 8) + (y 0).val; rw [idx1 t]; show t.val % 8 * 128 + 1 * (y 0).val = _; omega
  | ⟨1, _⟩ => show win0_1.index t 1 * 512 + 1 * (y 1).val = 7168 * 0 + 512 * min (t.val / 8) 13 + (y 1).val; rw [idx1 t]; show min (t.val / 8) 13 * 512 + 1 * (y 1).val = _; omega

theorem iblk2 (c : Dev nD) (t : Fin cfg0.N) (y : S128x512.Idx) : (iblk m c 2 t : Vec F S128x512 .i32) y
    = (V m c main_arg2 : Vec F S1024x14336 .i32) (ix2 (⟨128 * (t.val % 8) + (y 0).val, by have : (y 0).val < 128 := (y 0).isLt; omega⟩ : Fin 1024) (col 1 (nxt t.val) (y 1))) := by
  unfold iblk
  rw [View.read_apply]
  refine congrArg (V m c main_arg2 : Vec F S1024x14336 .i32) (funext fun a => Fin.ext ?_)
  match a with
  | ⟨0, _⟩ => show win0_2.index t 0 * 128 + 1 * (y 0).val = 128 * (t.val % 8) + (y 0).val; rw [idx2 t]; show t.val % 8 * 128 + 1 * (y 0).val = _; omega
  | ⟨1, _⟩ => show win0_2.index t 1 * 512 + 1 * (y 1).val = 7168 * 1 + 512 * min (t.val / 8) 13 + (y 1).val; rw [idx2 t]; show (14 + min (t.val / 8) 13) * 512 + 1 * (y 1).val = _; omega

theorem iblk3 (c : Dev nD) (t : Fin cfg0.N) :
    (fun y => FloatOps.extf .f32 bitsLt_fp8e4m3_f32 ((iblk m c 3 t : Vec F S64x512 .fp8e4m3) y)) = scl (V m c main_arg3) 0 (nxt t.val) := by
  funext y
  unfold scl iblk
  rw [View.read_apply]
  refine congrArg (fun q => FloatOps.extf .f32 bitsLt_fp8e4m3_f32 ((V m c main_arg3 : Vec F S64x14336 .fp8e4m3) q)) (funext fun a => Fin.ext ?_)
  match a with
  | ⟨0, _⟩ => show win0_3.index t 0 * 64 + 1 * (y 0).val = (y 0).val; rw [idx3 t]; show 0 * 64 + 1 * (y 0).val = _; omega
  | ⟨1, _⟩ => show win0_3.index t 1 * 512 + 1 * (y 1).val = 7168 * 0 + 512 * min (t.val / 8) 13 + (y 1).val; rw [idx3 t]; show min (t.val / 8) 13 * 512 + 1 * (y 1).val = _; omega

theorem iblk4 (c : Dev nD) (t : Fin cfg0.N) :
    (fun y => FloatOps.extf .f32 bitsLt_fp8e4m3_f32 ((iblk m c 4 t : Vec F S64x512 .fp8e4m3) y)) = scl (V m c main_arg3) 1 (nxt t.val) := by
  funext y
  unfold scl iblk
  rw [View.read_apply]
  refine congrArg (fun q => FloatOps.extf .f32 bitsLt_fp8e4m3_f32 ((V m c main_arg3 : Vec F S64x14336 .fp8e4m3) q)) (funext fun a => Fin.ext ?_)
  match a with
  | ⟨0, _⟩ => show win0_4.index t 0 * 64 + 1 * (y 0).val = (y 0).val; rw [idx4 t]; show 0 * 64 + 1 * (y 0).val = _; omega
  | ⟨1, _⟩ => show win0_4.index t 1 * 512 + 1 * (y 1).val = 7168 * 1 + 512 * min (t.val / 8) 13 + (y 1).val; rw [idx4 t]; show (14 + min (t.val / 8) 13) * 512 + 1 * (y 1).val = _; omega

end

/-! The block of the result that one point stores, from its six stores. -/

section
/-- Entry `(p, q)` of the square `(i, j)` of a point's block: rows `256 i`, columns `256 j` of the operands, multiplied,
    scaled, gated and quantised. -/
def square (a : Vec F S768x8192 .fp8e4m3) (wg wu : Vec F S8192x512 .bf16) (s : Elt F .f32) (cg cu pre : Vec F S1x512 .f32) (sd : Elt F .f32)
    (i : Fin 3) (j : Fin 2) : FVec F S256x256 .fp8e4m3 :=
  k0_pay53 (fun z => a (ix2 (⟨256 * i.val + (z 0).val, by have : (z 0).val < 256 := (z 0).isLt; omega⟩ : Fin 768) (z 1 : Fin 8192)))
    (fun z => wg (ix2 (z 0 : Fin 8192) (⟨256 * j.val + (z 1).val, by have : (z 1).val < 256 := (z 1).isLt; omega⟩ : Fin 512)))
    (fun z => wu (ix2 (z 0 : Fin 8192) (⟨256 * j.val + (z 1).val, by have : (z 1).val < 256 := (z 1).isLt; omega⟩ : Fin 512)))
    s (fun z => cg (ix2 (z 0 : Fin 1) (⟨256 * j.val + (z 1).val, by have : (z 1).val < 256 := (z 1).isLt; omega⟩ : Fin 512)))
    s (fun z => cu (ix2 (z 0 : Fin 1) (⟨256 * j.val + (z 1).val, by have : (z 1).val < 256 := (z 1).isLt; omega⟩ : Fin 512)))
    (fun z => pre (ix2 (z 0 : Fin 1) (⟨256 * j.val + (z 1).val, by have : (z 1).val < 256 := (z 1).isLt; omega⟩ : Fin 512))) sd

/-- The whole block. -/
def outBlk (a : Vec F S768x8192 .fp8e4m3) (wg wu : Vec F S8192x512 .bf16) (s : Elt F .f32) (cg cu pre : Vec F S1x512 .f32) (sd : Elt F .f32) :
    Vec F S768x512 .fp8e4m3 :=
  fun y => square a wg wu s cg cu pre sd ⟨(y 0).val / 256, by have : (y 0).val < 768 := (y 0).isLt; omega⟩ ⟨(y 1).val / 256, by have : (y 1).val < 512 := (y 1).isLt; omega⟩
    (ix2 (⟨(y 0).val % 256, by omega⟩ : Fin 256) (⟨(y 1).val % 256, by omega⟩ : Fin 256))

theorem sq_inb (i : Fin 3) (j : Fin 2) : ∀ a : Fin 2, ![256 * i.val, 256 * j.val] a + ![256, 256] a ≤ S768x512.size a := by
  intro a
  match a with
  | ⟨0, _⟩ => show 256 * i.val + 256 ≤ 768; omega
  | ⟨1, _⟩ => show 256 * j.val + 256 ≤ 512; omega
theorem rows_inb (i : Fin 3) : ∀ a : Fin 2, ![256 * i.val, 0] a + S256x8192.size a ≤ S768x8192.size a := by
  intro a
  match a with
  | ⟨0, _⟩ => show 256 * i.val + 256 ≤ 768; omega
  | ⟨1, _⟩ => show 0 + 8192 ≤ 8192; omega
theorem cols_inb (j : Fin 2) : ∀ a : Fin 2, ![0, 256 * j.val] a + S8192x256.size a ≤ S8192x512.size a := by
  intro a
  match a with
  | ⟨0, _⟩ => show 0 + 8192 ≤ 8192; omega
  | ⟨1, _⟩ => show 256 * j.val + 256 ≤ 512; omega
theorem row_inb (j : Fin 2) : ∀ a : Fin 2, ![0, 256 * j.val] a + S1x256.size a ≤ S1x512.size a := by
  intro a
  match a with
  | ⟨0, _⟩ => show 0 + 1 ≤ 1; omega
  | ⟨1, _⟩ => show 256 * j.val + 256 ≤ 512; omega

/-- The store of square `(i, j)`, its operands loaded from the buffers. -/
def sqPiece (a2 : Memref sig .tc .vmem S768x8192 .fp8e4m3) (h2 : a2.IsWhole) (bg : Memref sig .tc .vmem S8192x512 .bf16) (hg : bg.IsWhole)
    (bu : Memref sig .tc .vmem S8192x512 .bf16) (hu : bu.IsWhole) (a8 : Memref sig .tc .vmem S1x512 .f32) (h8 : a8.IsWhole)
    (a9 : Memref sig .tc .vmem S1x512 .f32) (h9 : a9.IsWhole) (a10 : Memref sig .tc .vmem S1x512 .f32) (h10 : a10.IsWhole)
    (a : Vec F S768x8192 .fp8e4m3) (wg wu : Vec F S8192x512 .bf16) (s : Elt F .f32) (cg cu pre : Vec F S1x512 .f32) (sd : Elt F .f32)
    (i : Fin 3) (j : Fin 2) : View.Piece (Elt F) S768x512 .fp8e4m3 :=
  ⟨Rect.unit ![256 * i.val, 256 * j.val] ![256, 256] (sq_inb i j),
    k0_pay53 (View.readAt (Elt F) a2.view (Rect.unit (s := S768x8192) ![256 * i.val, 0] S256x8192.size (rows_inb i)).toLoadRect (h2.unread a))
      (View.readAt (Elt F) bg.view (Rect.unit (s := S8192x512) ![0, 256 * j.val] S8192x256.size (cols_inb j)).toLoadRect (hg.unread wg))
      (View.readAt (Elt F) bu.view (Rect.unit (s := S8192x512) ![0, 256 * j.val] S8192x256.size (cols_inb j)).toLoadRect (hu.unread wu))
      s (View.readAt (Elt F) a8.view (Rect.unit (s := S1x512) ![0, 256 * j.val] S1x256.size (row_inb j)).toLoadRect (h8.unread cg))
      s (View.readAt (Elt F) a9.view (Rect.unit (s := S1x512) ![0, 256 * j.val] S1x256.size (row_inb j)).toLoadRect (h9.unread cu))
      (View.readAt (Elt F) a10.view (Rect.unit (s := S1x512) ![0, 256 * j.val] S1x256.size (row_inb j)).toLoadRect (h10.unread pre)) sd⟩

theorem load_row (m : Memref sig .tc .vmem S1x512 .f32) (h : m.IsWhole) (X : Vec F S1x512 .f32) (j : Fin 2) :
    View.readAt (Elt F) m.view (Rect.unit (s := S1x512) ![0, 256 * j.val] S1x256.size (row_inb j)).toLoadRect (h.unread X)
      = fun z => X (ix2 (z 0 : Fin 1) (⟨256 * j.val + (z 1).val, by have : (z 1).val < 256 := (z 1).isLt; omega⟩ : Fin 512)) := by
  funext z
  rw [h.readAt_unread]
  refine congrArg X (funext fun a => Fin.ext ?_)
  match a with
  | ⟨0, _⟩ => show 0 + 1 * (z 0).val = (z 0).val; omega
  | ⟨1, _⟩ => show 256 * j.val + 1 * (z 1).val = 256 * j.val + (z 1).val; omega

theorem load_cols (m : Memref sig .tc .vmem S8192x512 .bf16) (h : m.IsWhole) (X : Vec F S8192x512 .bf16) (j : Fin 2) :
    View.readAt (Elt F) m.view (Rect.unit (s := S8192x512) ![0, 256 * j.val] S8192x256.size (cols_inb j)).toLoadRect (h.unread X)
      = fun z => X (ix2 (z 0 : Fin 8192) (⟨256 * j.val + (z 1).val, by have : (z 1).val < 256 := (z 1).isLt; omega⟩ : Fin 512)) := by
  funext z
  rw [h.readAt_unread]
  refine congrArg X (funext fun a => Fin.ext ?_)
  match a with
  | ⟨0, _⟩ => show 0 + 1 * (z 0).val = (z 0).val; omega
  | ⟨1, _⟩ => show 256 * j.val + 1 * (z 1).val = 256 * j.val + (z 1).val; omega

theorem load_rows (m : Memref sig .tc .vmem S768x8192 .fp8e4m3) (h : m.IsWhole) (X : Vec F S768x8192 .fp8e4m3) (i : Fin 3) :
    View.readAt (Elt F) m.view (Rect.unit (s := S768x8192) ![256 * i.val, 0] S256x8192.size (rows_inb i)).toLoadRect (h.unread X)
      = fun z => X (ix2 (⟨256 * i.val + (z 0).val, by have : (z 0).val < 256 := (z 0).isLt; omega⟩ : Fin 768) (z 1 : Fin 8192)) := by
  funext z
  rw [h.readAt_unread]
  refine congrArg X (funext fun a => Fin.ext ?_)
  match a with
  | ⟨0, _⟩ => show 256 * i.val + 1 * (z 0).val = 256 * i.val + (z 0).val; omega
  | ⟨1, _⟩ => show 0 + 1 * (z 1).val = (z 1).val; omega

/-- The one word of a scalar operand, loaded. -/
theorem load_word (m : Memref sig .tc .smem S1 .f32) (h : m.IsWhole) (X : Vec F S1 .f32) (i : S1.Idx) :
    View.readAt (Elt F) m.view (Rect.unit (s := S1) ![0] S1.size inb_S1_S1_0).toLoadRect (h.unread X) i = X (ix1 0) := by
  rw [h.readAt_unread]
  refine congrArg X (funext fun a => Fin.ext ?_)
  have h1 : ∀ v : Fin (S1.size a), v.val = 0 := fun v => by
    have := v.isLt
    match a, v, this with
    | ⟨0, _⟩, v, this => exact Nat.lt_one_iff.mp this
  rw [h1, h1]

section
variable (a12 : Memref sig .tc .vmem S768x512 .fp8e4m3) (f : a12.view.ty.Contents (Elt F))
    (a2 : Memref sig .tc .vmem S768x8192 .fp8e4m3) (h2 : a2.IsWhole) (bg : Memref sig .tc .vmem S8192x512 .bf16) (hg : bg.IsWhole)
    (bu : Memref sig .tc .vmem S8192x512 .bf16) (hu : bu.IsWhole) (a8 : Memref sig .tc .vmem S1x512 .f32) (h8 : a8.IsWhole)
    (a9 : Memref sig .tc .vmem S1x512 .f32) (h9 : a9.IsWhole) (a10 : Memref sig .tc .vmem S1x512 .f32) (h10 : a10.IsWhole)
    (a : Vec F S768x8192 .fp8e4m3) (wg wu : Vec F S8192x512 .bf16) (s : Elt F .f32) (cg cu pre : Vec F S1x512 .f32) (sd : Elt F .f32)

/-- A square's store writes the block's entries there. -/
theorem sqPiece_apply (i : Fin 3) (j : Fin 2) (x : (sqPiece a2 h2 bg hg bu hu a8 h8 a9 h9 a10 h10 a wg wu s cg cu pre sd i j).1.shape.Idx) :
    (sqPiece a2 h2 bg hg bu hu a8 h8 a9 h9 a10 h10 a wg wu s cg cu pre sd i j).2 x
      = outBlk a wg wu s cg cu pre sd ((sqPiece a2 h2 bg hg bu hu a8 h8 a9 h9 a10 h10 a wg wu s cg cu pre sd i j).1.emb x) := by
  have hx0 : (x 0).val < 256 := (x 0).isLt
  have hx1 : (x 1).val < 256 := (x 1).isLt
  unfold outBlk
  have e0 : (((sqPiece a2 h2 bg hg bu hu a8 h8 a9 h9 a10 h10 a wg wu s cg cu pre sd i j).1.emb x) 0).val = 256 * i.val + (x 0).val := by
    show 256 * i.val + 1 * (x 0).val = _; omega
  have e1 : (((sqPiece a2 h2 bg hg bu hu a8 h8 a9 h9 a10 h10 a wg wu s cg cu pre sd i j).1.emb x) 1).val = 256 * j.val + (x 1).val := by
    show 256 * j.val + 1 * (x 1).val = _; omega
  have hi : (⟨(((sqPiece a2 h2 bg hg bu hu a8 h8 a9 h9 a10 h10 a wg wu s cg cu pre sd i j).1.emb x) 0).val / 256, by rw [e0]; omega⟩ : Fin 3) = i := Fin.ext (by show _ / 256 = _; rw [e0]; omega)
  have hj : (⟨(((sqPiece a2 h2 bg hg bu hu a8 h8 a9 h9 a10 h10 a wg wu s cg cu pre sd i j).1.emb x) 1).val / 256, by rw [e1]; omega⟩ : Fin 2) = j := Fin.ext (by show _ / 256 = _; rw [e1]; omega)
  rw [hi, hj]
  have hz : x = ix2 (⟨(((sqPiece a2 h2 bg hg bu hu a8 h8 a9 h9 a10 h10 a wg wu s cg cu pre sd i j).1.emb x) 0).val % 256, by omega⟩ : Fin 256)
      (⟨(((sqPiece a2 h2 bg hg bu hu a8 h8 a9 h9 a10 h10 a wg wu s cg cu pre sd i j).1.emb x) 1).val % 256, by omega⟩ : Fin 256) := funext fun b => Fin.ext (by
    match b with
    | ⟨0, _⟩ => show (x 0).val = _ % 256; rw [e0]; omega
    | ⟨1, _⟩ => show (x 1).val = _ % 256; rw [e1]; omega)
  refine Eq.trans ?_ (congrArg (square a wg wu s cg cu pre sd i j) hz)
  unfold sqPiece square
  show k0_pay53 _ _ _ _ _ _ _ _ _ x = _
  rw [load_rows, load_cols, load_cols, load_row, load_row, load_row]
  rfl

/-- The six stores leave the block, whatever the buffer held. -/
theorem read_out :
    a12.view.read (Elt F) (a12.view.writes (Elt F) f
      [sqPiece a2 h2 bg hg bu hu a8 h8 a9 h9 a10 h10 a wg wu s cg cu pre sd 2 1, sqPiece a2 h2 bg hg bu hu a8 h8 a9 h9 a10 h10 a wg wu s cg cu pre sd 2 0,
       sqPiece a2 h2 bg hg bu hu a8 h8 a9 h9 a10 h10 a wg wu s cg cu pre sd 1 1, sqPiece a2 h2 bg hg bu hu a8 h8 a9 h9 a10 h10 a wg wu s cg cu pre sd 1 0,
       sqPiece a2 h2 bg hg bu hu a8 h8 a9 h9 a10 h10 a wg wu s cg cu pre sd 0 1, sqPiece a2 h2 bg hg bu hu a8 h8 a9 h9 a10 h10 a wg wu s cg cu pre sd 0 0])
      = outBlk a wg wu s cg cu pre sd := by
  funext y
  have hy0 : (y 0).val < 768 := (y 0).isLt
  have hy1 : (y 1).val < 512 := (y 1).isLt
  refine View.read_writes_apply_of_pieces _ _ _ _ ?_ y ?_
  · intro p hp x
    simp only [List.mem_cons, List.not_mem_nil, or_false] at hp
    rcases hp with rfl | rfl | rfl | rfl | rfl | rfl <;> exact sqPiece_apply a2 h2 bg hg bu hu a8 h8 a9 h9 a10 h10 a wg wu s cg cu pre sd _ _ x
  · have key : ∀ (i : Fin 3) (j : Fin 2), (y 0).val / 256 = i.val → (y 1).val / 256 = j.val →
        y ∈ (sqPiece a2 h2 bg hg bu hu a8 h8 a9 h9 a10 h10 a wg wu s cg cu pre sd i j).1.set := by
      intro i j hi hj
      refine (Rect.mem_set_unit (inb := sq_inb i j)).mpr ?_
      intro b
      match b with
      | ⟨0, _⟩ => show 256 * i.val ≤ (y 0).val ∧ (y 0).val < 256 * i.val + 256; omega
      | ⟨1, _⟩ => show 256 * j.val ≤ (y 1).val ∧ (y 1).val < 256 * j.val + 256; omega
    have h0 : (y 0).val / 256 = 0 ∨ (y 0).val / 256 = 1 ∨ (y 0).val / 256 = 2 := by omega
    have h1 : (y 1).val / 256 = 0 ∨ (y 1).val / 256 = 1 := by omega
    rcases h0 with h0 | h0 | h0 <;> rcases h1 with h1 | h1
    · exact ⟨_, by simp only [List.mem_cons, true_or, or_true], key 0 0 h0 h1⟩
    · exact ⟨_, by simp only [List.mem_cons, true_or, or_true], key 0 1 h0 h1⟩
    · exact ⟨_, by simp only [List.mem_cons, true_or, or_true], key 1 0 h0 h1⟩
    · exact ⟨_, by simp only [List.mem_cons, true_or, or_true], key 1 1 h0 h1⟩
    · exact ⟨_, by simp only [List.mem_cons, true_or, or_true], key 2 0 h0 h1⟩
    · exact ⟨_, by simp only [List.mem_cons, true_or, or_true], key 2 1 h0 h1⟩
end

end

end Cert.GuIdeal.Hand

end
-- ==== Proof.GuIdealDat.lean ====
module

public import proofs.«01_k».proof.Proof.GuIdealTiles

@[expose] public section

set_option maxRecDepth 16384

noncomputable section

namespace Cert.GuIdeal.Hand

open Cert.GuIdeal Cert.GuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2
open Idealize.ShloMosaic.Pipeline (Dat Cfg Window BodyObligation cellOf)

variable {F : FTy → Type} [FloatOps F]

local notation "𝕄" => MT nD τ sig Unit (Elt F) ℕ (UR sig nD τ) ℕ

/-! The pipeline's proof data: what each buffer holds at each point. -/

variable (m : (ℓ : Loc nD τ sig) → Buf (Elt F) ℓ) (ρ : Dev nD → PrngReg)

abbrev ms0_0 (t : Fin cfg0.N) : Memref sig .tc .vmem S768x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x512 .fp8e4m3 := win0_10.stage (cfg0.slots t 10)
abbrev hs0_10 (t : Fin cfg0.N) : (ms0_10 t).IsWhole := hstage0_10 ((cfg0.slots t 10).cast nbuf0_10)
abbrev scM0_0 : Memref sig .tc .vmem S8192x512 .bf16 := Memref.whole cc0_scratch0
abbrev scM0_1 : Memref sig .tc .vmem S8192x512 .bf16 := Memref.whole cc0_scratch1
abbrev scM0_2 : Memref sig .tc .vmem S8192x512 .bf16 := Memref.whole cc0_scratch2
abbrev scM0_3 : Memref sig .tc .vmem S8192x512 .bf16 := Memref.whole cc0_scratch3
abbrev scM0_4 : Memref sig .tc .vmem S64x512 .f32 := Memref.whole cc0_scratch4
abbrev scM0_5 : Memref sig .tc .vmem S64x512 .f32 := Memref.whole cc0_scratch5

/-- The block of the result that point `t` stores: the point's rows against the tile's weights. -/
def outAt (c : Dev nD) (t : Fin cfg0.N) : Vec F S768x512 .fp8e4m3 :=
  outBlk (iblk m c 0 t) (tile (V m c main_arg2) (V m c main_arg3) 0 (cur t.val)) (tile (V m c main_arg2) (V m c main_arg3) 1 (cur t.val))
    ((iblk m c 5 t : Vec F S1 .f32) (ix1 0)) (iblk m c 6 t) (iblk m c 7 t) (iblk m c 8 t) ((iblk m c 9 t : Vec F S1 .f32) (ix1 0))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The invariant between two points: the carried buffers, at contents that `Inv` describes. -/
def Phi (c : Dev nD) (t : ℕ) : sProp 𝕄 :=
  iprop(∃ (xs0 xs1 xs2 xs3 : Vec F S8192x512 .bf16) (xs4 xs5 : Vec F S64x512 .f32),
    ⌜Inv (V m c main_arg2) (V m c main_arg3) t xs0 xs1 xs2 xs3 xs4 xs5⌝
    ∗ (owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4 ∗ owns (c : Thread nD τ) scM0_5 fullShare xs5)
    ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by dsimp only [dats]; rfl
theorem Phi_succ (c : Dev nD) (t : Fin cfg0.N) : (dats m 0 c).Φ t.succ = Phi m c (t.val + 1) := by dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem leaves0_9 (c : Dev nD) (t : Fin cfg0.N) : (dats m 0 c).leavesExact 9 t = owns (c : Thread nD τ) (ms0_9 t) fullShare (iblk m c 9 t) := by
  unfold Dat.leavesExact; rw [show cfg0.idle 9 (grid0.coords t) = false from rfl, after0_9]

theorem idle10 : ∀ t : Fin cfg0.N, t.val < 8 → cfg0.idle 10 (grid0.coords t) = true :=
  (by decide +kernel : ∀ t : Fin grid0.N, t.val < 8 → idle0 10 (grid0.coords t) = true)
theorem live10 : ∀ t : Fin cfg0.N, ¬ t.val < 8 → cfg0.idle 10 (grid0.coords t) = false :=
  (by decide +kernel : ∀ t : Fin grid0.N, ¬ t.val < 8 → idle0 10 (grid0.coords t) = false)
theorem flush10 : ∀ t : Fin cfg0.N, t.val < 8 → (cfg0.win 10).flush t = false :=
  (by decide +kernel : ∀ t : Fin grid0.N, t.val < 8 → win0_10.flush t = false)
theorem fetch10 : ∀ t : Fin cfg0.N, (cfg0.win 10).fetch t = false :=
  (by decide +kernel : ∀ t : Fin grid0.N, win0_10.fetch t = false)

theorem leaves0_10 (c : Dev nD) (t : Fin cfg0.N) (h : ¬ t.val < 8) :
    (dats m 0 c).leavesExact 10 t = owns (c : Thread nD τ) (ms0_10 t) fullShare (outAt m c t) := by
  unfold Dat.leavesExact; rw [show cfg0.idle 10 (cfg0.grid.coords t) = false from live10 t h, after0_10]

/-- Until something is stored the result's buffer holds what it was handed with. -/
theorem before0_10 (c : Dev nD) : ∀ (n : ℕ) (hn : n < cfg0.N), n < 8 → ∀ d, (dats m 0 c).before 10 ⟨n, hn⟩ d = d
  | 0, hn, _, d => by
    unfold Dat.before
    rw [fetch10, if_neg Bool.false_ne_true, if_pos rfl]
  | n + 1, hn, h8, d => by
    rw [Dat.before_of_pos (dats m 0 c) 10 ⟨n + 1, hn⟩ (Nat.succ_ne_zero n) (fetch10 _)]
    rw [show (cfg0.win 10).flush ⟨n + 1 - 1, _⟩ = false from flush10 ⟨n, Nat.lt_of_succ_lt hn⟩ (Nat.lt_of_succ_lt h8), if_neg Bool.false_ne_true]
    unfold Dat.left
    rw [show cfg0.idle 10 (cfg0.grid.coords ⟨n + 1 - 1, _⟩) = true from idle10 ⟨n, Nat.lt_of_succ_lt hn⟩ (Nat.lt_of_succ_lt h8)]
    exact before0_10 c n (Nat.lt_of_succ_lt hn) (Nat.lt_of_succ_lt h8) d

theorem leaves0_10_idle (c : Dev nD) (t : Fin cfg0.N) (h : t.val < 8) :
    (dats m 0 c).leavesExact 10 t = iprop(∃ d, owns (c : Thread nD τ) (ms0_10 t) fullShare d) := by
  rw [Dat.leavesExact_idle (dats m 0 c) 10 t (idle10 t h) (flush10 t h)]
  refine congrArg _ (funext fun d => ?_)
  rw [show (dats m 0 c).before 10 t d = d from before0_10 m c t.val t.isLt h d]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem owns_of {sp : Space} {s : Shape} {e : EltTy} (c : Dev nD) (a : Memref sig .tc sp s e) (f : a.view.ty.Contents (Elt F)) {d : Vec F s e}
    (h : a.view.read (Elt F) f = d) :
    (iprop(a.view.loc (c : Thread nD τ) ↦[a.view.set]{fullShare} f) : sProp 𝕄) ⊢ owns (c : Thread nD τ) a fullShare d := by
  subst h
  unfold owns
  iintro H
  iexists _
  isplitr
  · ipureintro; rfl
  iexact H

end Cert.GuIdeal.Hand

end
-- ==== Proof.GuIdealFrame.lean ====
module

public import proofs.«01_k».proof.Proof.GuIdealRunA
public import proofs.«01_k».proof.Proof.GuIdealRunB
public import proofs.«01_k».proof.Proof.GuIdealTiles
public import proofs.«01_k».proof.Proof.GuIdealDat

/-! What the stores of a point leave in the buffers; that the body keeps the invariant; the run of the kernel. -/

@[expose] public section

set_option maxRecDepth 16384

noncomputable section

namespace Cert.GuIdeal.Hand

open Cert.GuIdeal Cert.GuIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2
open Idealize.ShloMosaic.Pipeline (Dat Cfg Window BodyObligation cellOf)

variable {F : FTy → Type} [FloatOps F]

local notation "𝕄" => MT nD τ sig Unit (Elt F) ℕ (UR sig nD τ) ℕ

section
section
variable (c : Dev nD) (t : Fin cfg0.N) (arg2 : Memref sig .tc .vmem S768x8192 .fp8e4m3) (harg2 : arg2.IsWhole) (arg3 : Memref sig .tc .vmem S128x512 .i32) (harg3 : arg3.IsWhole) (arg4 : Memref sig .tc .vmem S128x512 .i32) (harg4 : arg4.IsWhole) (arg5 : Memref sig .tc .vmem S64x512 .fp8e4m3) (harg5 : arg5.IsWhole) (arg6 : Memref sig .tc .vmem S64x512 .fp8e4m3) (harg6 : arg6.IsWhole) (arg7 : Memref sig .tc .smem S1 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .smem S1 .f32) (harg11 : arg11.IsWhole) (arg12 : Memref sig .tc .vmem S768x512 .fp8e4m3) (harg12 : arg12.IsWhole) (arg13 : Memref sig .tc .vmem S8192x512 .bf16) (harg13 : arg13.IsWhole) (arg14 : Memref sig .tc .vmem S8192x512 .bf16) (harg14 : arg14.IsWhole) (arg15 : Memref sig .tc .vmem S8192x512 .bf16) (harg15 : arg15.IsWhole) (arg16 : Memref sig .tc .vmem S8192x512 .bf16) (harg16 : arg16.IsWhole) (arg17 : Memref sig .tc .vmem S64x512 .f32) (harg17 : arg17.IsWhole) (arg18 : Memref sig .tc .vmem S64x512 .f32) (harg18 : arg18.IsWhole)

/-! What the stores of a point before the first product (only the second buffer is filled) leave, at a tile not begun. -/

section
variable (hc0 : cond0 (grid0.coords t)) (hc1 : cond1 (grid0.coords t)) (hc2 : ¬cond2 (grid0.coords t)) (hc3 : ¬cond3 (grid0.coords t))
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32)

/-- The gate scales, copied. -/
theorem runZ0_scales0 (f : arg17.view.ty.Contents (Elt F)) :
    arg17.view.read (Elt F) (arg17.view.writes (Elt F) f (runZ0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.1)
      = fun y => FloatOps.extf .f32 bitsLt_fp8e4m3_f32 (x3 y) :=
  read_scales arg17 f arg5 harg5 x3 _ rfl

/-- The strip of gate weights. -/
theorem runZ0_strip0 :
    arg15.view.read (Elt F) (arg15.view.writes (Elt F) (harg15.unread xs2) (runZ0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).1)
      = strip (t.val % 8) (Nat.mod_lt _ (by decide)) x1 (fun y => FloatOps.extf .f32 bitsLt_fp8e4m3_f32 (x3 y)) xs2 :=
  read_strip arg15 harg15 xs2 (t.val % 8) (Nat.mod_lt _ (by decide)) arg3 harg3 x1
    (fun j => View.readAt (Elt F) arg17.view (Rect.unit (s := S64x512) (k0_off1 (grid0.coords t) (BitVec.ofNat 32 j.val)) S1x512.size
      (scale_inb (off1 t j))).toLoadRect (arg17.view.writes (Elt F) arg17.view.junk (runZ0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.1)) (fun y => FloatOps.extf .f32 bitsLt_fp8e4m3_f32 (x3 y))
    (fun j l => readAt_scales arg17 _ (fun y => FloatOps.extf .f32 bitsLt_fp8e4m3_f32 (x3 y)) (read_scales arg17 _ arg5 harg5 x3 _ rfl) (8 * (t.val % 8) + j.val) (by omega) _ (off1 t j) _ l)
    (fun j => k0_off2 (grid0.coords t) (BitVec.ofNat 32 (128 * j.val))) (off2 t) (fun j => strip_inb (off2 t j)) words_inb

/-- The up scales, copied. -/
theorem runZ0_scales1 (f : arg18.view.ty.Contents (Elt F)) :
    arg18.view.read (Elt F) (arg18.view.writes (Elt F) f (runZ0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.1)
      = fun y => FloatOps.extf .f32 bitsLt_fp8e4m3_f32 (x4 y) :=
  read_scales arg18 f arg6 harg6 x4 _ rfl

/-- The strip of up weights. -/
theorem runZ0_strip1 :
    arg16.view.read (Elt F) (arg16.view.writes (Elt F) (harg16.unread xs3) (runZ0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.1)
      = strip (t.val % 8) (Nat.mod_lt _ (by decide)) x2 (fun y => FloatOps.extf .f32 bitsLt_fp8e4m3_f32 (x4 y)) xs3 :=
  read_strip arg16 harg16 xs3 (t.val % 8) (Nat.mod_lt _ (by decide)) arg4 harg4 x2
    (fun j => View.readAt (Elt F) arg18.view (Rect.unit (s := S64x512) (k0_off1 (grid0.coords t) (BitVec.ofNat 32 j.val)) S1x512.size
      (scale_inb (off1 t j))).toLoadRect (arg18.view.writes (Elt F) arg18.view.junk (runZ0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.1)) (fun y => FloatOps.extf .f32 bitsLt_fp8e4m3_f32 (x4 y))
    (fun j l => readAt_scales arg18 _ (fun y => FloatOps.extf .f32 bitsLt_fp8e4m3_f32 (x4 y)) (read_scales arg18 _ arg6 harg6 x4 _ rfl) (8 * (t.val % 8) + j.val) (by omega) _ (off1 t j) _ l)
    (fun j => k0_off2 (grid0.coords t) (BitVec.ofNat 32 (128 * j.val))) (off2 t) (fun j => strip_inb (off2 t j)) words_inb

end

/-! What the stores of a point before the first product (only the second buffer is filled) leave, within a tile. -/

section
variable (hc0 : ¬cond0 (grid0.coords t)) (hc1 : cond1 (grid0.coords t)) (hc2 : ¬cond2 (grid0.coords t)) (hc3 : ¬cond3 (grid0.coords t))
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32)

/-- The strip of gate weights. -/
theorem runZ1_strip0 :
    arg15.view.read (Elt F) (arg15.view.writes (Elt F) (harg15.unread xs2) (runZ1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).1)
      = strip (t.val % 8) (Nat.mod_lt _ (by decide)) x1 xs4 xs2 :=
  read_strip arg15 harg15 xs2 (t.val % 8) (Nat.mod_lt _ (by decide)) arg3 harg3 x1
    (fun j => View.readAt (Elt F) arg17.view (Rect.unit (s := S64x512) (k0_off1 (grid0.coords t) (BitVec.ofNat 32 j.val)) S1x512.size
      (scale_inb (off1 t j))).toLoadRect (harg17.unread xs4)) xs4
    (fun j l => readAt_scales arg17 _ xs4 (harg17.read_unread _) (8 * (t.val % 8) + j.val) (by omega) _ (off1 t j) _ l)
    (fun j => k0_off2 (grid0.coords t) (BitVec.ofNat 32 (128 * j.val))) (off2 t) (fun j => strip_inb (off2 t j)) words_inb

/-- The strip of up weights. -/
theorem runZ1_strip1 :
    arg16.view.read (Elt F) (arg16.view.writes (Elt F) (harg16.unread xs3) (runZ1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.1)
      = strip (t.val % 8) (Nat.mod_lt _ (by decide)) x2 xs5 xs3 :=
  read_strip arg16 harg16 xs3 (t.val % 8) (Nat.mod_lt _ (by decide)) arg4 harg4 x2
    (fun j => View.readAt (Elt F) arg18.view (Rect.unit (s := S64x512) (k0_off1 (grid0.coords t) (BitVec.ofNat 32 j.val)) S1x512.size
      (scale_inb (off1 t j))).toLoadRect (harg18.unread xs5)) xs5
    (fun j l => readAt_scales arg18 _ xs5 (harg18.read_unread _) (8 * (t.val % 8) + j.val) (by omega) _ (off1 t j) _ l)
    (fun j => k0_off2 (grid0.coords t) (BitVec.ofNat 32 (128 * j.val))) (off2 t) (fun j => strip_inb (off2 t j)) words_inb

end

/-! What the stores of a point at an odd step (the second buffer is multiplied, the first filled) leave, at a tile not begun. -/

section
variable (hc0 : cond0 (grid0.coords t)) (hc1 : ¬cond1 (grid0.coords t)) (hc2 : cond2 (grid0.coords t)) (hc3 : ¬cond3 (grid0.coords t))
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32)

/-- The gate scales, copied. -/
theorem runO0_scales0 (f : arg17.view.ty.Contents (Elt F)) :
    arg17.view.read (Elt F) (arg17.view.writes (Elt F) f (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.1)
      = fun y => FloatOps.extf .f32 bitsLt_fp8e4m3_f32 (x3 y) :=
  read_scales arg17 f arg5 harg5 x3 _ rfl

/-- The strip of gate weights. -/
theorem runO0_strip0 :
    arg13.view.read (Elt F) (arg13.view.writes (Elt F) (harg13.unread xs0) (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.1)
      = strip (t.val % 8) (Nat.mod_lt _ (by decide)) x1 (fun y => FloatOps.extf .f32 bitsLt_fp8e4m3_f32 (x3 y)) xs0 :=
  read_strip arg13 harg13 xs0 (t.val % 8) (Nat.mod_lt _ (by decide)) arg3 harg3 x1
    (fun j => View.readAt (Elt F) arg17.view (Rect.unit (s := S64x512) (k0_off3 (grid0.coords t) (BitVec.ofNat 32 j.val)) S1x512.size
      (scale_inb (off3 t j))).toLoadRect (arg17.view.writes (Elt F) arg17.view.junk (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.1)) (fun y => FloatOps.extf .f32 bitsLt_fp8e4m3_f32 (x3 y))
    (fun j l => readAt_scales arg17 _ (fun y => FloatOps.extf .f32 bitsLt_fp8e4m3_f32 (x3 y)) (read_scales arg17 _ arg5 harg5 x3 _ rfl) (8 * (t.val % 8) + j.val) (by omega) _ (off3 t j) _ l)
    (fun j => k0_off4 (grid0.coords t) (BitVec.ofNat 32 (128 * j.val))) (off4 t) (fun j => strip_inb (off4 t j)) words_inb

/-- The up scales, copied. -/
theorem runO0_scales1 (f : arg18.view.ty.Contents (Elt F)) :
    arg18.view.read (Elt F) (arg18.view.writes (Elt F) f (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.2.1)
      = fun y => FloatOps.extf .f32 bitsLt_fp8e4m3_f32 (x4 y) :=
  read_scales arg18 f arg6 harg6 x4 _ rfl

/-- The strip of up weights. -/
theorem runO0_strip1 :
    arg14.view.read (Elt F) (arg14.view.writes (Elt F) (harg14.unread xs1) (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.1)
      = strip (t.val % 8) (Nat.mod_lt _ (by decide)) x2 (fun y => FloatOps.extf .f32 bitsLt_fp8e4m3_f32 (x4 y)) xs1 :=
  read_strip arg14 harg14 xs1 (t.val % 8) (Nat.mod_lt _ (by decide)) arg4 harg4 x2
    (fun j => View.readAt (Elt F) arg18.view (Rect.unit (s := S64x512) (k0_off3 (grid0.coords t) (BitVec.ofNat 32 j.val)) S1x512.size
      (scale_inb (off3 t j))).toLoadRect (arg18.view.writes (Elt F) arg18.view.junk (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.2.1)) (fun y => FloatOps.extf .f32 bitsLt_fp8e4m3_f32 (x4 y))
    (fun j l => readAt_scales arg18 _ (fun y => FloatOps.extf .f32 bitsLt_fp8e4m3_f32 (x4 y)) (read_scales arg18 _ arg6 harg6 x4 _ rfl) (8 * (t.val % 8) + j.val) (by omega) _ (off3 t j) _ l)
    (fun j => k0_off4 (grid0.coords t) (BitVec.ofNat 32 (128 * j.val))) (off4 t) (fun j => strip_inb (off4 t j)) words_inb

/-- The block of the result. -/
theorem runO0_out (f : arg12.view.ty.Contents (Elt F)) :
    arg12.view.read (Elt F) (arg12.view.writes (Elt F) f (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).1)
      = outBlk x0 xs2 xs3 (x5 (ix1 0)) x6 x7 x8 (x9 (ix1 0)) :=
  (read_out arg12 f arg2 harg2 arg15 harg15 arg16 harg16 arg8 harg8 arg9 harg9 arg10 harg10 x0 xs2 xs3
    (View.readAt (Elt F) arg7.view (Rect.unit (s := S1) ![0] S1.size inb_S1_S1_0).toLoadRect (harg7.unread x5) (Shape.Idx.first (show 0 < S1.numel by decide))) x6 x7 x8
    (View.readAt (Elt F) arg11.view (Rect.unit (s := S1) ![0] S1.size inb_S1_S1_0).toLoadRect (harg11.unread x9) (Shape.Idx.first (show 0 < S1.numel by decide)))).trans
    (by rw [load_word, load_word])

end

/-! What the stores of a point at an odd step (the second buffer is multiplied, the first filled) leave, within a tile. -/

section
variable (hc0 : ¬cond0 (grid0.coords t)) (hc1 : ¬cond1 (grid0.coords t)) (hc2 : cond2 (grid0.coords t)) (hc3 : ¬cond3 (grid0.coords t))
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32)

/-- The strip of gate weights. -/
theorem runO1_strip0 :
    arg13.view.read (Elt F) (arg13.view.writes (Elt F) (harg13.unread xs0) (runO1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.1)
      = strip (t.val % 8) (Nat.mod_lt _ (by decide)) x1 xs4 xs0 :=
  read_strip arg13 harg13 xs0 (t.val % 8) (Nat.mod_lt _ (by decide)) arg3 harg3 x1
    (fun j => View.readAt (Elt F) arg17.view (Rect.unit (s := S64x512) (k0_off3 (grid0.coords t) (BitVec.ofNat 32 j.val)) S1x512.size
      (scale_inb (off3 t j))).toLoadRect (harg17.unread xs4)) xs4
    (fun j l => readAt_scales arg17 _ xs4 (harg17.read_unread _) (8 * (t.val % 8) + j.val) (by omega) _ (off3 t j) _ l)
    (fun j => k0_off4 (grid0.coords t) (BitVec.ofNat 32 (128 * j.val))) (off4 t) (fun j => strip_inb (off4 t j)) words_inb

/-- The strip of up weights. -/
theorem runO1_strip1 :
    arg14.view.read (Elt F) (arg14.view.writes (Elt F) (harg14.unread xs1) (runO1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.1)
      = strip (t.val % 8) (Nat.mod_lt _ (by decide)) x2 xs5 xs1 :=
  read_strip arg14 harg14 xs1 (t.val % 8) (Nat.mod_lt _ (by decide)) arg4 harg4 x2
    (fun j => View.readAt (Elt F) arg18.view (Rect.unit (s := S64x512) (k0_off3 (grid0.coords t) (BitVec.ofNat 32 j.val)) S1x512.size
      (scale_inb (off3 t j))).toLoadRect (harg18.unread xs5)) xs5
    (fun j l => readAt_scales arg18 _ xs5 (harg18.read_unread _) (8 * (t.val % 8) + j.val) (by omega) _ (off3 t j) _ l)
    (fun j => k0_off4 (grid0.coords t) (BitVec.ofNat 32 (128 * j.val))) (off4 t) (fun j => strip_inb (off4 t j)) words_inb

/-- The block of the result. -/
theorem runO1_out (f : arg12.view.ty.Contents (Elt F)) :
    arg12.view.read (Elt F) (arg12.view.writes (Elt F) f (runO1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).1)
      = outBlk x0 xs2 xs3 (x5 (ix1 0)) x6 x7 x8 (x9 (ix1 0)) :=
  (read_out arg12 f arg2 harg2 arg15 harg15 arg16 harg16 arg8 harg8 arg9 harg9 arg10 harg10 x0 xs2 xs3
    (View.readAt (Elt F) arg7.view (Rect.unit (s := S1) ![0] S1.size inb_S1_S1_0).toLoadRect (harg7.unread x5) (Shape.Idx.first (show 0 < S1.numel by decide))) x6 x7 x8
    (View.readAt (Elt F) arg11.view (Rect.unit (s := S1) ![0] S1.size inb_S1_S1_0).toLoadRect (harg11.unread x9) (Shape.Idx.first (show 0 < S1.numel by decide)))).trans
    (by rw [load_word, load_word])

end

/-! What the stores of a point at an even step (the first buffer is multiplied, the second filled) leave, at a tile not begun. -/

section
variable (hc0 : cond0 (grid0.coords t)) (hc1 : ¬cond1 (grid0.coords t)) (hc2 : ¬cond2 (grid0.coords t)) (hc3 : cond3 (grid0.coords t))
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32)

/-- The gate scales, copied. -/
theorem runE0_scales0 (f : arg17.view.ty.Contents (Elt F)) :
    arg17.view.read (Elt F) (arg17.view.writes (Elt F) f (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.1)
      = fun y => FloatOps.extf .f32 bitsLt_fp8e4m3_f32 (x3 y) :=
  read_scales arg17 f arg5 harg5 x3 _ rfl

/-- The strip of gate weights. -/
theorem runE0_strip0 :
    arg15.view.read (Elt F) (arg15.view.writes (Elt F) (harg15.unread xs2) (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.1)
      = strip (t.val % 8) (Nat.mod_lt _ (by decide)) x1 (fun y => FloatOps.extf .f32 bitsLt_fp8e4m3_f32 (x3 y)) xs2 :=
  read_strip arg15 harg15 xs2 (t.val % 8) (Nat.mod_lt _ (by decide)) arg3 harg3 x1
    (fun j => View.readAt (Elt F) arg17.view (Rect.unit (s := S64x512) (k0_off5 (grid0.coords t) (BitVec.ofNat 32 j.val)) S1x512.size
      (scale_inb (off5 t j))).toLoadRect (arg17.view.writes (Elt F) arg17.view.junk (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.1)) (fun y => FloatOps.extf .f32 bitsLt_fp8e4m3_f32 (x3 y))
    (fun j l => readAt_scales arg17 _ (fun y => FloatOps.extf .f32 bitsLt_fp8e4m3_f32 (x3 y)) (read_scales arg17 _ arg5 harg5 x3 _ rfl) (8 * (t.val % 8) + j.val) (by omega) _ (off5 t j) _ l)
    (fun j => k0_off6 (grid0.coords t) (BitVec.ofNat 32 (128 * j.val))) (off6 t) (fun j => strip_inb (off6 t j)) words_inb

/-- The up scales, copied. -/
theorem runE0_scales1 (f : arg18.view.ty.Contents (Elt F)) :
    arg18.view.read (Elt F) (arg18.view.writes (Elt F) f (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.2.1)
      = fun y => FloatOps.extf .f32 bitsLt_fp8e4m3_f32 (x4 y) :=
  read_scales arg18 f arg6 harg6 x4 _ rfl

/-- The strip of up weights. -/
theorem runE0_strip1 :
    arg16.view.read (Elt F) (arg16.view.writes (Elt F) (harg16.unread xs3) (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.1)
      = strip (t.val % 8) (Nat.mod_lt _ (by decide)) x2 (fun y => FloatOps.extf .f32 bitsLt_fp8e4m3_f32 (x4 y)) xs3 :=
  read_strip arg16 harg16 xs3 (t.val % 8) (Nat.mod_lt _ (by decide)) arg4 harg4 x2
    (fun j => View.readAt (Elt F) arg18.view (Rect.unit (s := S64x512) (k0_off5 (grid0.coords t) (BitVec.ofNat 32 j.val)) S1x512.size
      (scale_inb (off5 t j))).toLoadRect (arg18.view.writes (Elt F) arg18.view.junk (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.2.2.1)) (fun y => FloatOps.extf .f32 bitsLt_fp8e4m3_f32 (x4 y))
    (fun j l => readAt_scales arg18 _ (fun y => FloatOps.extf .f32 bitsLt_fp8e4m3_f32 (x4 y)) (read_scales arg18 _ arg6 harg6 x4 _ rfl) (8 * (t.val % 8) + j.val) (by omega) _ (off5 t j) _ l)
    (fun j => k0_off6 (grid0.coords t) (BitVec.ofNat 32 (128 * j.val))) (off6 t) (fun j => strip_inb (off6 t j)) words_inb

/-- The block of the result. -/
theorem runE0_out (f : arg12.view.ty.Contents (Elt F)) :
    arg12.view.read (Elt F) (arg12.view.writes (Elt F) f (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).1)
      = outBlk x0 xs0 xs1 (x5 (ix1 0)) x6 x7 x8 (x9 (ix1 0)) :=
  (read_out arg12 f arg2 harg2 arg13 harg13 arg14 harg14 arg8 harg8 arg9 harg9 arg10 harg10 x0 xs0 xs1
    (View.readAt (Elt F) arg7.view (Rect.unit (s := S1) ![0] S1.size inb_S1_S1_0).toLoadRect (harg7.unread x5) (Shape.Idx.first (show 0 < S1.numel by decide))) x6 x7 x8
    (View.readAt (Elt F) arg11.view (Rect.unit (s := S1) ![0] S1.size inb_S1_S1_0).toLoadRect (harg11.unread x9) (Shape.Idx.first (show 0 < S1.numel by decide)))).trans
    (by rw [load_word, load_word])

end

/-! What the stores of a point at an even step (the first buffer is multiplied, the second filled) leave, within a tile. -/

section
variable (hc0 : ¬cond0 (grid0.coords t)) (hc1 : ¬cond1 (grid0.coords t)) (hc2 : ¬cond2 (grid0.coords t)) (hc3 : cond3 (grid0.coords t))
    (x0 : Vec F S768x8192 .fp8e4m3) (x1 : Vec F S128x512 .i32) (x2 : Vec F S128x512 .i32) (x3 : Vec F S64x512 .fp8e4m3) (x4 : Vec F S64x512 .fp8e4m3) (x5 : Vec F S1 .f32) (x6 : Vec F S1x512 .f32) (x7 : Vec F S1x512 .f32) (x8 : Vec F S1x512 .f32) (x9 : Vec F S1 .f32)
    (xs0 : Vec F S8192x512 .bf16) (xs1 : Vec F S8192x512 .bf16) (xs2 : Vec F S8192x512 .bf16) (xs3 : Vec F S8192x512 .bf16) (xs4 : Vec F S64x512 .f32) (xs5 : Vec F S64x512 .f32)

/-- The strip of gate weights. -/
theorem runE1_strip0 :
    arg15.view.read (Elt F) (arg15.view.writes (Elt F) (harg15.unread xs2) (runE1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.1)
      = strip (t.val % 8) (Nat.mod_lt _ (by decide)) x1 xs4 xs2 :=
  read_strip arg15 harg15 xs2 (t.val % 8) (Nat.mod_lt _ (by decide)) arg3 harg3 x1
    (fun j => View.readAt (Elt F) arg17.view (Rect.unit (s := S64x512) (k0_off5 (grid0.coords t) (BitVec.ofNat 32 j.val)) S1x512.size
      (scale_inb (off5 t j))).toLoadRect (harg17.unread xs4)) xs4
    (fun j l => readAt_scales arg17 _ xs4 (harg17.read_unread _) (8 * (t.val % 8) + j.val) (by omega) _ (off5 t j) _ l)
    (fun j => k0_off6 (grid0.coords t) (BitVec.ofNat 32 (128 * j.val))) (off6 t) (fun j => strip_inb (off6 t j)) words_inb

/-- The strip of up weights. -/
theorem runE1_strip1 :
    arg16.view.read (Elt F) (arg16.view.writes (Elt F) (harg16.unread xs3) (runE1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).2.2.1)
      = strip (t.val % 8) (Nat.mod_lt _ (by decide)) x2 xs5 xs3 :=
  read_strip arg16 harg16 xs3 (t.val % 8) (Nat.mod_lt _ (by decide)) arg4 harg4 x2
    (fun j => View.readAt (Elt F) arg18.view (Rect.unit (s := S64x512) (k0_off5 (grid0.coords t) (BitVec.ofNat 32 j.val)) S1x512.size
      (scale_inb (off5 t j))).toLoadRect (harg18.unread xs5)) xs5
    (fun j l => readAt_scales arg18 _ xs5 (harg18.read_unread _) (8 * (t.val % 8) + j.val) (by omega) _ (off5 t j) _ l)
    (fun j => k0_off6 (grid0.coords t) (BitVec.ofNat 32 (128 * j.val))) (off6 t) (fun j => strip_inb (off6 t j)) words_inb

/-- The block of the result. -/
theorem runE1_out (f : arg12.view.ty.Contents (Elt F)) :
    arg12.view.read (Elt F) (arg12.view.writes (Elt F) f (runE1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 xs3 xs4 xs5).1)
      = outBlk x0 xs0 xs1 (x5 (ix1 0)) x6 x7 x8 (x9 (ix1 0)) :=
  (read_out arg12 f arg2 harg2 arg13 harg13 arg14 harg14 arg8 harg8 arg9 harg9 arg10 harg10 x0 xs0 xs1
    (View.readAt (Elt F) arg7.view (Rect.unit (s := S1) ![0] S1.size inb_S1_S1_0).toLoadRect (harg7.unread x5) (Shape.Idx.first (show 0 < S1.numel by decide))) x6 x7 x8
    (View.readAt (Elt F) arg11.view (Rect.unit (s := S1) ![0] S1.size inb_S1_S1_0).toLoadRect (harg11.unread x9) (Shape.Idx.first (show 0 < S1.numel by decide)))).trans
    (by rw [load_word, load_word])

end

end

end

/-! The body keeps the invariant at every point. -/

section
/-- A fact about any buffers, at the buffers of a point. -/
theorem atPoint (t : Fin cfg0.N) {P : ∀ (arg2 : Memref sig .tc .vmem S768x8192 .fp8e4m3) (harg2 : arg2.IsWhole) (arg3 : Memref sig .tc .vmem S128x512 .i32) (harg3 : arg3.IsWhole) (arg4 : Memref sig .tc .vmem S128x512 .i32) (harg4 : arg4.IsWhole) (arg5 : Memref sig .tc .vmem S64x512 .fp8e4m3) (harg5 : arg5.IsWhole) (arg6 : Memref sig .tc .vmem S64x512 .fp8e4m3) (harg6 : arg6.IsWhole) (arg7 : Memref sig .tc .smem S1 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .smem S1 .f32) (harg11 : arg11.IsWhole) (arg12 : Memref sig .tc .vmem S768x512 .fp8e4m3) (harg12 : arg12.IsWhole) (arg13 : Memref sig .tc .vmem S8192x512 .bf16) (harg13 : arg13.IsWhole) (arg14 : Memref sig .tc .vmem S8192x512 .bf16) (harg14 : arg14.IsWhole) (arg15 : Memref sig .tc .vmem S8192x512 .bf16) (harg15 : arg15.IsWhole) (arg16 : Memref sig .tc .vmem S8192x512 .bf16) (harg16 : arg16.IsWhole) (arg17 : Memref sig .tc .vmem S64x512 .f32) (harg17 : arg17.IsWhole) (arg18 : Memref sig .tc .vmem S64x512 .f32) (harg18 : arg18.IsWhole), Prop}
    (f : ∀ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18, P arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) :
    P (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _) :=
  f _ _ _ _ _ _ _ _ _ _ _ _ _ _ _ _ _ _ _ _ _ _ _ _ _ _ _ _ _ _ _ _ _ _

variable (m : (ℓ : Loc nD τ sig) → Buf (Elt F) ℓ)

/-- From the invariant before point `t` the body comes to the invariant after it. -/
abbrev Keeps (c : Dev nD) (t : Fin cfg0.N) : Prop :=
  bodyPre m c t ⊢ wp frame (wpE (defs₀ (F := F)) Variants.none c none) Set.univ (bodyAt0 t) (fun _ => bodyPost m c t)

theorem owes_succ (c : Dev nD) (t : Fin cfg0.N) : (dats m 0 c).owesAt () t.succ = (dats m 0 c).owesAt () t.castSucc := rfl

/-! The body before the first product (only the second buffer is filled), at a tile not begun: the invariant is kept. -/

set_option maxHeartbeats 4000000 in
theorem bodyZ0 (c : Dev nD) (t : Fin cfg0.N) (h0 : t.val % 8 = 0) (h8 : t.val < 8) : Keeps m c t := by
  unfold Keeps bodyPre bodyPost bodyAt0
  simp only [before0_0, before0_1, before0_2, before0_3, before0_4, before0_5, before0_6, before0_7, before0_8, before0_9]
  rw [owes_succ, Phi_castSucc, Phi_succ,
    leaves0_0, leaves0_1, leaves0_2, leaves0_3, leaves0_4, leaves0_5, leaves0_6, leaves0_7, leaves0_8, leaves0_9, leaves0_10_idle m c t h8]
  have hc0 := (hcond0 t).mpr h0
  have hc1 := (hcond1 t).mpr (by omega)
  have hc2 := mt (hcond2 t).mp (by omega)
  have hc3 := mt (hcond3 t).mp (by omega)
  unfold Phi
  iintro ⟨⟨%xs0, %xs1, %xs2, %xs3, %xs4, %xs5, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runZ0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _)
      hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5).2.2.2.2 Set.univ _)
  iframe H0 H1 H2 H3 H4 H5 H6 H7 H8 H9
  isplitl [H10]; · iexists _; iexact H10
  iframe HS0 HS1 HS2 HS3 HS4 HS5
  iintro ⟨H0, H1, H2, H3, H4, H5, H6, H7, H8, H9, H10, HS0, HS1, HS2, HS3, ⟨%g4, HS4⟩, ⟨%g5, HS5⟩⟩
  have hN := inv_even _ _ (show t.val / 8 % 2 = 0 by omega) hI (iblk m c 1 t) (iblk m c 2 t) (iblk1 m c t) (iblk2 m c t)
  have e0 := atPoint t (runZ0_strip0 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  have e1 := atPoint t (runZ0_strip1 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  have e4 := atPoint t (runZ0_scales0 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 g4
  have e5 := atPoint t (runZ0_scales1 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 g5
  have e0 := e0.trans (congrArg (fun q : Vec F S64x512 .f32 => strip (t.val % 8) (Nat.mod_lt _ (by decide)) (iblk m c 1 t : Vec F S128x512 .i32) q xs2) (iblk3 m c t))
  have e1 := e1.trans (congrArg (fun q : Vec F S64x512 .f32 => strip (t.val % 8) (Nat.mod_lt _ (by decide)) (iblk m c 2 t : Vec F S128x512 .i32) q xs3) (iblk4 m c t))
  have e4 := e4.trans (iblk3 m c t)
  have e5 := e5.trans (iblk4 m c t)
  isplitl [HS0 HS1 HS2 HS3 HS4 HS5 Hg]
  · iexists _, _, _, _, _, _
    isplitr; · ipureintro; exact hN
    isplitr [Hg]
    · isplitl [HS0]; · iexact HS0
      isplitl [HS1]; · iexact HS1
      isplitl [HS2]; · iapply (owns_of c scM0_2 _ e0); iexact HS2
      isplitl [HS3]; · iapply (owns_of c scM0_3 _ e1); iexact HS3
      isplitl [HS4]; · iapply (owns_of c scM0_4 _ e4); iexact HS4
      iapply (owns_of c scM0_5 _ e5); iexact HS5
    iexact Hg
  iframe Ho H0 H1 H2 H3 H4 H5 H6 H7 H8 H9
  iexact H10

/-! The body before the first product (only the second buffer is filled), within a tile: the invariant is kept. -/

set_option maxHeartbeats 4000000 in
theorem bodyZ1 (c : Dev nD) (t : Fin cfg0.N) (h0 : ¬t.val % 8 = 0) (h8 : t.val < 8) : Keeps m c t := by
  unfold Keeps bodyPre bodyPost bodyAt0
  simp only [before0_0, before0_1, before0_2, before0_3, before0_4, before0_5, before0_6, before0_7, before0_8, before0_9]
  rw [owes_succ, Phi_castSucc, Phi_succ,
    leaves0_0, leaves0_1, leaves0_2, leaves0_3, leaves0_4, leaves0_5, leaves0_6, leaves0_7, leaves0_8, leaves0_9, leaves0_10_idle m c t h8]
  have hc0 := mt (hcond0 t).mp h0
  have hc1 := (hcond1 t).mpr (by omega)
  have hc2 := mt (hcond2 t).mp (by omega)
  have hc3 := mt (hcond3 t).mp (by omega)
  unfold Phi
  iintro ⟨⟨%xs0, %xs1, %xs2, %xs3, %xs4, %xs5, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runZ1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _)
      hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5).2.2 Set.univ _)
  iframe H0 H1 H2 H3 H4 H5 H6 H7 H8 H9
  isplitl [H10]; · iexists _; iexact H10
  iframe HS0 HS1 HS2 HS3 HS4 HS5
  iintro ⟨H0, H1, H2, H3, H4, H5, H6, H7, H8, H9, H10, HS0, HS1, HS2, HS3, HS4, HS5⟩
  have hN := inv_even _ _ (show t.val / 8 % 2 = 0 by omega) hI (iblk m c 1 t) (iblk m c 2 t) (iblk1 m c t) (iblk2 m c t)
  have e0 := atPoint t (runZ1_strip0 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  have e1 := atPoint t (runZ1_strip1 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  obtain ⟨r4, r5⟩ := hI.2.2 h0
  subst r4 r5
  isplitl [HS0 HS1 HS2 HS3 HS4 HS5 Hg]
  · iexists _, _, _, _, _, _
    isplitr; · ipureintro; exact hN
    isplitr [Hg]
    · isplitl [HS0]; · iexact HS0
      isplitl [HS1]; · iexact HS1
      isplitl [HS2]; · iapply (owns_of c scM0_2 _ e0); iexact HS2
      isplitl [HS3]; · iapply (owns_of c scM0_3 _ e1); iexact HS3
      isplitl [HS4]; · iexact HS4
      iexact HS5
    iexact Hg
  iframe Ho H0 H1 H2 H3 H4 H5 H6 H7 H8 H9
  iexact H10

/-! The body at an odd step (the second buffer is multiplied, the first filled), at a tile not begun: the invariant is kept. -/

set_option maxHeartbeats 4000000 in
theorem bodyO0 (c : Dev nD) (t : Fin cfg0.N) (h0 : t.val % 8 = 0) (h8 : ¬ t.val < 8) (h2 : t.val / 8 % 2 = 1) : Keeps m c t := by
  unfold Keeps bodyPre bodyPost bodyAt0
  simp only [before0_0, before0_1, before0_2, before0_3, before0_4, before0_5, before0_6, before0_7, before0_8, before0_9]
  rw [owes_succ, Phi_castSucc, Phi_succ,
    leaves0_0, leaves0_1, leaves0_2, leaves0_3, leaves0_4, leaves0_5, leaves0_6, leaves0_7, leaves0_8, leaves0_9, leaves0_10 m c t h8]
  have hc0 := (hcond0 t).mpr h0
  have hc1 := mt (hcond1 t).mp (by omega)
  have hc2 := (hcond2 t).mpr (by omega)
  have hc3 := mt (hcond3 t).mp (by omega)
  unfold Phi
  iintro ⟨⟨%xs0, %xs1, %xs2, %xs3, %xs4, %xs5, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runO0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _)
      hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5).2.2.2.2.2 Set.univ _)
  iframe H0 H1 H2 H3 H4 H5 H6 H7 H8 H9
  isplitl [H10]; · iexists _; iexact H10
  iframe HS0 HS1 HS2 HS3 HS4 HS5
  iintro ⟨H0, H1, H2, H3, H4, H5, H6, H7, H8, H9, ⟨%fo, H10⟩, HS0, HS1, HS2, HS3, ⟨%g4, HS4⟩, ⟨%g5, HS5⟩⟩
  have hN := inv_odd _ _ h2 hI (iblk m c 1 t) (iblk m c 2 t) (iblk1 m c t) (iblk2 m c t)
  have e0 := atPoint t (runO0_strip0 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  have e1 := atPoint t (runO0_strip1 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  have e4 := atPoint t (runO0_scales0 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 g4
  have e5 := atPoint t (runO0_scales1 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 g5
  have e0 := e0.trans (congrArg (fun q : Vec F S64x512 .f32 => strip (t.val % 8) (Nat.mod_lt _ (by decide)) (iblk m c 1 t : Vec F S128x512 .i32) q xs0) (iblk3 m c t))
  have e1 := e1.trans (congrArg (fun q : Vec F S64x512 .f32 => strip (t.val % 8) (Nat.mod_lt _ (by decide)) (iblk m c 2 t : Vec F S128x512 .i32) q xs1) (iblk4 m c t))
  have e4 := e4.trans (iblk3 m c t)
  have e5 := e5.trans (iblk4 m c t)
  obtain ⟨-, -, w0, w1⟩ := hI.1 h2
  have eo := atPoint t (runO0_out c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 fo
  subst w0 w1
  isplitl [HS0 HS1 HS2 HS3 HS4 HS5 Hg]
  · iexists _, _, _, _, _, _
    isplitr; · ipureintro; exact hN
    isplitr [Hg]
    · isplitl [HS0]; · iapply (owns_of c scM0_0 _ e0); iexact HS0
      isplitl [HS1]; · iapply (owns_of c scM0_1 _ e1); iexact HS1
      iframe HS2 HS3
      isplitl [HS4]; · iapply (owns_of c scM0_4 _ e4); iexact HS4
      iapply (owns_of c scM0_5 _ e5); iexact HS5
    iexact Hg
  iframe Ho H0 H1 H2 H3 H4 H5 H6 H7 H8 H9
  unfold outAt
  iapply (owns_of c (ms0_10 t) _ eo); iexact H10

/-! The body at an odd step (the second buffer is multiplied, the first filled), within a tile: the invariant is kept. -/

set_option maxHeartbeats 4000000 in
theorem bodyO1 (c : Dev nD) (t : Fin cfg0.N) (h0 : ¬t.val % 8 = 0) (h8 : ¬ t.val < 8) (h2 : t.val / 8 % 2 = 1) : Keeps m c t := by
  unfold Keeps bodyPre bodyPost bodyAt0
  simp only [before0_0, before0_1, before0_2, before0_3, before0_4, before0_5, before0_6, before0_7, before0_8, before0_9]
  rw [owes_succ, Phi_castSucc, Phi_succ,
    leaves0_0, leaves0_1, leaves0_2, leaves0_3, leaves0_4, leaves0_5, leaves0_6, leaves0_7, leaves0_8, leaves0_9, leaves0_10 m c t h8]
  have hc0 := mt (hcond0 t).mp h0
  have hc1 := mt (hcond1 t).mp (by omega)
  have hc2 := (hcond2 t).mpr (by omega)
  have hc3 := mt (hcond3 t).mp (by omega)
  unfold Phi
  iintro ⟨⟨%xs0, %xs1, %xs2, %xs3, %xs4, %xs5, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runO1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _)
      hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5).2.2.2 Set.univ _)
  iframe H0 H1 H2 H3 H4 H5 H6 H7 H8 H9
  isplitl [H10]; · iexists _; iexact H10
  iframe HS0 HS1 HS2 HS3 HS4 HS5
  iintro ⟨H0, H1, H2, H3, H4, H5, H6, H7, H8, H9, ⟨%fo, H10⟩, HS0, HS1, HS2, HS3, HS4, HS5⟩
  have hN := inv_odd _ _ h2 hI (iblk m c 1 t) (iblk m c 2 t) (iblk1 m c t) (iblk2 m c t)
  have e0 := atPoint t (runO1_strip0 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  have e1 := atPoint t (runO1_strip1 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  obtain ⟨-, -, w0, w1⟩ := hI.1 h2
  have eo := atPoint t (runO1_out c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 fo
  subst w0 w1
  obtain ⟨r4, r5⟩ := hI.2.2 h0
  subst r4 r5
  isplitl [HS0 HS1 HS2 HS3 HS4 HS5 Hg]
  · iexists _, _, _, _, _, _
    isplitr; · ipureintro; exact hN
    isplitr [Hg]
    · isplitl [HS0]; · iapply (owns_of c scM0_0 _ e0); iexact HS0
      isplitl [HS1]; · iapply (owns_of c scM0_1 _ e1); iexact HS1
      iframe HS2 HS3 HS4
      iexact HS5
    iexact Hg
  iframe Ho H0 H1 H2 H3 H4 H5 H6 H7 H8 H9
  unfold outAt
  iapply (owns_of c (ms0_10 t) _ eo); iexact H10

/-! The body at an even step (the first buffer is multiplied, the second filled), at a tile not begun: the invariant is kept. -/

set_option maxHeartbeats 4000000 in
theorem bodyE0 (c : Dev nD) (t : Fin cfg0.N) (h0 : t.val % 8 = 0) (h8 : ¬ t.val < 8) (h2 : t.val / 8 % 2 = 0) : Keeps m c t := by
  unfold Keeps bodyPre bodyPost bodyAt0
  simp only [before0_0, before0_1, before0_2, before0_3, before0_4, before0_5, before0_6, before0_7, before0_8, before0_9]
  rw [owes_succ, Phi_castSucc, Phi_succ,
    leaves0_0, leaves0_1, leaves0_2, leaves0_3, leaves0_4, leaves0_5, leaves0_6, leaves0_7, leaves0_8, leaves0_9, leaves0_10 m c t h8]
  have hc0 := (hcond0 t).mpr h0
  have hc1 := mt (hcond1 t).mp (by omega)
  have hc2 := mt (hcond2 t).mp (by omega)
  have hc3 := (hcond3 t).mpr (by omega)
  unfold Phi
  iintro ⟨⟨%xs0, %xs1, %xs2, %xs3, %xs4, %xs5, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runE0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _)
      hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5).2.2.2.2.2 Set.univ _)
  iframe H0 H1 H2 H3 H4 H5 H6 H7 H8 H9
  isplitl [H10]; · iexists _; iexact H10
  iframe HS0 HS1 HS2 HS3 HS4 HS5
  iintro ⟨H0, H1, H2, H3, H4, H5, H6, H7, H8, H9, ⟨%fo, H10⟩, HS0, HS1, HS2, HS3, ⟨%g4, HS4⟩, ⟨%g5, HS5⟩⟩
  have hN := inv_even _ _ h2 hI (iblk m c 1 t) (iblk m c 2 t) (iblk1 m c t) (iblk2 m c t)
  have e0 := atPoint t (runE0_strip0 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  have e1 := atPoint t (runE0_strip1 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  have e4 := atPoint t (runE0_scales0 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 g4
  have e5 := atPoint t (runE0_scales1 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 g5
  have e0 := e0.trans (congrArg (fun q : Vec F S64x512 .f32 => strip (t.val % 8) (Nat.mod_lt _ (by decide)) (iblk m c 1 t : Vec F S128x512 .i32) q xs2) (iblk3 m c t))
  have e1 := e1.trans (congrArg (fun q : Vec F S64x512 .f32 => strip (t.val % 8) (Nat.mod_lt _ (by decide)) (iblk m c 2 t : Vec F S128x512 .i32) q xs3) (iblk4 m c t))
  have e4 := e4.trans (iblk3 m c t)
  have e5 := e5.trans (iblk4 m c t)
  obtain ⟨w0, w1⟩ := (hI.2.1 h2).2.2 (by omega)
  have eo := atPoint t (runE0_out c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 fo
  subst w0 w1
  isplitl [HS0 HS1 HS2 HS3 HS4 HS5 Hg]
  · iexists _, _, _, _, _, _
    isplitr; · ipureintro; exact hN
    isplitr [Hg]
    · isplitl [HS0]; · iexact HS0
      isplitl [HS1]; · iexact HS1
      isplitl [HS2]; · iapply (owns_of c scM0_2 _ e0); iexact HS2
      isplitl [HS3]; · iapply (owns_of c scM0_3 _ e1); iexact HS3
      isplitl [HS4]; · iapply (owns_of c scM0_4 _ e4); iexact HS4
      iapply (owns_of c scM0_5 _ e5); iexact HS5
    iexact Hg
  iframe Ho H0 H1 H2 H3 H4 H5 H6 H7 H8 H9
  unfold outAt
  iapply (owns_of c (ms0_10 t) _ eo); iexact H10

/-! The body at an even step (the first buffer is multiplied, the second filled), within a tile: the invariant is kept. -/

set_option maxHeartbeats 4000000 in
theorem bodyE1 (c : Dev nD) (t : Fin cfg0.N) (h0 : ¬t.val % 8 = 0) (h8 : ¬ t.val < 8) (h2 : t.val / 8 % 2 = 0) : Keeps m c t := by
  unfold Keeps bodyPre bodyPost bodyAt0
  simp only [before0_0, before0_1, before0_2, before0_3, before0_4, before0_5, before0_6, before0_7, before0_8, before0_9]
  rw [owes_succ, Phi_castSucc, Phi_succ,
    leaves0_0, leaves0_1, leaves0_2, leaves0_3, leaves0_4, leaves0_5, leaves0_6, leaves0_7, leaves0_8, leaves0_9, leaves0_10 m c t h8]
  have hc0 := mt (hcond0 t).mp h0
  have hc1 := mt (hcond1 t).mp (by omega)
  have hc2 := mt (hcond2 t).mp (by omega)
  have hc3 := (hcond3 t).mpr (by omega)
  unfold Phi
  iintro ⟨⟨%xs0, %xs1, %xs2, %xs3, %xs4, %xs5, %hI, ⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runE1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) scM0_4 (Memref.isWhole_whole _) scM0_5 (Memref.isWhole_whole _)
      hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5).2.2.2 Set.univ _)
  iframe H0 H1 H2 H3 H4 H5 H6 H7 H8 H9
  isplitl [H10]; · iexists _; iexact H10
  iframe HS0 HS1 HS2 HS3 HS4 HS5
  iintro ⟨H0, H1, H2, H3, H4, H5, H6, H7, H8, H9, ⟨%fo, H10⟩, HS0, HS1, HS2, HS3, HS4, HS5⟩
  have hN := inv_even _ _ h2 hI (iblk m c 1 t) (iblk m c 2 t) (iblk1 m c t) (iblk2 m c t)
  have e0 := atPoint t (runE1_strip0 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  have e1 := atPoint t (runE1_strip1 c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5
  obtain ⟨w0, w1⟩ := (hI.2.1 h2).2.2 (by omega)
  have eo := atPoint t (runE1_out c t) hc0 hc1 hc2 hc3 (iblk m c 0 t) (iblk m c 1 t) (iblk m c 2 t) (iblk m c 3 t) (iblk m c 4 t) (iblk m c 5 t) (iblk m c 6 t) (iblk m c 7 t) (iblk m c 8 t) (iblk m c 9 t) xs0 xs1 xs2 xs3 xs4 xs5 fo
  subst w0 w1
  obtain ⟨r4, r5⟩ := hI.2.2 h0
  subst r4 r5
  isplitl [HS0 HS1 HS2 HS3 HS4 HS5 Hg]
  · iexists _, _, _, _, _, _
    isplitr; · ipureintro; exact hN
    isplitr [Hg]
    · isplitl [HS0]; · iexact HS0
      isplitl [HS1]; · iexact HS1
      isplitl [HS2]; · iapply (owns_of c scM0_2 _ e0); iexact HS2
      isplitl [HS3]; · iapply (owns_of c scM0_3 _ e1); iexact HS3
      isplitl [HS4]; · iexact HS4
      iexact HS5
    iexact Hg
  iframe Ho H0 H1 H2 H3 H4 H5 H6 H7 H8 H9
  unfold outAt
  iapply (owns_of c (ms0_10 t) _ eo); iexact H10

end

section
/-! The kernel's run: every execution ends, with every array as the proof data says. -/

variable (m : (ℓ : Loc nD τ sig) → Buf (Elt F) ℓ) (ρ : Dev nD → PrngReg)

/-- The body at any point. -/
theorem sound_body (c : Dev nD) (t : Fin cfg0.N) : Keeps m c t := by
  by_cases h0 : t.val % 8 = 0
  · by_cases h8 : t.val < 8
    · exact bodyZ0 m c t h0 h8
    · by_cases h2 : t.val / 8 % 2 = 1
      · exact bodyO0 m c t h0 h8 h2
      · exact bodyE0 m c t h0 h8 (by omega)
  · by_cases h8 : t.val < 8
    · exact bodyZ1 m c t h0 h8
    · by_cases h2 : t.val / 8 % 2 = 1
      · exact bodyO1 m c t h0 h8 h2
      · exact bodyE1 m c t h0 h8 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA0_eq]
  unfold Phi
  iintro ⟨⟨⟨%xs0, HS0⟩, ⟨%xs1, HS1⟩, ⟨%xs2, HS2⟩, ⟨%xs3, HS3⟩, ⟨%xs4, HS4⟩, ⟨%xs5, HS5⟩⟩, Hg⟩
  iexists xs0, xs1, xs2, xs3, xs4, xs5
  isplitr; · ipureintro; exact inv_zero xs0 xs1 xs2 xs3 xs4 xs5
  isplitr [Hg]
  · isplitl [HS0]; · iexact HS0
    isplitl [HS1]; · iexact HS1
    isplitl [HS2]; · iexact HS2
    isplitl [HS3]; · iexact HS3
    isplitl [HS4]; · iexact HS4
    iexact HS5
  iexact Hg

/-- After the last point the carried contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA0_eq]
  unfold Phi
  iintro ⟨%xs0, %xs1, %xs2, %xs3, %xs4, %xs5, -, ⟨HS0, HS1, HS2, HS3, HS4, HS5⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- The run, the counters at zero at its end. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end

end Cert.GuIdeal.Hand

end
-- ==== Proof.GuFrame.lean ====
module

public import proofs.«01_k».proof.Proof.Gen.Gu
public import proofs.«01_k».proof.Proof.GuIdealFrame

/-! The kernel as printed is, at any float values, the text its ideal reading is; so its frame is the same frame. -/

@[expose] public section

set_option maxRecDepth 16384

noncomputable section

namespace Cert.Gu.Hand

open Cert.Gu Cert.Gu.Gen
open Idealize.ShloMosaic Idealize.ShloMosaic.TcCoe Idealize.SL.Sem

variable {F : FTy → Type} [FloatOps F]

/-- The two kernel functions are one. -/
theorem body_eq : @cc0_gu F _ _ = @Cert.GuIdeal.cc0_gu F _ _ := rfl

set_option maxHeartbeats 1000000 in
/-- The two body tables are one. -/
theorem defs_eq : @defs F _ _ = @Cert.GuIdeal.defs F _ _ := by
  refine congrArg (Pipeline.defs pcfgs) (congrArg Defs.onTc (funext fun l => funext fun a => ?_))
  match l, a with
  | 0, (t, s) => rfl

/-- Every execution ends, the argument arrays unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact Cert.GuIdeal.Hand.frame m ρ

end Cert.Gu.Hand

end
-- ==== Proof.DownIdealConds.lean ====
module

public import proofs.«01_k».proof.Proof.Gen.DownIdeal.Launch
public import proofs.«01_k».proof.Proof.Gen.DownIdeal.Skeleton
public import proofs.«01_k».proof.Proof.Gen.DownIdeal.Points
public import proofs.«01_k».proof.Proof.Gen.DownIdeal.Frame
public import Idealize.ShloMosaic.Lib.Pipeline.FrameBody
public import Idealize.ShloMosaic.Lib.Pipeline.Value
public import Idealize.ShloMosaic.Lib.Tactic
public import Idealize.ShloMosaic.Lib.WordCmp
public import Idealize.ShloMosaic.Lib.WritesUnit

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's four branch conditions, over the grid's points. -/

/-- A tile of weights is begun: its scales are copied. -/
abbrev cond0 (i : grid0.Coords) : Prop := (Scalar.cmpi .ne (Scalar.extui (Scalar.cmpi .eq (BitVec.ofNat 32 (i 1).val) 0#32)) 0#32) = 1#1
/-- The first column step, which multiplies nothing. -/
abbrev cond1 (i : grid0.Coords) : Prop := k0_cond2 i = 1#1
/-- An odd column step. -/
abbrev cond2 (i : grid0.Coords) : Prop := k0_cond3 i = 1#1
/-- An even column step after the first. -/
abbrev cond3 (i : grid0.Coords) : Prop := k0_cond4 i = 1#1

theorem hcond0 : ∀ t : Fin cfg0.N, cond0 (grid0.coords t) ↔ t.val % 8 = 0 :=
  (by decide +kernel : ∀ t : Fin grid0.N, cond0 (grid0.coords t) ↔ t.val % 8 = 0)
theorem hcond1 : ∀ t : Fin cfg0.N, cond1 (grid0.coords t) ↔ t.val / 8 = 0 :=
  (by decide +kernel : ∀ t : Fin grid0.N, cond1 (grid0.coords t) ↔ t.val / 8 = 0)
theorem hcond2 : ∀ t : Fin cfg0.N, cond2 (grid0.coords t) ↔ t.val / 8 % 2 = 1 :=
  (by decide +kernel : ∀ t : Fin grid0.N, cond2 (grid0.coords t) ↔ t.val / 8 % 2 = 1)
theorem hcond3 : ∀ t : Fin cfg0.N, cond3 (grid0.coords t) ↔ (t.val / 8 ≠ 0 ∧ t.val / 8 % 2 = 0) :=
  (by decide +kernel : ∀ t : Fin grid0.N, cond3 (grid0.coords t) ↔ (t.val / 8 ≠ 0 ∧ t.val / 8 % 2 = 0))

/-- A whole buffer still at its contents is owned at them. -/
theorem own_back {sp : Space} {s : Shape} {e : EltTy} (c : Dev nD) {a : Memref sig .tc sp s e} (h : a.IsWhole) {x : Vec F s e} :
    (iprop(a.view.loc (c : Thread nD τ) ↦[a.view.set]{fullShare} h.unread x) : sProp 𝕄)
      ⊢ iprop(∃ f, ⌜a.view.read (Elt F) f = x⌝ ∗ (a.view.loc (c : Thread nD τ) ↦[a.view.set]{fullShare} f)) := by
  iintro H
  iexists _
  isplitr
  · ipureintro; exact h.read_unread _
  iexact H

end Cert.DownIdeal.Hand

end
-- ==== Proof.DownIdealRun.lean ====
module

public import proofs.«01_k».proof.Proof.DownIdealConds

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S768x7168 .fp8e4m3) (harg2 : arg2.IsWhole) (arg3 : Memref sig .tc .vmem S112x1024 .i32) (harg3 : arg3.IsWhole) (arg4 : Memref sig .tc .vmem S56x1024 .fp8e4m3) (harg4 : arg4.IsWhole) (arg5 : Memref sig .tc .smem S1 .f32) (harg5 : arg5.IsWhole) (arg6 : Memref sig .tc .vmem S1x1024 .f32) (harg6 : arg6.IsWhole) (arg7 : Memref sig .tc .vmem S768x1024 .f32) (harg7 : arg7.IsWhole) (arg8 : Memref sig .tc .vmem S768x1024 .bf16) (harg8 : arg8.IsWhole) (arg9 : Memref sig .tc .vmem S7168x1024 .bf16) (harg9 : arg9.IsWhole) (arg10 : Memref sig .tc .vmem S7168x1024 .bf16) (harg10 : arg10.IsWhole) (arg11 : Memref sig .tc .vmem S56x1024 .f32) (harg11 : arg11.IsWhole)

-- the run's proof term is large: what follows the definition's elaboration walks it past the default budget
set_option maxHeartbeats 1000000 in
/-- The body before the first product (only the second buffer is filled), at a tile of weights not begun: run from whole
    buffers at named contents, it leaves each buffer it stored into with the pieces the run finds. -/
noncomputable def runZ0 (hc0 : cond0 i) (hc1 : cond1 i) (hc2 : ¬cond2 i) (hc3 : ¬cond3 i)
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32) :
    Σ' (L1 : List (View.Piece (Elt F) S7168x1024 .bf16)), { L2 : List (View.Piece (Elt F) S56x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ d, owns (c : Thread nD τ) arg8 fullShare d)
                ∗ owns (c : Thread nD τ) arg9 fullShare xs0
                ∗ (arg10.view.loc (c : Thread nD τ) ↦[arg10.view.set]{fullShare} arg10.view.writes (Elt F) (harg10.unread xs1) L1)
                ∗ (∃ f, arg11.view.loc (c : Thread nD τ) ↦[arg11.view.set]{fullShare} arg11.view.writes (Elt F) f L2)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_down_eq_skeleton]; unfold cc0_down_skel
    simp only [k0_part16_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]
    · iexists _, _; isplitr; swap; · iexact HO
      ipureintro; rfl
    isplitl [HS0]; · iapply (own_back c harg9); iexact HS0
    isplitl [HS1]; · iexact HS1
    iexists _; iexact HS2

-- the run's proof term is large: what follows the definition's elaboration walks it past the default budget
set_option maxHeartbeats 1000000 in
/-- The body before the first product (only the second buffer is filled), within a tile of weights: run from whole
    buffers at named contents, it leaves each buffer it stored into with the pieces the run finds. -/
noncomputable def runZ1 (hc0 : ¬cond0 i) (hc1 : cond1 i) (hc2 : ¬cond2 i) (hc3 : ¬cond3 i)
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32) :
    { L1 : List (View.Piece (Elt F) S7168x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ d, owns (c : Thread nD τ) arg8 fullShare d)
                ∗ owns (c : Thread nD τ) arg9 fullShare xs0
                ∗ (arg10.view.loc (c : Thread nD τ) ↦[arg10.view.set]{fullShare} arg10.view.writes (Elt F) (harg10.unread xs1) L1)
                ∗ owns (c : Thread nD τ) arg11 fullShare xs2) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨?_, fun E K => ?run⟩
  case run =>
    simp only [cc0_down_eq_skeleton]; unfold cc0_down_skel
    simp only [k0_part16_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]
    · iexists _, _; isplitr; swap; · iexact HO
      ipureintro; rfl
    isplitl [HS0]; · iapply (own_back c harg9); iexact HS0
    isplitl [HS1]; · iexact HS1
    iapply (own_back c harg11); iexact HS2

-- the run's proof term is large: what follows the definition's elaboration walks it past the default budget
set_option maxHeartbeats 1000000 in
/-- The body at an odd step (the second buffer is multiplied, the first filled), at a tile of weights not begun: run from whole
    buffers at named contents, it leaves each buffer it stored into with the pieces the run finds. -/
noncomputable def runO0 (hc0 : cond0 i) (hc1 : ¬cond1 i) (hc2 : cond2 i) (hc3 : ¬cond3 i)
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32) :
    Σ' (LO : List (View.Piece (Elt F) S768x1024 .bf16)), Σ' (L0 : List (View.Piece (Elt F) S7168x1024 .bf16)), { L2 : List (View.Piece (Elt F) S56x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (arg9.view.loc (c : Thread nD τ) ↦[arg9.view.set]{fullShare} arg9.view.writes (Elt F) (harg9.unread xs0) L0)
                ∗ owns (c : Thread nD τ) arg10 fullShare xs1
                ∗ (∃ f, arg11.view.loc (c : Thread nD τ) ↦[arg11.view.set]{fullShare} arg11.view.writes (Elt F) f L2)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_down_eq_skeleton]; unfold cc0_down_skel
    simp only [k0_part16_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]; · iexists _; iexact HO
    isplitl [HS0]; · iexact HS0
    isplitl [HS1]; · iapply (own_back c harg10); iexact HS1
    iexists _; iexact HS2

-- the run's proof term is large: what follows the definition's elaboration walks it past the default budget
set_option maxHeartbeats 1000000 in
/-- The body at an odd step (the second buffer is multiplied, the first filled), within a tile of weights: run from whole
    buffers at named contents, it leaves each buffer it stored into with the pieces the run finds. -/
noncomputable def runO1 (hc0 : ¬cond0 i) (hc1 : ¬cond1 i) (hc2 : cond2 i) (hc3 : ¬cond3 i)
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32) :
    Σ' (LO : List (View.Piece (Elt F) S768x1024 .bf16)), { L0 : List (View.Piece (Elt F) S7168x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (arg9.view.loc (c : Thread nD τ) ↦[arg9.view.set]{fullShare} arg9.view.writes (Elt F) (harg9.unread xs0) L0)
                ∗ owns (c : Thread nD τ) arg10 fullShare xs1
                ∗ owns (c : Thread nD τ) arg11 fullShare xs2) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_down_eq_skeleton]; unfold cc0_down_skel
    simp only [k0_part16_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]; · iexists _; iexact HO
    isplitl [HS0]; · iexact HS0
    isplitl [HS1]; · iapply (own_back c harg10); iexact HS1
    iapply (own_back c harg11); iexact HS2

-- the run's proof term is large: what follows the definition's elaboration walks it past the default budget
set_option maxHeartbeats 1000000 in
/-- The body at an even step (the first buffer is multiplied, the second filled), at a tile of weights not begun: run from whole
    buffers at named contents, it leaves each buffer it stored into with the pieces the run finds. -/
noncomputable def runE0 (hc0 : cond0 i) (hc1 : ¬cond1 i) (hc2 : ¬cond2 i) (hc3 : cond3 i)
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32) :
    Σ' (LO : List (View.Piece (Elt F) S768x1024 .bf16)), Σ' (L1 : List (View.Piece (Elt F) S7168x1024 .bf16)), { L2 : List (View.Piece (Elt F) S56x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ owns (c : Thread nD τ) arg9 fullShare xs0
                ∗ (arg10.view.loc (c : Thread nD τ) ↦[arg10.view.set]{fullShare} arg10.view.writes (Elt F) (harg10.unread xs1) L1)
                ∗ (∃ f, arg11.view.loc (c : Thread nD τ) ↦[arg11.view.set]{fullShare} arg11.view.writes (Elt F) f L2)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_down_eq_skeleton]; unfold cc0_down_skel
    simp only [k0_part16_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]; · iexists _; iexact HO
    isplitl [HS0]; · iapply (own_back c harg9); iexact HS0
    isplitl [HS1]; · iexact HS1
    iexists _; iexact HS2

-- the run's proof term is large: what follows the definition's elaboration walks it past the default budget
set_option maxHeartbeats 1000000 in
/-- The body at an even step (the first buffer is multiplied, the second filled), within a tile of weights: run from whole
    buffers at named contents, it leaves each buffer it stored into with the pieces the run finds. -/
noncomputable def runE1 (hc0 : ¬cond0 i) (hc1 : ¬cond1 i) (hc2 : ¬cond2 i) (hc3 : cond3 i)
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32) :
    Σ' (LO : List (View.Piece (Elt F) S768x1024 .bf16)), { L1 : List (View.Piece (Elt F) S7168x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ owns (c : Thread nD τ) arg9 fullShare xs0
                ∗ (arg10.view.loc (c : Thread nD τ) ↦[arg10.view.set]{fullShare} arg10.view.writes (Elt F) (harg10.unread xs1) L1)
                ∗ owns (c : Thread nD τ) arg11 fullShare xs2) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_down_eq_skeleton]; unfold cc0_down_skel
    simp only [k0_part16_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]; · iexists _; iexact HO
    isplitl [HS0]; · iapply (own_back c harg9); iexact HS0
    isplitl [HS1]; · iexact HS1
    iapply (own_back c harg11); iexact HS2

end

end Cert.DownIdeal.Hand

end
-- ==== Proof.DownIdealTiles.lean ====
module

public import proofs.«01_k».proof.Proof.DownIdealConds
public import Idealize.ShloMosaic.Lib.Pipeline.ValueKit
public import Idealize.ShloMosaic.Lib.Pointwise
public import Idealize.ShloMosaic.Lib.WholeRead

/-! What a point stores: one strip of dequantised weights, which tiles of weights the carried buffers then hold, and the block of the result. -/

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.ShloMosaic.ValueIdx hiding ix1 ix2

variable {F : FTy → Type} [FloatOps F]

section
/-- One dequantised weight: nibble `j` of a word, times its group's scale rounded to bf16. -/
def deq (w : BitVec 32) (j : ℕ) (g : F .f32) : F .bf16 :=
  FloatOps.mulf
    (FloatOps.sitofp .bf16
      ((IntOp.shrui .vector w (IntOp.muli (4#32) (BitVec.ofNat 32 j))).setWidth 4))
    (FloatOps.truncf .bf16 bitsLt_bf16_f32 g)

/-- A store's payload, entry by entry: row `r` is nibble `r % 8` of word row `r / 8`. -/
theorem pay2_apply (w : Vec F S16x1024 .i32) (g : Vec F S1x1024 .f32) (r : Fin 128) (c : Fin 1024) :
    k0_pay2 w g (ix2 r c) = deq (w (ix2 ⟨r.val / 8, by omega⟩ c)) (r.val % 8) (g (ix2 0 c)) := by
  unfold k0_pay2 deq
  pointwise

/-- A scale, widened to f32. -/
theorem payS_apply (g : Vec F S56x1024 .fp8e4m3) (r : Fin 56) (c : Fin 1024) :
    k0_pay42 g (ix2 r c) = FloatOps.extf .f32 bitsLt_fp8e4m3_f32 (g (ix2 r c)) := by
  unfold k0_pay42
  pointwise

/-- A weight buffer with rows `[896 k, 896 k + 896)` filled from a block of packed words and the scales. -/
def strip (k : ℕ) (hk : k < 8) (w : Vec F S112x1024 .i32) (g : Vec F S56x1024 .f32) (old : Vec F S7168x1024 .bf16) : Vec F S7168x1024 .bf16 :=
  fun y => if (y 0).val / 896 = k then
    deq (w (ix2 ⟨(y 0).val % 896 / 8, by omega⟩ (y 1))) ((y 0).val % 8) (g (ix2 ⟨(y 0).val / 128, by have := (y 0).isLt; simp at this; omega⟩ (y 1)))
  else old y

theorem read_strip (arg : Memref sig .tc .vmem S7168x1024 .bf16) (harg : arg.IsWhole) (xs : Vec F S7168x1024 .bf16)
    (k : ℕ) (hk : k < 8) (a3 : Memref sig .tc .vmem S112x1024 .i32) (ha3 : a3.IsWhole) (x1 : Vec F S112x1024 .i32)
    (gl : Fin 7 → Vec F S1x1024 .f32) (G : Vec F S56x1024 .f32)
    (hgl : ∀ j : Fin 7, ∀ c : Fin 1024, gl j (ix2 0 c) = G (ix2 ⟨7 * k + j.val, by omega⟩ c))
    (o2 : Fin 7 → Fin 2 → ℕ) (ho2 : ∀ j, o2 j = ![896 * k + 128 * j.val, 0])
    (inb2 : ∀ j a, o2 j a + ![128, 1024] a ≤ S7168x1024.size a)
    (inbw : ∀ (j : Fin 7) a, ![16 * j.val, 0] a + ![16, 1024] a ≤ S112x1024.size a) :
    arg.view.read (Elt F) (arg.view.writes (Elt F) (harg.unread xs)
      (View.tilePieces ![128, 1024] o2 inb2 (fun j => k0_pay2
        (View.readAt (Elt F) a3.view (Rect.unit (s := S112x1024) ![16 * j.val, 0] ![16, 1024] (inbw j)).toLoadRect (ha3.unread x1) : Vec F S16x1024 .i32) (gl j)) 7 le_rfl))
      = strip k hk x1 G xs := by
  funext y
  have hy0 : (y 0).val < 7168 := (y 0).isLt
  have hy1 : (y 1).val < 1024 := (y 1).isLt
  unfold strip
  by_cases h : (y 0).val / 896 = k
  · rw [if_pos h]
    rw [View.read_tilePieces arg.view _ ![128, 1024] o2 inb2 _ 7 le_rfl y ⟨(y 0).val % 896 / 128, by omega⟩ (by show _ / _ < 7; omega)
      (ix2 ⟨(y 0).val % 128, by omega⟩ (y 1))
      (by
        intro a
        rw [ho2]
        match a with
        | ⟨0, _⟩ => show (y 0).val = 896 * k + 128 * ((y 0).val % 896 / 128) + (y 0).val % 128; omega
        | ⟨1, _⟩ => show (y 1).val = 0 + (y 1).val; omega) 0
      (by
        intro j hj
        have hj' : j.val ≠ (y 0).val % 896 / 128 := fun e => hj (Fin.ext e)
        rw [ho2]
        show (y 0).val < 896 * k + 128 * j.val ∨ 896 * k + 128 * j.val + 128 ≤ (y 0).val
        omega)]
    refine (pay2_apply _ _ _ _).trans ?_
    rw [ha3.readAt_unread]; refine Eq.trans (congrArg _ (hgl _ _)) ?_
    have e1 : (Rect.unit (s := S112x1024) ![16 * ((y 0).val % 896 / 128), 0] ![16, 1024] (inbw ⟨(y 0).val % 896 / 128, by omega⟩)).toLoadRect.idx
        (ix2 (⟨(y 0).val % 128 / 8, by omega⟩ : Fin 16) (y 1)) = ix2 (⟨(y 0).val % 896 / 8, by omega⟩ : Fin 112) (y 1) := by
      funext a; apply Fin.ext
      match a with
      | ⟨0, _⟩ => show 16 * ((y 0).val % 896 / 128) + 1 * ((y 0).val % 128 / 8) = (y 0).val % 896 / 8; omega
      | ⟨1, _⟩ => show 0 + 1 * (y 1).val = (y 1).val; omega
    have e2 : (y 0).val % 128 % 8 = (y 0).val % 8 := by omega
    have e3 : (⟨7 * k + (y 0).val % 896 / 128, by omega⟩ : Fin 56) = ⟨(y 0).val / 128, by omega⟩ := Fin.ext (by show 7 * k + (y 0).val % 896 / 128 = (y 0).val / 128; omega)
    exact congr (congrArg₂ deq (congrArg x1 e1) e2) (congrArg (fun q : Fin 56 => G (ix2 q (y 1))) e3)
  · rw [if_neg h]
    rw [View.read_tilePieces_miss arg.view _ ![128, 1024] o2 inb2 _ 7 le_rfl y 0 (by
      intro j _
      rw [ho2]
      show (y 0).val < 896 * k + 128 * j.val ∨ 896 * k + 128 * j.val + 128 ≤ (y 0).val
      omega), harg.read_unread]

/-- The whole-buffer copy of a scale block, widened to f32. -/
theorem read_scales (a17 : Memref sig .tc .vmem S56x1024 .f32) (f : a17.view.ty.Contents (Elt F))
    (a5 : Memref sig .tc .vmem S56x1024 .fp8e4m3) (ha5 : a5.IsWhole) (x3 : Vec F S56x1024 .fp8e4m3) (p : Vec F S56x1024 .f32)
    (hp : p = k0_pay42 (View.readAt (Elt F) a5.view (Rect.unit ![0, 0] S56x1024.size inb_S56x1024_S56x1024_0_0).toLoadRect (ha5.unread x3))) :
    a17.view.read (Elt F) (a17.view.writes (Elt F) f [⟨Rect.unit ![0, 0] S56x1024.size inb_S56x1024_S56x1024_0_0, p⟩])
      = fun y => FloatOps.extf .f32 bitsLt_fp8e4m3_f32 (x3 y) := by
  funext y
  rw [View.read_writes_cons_unit_of_mem a17.view f inb_S56x1024_S56x1024_0_0 p [] y y rfl (by
    intro a
    match a with
    | ⟨0, _⟩ => exact (Nat.zero_add _).symm
    | ⟨1, _⟩ => exact (Nat.zero_add _).symm), hp]
  have hy : y = ix2 (y 0 : Fin 56) (y 1 : Fin 1024) := funext fun a => by
    match a with
    | ⟨0, _⟩ => rfl
    | ⟨1, _⟩ => rfl
  rw [hy]
  refine (payS_apply _ _ _).trans ?_
  rw [ha5.readAt_unread]
  refine congrArg (fun q => FloatOps.extf .f32 bitsLt_fp8e4m3_f32 (x3 q)) ?_
  funext a; apply Fin.ext
  match a with
  | ⟨0, _⟩ => show 0 + 1 * (y 0).val = (y 0).val; omega
  | ⟨1, _⟩ => show 0 + 1 * (y 1).val = (y 1).val; omega

/-- One row of the scales, loaded. -/
theorem readAt_scales (a17 : Memref sig .tc .vmem S56x1024 .f32) (f : a17.view.ty.Contents (Elt F)) (G : Vec F S56x1024 .f32)
    (hf : a17.view.read (Elt F) f = G) (q : ℕ) (hq : q < 56) (o : Fin 2 → ℕ) (ho : o = ![q, 0])
    (inb : ∀ a, o a + S1x1024.size a ≤ S56x1024.size a) (c : Fin 1024) :
    View.readAt (Elt F) a17.view (Rect.unit (s := S56x1024) o S1x1024.size inb).toLoadRect f (ix2 (0 : Fin 1) c) = G (ix2 ⟨q, hq⟩ c) := by
  subst ho
  rw [← hf]
  refine congrArg (a17.view.read (Elt F) f) ?_
  funext a; apply Fin.ext
  match a with
  | ⟨0, _⟩ => show q + 1 * 0 = q; omega
  | ⟨1, _⟩ => show 0 + 1 * c.val = c.val; omega

theorem scale_inb {o : Fin 2 → ℕ} {k : ℕ} {j : Fin 7} (h : o = ![7 * (k % 8) + j.val, 0]) : ∀ a, o a + S1x1024.size a ≤ S56x1024.size a := by
  subst h
  intro a
  match a with
  | ⟨0, _⟩ => show 7 * (k % 8) + j.val + 1 ≤ 56; omega
  | ⟨1, _⟩ => show 0 + 1024 ≤ 1024; omega

theorem strip_inb {o : Fin 2 → ℕ} {k : ℕ} {j : Fin 7} (h : o = ![896 * (k % 8) + 128 * j.val, 0]) : ∀ a, o a + ![128, 1024] a ≤ S7168x1024.size a := by
  subst h
  intro a
  match a with
  | ⟨0, _⟩ => show 896 * (k % 8) + 128 * j.val + 128 ≤ 7168; omega
  | ⟨1, _⟩ => show 0 + 1024 ≤ 1024; omega

theorem words_inb (j : Fin 7) : ∀ a, ![16 * j.val, 0] a + ![16, 1024] a ≤ S112x1024.size a := by
  intro a
  match a with
  | ⟨0, _⟩ => show 16 * j.val + 16 ≤ 112; omega
  | ⟨1, _⟩ => show 0 + 1024 ≤ 1024; omega

theorem off1 : ∀ t : Fin grid0.N, ∀ c : Fin 7, (k0_off1 (grid0.coords t) (BitVec.ofNat 32 c.val)) = ![7 * (t.val % 8) + c.val, 0] := by decide +kernel
theorem off2 : ∀ t : Fin grid0.N, ∀ c : Fin 7, (k0_off2 (grid0.coords t) (BitVec.ofNat 32 (128 * c.val))) = ![896 * (t.val % 8) + 128 * c.val, 0] := by decide +kernel
theorem off3 : ∀ t : Fin grid0.N, ∀ c : Fin 7, (k0_off3 (grid0.coords t) (BitVec.ofNat 32 c.val)) = ![7 * (t.val % 8) + c.val, 0] := by decide +kernel
theorem off4 : ∀ t : Fin grid0.N, ∀ c : Fin 7, (k0_off4 (grid0.coords t) (BitVec.ofNat 32 (128 * c.val))) = ![896 * (t.val % 8) + 128 * c.val, 0] := by decide +kernel
theorem off5 : ∀ t : Fin grid0.N, ∀ c : Fin 7, (k0_off5 (grid0.coords t) (BitVec.ofNat 32 c.val)) = ![7 * (t.val % 8) + c.val, 0] := by decide +kernel
theorem off6 : ∀ t : Fin grid0.N, ∀ c : Fin 7, (k0_off6 (grid0.coords t) (BitVec.ofNat 32 (128 * c.val))) = ![896 * (t.val % 8) + 128 * c.val, 0] := by decide +kernel

end

section
/-! What the carried buffers hold between two points. -/

/-- Column `l` of tile `n` of the weights. -/
def col (n : Fin 8) (l : Fin 1024) : Fin 8192 := ⟨1024 * n.val + l.val, by omega⟩

/-- A tile's scales, widened. -/
def scl (S : Vec F S56x8192 .fp8e4m3) (n : Fin 8) : Vec F S56x1024 .f32 :=
  fun y => FloatOps.extf .f32 bitsLt_fp8e4m3_f32 (S (ix2 (y 0 : Fin 56) (col n (y 1))))

/-- A tile of dequantised weights. -/
def tile (W : Vec F S896x8192 .i32) (S : Vec F S56x8192 .fp8e4m3) (n : Fin 8) : Vec F S7168x1024 .bf16 :=
  fun y => deq (W (ix2 (⟨(y 0).val / 8, by have : (y 0).val < 7168 := (y 0).isLt; omega⟩ : Fin 896) (col n (y 1)))) ((y 0).val % 8)
    (scl S n (ix2 (⟨(y 0).val / 128, by have : (y 0).val < 7168 := (y 0).isLt; omega⟩ : Fin 56) (y 1 : Fin 1024)))

/-- The first `k` rows of a buffer hold a tile. -/
def Hold (W : Vec F S896x8192 .i32) (S : Vec F S56x8192 .fp8e4m3) (n : Fin 8) (d : Vec F S7168x1024 .bf16) (k : ℕ) : Prop :=
  ∀ y : S7168x1024.Idx, (y 0).val < k → d y = tile W S n y

/-- The tile being filled at point `t`, -/
def nxt (t : ℕ) : Fin 8 := ⟨min (t / 8) 7, by omega⟩
/-- and the tile being multiplied. -/
def cur (t : ℕ) : Fin 8 := ⟨min (t / 8 - 1) 7, by omega⟩

variable (W : Vec F S896x8192 .i32) (S : Vec F S56x8192 .fp8e4m3)

theorem hold_zero (n : Fin 8) (d : Vec F S7168x1024 .bf16) : Hold W S n d 0 := fun y h => absurd h (Nat.not_lt_zero _)

theorem eq_of_hold {n : Fin 8} {d : Vec F S7168x1024 .bf16} (h : Hold W S n d 7168) : d = tile W S n :=
  funext fun y => h y (y 0).isLt

/-- A strip stored extends what is held. -/
theorem hold_strip {n : Fin 8} {k : ℕ} (hk : k < 8) (w : Vec F S112x1024 .i32)
    (hw : ∀ y : S112x1024.Idx, w y = W (ix2 (⟨112 * k + (y 0).val, by have : (y 0).val < 112 := (y 0).isLt; omega⟩ : Fin 896) (col n (y 1))))
    {d : Vec F S7168x1024 .bf16} (hd : Hold W S n d (896 * k)) : Hold W S n (strip k hk w (scl S n) d) (896 * k + 896) := by
  intro y hy
  have hy0 : (y 0).val < 7168 := (y 0).isLt
  unfold strip
  by_cases h : (y 0).val / 896 = k
  · rw [if_pos h, hw]
    unfold tile
    have e : (⟨112 * k + ((y 0).val % 896 / 8), by omega⟩ : Fin 896) = ⟨(y 0).val / 8, by omega⟩ := Fin.ext (by show 112 * k + (y 0).val % 896 / 8 = (y 0).val / 8; omega)
    exact congrArg (fun q : Fin 896 => deq (W (ix2 q (col n (y 1)))) ((y 0).val % 8) (scl S n (ix2 (⟨(y 0).val / 128, by omega⟩ : Fin 56) (y 1 : Fin 1024)))) e
  · rw [if_neg h]
    exact hd y (by omega)

/-- The carried buffers before point `t`: the buffer being filled holds the next tile down to the strip of the point, the
    other one the tile to be multiplied, and within a tile the scales are the next tile's. -/
def Inv (t : ℕ) (xs0 xs1 : Vec F S7168x1024 .bf16) (xs2 : Vec F S56x1024 .f32) : Prop :=
  (t / 8 % 2 = 1 → Hold W S (nxt t) xs0 (896 * (t % 8)) ∧ xs1 = tile W S (cur t))
  ∧ (t / 8 % 2 = 0 → Hold W S (nxt t) xs1 (896 * (t % 8)) ∧ (t / 8 ≠ 0 → xs0 = tile W S (cur t)))
  ∧ (t % 8 ≠ 0 → xs2 = scl S (nxt t))

variable {W S} in
theorem inv_zero (xs0 xs1 : Vec F S7168x1024 .bf16) (xs2 : Vec F S56x1024 .f32) : Inv W S 0 xs0 xs1 xs2 :=
  ⟨fun h => absurd h (by decide), fun _ => ⟨hold_zero W S _ _, fun h => absurd rfl h⟩, fun h => absurd rfl h⟩

/-- The tile that follows, and the one before it, at the next point. -/
theorem cur_next {t : ℕ} (h7 : t % 8 = 7) : cur (t + 1) = nxt t := Fin.ext (by show min ((t + 1) / 8 - 1) 7 = min (t / 8) 7; omega)
theorem nxt_same {t : ℕ} (h7 : ¬ t % 8 = 7) : nxt (t + 1) = nxt t := Fin.ext (by show min ((t + 1) / 8) 7 = min (t / 8) 7; omega)
theorem cur_same {t : ℕ} (h7 : ¬ t % 8 = 7) : cur (t + 1) = cur t := Fin.ext (by show min ((t + 1) / 8 - 1) 7 = min (t / 8 - 1) 7; omega)

/-- A step that fills the second buffer. -/
theorem inv_even {t : ℕ} (h2 : t / 8 % 2 = 0) {xs0 xs1 : Vec F S7168x1024 .bf16} {xs2 : Vec F S56x1024 .f32}
    (h : Inv W S t xs0 xs1 xs2) (w0 : Vec F S112x1024 .i32)
    (hw0 : ∀ y : S112x1024.Idx, w0 y = W (ix2 (⟨112 * (t % 8) + (y 0).val, by have : (y 0).val < 112 := (y 0).isLt; omega⟩ : Fin 896) (col (nxt t) (y 1)))) :
    Inv W S (t + 1) xs0 (strip (t % 8) (Nat.mod_lt _ (by decide)) w0 (scl S (nxt t)) xs1) (scl S (nxt t)) := by
  obtain ⟨ha, hf⟩ := h.2.1 h2
  have ha' := hold_strip W S (Nat.mod_lt t (by decide : 8 > 0)) w0 hw0 ha
  by_cases h7 : t % 8 = 7
  · rw [show 896 * (t % 8) + 896 = 7168 by omega] at ha'
    refine ⟨fun _ => ?_, fun h0 => absurd h0 (by omega), fun h0 => absurd h0 (by omega)⟩
    rw [show (t + 1) % 8 = 0 by omega, cur_next h7]
    exact ⟨hold_zero W S _ _, eq_of_hold W S ha'⟩
  · refine ⟨fun h0 => absurd h0 (by omega), fun _ => ?_, fun _ => by rw [nxt_same h7]⟩
    rw [nxt_same h7, cur_same h7, show 896 * ((t + 1) % 8) = 896 * (t % 8) + 896 by omega]
    exact ⟨ha', fun h0 => hf (by omega)⟩

/-- A step that fills the first buffer. -/
theorem inv_odd {t : ℕ} (h2 : t / 8 % 2 = 1) {xs0 xs1 : Vec F S7168x1024 .bf16} {xs2 : Vec F S56x1024 .f32}
    (h : Inv W S t xs0 xs1 xs2) (w0 : Vec F S112x1024 .i32)
    (hw0 : ∀ y : S112x1024.Idx, w0 y = W (ix2 (⟨112 * (t % 8) + (y 0).val, by have : (y 0).val < 112 := (y 0).isLt; omega⟩ : Fin 896) (col (nxt t) (y 1)))) :
    Inv W S (t + 1) (strip (t % 8) (Nat.mod_lt _ (by decide)) w0 (scl S (nxt t)) xs0) xs1 (scl S (nxt t)) := by
  obtain ⟨ha, hf⟩ := h.1 h2
  have ha' := hold_strip W S (Nat.mod_lt t (by decide : 8 > 0)) w0 hw0 ha
  by_cases h7 : t % 8 = 7
  · rw [show 896 * (t % 8) + 896 = 7168 by omega] at ha'
    refine ⟨fun h0 => absurd h0 (by omega), fun _ => ?_, fun h0 => absurd h0 (by omega)⟩
    rw [show (t + 1) % 8 = 0 by omega, cur_next h7]
    exact ⟨hold_zero W S _ _, fun _ => eq_of_hold W S ha'⟩
  · refine ⟨fun _ => ?_, fun h0 => absurd h0 (by omega), fun _ => by rw [nxt_same h7]⟩
    rw [nxt_same h7, cur_same h7, show 896 * ((t + 1) % 8) = 896 * (t % 8) + 896 by omega]
    exact ⟨ha', hf⟩

/-! The windows' blocks, at coordinates. -/

theorem idx0 : ∀ t : Fin cfg0.N, win0_0.index t = ![if t.val < 8 then 0 else t.val % 8, 0] := (by decide +kernel : ∀ t : Fin grid0.N, win0_0.index t = ![if t.val < 8 then 0 else t.val % 8, 0])
theorem idx1 : ∀ t : Fin cfg0.N, win0_1.index t = ![t.val % 8, min (t.val / 8) 7] := (by decide +kernel : ∀ t : Fin grid0.N, win0_1.index t = ![t.val % 8, min (t.val / 8) 7])
theorem idx2 : ∀ t : Fin cfg0.N, win0_2.index t = ![0, min (t.val / 8) 7] := (by decide +kernel : ∀ t : Fin grid0.N, win0_2.index t = ![0, min (t.val / 8) 7])
theorem idx3 : ∀ t : Fin cfg0.N, win0_3.index t = ![0] := (by decide +kernel : ∀ t : Fin grid0.N, win0_3.index t = ![0])
theorem idx4 : ∀ t : Fin cfg0.N, win0_4.index t = ![0, t.val / 8 - 1] := (by decide +kernel : ∀ t : Fin grid0.N, win0_4.index t = ![0, t.val / 8 - 1])
theorem idx5 : ∀ t : Fin cfg0.N, win0_5.index t = ![if t.val < 8 then 0 else t.val % 8, t.val / 8 - 1] := (by decide +kernel : ∀ t : Fin grid0.N, win0_5.index t = ![if t.val < 8 then 0 else t.val % 8, t.val / 8 - 1])

variable (m : (ℓ : Loc nD τ sig) → Buf (Elt F) ℓ)

theorem iblk1 (c : Dev nD) (t : Fin cfg0.N) (y : S112x1024.Idx) : (iblk m c 1 t : Vec F S112x1024 .i32) y
    = (V m c main_arg2 : Vec F S896x8192 .i32) (ix2 (⟨112 * (t.val % 8) + (y 0).val, by have : (y 0).val < 112 := (y 0).isLt; omega⟩ : Fin 896) (col (nxt t.val) (y 1))) := by
  unfold iblk
  rw [View.read_apply]
  refine congrArg (V m c main_arg2 : Vec F S896x8192 .i32) (funext fun a => Fin.ext ?_)
  match a with
  | ⟨0, _⟩ => show win0_1.index t 0 * 112 + 1 * (y 0).val = 112 * (t.val % 8) + (y 0).val; rw [idx1 t]; show t.val % 8 * 112 + 1 * (y 0).val = _; omega
  | ⟨1, _⟩ => show win0_1.index t 1 * 1024 + 1 * (y 1).val = 1024 * min (t.val / 8) 7 + (y 1).val; rw [idx1 t]; show min (t.val / 8) 7 * 1024 + 1 * (y 1).val = _; omega

theorem iblk2 (c : Dev nD) (t : Fin cfg0.N) :
    (fun y => FloatOps.extf .f32 bitsLt_fp8e4m3_f32 ((iblk m c 2 t : Vec F S56x1024 .fp8e4m3) y)) = scl (V m c main_arg3) (nxt t.val) := by
  funext y
  unfold scl iblk
  rw [View.read_apply]
  refine congrArg (fun q => FloatOps.extf .f32 bitsLt_fp8e4m3_f32 ((V m c main_arg3 : Vec F S56x8192 .fp8e4m3) q)) (funext fun a => Fin.ext ?_)
  match a with
  | ⟨0, _⟩ => show win0_2.index t 0 * 56 + 1 * (y 0).val = (y 0).val; rw [idx2 t]; show 0 * 56 + 1 * (y 0).val = _; omega
  | ⟨1, _⟩ => show win0_2.index t 1 * 1024 + 1 * (y 1).val = 1024 * min (t.val / 8) 7 + (y 1).val; rw [idx2 t]; show min (t.val / 8) 7 * 1024 + 1 * (y 1).val = _; omega

end

section
/-! A point's block of the result: six squares of rows and columns, each one product of the rows with the columns of the weights. -/

/-- Entry `(p, q)` of the square `(i, j)` of a point's block: rows `256 i`, columns `512 j` of the operands, multiplied,
    scaled and added to the residual. -/
def square (a : Vec F S768x7168 .fp8e4m3) (wg : Vec F S7168x1024 .bf16) (s : Elt F .f32) (cg : Vec F S1x1024 .f32) (res : Vec F S768x1024 .f32)
    (i : Fin 3) (j : Fin 2) : FVec F S256x512 .bf16 :=
  k0_pay20 (fun z => a (ix2 (⟨256 * i.val + (z 0).val, by have : (z 0).val < 256 := (z 0).isLt; omega⟩ : Fin 768) (z 1 : Fin 7168)))
    (fun z => wg (ix2 (z 0 : Fin 7168) (⟨512 * j.val + (z 1).val, by have : (z 1).val < 512 := (z 1).isLt; omega⟩ : Fin 1024)))
    (fun z => res (ix2 (⟨256 * i.val + (z 0).val, by have : (z 0).val < 256 := (z 0).isLt; omega⟩ : Fin 768) (⟨512 * j.val + (z 1).val, by have : (z 1).val < 512 := (z 1).isLt; omega⟩ : Fin 1024)))
    s (fun z => cg (ix2 (z 0 : Fin 1) (⟨512 * j.val + (z 1).val, by have : (z 1).val < 512 := (z 1).isLt; omega⟩ : Fin 1024)))

/-- The whole block. -/
def outBlk (a : Vec F S768x7168 .fp8e4m3) (wg : Vec F S7168x1024 .bf16) (s : Elt F .f32) (cg : Vec F S1x1024 .f32) (res : Vec F S768x1024 .f32) :
    Vec F S768x1024 .bf16 :=
  fun y => square a wg s cg res ⟨(y 0).val / 256, by have : (y 0).val < 768 := (y 0).isLt; omega⟩ ⟨(y 1).val / 512, by have : (y 1).val < 1024 := (y 1).isLt; omega⟩
    (ix2 (⟨(y 0).val % 256, by omega⟩ : Fin 256) (⟨(y 1).val % 512, by omega⟩ : Fin 512))

theorem sq_inb (i : Fin 3) (j : Fin 2) : ∀ a : Fin 2, ![256 * i.val, 512 * j.val] a + S256x512.size a ≤ S768x1024.size a := by
  intro a
  match a with
  | ⟨0, _⟩ => show 256 * i.val + 256 ≤ 768; omega
  | ⟨1, _⟩ => show 512 * j.val + 512 ≤ 1024; omega
theorem rows_inb (i : Fin 3) : ∀ a : Fin 2, ![256 * i.val, 0] a + S256x7168.size a ≤ S768x7168.size a := by
  intro a
  match a with
  | ⟨0, _⟩ => show 256 * i.val + 256 ≤ 768; omega
  | ⟨1, _⟩ => show 0 + 7168 ≤ 7168; omega
theorem cols_inb (j : Fin 2) : ∀ a : Fin 2, ![0, 512 * j.val] a + S7168x512.size a ≤ S7168x1024.size a := by
  intro a
  match a with
  | ⟨0, _⟩ => show 0 + 7168 ≤ 7168; omega
  | ⟨1, _⟩ => show 512 * j.val + 512 ≤ 1024; omega
theorem row_inb (j : Fin 2) : ∀ a : Fin 2, ![0, 512 * j.val] a + S1x512.size a ≤ S1x1024.size a := by
  intro a
  match a with
  | ⟨0, _⟩ => show 0 + 1 ≤ 1; omega
  | ⟨1, _⟩ => show 512 * j.val + 512 ≤ 1024; omega

/-- The store of square `(i, j)`, its operands loaded from the buffers. -/
def sqPiece (a2 : Memref sig .tc .vmem S768x7168 .fp8e4m3) (h2 : a2.IsWhole) (bg : Memref sig .tc .vmem S7168x1024 .bf16) (hg : bg.IsWhole) (a6 : Memref sig .tc .vmem S1x1024 .f32) (h6 : a6.IsWhole) (a7 : Memref sig .tc .vmem S768x1024 .f32) (h7 : a7.IsWhole)
    (a : Vec F S768x7168 .fp8e4m3) (wg : Vec F S7168x1024 .bf16) (s : Elt F .f32) (cg : Vec F S1x1024 .f32) (res : Vec F S768x1024 .f32)
    (i : Fin 3) (j : Fin 2) : View.Piece (Elt F) S768x1024 .bf16 :=
  ⟨Rect.unit (s := S768x1024) ![256 * i.val, 512 * j.val] S256x512.size (sq_inb i j),
    k0_pay20 (View.readAt (Elt F) a2.view (Rect.unit (s := S768x7168) ![256 * i.val, 0] S256x7168.size (rows_inb i)).toLoadRect (h2.unread a))
      (View.readAt (Elt F) bg.view (Rect.unit (s := S7168x1024) ![0, 512 * j.val] S7168x512.size (cols_inb j)).toLoadRect (hg.unread wg))
      (View.readAt (Elt F) a7.view (Rect.unit (s := S768x1024) ![256 * i.val, 512 * j.val] S256x512.size (sq_inb i j)).toLoadRect (h7.unread res))
      s (View.readAt (Elt F) a6.view (Rect.unit (s := S1x1024) ![0, 512 * j.val] S1x512.size (row_inb j)).toLoadRect (h6.unread cg))⟩

/-- An operand of a square, loaded. -/
theorem load_row (m : Memref sig .tc .vmem S1x1024 .f32) (h : m.IsWhole) (X : Vec F S1x1024 .f32) (j : Fin 2) :
    View.readAt (Elt F) m.view (Rect.unit (s := S1x1024) ![0, 512 * j.val] S1x512.size (row_inb j)).toLoadRect (h.unread X)
      = fun z => X (ix2 (z 0 : Fin 1) (⟨512 * j.val + (z 1).val, by have : (z 1).val < 512 := (z 1).isLt; omega⟩ : Fin 1024)) := by
  funext z
  rw [h.readAt_unread]
  refine congrArg X (funext fun a => Fin.ext ?_)
  match a with
  | ⟨0, _⟩ => show 0 + 1 * (z 0).val = (z 0).val; omega
  | ⟨1, _⟩ => show 512 * j.val + 1 * (z 1).val = 512 * j.val + (z 1).val; omega

theorem load_cols (m : Memref sig .tc .vmem S7168x1024 .bf16) (h : m.IsWhole) (X : Vec F S7168x1024 .bf16) (j : Fin 2) :
    View.readAt (Elt F) m.view (Rect.unit (s := S7168x1024) ![0, 512 * j.val] S7168x512.size (cols_inb j)).toLoadRect (h.unread X)
      = fun z => X (ix2 (z 0 : Fin 7168) (⟨512 * j.val + (z 1).val, by have : (z 1).val < 512 := (z 1).isLt; omega⟩ : Fin 1024)) := by
  funext z
  rw [h.readAt_unread]
  refine congrArg X (funext fun a => Fin.ext ?_)
  match a with
  | ⟨0, _⟩ => show 0 + 1 * (z 0).val = (z 0).val; omega
  | ⟨1, _⟩ => show 512 * j.val + 1 * (z 1).val = 512 * j.val + (z 1).val; omega

theorem load_rows (m : Memref sig .tc .vmem S768x7168 .fp8e4m3) (h : m.IsWhole) (X : Vec F S768x7168 .fp8e4m3) (i : Fin 3) :
    View.readAt (Elt F) m.view (Rect.unit (s := S768x7168) ![256 * i.val, 0] S256x7168.size (rows_inb i)).toLoadRect (h.unread X)
      = fun z => X (ix2 (⟨256 * i.val + (z 0).val, by have : (z 0).val < 256 := (z 0).isLt; omega⟩ : Fin 768) (z 1 : Fin 7168)) := by
  funext z
  rw [h.readAt_unread]
  refine congrArg X (funext fun a => Fin.ext ?_)
  match a with
  | ⟨0, _⟩ => show 256 * i.val + 1 * (z 0).val = 256 * i.val + (z 0).val; omega
  | ⟨1, _⟩ => show 0 + 1 * (z 1).val = (z 1).val; omega

theorem load_res (m : Memref sig .tc .vmem S768x1024 .f32) (h : m.IsWhole) (X : Vec F S768x1024 .f32) (i : Fin 3) (j : Fin 2) :
    View.readAt (Elt F) m.view (Rect.unit (s := S768x1024) ![256 * i.val, 512 * j.val] S256x512.size (sq_inb i j)).toLoadRect (h.unread X)
      = fun z => X (ix2 (⟨256 * i.val + (z 0).val, by have : (z 0).val < 256 := (z 0).isLt; omega⟩ : Fin 768) (⟨512 * j.val + (z 1).val, by have : (z 1).val < 512 := (z 1).isLt; omega⟩ : Fin 1024)) := by
  funext z
  rw [h.readAt_unread]
  refine congrArg X (funext fun a => Fin.ext ?_)
  match a with
  | ⟨0, _⟩ => show 256 * i.val + 1 * (z 0).val = 256 * i.val + (z 0).val; omega
  | ⟨1, _⟩ => show 512 * j.val + 1 * (z 1).val = 512 * j.val + (z 1).val; omega

/-- The one word of a scalar operand, loaded. -/
theorem load_word (m : Memref sig .tc .smem S1 .f32) (h : m.IsWhole) (X : Vec F S1 .f32) (i : S1.Idx) :
    View.readAt (Elt F) m.view (Rect.unit (s := S1) ![0] S1.size inb_S1_S1_0).toLoadRect (h.unread X) i = X (ix1 0) := by
  rw [h.readAt_unread]
  refine congrArg X (funext fun a => Fin.ext ?_)
  have h1 : ∀ v : Fin (S1.size a), v.val = 0 := fun v => by
    have := v.isLt
    match a, v, this with
    | ⟨0, _⟩, v, this => exact Nat.lt_one_iff.mp this
  rw [h1, h1]

section
variable (a8 : Memref sig .tc .vmem S768x1024 .bf16) (f : a8.view.ty.Contents (Elt F))
    (a2 : Memref sig .tc .vmem S768x7168 .fp8e4m3) (h2 : a2.IsWhole) (bg : Memref sig .tc .vmem S7168x1024 .bf16) (hg : bg.IsWhole) (a6 : Memref sig .tc .vmem S1x1024 .f32) (h6 : a6.IsWhole) (a7 : Memref sig .tc .vmem S768x1024 .f32) (h7 : a7.IsWhole)
    (a : Vec F S768x7168 .fp8e4m3) (wg : Vec F S7168x1024 .bf16) (s : Elt F .f32) (cg : Vec F S1x1024 .f32) (res : Vec F S768x1024 .f32)

/-- A square's store writes the block's entries there. -/
theorem sqPiece_apply (i : Fin 3) (j : Fin 2) (x : (sqPiece a2 h2 bg hg a6 h6 a7 h7 a wg s cg res i j).1.shape.Idx) :
    (sqPiece a2 h2 bg hg a6 h6 a7 h7 a wg s cg res i j).2 x = outBlk a wg s cg res ((sqPiece a2 h2 bg hg a6 h6 a7 h7 a wg s cg res i j).1.emb x) := by
  have hx0 : (x 0).val < 256 := (x 0).isLt
  have hx1 : (x 1).val < 512 := (x 1).isLt
  unfold outBlk
  have e0 : (((sqPiece a2 h2 bg hg a6 h6 a7 h7 a wg s cg res i j).1.emb x) 0).val = 256 * i.val + (x 0).val := by
    show 256 * i.val + 1 * (x 0).val = _; omega
  have e1 : (((sqPiece a2 h2 bg hg a6 h6 a7 h7 a wg s cg res i j).1.emb x) 1).val = 512 * j.val + (x 1).val := by
    show 512 * j.val + 1 * (x 1).val = _; omega
  have hi : (⟨(((sqPiece a2 h2 bg hg a6 h6 a7 h7 a wg s cg res i j).1.emb x) 0).val / 256, by rw [e0]; omega⟩ : Fin 3) = i := Fin.ext (by show _ / 256 = _; rw [e0]; omega)
  have hj : (⟨(((sqPiece a2 h2 bg hg a6 h6 a7 h7 a wg s cg res i j).1.emb x) 1).val / 512, by rw [e1]; omega⟩ : Fin 2) = j := Fin.ext (by show _ / 512 = _; rw [e1]; omega)
  rw [hi, hj]
  have hz : x = ix2 (⟨(((sqPiece a2 h2 bg hg a6 h6 a7 h7 a wg s cg res i j).1.emb x) 0).val % 256, by omega⟩ : Fin 256)
      (⟨(((sqPiece a2 h2 bg hg a6 h6 a7 h7 a wg s cg res i j).1.emb x) 1).val % 512, by omega⟩ : Fin 512) := funext fun b => Fin.ext (by
    match b with
    | ⟨0, _⟩ => show (x 0).val = _ % 256; rw [e0]; omega
    | ⟨1, _⟩ => show (x 1).val = _ % 512; rw [e1]; omega)
  refine Eq.trans ?_ (congrArg (square a wg s cg res i j) hz)
  unfold sqPiece square
  show k0_pay20 _ _ _ _ _ x = _
  rw [load_rows, load_cols, load_res, load_row]
  rfl

/-- The six stores leave the block, whatever the buffer held. -/
theorem read_out :
    a8.view.read (Elt F) (a8.view.writes (Elt F) f
      [sqPiece a2 h2 bg hg a6 h6 a7 h7 a wg s cg res 2 1, sqPiece a2 h2 bg hg a6 h6 a7 h7 a wg s cg res 2 0, sqPiece a2 h2 bg hg a6 h6 a7 h7 a wg s cg res 1 1, sqPiece a2 h2 bg hg a6 h6 a7 h7 a wg s cg res 1 0, sqPiece a2 h2 bg hg a6 h6 a7 h7 a wg s cg res 0 1, sqPiece a2 h2 bg hg a6 h6 a7 h7 a wg s cg res 0 0])
      = outBlk a wg s cg res := by
  funext y
  have hy0 : (y 0).val < 768 := (y 0).isLt
  have hy1 : (y 1).val < 1024 := (y 1).isLt
  refine View.read_writes_apply_of_pieces _ _ _ _ ?_ y ?_
  · intro p hp x
    simp only [List.mem_cons, List.not_mem_nil, or_false] at hp
    rcases hp with rfl | rfl | rfl | rfl | rfl | rfl <;> exact sqPiece_apply a2 h2 bg hg a6 h6 a7 h7 a wg s cg res _ _ x
  · have key : ∀ (i : Fin 3) (j : Fin 2), (y 0).val / 256 = i.val → (y 1).val / 512 = j.val →
        y ∈ (sqPiece a2 h2 bg hg a6 h6 a7 h7 a wg s cg res i j).1.set := by
      intro i j hi hj
      refine (Rect.mem_set_unit (inb := sq_inb i j)).mpr ?_
      intro b
      match b with
      | ⟨0, _⟩ => show 256 * i.val ≤ (y 0).val ∧ (y 0).val < 256 * i.val + 256; omega
      | ⟨1, _⟩ => show 512 * j.val ≤ (y 1).val ∧ (y 1).val < 512 * j.val + 512; omega
    have h0 : (y 0).val / 256 = 0 ∨ (y 0).val / 256 = 1 ∨ (y 0).val / 256 = 2 := by omega
    have h1 : (y 1).val / 512 = 0 ∨ (y 1).val / 512 = 1 := by omega
    rcases h0 with h0 | h0 | h0 <;> rcases h1 with h1 | h1
    · exact ⟨_, by simp only [List.mem_cons, true_or, or_true], key 0 0 h0 h1⟩
    · exact ⟨_, by simp only [List.mem_cons, true_or, or_true], key 0 1 h0 h1⟩
    · exact ⟨_, by simp only [List.mem_cons, true_or, or_true], key 1 0 h0 h1⟩
    · exact ⟨_, by simp only [List.mem_cons, true_or, or_true], key 1 1 h0 h1⟩
    · exact ⟨_, by simp only [List.mem_cons, true_or, or_true], key 2 0 h0 h1⟩
    · exact ⟨_, by simp only [List.mem_cons, true_or, or_true], key 2 1 h0 h1⟩
end

end

end Cert.DownIdeal.Hand

end
-- ==== Proof.DownIdealDat.lean ====
module

public import proofs.«01_k».proof.Proof.DownIdealTiles

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2
open Idealize.ShloMosaic.Pipeline (Dat Cfg Window BodyObligation cellOf)

variable {F : FTy → Type} [FloatOps F]

local notation "𝕄" => MT nD τ sig Unit (Elt F) ℕ (UR sig nD τ) ℕ

/-! The pipeline's proof data: what each buffer holds at each point. -/

variable (m : (ℓ : Loc nD τ sig) → Buf (Elt F) ℓ) (ρ : Dev nD → PrngReg)

abbrev ms0_0 (t : Fin cfg0.N) : Memref sig .tc .vmem S768x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S112x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S56x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x1024 .bf16 := win0_6.stage (cfg0.slots t 6)
abbrev hs0_6 (t : Fin cfg0.N) : (ms0_6 t).IsWhole := hstage0_6 ((cfg0.slots t 6).cast nbuf0_6)
abbrev scM0_0 : Memref sig .tc .vmem S7168x1024 .bf16 := Memref.whole cc0_scratch0
abbrev scM0_1 : Memref sig .tc .vmem S7168x1024 .bf16 := Memref.whole cc0_scratch1
abbrev scM0_2 : Memref sig .tc .vmem S56x1024 .f32 := Memref.whole cc0_scratch2

/-- The block of the result that point `t` stores: the point's rows against the tile's weights. -/
def outAt (c : Dev nD) (t : Fin cfg0.N) : Vec F S768x1024 .bf16 :=
  outBlk (iblk m c 0 t) (tile (V m c main_arg2) (V m c main_arg3) (cur t.val)) ((iblk m c 3 t : Vec F S1 .f32) (ix1 0)) (iblk m c 4 t) (iblk m c 5 t)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant between two points: the carried buffers, at contents that `Inv` describes. -/
def Phi (c : Dev nD) (t : ℕ) : sProp 𝕄 :=
  iprop(∃ (xs0 xs1 : Vec F S7168x1024 .bf16) (xs2 : Vec F S56x1024 .f32),
    ⌜Inv (V m c main_arg2) (V m c main_arg3) t xs0 xs1 xs2⌝
    ∗ (owns (c : Thread nD τ) scM0_0 fullShare xs0 ∗ owns (c : Thread nD τ) scM0_1 fullShare xs1 ∗ owns (c : Thread nD τ) scM0_2 fullShare xs2)
    ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by dsimp only [dats]; rfl
theorem Phi_succ (c : Dev nD) (t : Fin cfg0.N) : (dats m 0 c).Φ t.succ = Phi m c (t.val + 1) := by dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]

theorem idle6 : ∀ t : Fin cfg0.N, t.val < 8 → cfg0.idle 6 (grid0.coords t) = true :=
  (by decide +kernel : ∀ t : Fin grid0.N, t.val < 8 → idle0 6 (grid0.coords t) = true)
theorem live6 : ∀ t : Fin cfg0.N, ¬ t.val < 8 → cfg0.idle 6 (grid0.coords t) = false :=
  (by decide +kernel : ∀ t : Fin grid0.N, ¬ t.val < 8 → idle0 6 (grid0.coords t) = false)
theorem flush6 : ∀ t : Fin cfg0.N, t.val < 8 → (cfg0.win 6).flush t = false :=
  (by decide +kernel : ∀ t : Fin grid0.N, t.val < 8 → win0_6.flush t = false)
theorem fetch6 : ∀ t : Fin cfg0.N, (cfg0.win 6).fetch t = false :=
  (by decide +kernel : ∀ t : Fin grid0.N, win0_6.fetch t = false)

theorem leaves0_6 (c : Dev nD) (t : Fin cfg0.N) (h : ¬ t.val < 8) :
    (dats m 0 c).leavesExact 6 t = owns (c : Thread nD τ) (ms0_6 t) fullShare (outAt m c t) := by
  unfold Dat.leavesExact; rw [show cfg0.idle 6 (cfg0.grid.coords t) = false from live6 t h, after0_6]

/-- Until something is stored the result's buffer holds what it was handed with. -/
theorem before0_6 (c : Dev nD) : ∀ (n : ℕ) (hn : n < cfg0.N), n < 8 → ∀ d, (dats m 0 c).before 6 ⟨n, hn⟩ d = d
  | 0, hn, _, d => by
    unfold Dat.before
    rw [fetch6, if_neg Bool.false_ne_true, if_pos rfl]
  | n + 1, hn, h8, d => by
    rw [Dat.before_of_pos (dats m 0 c) 6 ⟨n + 1, hn⟩ (Nat.succ_ne_zero n) (fetch6 _)]
    rw [show (cfg0.win 6).flush ⟨n + 1 - 1, _⟩ = false from flush6 ⟨n, Nat.lt_of_succ_lt hn⟩ (Nat.lt_of_succ_lt h8), if_neg Bool.false_ne_true]
    unfold Dat.left
    rw [show cfg0.idle 6 (cfg0.grid.coords ⟨n + 1 - 1, _⟩) = true from idle6 ⟨n, Nat.lt_of_succ_lt hn⟩ (Nat.lt_of_succ_lt h8)]
    exact before0_6 c n (Nat.lt_of_succ_lt hn) (Nat.lt_of_succ_lt h8) d

theorem leaves0_6_idle (c : Dev nD) (t : Fin cfg0.N) (h : t.val < 8) :
    (dats m 0 c).leavesExact 6 t = iprop(∃ d, owns (c : Thread nD τ) (ms0_6 t) fullShare d) := by
  rw [Dat.leavesExact_idle (dats m 0 c) 6 t (idle6 t h) (flush6 t h)]
  refine congrArg _ (funext fun d => ?_)
  rw [show (dats m 0 c).before 6 t d = d from before0_6 m c t.val t.isLt h d]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem owns_of {sp : Space} {s : Shape} {e : EltTy} (c : Dev nD) (a : Memref sig .tc sp s e) (f : a.view.ty.Contents (Elt F)) {d : Vec F s e}
    (h : a.view.read (Elt F) f = d) :
    (iprop(a.view.loc (c : Thread nD τ) ↦[a.view.set]{fullShare} f) : sProp 𝕄) ⊢ owns (c : Thread nD τ) a fullShare d := by
  subst h
  unfold owns
  iintro H
  iexists _
  isplitr
  · ipureintro; rfl
  iexact H

end Cert.DownIdeal.Hand

end
-- ==== Proof.DownIdealFrame.lean ====
module

public import proofs.«01_k».proof.Proof.DownIdealRun
public import proofs.«01_k».proof.Proof.DownIdealTiles
public import proofs.«01_k».proof.Proof.DownIdealDat

/-! What the stores of a point leave in the buffers; that the body keeps the invariant; the run of the kernel. -/

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2
open Idealize.ShloMosaic.Pipeline (Dat Cfg Window BodyObligation cellOf)

variable {F : FTy → Type} [FloatOps F]

local notation "𝕄" => MT nD τ sig Unit (Elt F) ℕ (UR sig nD τ) ℕ

section
section
variable (c : Dev nD) (t : Fin cfg0.N) (arg2 : Memref sig .tc .vmem S768x7168 .fp8e4m3) (harg2 : arg2.IsWhole) (arg3 : Memref sig .tc .vmem S112x1024 .i32) (harg3 : arg3.IsWhole) (arg4 : Memref sig .tc .vmem S56x1024 .fp8e4m3) (harg4 : arg4.IsWhole) (arg5 : Memref sig .tc .smem S1 .f32) (harg5 : arg5.IsWhole) (arg6 : Memref sig .tc .vmem S1x1024 .f32) (harg6 : arg6.IsWhole) (arg7 : Memref sig .tc .vmem S768x1024 .f32) (harg7 : arg7.IsWhole) (arg8 : Memref sig .tc .vmem S768x1024 .bf16) (harg8 : arg8.IsWhole) (arg9 : Memref sig .tc .vmem S7168x1024 .bf16) (harg9 : arg9.IsWhole) (arg10 : Memref sig .tc .vmem S7168x1024 .bf16) (harg10 : arg10.IsWhole) (arg11 : Memref sig .tc .vmem S56x1024 .f32) (harg11 : arg11.IsWhole)

/-! What the stores of a point before the first product (only the second buffer is filled) leave, at a tile not begun. -/

section
variable (hc0 : cond0 (grid0.coords t)) (hc1 : cond1 (grid0.coords t)) (hc2 : ¬cond2 (grid0.coords t)) (hc3 : ¬cond3 (grid0.coords t))
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32)

/-- The scales, copied. -/
theorem runZ0_scales (f : arg11.view.ty.Contents (Elt F)) :
    arg11.view.read (Elt F) (arg11.view.writes (Elt F) f (runZ0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = fun y => FloatOps.extf .f32 bitsLt_fp8e4m3_f32 (x2 y) :=
  read_scales arg11 f arg4 harg4 x2 _ rfl

/-- The strip of weights. -/
theorem runZ0_strip :
    arg10.view.read (Elt F) (arg10.view.writes (Elt F) (harg10.unread xs1) (runZ0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = strip (t.val % 8) (Nat.mod_lt _ (by decide)) x1 (fun y => FloatOps.extf .f32 bitsLt_fp8e4m3_f32 (x2 y)) xs1 :=
  read_strip arg10 harg10 xs1 (t.val % 8) (Nat.mod_lt _ (by decide)) arg3 harg3 x1
    (fun j => View.readAt (Elt F) arg11.view (Rect.unit (s := S56x1024) (k0_off1 (grid0.coords t) (BitVec.ofNat 32 j.val)) S1x1024.size
      (scale_inb (off1 t j))).toLoadRect (arg11.view.writes (Elt F) arg11.view.junk (runZ0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)) (fun y => FloatOps.extf .f32 bitsLt_fp8e4m3_f32 (x2 y))
    (fun j l => readAt_scales arg11 _ (fun y => FloatOps.extf .f32 bitsLt_fp8e4m3_f32 (x2 y)) (read_scales arg11 _ arg4 harg4 x2 _ rfl) (7 * (t.val % 8) + j.val) (by omega) _ (off1 t j) _ l)
    (fun j => k0_off2 (grid0.coords t) (BitVec.ofNat 32 (128 * j.val))) (off2 t) (fun j => strip_inb (off2 t j)) words_inb

end

/-! What the stores of a point before the first product (only the second buffer is filled) leave, within a tile. -/

section
variable (hc0 : ¬cond0 (grid0.coords t)) (hc1 : cond1 (grid0.coords t)) (hc2 : ¬cond2 (grid0.coords t)) (hc3 : ¬cond3 (grid0.coords t))
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32)

/-- The strip of weights. -/
theorem runZ1_strip :
    arg10.view.read (Elt F) (arg10.view.writes (Elt F) (harg10.unread xs1) (runZ1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = strip (t.val % 8) (Nat.mod_lt _ (by decide)) x1 xs2 xs1 :=
  read_strip arg10 harg10 xs1 (t.val % 8) (Nat.mod_lt _ (by decide)) arg3 harg3 x1
    (fun j => View.readAt (Elt F) arg11.view (Rect.unit (s := S56x1024) (k0_off1 (grid0.coords t) (BitVec.ofNat 32 j.val)) S1x1024.size
      (scale_inb (off1 t j))).toLoadRect (harg11.unread xs2)) xs2
    (fun j l => readAt_scales arg11 _ xs2 (harg11.read_unread _) (7 * (t.val % 8) + j.val) (by omega) _ (off1 t j) _ l)
    (fun j => k0_off2 (grid0.coords t) (BitVec.ofNat 32 (128 * j.val))) (off2 t) (fun j => strip_inb (off2 t j)) words_inb

end

/-! What the stores of a point at an odd step (the second buffer is multiplied, the first filled) leave, at a tile not begun. -/

section
variable (hc0 : cond0 (grid0.coords t)) (hc1 : ¬cond1 (grid0.coords t)) (hc2 : cond2 (grid0.coords t)) (hc3 : ¬cond3 (grid0.coords t))
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32)

/-- The scales, copied. -/
theorem runO0_scales (f : arg11.view.ty.Contents (Elt F)) :
    arg11.view.read (Elt F) (arg11.view.writes (Elt F) f (runO0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.2.1)
      = fun y => FloatOps.extf .f32 bitsLt_fp8e4m3_f32 (x2 y) :=
  read_scales arg11 f arg4 harg4 x2 _ rfl

/-- The strip of weights. -/
theorem runO0_strip :
    arg9.view.read (Elt F) (arg9.view.writes (Elt F) (harg9.unread xs0) (runO0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = strip (t.val % 8) (Nat.mod_lt _ (by decide)) x1 (fun y => FloatOps.extf .f32 bitsLt_fp8e4m3_f32 (x2 y)) xs0 :=
  read_strip arg9 harg9 xs0 (t.val % 8) (Nat.mod_lt _ (by decide)) arg3 harg3 x1
    (fun j => View.readAt (Elt F) arg11.view (Rect.unit (s := S56x1024) (k0_off3 (grid0.coords t) (BitVec.ofNat 32 j.val)) S1x1024.size
      (scale_inb (off3 t j))).toLoadRect (arg11.view.writes (Elt F) arg11.view.junk (runO0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.2.1)) (fun y => FloatOps.extf .f32 bitsLt_fp8e4m3_f32 (x2 y))
    (fun j l => readAt_scales arg11 _ (fun y => FloatOps.extf .f32 bitsLt_fp8e4m3_f32 (x2 y)) (read_scales arg11 _ arg4 harg4 x2 _ rfl) (7 * (t.val % 8) + j.val) (by omega) _ (off3 t j) _ l)
    (fun j => k0_off4 (grid0.coords t) (BitVec.ofNat 32 (128 * j.val))) (off4 t) (fun j => strip_inb (off4 t j)) words_inb

/-- The block of the result. -/
theorem runO0_out (f : arg8.view.ty.Contents (Elt F)) :
    arg8.view.read (Elt F) (arg8.view.writes (Elt F) f (runO0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = outBlk x0 xs1 (x3 (ix1 0)) x4 x5 :=
  (read_out arg8 f arg2 harg2 arg10 harg10 arg6 harg6 arg7 harg7 x0 xs1
    (View.readAt (Elt F) arg5.view (Rect.unit (s := S1) ![0] S1.size inb_S1_S1_0).toLoadRect (harg5.unread x3) (Shape.Idx.first (show 0 < S1.numel by decide))) x4 x5).trans
    (by rw [load_word])

end

/-! What the stores of a point at an odd step (the second buffer is multiplied, the first filled) leave, within a tile. -/

section
variable (hc0 : ¬cond0 (grid0.coords t)) (hc1 : ¬cond1 (grid0.coords t)) (hc2 : cond2 (grid0.coords t)) (hc3 : ¬cond3 (grid0.coords t))
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32)

/-- The strip of weights. -/
theorem runO1_strip :
    arg9.view.read (Elt F) (arg9.view.writes (Elt F) (harg9.unread xs0) (runO1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = strip (t.val % 8) (Nat.mod_lt _ (by decide)) x1 xs2 xs0 :=
  read_strip arg9 harg9 xs0 (t.val % 8) (Nat.mod_lt _ (by decide)) arg3 harg3 x1
    (fun j => View.readAt (Elt F) arg11.view (Rect.unit (s := S56x1024) (k0_off3 (grid0.coords t) (BitVec.ofNat 32 j.val)) S1x1024.size
      (scale_inb (off3 t j))).toLoadRect (harg11.unread xs2)) xs2
    (fun j l => readAt_scales arg11 _ xs2 (harg11.read_unread _) (7 * (t.val % 8) + j.val) (by omega) _ (off3 t j) _ l)
    (fun j => k0_off4 (grid0.coords t) (BitVec.ofNat 32 (128 * j.val))) (off4 t) (fun j => strip_inb (off4 t j)) words_inb

/-- The block of the result. -/
theorem runO1_out (f : arg8.view.ty.Contents (Elt F)) :
    arg8.view.read (Elt F) (arg8.view.writes (Elt F) f (runO1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = outBlk x0 xs1 (x3 (ix1 0)) x4 x5 :=
  (read_out arg8 f arg2 harg2 arg10 harg10 arg6 harg6 arg7 harg7 x0 xs1
    (View.readAt (Elt F) arg5.view (Rect.unit (s := S1) ![0] S1.size inb_S1_S1_0).toLoadRect (harg5.unread x3) (Shape.Idx.first (show 0 < S1.numel by decide))) x4 x5).trans
    (by rw [load_word])

end

/-! What the stores of a point at an even step (the first buffer is multiplied, the second filled) leave, at a tile not begun. -/

section
variable (hc0 : cond0 (grid0.coords t)) (hc1 : ¬cond1 (grid0.coords t)) (hc2 : ¬cond2 (grid0.coords t)) (hc3 : cond3 (grid0.coords t))
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32)

/-- The scales, copied. -/
theorem runE0_scales (f : arg11.view.ty.Contents (Elt F)) :
    arg11.view.read (Elt F) (arg11.view.writes (Elt F) f (runE0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.2.1)
      = fun y => FloatOps.extf .f32 bitsLt_fp8e4m3_f32 (x2 y) :=
  read_scales arg11 f arg4 harg4 x2 _ rfl

/-- The strip of weights. -/
theorem runE0_strip :
    arg10.view.read (Elt F) (arg10.view.writes (Elt F) (harg10.unread xs1) (runE0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = strip (t.val % 8) (Nat.mod_lt _ (by decide)) x1 (fun y => FloatOps.extf .f32 bitsLt_fp8e4m3_f32 (x2 y)) xs1 :=
  read_strip arg10 harg10 xs1 (t.val % 8) (Nat.mod_lt _ (by decide)) arg3 harg3 x1
    (fun j => View.readAt (Elt F) arg11.view (Rect.unit (s := S56x1024) (k0_off5 (grid0.coords t) (BitVec.ofNat 32 j.val)) S1x1024.size
      (scale_inb (off5 t j))).toLoadRect (arg11.view.writes (Elt F) arg11.view.junk (runE0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.2.1)) (fun y => FloatOps.extf .f32 bitsLt_fp8e4m3_f32 (x2 y))
    (fun j l => readAt_scales arg11 _ (fun y => FloatOps.extf .f32 bitsLt_fp8e4m3_f32 (x2 y)) (read_scales arg11 _ arg4 harg4 x2 _ rfl) (7 * (t.val % 8) + j.val) (by omega) _ (off5 t j) _ l)
    (fun j => k0_off6 (grid0.coords t) (BitVec.ofNat 32 (128 * j.val))) (off6 t) (fun j => strip_inb (off6 t j)) words_inb

/-- The block of the result. -/
theorem runE0_out (f : arg8.view.ty.Contents (Elt F)) :
    arg8.view.read (Elt F) (arg8.view.writes (Elt F) f (runE0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = outBlk x0 xs0 (x3 (ix1 0)) x4 x5 :=
  (read_out arg8 f arg2 harg2 arg9 harg9 arg6 harg6 arg7 harg7 x0 xs0
    (View.readAt (Elt F) arg5.view (Rect.unit (s := S1) ![0] S1.size inb_S1_S1_0).toLoadRect (harg5.unread x3) (Shape.Idx.first (show 0 < S1.numel by decide))) x4 x5).trans
    (by rw [load_word])

end

/-! What the stores of a point at an even step (the first buffer is multiplied, the second filled) leave, within a tile. -/

section
variable (hc0 : ¬cond0 (grid0.coords t)) (hc1 : ¬cond1 (grid0.coords t)) (hc2 : ¬cond2 (grid0.coords t)) (hc3 : cond3 (grid0.coords t))
    (x0 : Vec F S768x7168 .fp8e4m3) (x1 : Vec F S112x1024 .i32) (x2 : Vec F S56x1024 .fp8e4m3) (x3 : Vec F S1 .f32) (x4 : Vec F S1x1024 .f32) (x5 : Vec F S768x1024 .f32)
    (xs0 : Vec F S7168x1024 .bf16) (xs1 : Vec F S7168x1024 .bf16) (xs2 : Vec F S56x1024 .f32)

/-- The strip of weights. -/
theorem runE1_strip :
    arg10.view.read (Elt F) (arg10.view.writes (Elt F) (harg10.unread xs1) (runE1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = strip (t.val % 8) (Nat.mod_lt _ (by decide)) x1 xs2 xs1 :=
  read_strip arg10 harg10 xs1 (t.val % 8) (Nat.mod_lt _ (by decide)) arg3 harg3 x1
    (fun j => View.readAt (Elt F) arg11.view (Rect.unit (s := S56x1024) (k0_off5 (grid0.coords t) (BitVec.ofNat 32 j.val)) S1x1024.size
      (scale_inb (off5 t j))).toLoadRect (harg11.unread xs2)) xs2
    (fun j l => readAt_scales arg11 _ xs2 (harg11.read_unread _) (7 * (t.val % 8) + j.val) (by omega) _ (off5 t j) _ l)
    (fun j => k0_off6 (grid0.coords t) (BitVec.ofNat 32 (128 * j.val))) (off6 t) (fun j => strip_inb (off6 t j)) words_inb

/-- The block of the result. -/
theorem runE1_out (f : arg8.view.ty.Contents (Elt F)) :
    arg8.view.read (Elt F) (arg8.view.writes (Elt F) f (runE1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = outBlk x0 xs0 (x3 (ix1 0)) x4 x5 :=
  (read_out arg8 f arg2 harg2 arg9 harg9 arg6 harg6 arg7 harg7 x0 xs0
    (View.readAt (Elt F) arg5.view (Rect.unit (s := S1) ![0] S1.size inb_S1_S1_0).toLoadRect (harg5.unread x3) (Shape.Idx.first (show 0 < S1.numel by decide))) x4 x5).trans
    (by rw [load_word])

end

end

end

/-! The body keeps the invariant at every point. -/

section
/-- A fact about any buffers, at the buffers of a point. -/
theorem atPoint (t : Fin cfg0.N) {P : ∀ (arg2 : Memref sig .tc .vmem S768x7168 .fp8e4m3) (harg2 : arg2.IsWhole) (arg3 : Memref sig .tc .vmem S112x1024 .i32) (harg3 : arg3.IsWhole) (arg4 : Memref sig .tc .vmem S56x1024 .fp8e4m3) (harg4 : arg4.IsWhole) (arg5 : Memref sig .tc .smem S1 .f32) (harg5 : arg5.IsWhole) (arg6 : Memref sig .tc .vmem S1x1024 .f32) (harg6 : arg6.IsWhole) (arg7 : Memref sig .tc .vmem S768x1024 .f32) (harg7 : arg7.IsWhole) (arg8 : Memref sig .tc .vmem S768x1024 .bf16) (harg8 : arg8.IsWhole) (arg9 : Memref sig .tc .vmem S7168x1024 .bf16) (harg9 : arg9.IsWhole) (arg10 : Memref sig .tc .vmem S7168x1024 .bf16) (harg10 : arg10.IsWhole) (arg11 : Memref sig .tc .vmem S56x1024 .f32) (harg11 : arg11.IsWhole), Prop}
    (f : ∀ arg2 harg2 arg3 harg3 arg4 harg4 arg5 harg5 arg6 harg6 arg7 harg7 arg8 harg8 arg9 harg9 arg10 harg10 arg11 harg11, P arg2 harg2 arg3 harg3 arg4 harg4 arg5 harg5 arg6 harg6 arg7 harg7 arg8 harg8 arg9 harg9 arg10 harg10 arg11 harg11) :
    P (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) :=
  f _ _ _ _ _ _ _ _ _ _ _ _ _ _ _ _ _ _ _ _

variable (m : (ℓ : Loc nD τ sig) → Buf (Elt F) ℓ)

/-- From the invariant before point `t` the body comes to the invariant after it. -/
abbrev Keeps (c : Dev nD) (t : Fin cfg0.N) : Prop :=
  bodyPre m c t ⊢ wp frame (wpE (defs₀ (F := F)) Variants.none c none) Set.univ (bodyAt0 t) (fun _ => bodyPost m c t)

theorem owes_succ (c : Dev nD) (t : Fin cfg0.N) : (dats m 0 c).owesAt () t.succ = (dats m 0 c).owesAt () t.castSucc := rfl

/-! The body before the first product (only the second buffer is filled), at a tile not begun: the invariant is kept. -/

set_option maxHeartbeats 4000000 in
theorem bodyZ0 (c : Dev nD) (t : Fin cfg0.N) (h0 : t.val % 8 = 0) (h8 : t.val < 8) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6_idle m c t h8]
  have hc0 := (hcond0 t).mpr h0
  have hc1 := (hcond1 t).mpr (by omega)
  have hc2 := mt (hcond2 t).mp (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runZ0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2 Set.univ _)
  iframe H0 H1 H2 H3 H4 H5
  isplitl [H6]; · iexists _; iexact H6
  iframe HS0 HS1 HS2
  iintro ⟨H0, H1, H2, H3, H4, H5, H6, HS0, HS1, ⟨%g2, HS2⟩⟩
  have hN := inv_even _ _ (show t.val / 8 % 2 = 0 by omega) hI (iblk m c 1 t) (iblk1 m c t)
  have e0 := atPoint t (runZ0_strip c t) hc0 hc1 hc2 hc3 (iblk m c 0 t) (iblk m c 1 t) (iblk m c 2 t) (iblk m c 3 t) (iblk m c 4 t) (iblk m c 5 t) xs0 xs1 xs2
  have e2 := (atPoint t (runZ0_scales c t) hc0 hc1 hc2 hc3 (iblk m c 0 t) (iblk m c 1 t) (iblk m c 2 t) (iblk m c 3 t) (iblk m c 4 t) (iblk m c 5 t) xs0 xs1 xs2 g2).trans (iblk2 m c t)
  have e0 := e0.trans (congrArg (fun q : Vec F S56x1024 .f32 => strip (t.val % 8) (Nat.mod_lt _ (by decide)) (iblk m c 1 t : Vec F S112x1024 .i32) q xs1) (iblk2 m c t))
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iapply (owns_of c scM0_2 _ e2); iexact HS2
    iexact Hg
  iframe Ho H0 H1 H2 H3 H4 H5
  iexact H6

/-! The body before the first product (only the second buffer is filled), within a tile: the invariant is kept. -/

set_option maxHeartbeats 4000000 in
theorem bodyZ1 (c : Dev nD) (t : Fin cfg0.N) (h0 : ¬t.val % 8 = 0) (h8 : t.val < 8) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6_idle m c t h8]
  have hc0 := mt (hcond0 t).mp h0
  have hc1 := (hcond1 t).mpr (by omega)
  have hc2 := mt (hcond2 t).mp (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runZ1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2 Set.univ _)
  iframe H0 H1 H2 H3 H4 H5
  isplitl [H6]; · iexists _; iexact H6
  iframe HS0 HS1 HS2
  iintro ⟨H0, H1, H2, H3, H4, H5, H6, HS0, HS1, HS2⟩
  have hN := inv_even _ _ (show t.val / 8 % 2 = 0 by omega) hI (iblk m c 1 t) (iblk1 m c t)
  have e0 := atPoint t (runZ1_strip c t) hc0 hc1 hc2 hc3 (iblk m c 0 t) (iblk m c 1 t) (iblk m c 2 t) (iblk m c 3 t) (iblk m c 4 t) (iblk m c 5 t) xs0 xs1 xs2
  have r2 := hI.2.2 h0
  subst r2
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iexact HS2
    iexact Hg
  iframe Ho H0 H1 H2 H3 H4 H5
  iexact H6

/-! The body at an odd step (the second buffer is multiplied, the first filled), at a tile not begun: the invariant is kept. -/

set_option maxHeartbeats 4000000 in
theorem bodyO0 (c : Dev nD) (t : Fin cfg0.N) (h0 : t.val % 8 = 0) (h8 : ¬ t.val < 8) (h2 : t.val / 8 % 2 = 1) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6 m c t h8]
  have hc0 := (hcond0 t).mpr h0
  have hc1 := mt (hcond1 t).mp (by omega)
  have hc2 := (hcond2 t).mpr (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runO0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2.2 Set.univ _)
  iframe H0 H1 H2 H3 H4 H5
  isplitl [H6]; · iexists _; iexact H6
  iframe HS0 HS1 HS2
  iintro ⟨H0, H1, H2, H3, H4, H5, ⟨%fo, H6⟩, HS0, HS1, ⟨%g2, HS2⟩⟩
  have hN := inv_odd _ _ h2 hI (iblk m c 1 t) (iblk1 m c t)
  have e0 := atPoint t (runO0_strip c t) hc0 hc1 hc2 hc3 (iblk m c 0 t) (iblk m c 1 t) (iblk m c 2 t) (iblk m c 3 t) (iblk m c 4 t) (iblk m c 5 t) xs0 xs1 xs2
  have e2 := (atPoint t (runO0_scales c t) hc0 hc1 hc2 hc3 (iblk m c 0 t) (iblk m c 1 t) (iblk m c 2 t) (iblk m c 3 t) (iblk m c 4 t) (iblk m c 5 t) xs0 xs1 xs2 g2).trans (iblk2 m c t)
  have e0 := e0.trans (congrArg (fun q : Vec F S56x1024 .f32 => strip (t.val % 8) (Nat.mod_lt _ (by decide)) (iblk m c 1 t : Vec F S112x1024 .i32) q xs0) (iblk2 m c t))
  have w0 := (hI.1 h2).2
  have eo := atPoint t (runO0_out c t) hc0 hc1 hc2 hc3 (iblk m c 0 t) (iblk m c 1 t) (iblk m c 2 t) (iblk m c 3 t) (iblk m c 4 t) (iblk m c 5 t) xs0 xs1 xs2 fo
  subst w0
  isplitl [HS0 HS1 HS2 Hg]
  · iexists _, _, _
    isplitr; · ipureintro; exact hN
    isplitr [Hg]
    · isplitl [HS0]; · iapply (owns_of c scM0_0 _ e0); iexact HS0
      isplitl [HS1]; · iexact HS1
      iapply (owns_of c scM0_2 _ e2); iexact HS2
    iexact Hg
  iframe Ho H0 H1 H2 H3 H4 H5
  unfold outAt
  iapply (owns_of c (ms0_6 t) _ eo); iexact H6

/-! The body at an odd step (the second buffer is multiplied, the first filled), within a tile: the invariant is kept. -/

set_option maxHeartbeats 4000000 in
theorem bodyO1 (c : Dev nD) (t : Fin cfg0.N) (h0 : ¬t.val % 8 = 0) (h8 : ¬ t.val < 8) (h2 : t.val / 8 % 2 = 1) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6 m c t h8]
  have hc0 := mt (hcond0 t).mp h0
  have hc1 := mt (hcond1 t).mp (by omega)
  have hc2 := (hcond2 t).mpr (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runO1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2 Set.univ _)
  iframe H0 H1 H2 H3 H4 H5
  isplitl [H6]; · iexists _; iexact H6
  iframe HS0 HS1 HS2
  iintro ⟨H0, H1, H2, H3, H4, H5, ⟨%fo, H6⟩, HS0, HS1, HS2⟩
  have hN := inv_odd _ _ h2 hI (iblk m c 1 t) (iblk1 m c t)
  have e0 := atPoint t (runO1_strip c t) hc0 hc1 hc2 hc3 (iblk m c 0 t) (iblk m c 1 t) (iblk m c 2 t) (iblk m c 3 t) (iblk m c 4 t) (iblk m c 5 t) xs0 xs1 xs2
  have w0 := (hI.1 h2).2
  have eo := atPoint t (runO1_out c t) hc0 hc1 hc2 hc3 (iblk m c 0 t) (iblk m c 1 t) (iblk m c 2 t) (iblk m c 3 t) (iblk m c 4 t) (iblk m c 5 t) xs0 xs1 xs2 fo
  subst w0
  have r2 := hI.2.2 h0
  subst r2
  isplitl [HS0 HS1 HS2 Hg]
  · iexists _, _, _
    isplitr; · ipureintro; exact hN
    isplitr [Hg]
    · isplitl [HS0]; · iapply (owns_of c scM0_0 _ e0); iexact HS0
      isplitl [HS1]; · iexact HS1
      iexact HS2
    iexact Hg
  iframe Ho H0 H1 H2 H3 H4 H5
  unfold outAt
  iapply (owns_of c (ms0_6 t) _ eo); iexact H6

/-! The body at an even step (the first buffer is multiplied, the second filled), at a tile not begun: the invariant is kept. -/

set_option maxHeartbeats 4000000 in
theorem bodyE0 (c : Dev nD) (t : Fin cfg0.N) (h0 : t.val % 8 = 0) (h8 : ¬ t.val < 8) (h2 : t.val / 8 % 2 = 0) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6 m c t h8]
  have hc0 := (hcond0 t).mpr h0
  have hc1 := mt (hcond1 t).mp (by omega)
  have hc2 := mt (hcond2 t).mp (by omega)
  have hc3 := (hcond3 t).mpr (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runE0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2.2 Set.univ _)
  iframe H0 H1 H2 H3 H4 H5
  isplitl [H6]; · iexists _; iexact H6
  iframe HS0 HS1 HS2
  iintro ⟨H0, H1, H2, H3, H4, H5, ⟨%fo, H6⟩, HS0, HS1, ⟨%g2, HS2⟩⟩
  have hN := inv_even _ _ h2 hI (iblk m c 1 t) (iblk1 m c t)
  have e0 := atPoint t (runE0_strip c t) hc0 hc1 hc2 hc3 (iblk m c 0 t) (iblk m c 1 t) (iblk m c 2 t) (iblk m c 3 t) (iblk m c 4 t) (iblk m c 5 t) xs0 xs1 xs2
  have e2 := (atPoint t (runE0_scales c t) hc0 hc1 hc2 hc3 (iblk m c 0 t) (iblk m c 1 t) (iblk m c 2 t) (iblk m c 3 t) (iblk m c 4 t) (iblk m c 5 t) xs0 xs1 xs2 g2).trans (iblk2 m c t)
  have e0 := e0.trans (congrArg (fun q : Vec F S56x1024 .f32 => strip (t.val % 8) (Nat.mod_lt _ (by decide)) (iblk m c 1 t : Vec F S112x1024 .i32) q xs1) (iblk2 m c t))
  have w0 := (hI.2.1 h2).2 (by omega)
  have eo := atPoint t (runE0_out c t) hc0 hc1 hc2 hc3 (iblk m c 0 t) (iblk m c 1 t) (iblk m c 2 t) (iblk m c 3 t) (iblk m c 4 t) (iblk m c 5 t) xs0 xs1 xs2 fo
  subst w0
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iapply (owns_of c scM0_2 _ e2); iexact HS2
    iexact Hg
  iframe Ho H0 H1 H2 H3 H4 H5
  unfold outAt
  iapply (owns_of c (ms0_6 t) _ eo); iexact H6

/-! The body at an even step (the first buffer is multiplied, the second filled), within a tile: the invariant is kept. -/

set_option maxHeartbeats 4000000 in
theorem bodyE1 (c : Dev nD) (t : Fin cfg0.N) (h0 : ¬t.val % 8 = 0) (h8 : ¬ t.val < 8) (h2 : t.val / 8 % 2 = 0) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6 m c t h8]
  have hc0 := mt (hcond0 t).mp h0
  have hc1 := mt (hcond1 t).mp (by omega)
  have hc2 := mt (hcond2 t).mp (by omega)
  have hc3 := (hcond3 t).mpr (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runE1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2 Set.univ _)
  iframe H0 H1 H2 H3 H4 H5
  isplitl [H6]; · iexists _; iexact H6
  iframe HS0 HS1 HS2
  iintro ⟨H0, H1, H2, H3, H4, H5, ⟨%fo, H6⟩, HS0, HS1, HS2⟩
  have hN := inv_even _ _ h2 hI (iblk m c 1 t) (iblk1 m c t)
  have e0 := atPoint t (runE1_strip c t) hc0 hc1 hc2 hc3 (iblk m c 0 t) (iblk m c 1 t) (iblk m c 2 t) (iblk m c 3 t) (iblk m c 4 t) (iblk m c 5 t) xs0 xs1 xs2
  have w0 := (hI.2.1 h2).2 (by omega)
  have eo := atPoint t (runE1_out c t) hc0 hc1 hc2 hc3 (iblk m c 0 t) (iblk m c 1 t) (iblk m c 2 t) (iblk m c 3 t) (iblk m c 4 t) (iblk m c 5 t) xs0 xs1 xs2 fo
  subst w0
  have r2 := hI.2.2 h0
  subst r2
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iexact HS2
    iexact Hg
  iframe Ho H0 H1 H2 H3 H4 H5
  unfold outAt
  iapply (owns_of c (ms0_6 t) _ eo); iexact H6

end

section
/-! The kernel's run: every execution ends, with every array as the proof data says. -/

variable (m : (ℓ : Loc nD τ sig) → Buf (Elt F) ℓ) (ρ : Dev nD → PrngReg)

/-- The body at any point. -/
theorem sound_body (c : Dev nD) (t : Fin cfg0.N) : Keeps m c t := by
  by_cases h0 : t.val % 8 = 0
  · by_cases h8 : t.val < 8
    · exact bodyZ0 m c t h0 h8
    · by_cases h2 : t.val / 8 % 2 = 1
      · exact bodyO0 m c t h0 h8 h2
      · exact bodyE0 m c t h0 h8 (by omega)
  · by_cases h8 : t.val < 8
    · exact bodyZ1 m c t h0 h8
    · by_cases h2 : t.val / 8 % 2 = 1
      · exact bodyO1 m c t h0 h8 h2
      · exact bodyE1 m c t h0 h8 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA0_eq]
  unfold Phi
  iintro ⟨⟨⟨%xs0, HS0⟩, ⟨%xs1, HS1⟩, ⟨%xs2, HS2⟩⟩, Hg⟩
  iexists xs0, xs1, xs2
  isplitr; · ipureintro; exact inv_zero xs0 xs1 xs2
  isplitr [Hg]
  · isplitl [HS0]; · iexact HS0
    isplitl [HS1]; · iexact HS1
    iexact HS2
  iexact Hg

/-- After the last point the carried contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA0_eq]
  unfold Phi
  iintro ⟨%xs0, %xs1, %xs2, -, ⟨HS0, HS1, HS2⟩, Hg⟩
  isplitr [Hg]
  · isplitl [HS0]; · iexists _; iexact HS0
    isplitl [HS1]; · iexists _; iexact HS1
    iexists _; iexact HS2
  iexact Hg

set_option backward.isDefEq.respectTransparency.types false in
/-- The run, the counters at zero at its end. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end

end Cert.DownIdeal.Hand

end
-- ==== Proof.DownFrame.lean ====
module

public import proofs.«01_k».proof.Proof.Gen.Down
public import proofs.«01_k».proof.Proof.DownIdealFrame

/-! The kernel as printed is, at any float values, the text its ideal reading is; so its frame is the same frame. -/

@[expose] public section

set_option maxRecDepth 16384

noncomputable section

namespace Cert.Down.Hand

open Cert.Down Cert.Down.Gen
open Idealize.ShloMosaic Idealize.ShloMosaic.TcCoe Idealize.SL.Sem

variable {F : FTy → Type} [FloatOps F]

/-- The two kernel functions are one. -/
theorem body_eq : @cc0_down F _ _ = @Cert.DownIdeal.cc0_down F _ _ := rfl

set_option maxHeartbeats 1000000 in
/-- The two body tables are one. -/
theorem defs_eq : @defs F _ _ = @Cert.DownIdeal.defs F _ _ := by
  refine congrArg (Pipeline.defs pcfgs) (congrArg Defs.onTc (funext fun l => funext fun a => ?_))
  match l, a with
  | 0, (t, s) => rfl

/-- Every execution ends, the argument arrays unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq]
  exact Cert.DownIdeal.Hand.frame m ρ

end Cert.Down.Hand

end
-- ==== Proof.W4.lean ====
module

public import Idealize.ShloMosaic.Lib.Pipeline.ValueKit
public import Idealize.ShloMosaic.Lib.Pointwise

/-! Products with four-bit weights over the extended reals: one entry, in the order of the kernel's rows and in the
    order of the reference's words and fields. -/

@[expose] public section

set_option maxRecDepth 16384

noncomputable section

open Idealize.ShloMosaic

namespace Cert.W4

/-- Nibble `j` of a word, as the kernel cuts it out: shifted down without sign, narrowed to four bits. -/
def nib (w : BitVec 32) (j : ℕ) : BitVec 4 := (IntOp.shrui .vector w (IntOp.muli (4#32) (BitVec.ofNat 32 j))).setWidth 4

/-- Field `j` of a word before its sign is restored, as the reference cuts it out, -/
def raw (w : BitVec 32) (j : ℕ) : BitVec 32 := IntOp.andi (IntOp.shrsi ArithUnit.vector w (BitVec.ofNat 32 (4 * j))) 15#32

/-- and with its sign. -/
def fld (w : BitVec 32) (j : ℕ) : BitVec 8 :=
  (Scalar.select (IntOp.cmpi CmpIPredicate.sge (raw w j) 8#32) (IntOp.subi (raw w j) 16#32) (raw w j)).setWidth 8

theorem raw_eq (w : BitVec 32) (j : Fin 8) : raw w j.val = (nib w j.val).setWidth 32 := by
  have h : ∀ i : ℕ, i < 32 → (15#32 : BitVec 32).getLsbD i = decide (i < 4) := by decide
  have hs : ∀ k i : ℕ, k ≤ 28 → i < 4 → (w.sshiftRight k).getLsbD i = w.getLsbD (k + i) := fun k i hk hi => by
    rw [BitVec.getLsbD_sshiftRight, if_pos (by omega)]
    simp; omega
  refine BitVec.eq_of_getLsbD_eq fun i hi => ?_
  rcases Nat.lt_or_ge i 4 with h4 | h4
  · fin_cases j <;> simp [raw, nib, IntOp.andi, IntOp.shrsi, IntOp.shrui, IntOp.muli, h i hi, -BitVec.getLsbD_eq_getElem, hs _ _ _ h4, h4, hi]
  · have h5 : ¬ i < 4 := by omega
    simp [raw, nib, IntOp.andi, h i hi, h5]

/-- Sixteen cases: both readings of a nibble are the same integer. -/
theorem sign4 : ∀ x : BitVec 4, ((Scalar.select (IntOp.cmpi CmpIPredicate.sge (x.setWidth 32) 8#32) (IntOp.subi (x.setWidth 32) 16#32) (x.setWidth 32)).setWidth 8).toInt = x.toInt := by
  decide

theorem fld_toInt (w : BitVec 32) (j : Fin 8) : (fld w j.val).toInt = (nib w j.val).toInt := by
  unfold fld
  rw [raw_eq]
  exact sign4 _

variable {R K w g N : ℕ}

/-- One dequantised weight: row `k` of column `n`. -/
def wgt (hw : K = 8 * w) (hg : K = 128 * g) (W : Fin w → Fin N → BitVec 32) (S : Fin g → Fin N → EReal) (k : Fin K) (n : Fin N) : EReal :=
  (((nib (W ⟨k.val / 8, by omega⟩ n) (k.val % 8)).toInt : ℝ) : EReal) * S ⟨k.val / 128, by omega⟩ n

/-- One entry of the product of codes with dequantised weights. -/
def prod (hw : K = 8 * w) (hg : K = 128 * g) (X : Fin R → Fin K → EReal) (W : Fin w → Fin N → BitVec 32) (S : Fin g → Fin N → EReal)
    (r : Fin R) (n : Fin N) : EReal :=
  ∑ k : Fin K, X r k * wgt hw hg W S k n

/-- The same entry summed word by word and field by field. -/
theorem prod_fields (hw : K = 8 * w) (hg : K = 128 * g) (X : Fin R → Fin K → EReal) (W : Fin w → Fin N → BitVec 32) (S : Fin g → Fin N → EReal)
    (r : Fin R) (n : Fin N) :
    (∑ x : Fin w, ∑ p : Fin 8, X r ⟨x.val * 8 + p.val, by omega⟩ * ((((fld (W x n) p.val).toInt : ℝ) : EReal) * S ⟨x.val / 16, by omega⟩ n))
      = prod hw hg X W S r n := by
  subst hw
  unfold prod
  rw [← (finProdFinEquiv.trans (finCongr (Nat.mul_comm w 8))).sum_comp, Fintype.sum_prod_type]
  refine Finset.sum_congr rfl fun x _ => Finset.sum_congr rfl fun p _ => ?_
  have e : (finProdFinEquiv.trans (finCongr (Nat.mul_comm w 8))) (x, p) = (⟨x.val * 8 + p.val, by omega⟩ : Fin (8 * w)) :=
    Fin.ext (by simp [finProdFinEquiv]; omega)
  rw [e, fld_toInt]
  unfold wgt
  have e1 : (⟨(x.val * 8 + p.val) / 8, by omega⟩ : Fin w) = x := Fin.ext (by show (x.val * 8 + p.val) / 8 = x.val; omega)
  have e2 : (x.val * 8 + p.val) % 8 = p.val := by omega
  have e3 : (⟨(x.val * 8 + p.val) / 128, by omega⟩ : Fin g) = ⟨x.val / 16, by omega⟩ := Fin.ext (by show (x.val * 8 + p.val) / 128 = x.val / 16; omega)
  simp only [e1, e2, e3]

end Cert.W4

end
-- ==== Proof.Resid.lean ====
module

public import proofs.«01_k».proof.Proof.W4

/-! A product with four-bit weights added to a residual. -/

@[expose] public section

noncomputable section

open Idealize.ShloMosaic

namespace Cert.W4

variable {R K w g N : ℕ}

/-- Entry `(r, n)`: the residual and the product, dequantised by the row scale `s` and the column scale `C`. -/
def resid (hw : K = 8 * w) (hg : K = 128 * g) (X : Fin R → Fin K → EReal) (s : EReal) (W : Fin w → Fin N → BitVec 32) (S : Fin g → Fin N → EReal)
    (C : Fin N → EReal) (H : Fin R → Fin N → EReal) (r : Fin R) (n : Fin N) : EReal :=
  H r n + prod hw hg X W S r n * (s * C n)

end Cert.W4

end
-- ==== Proof.DownIdealValue.lean ====
module

public import proofs.«01_k».proof.Proof.DownIdealFrame
public import proofs.«01_k».proof.Proof.Resid

/-! What the kernel computes, entry by entry. -/

@[expose] public section

set_option maxRecDepth 16384

noncomputable section

namespace Cert.DownIdeal.Hand

open Cert.DownIdeal Cert.DownIdeal.Gen Cert.W4
open Idealize.ShloMosaic Idealize.ShloMosaic.TcCoe Idealize.ShloMosaic.Tactic Idealize.SL.Sem
open Idealize.ShloMosaic.ValueIdx hiding ix1 ix2
open Idealize.ShloMosaic.Pipeline (Dat)

/-- An entry of a square: the residual, and a sum over the rows of the weights, scaled. -/
theorem square_apply (a : Vec Ideal S768x7168 .fp8e4m3) (wg : Vec Ideal S7168x1024 .bf16) (s : Elt Ideal .f32) (cg : Vec Ideal S1x1024 .f32) (h : Vec Ideal S768x1024 .f32)
    (i : Fin 3) (j : Fin 2) (p : Fin 256) (q : Fin 512) :
    square a wg s cg h i j (ix2 p q)
      = (h (ix2 (⟨256 * i.val + p.val, by omega⟩ : Fin 768) (⟨512 * j.val + q.val, by omega⟩ : Fin 1024)) : EReal)
        + (∑ k : Fin 7168, (a (ix2 (⟨256 * i.val + p.val, by omega⟩ : Fin 768) k) : EReal) * (wg (ix2 k (⟨512 * j.val + q.val, by omega⟩ : Fin 1024)) : EReal))
          * ((s : EReal) * (cg (ix2 (0 : Fin 1) (⟨512 * j.val + q.val, by omega⟩ : Fin 1024)) : EReal)) := by
  unfold square
  pointwise [k0_pay20]

/-- An entry of a point's block. -/
theorem outBlk_apply (a : Vec Ideal S768x7168 .fp8e4m3) (wg : Vec Ideal S7168x1024 .bf16) (s : Elt Ideal .f32) (cg : Vec Ideal S1x1024 .f32) (h : Vec Ideal S768x1024 .f32)
    (p : Fin 768) (q : Fin 1024) :
    outBlk a wg s cg h (ix2 p q)
      = (h (ix2 p q) : EReal) + (∑ k : Fin 7168, (a (ix2 p k) : EReal) * (wg (ix2 k q) : EReal)) * ((s : EReal) * (cg (ix2 (0 : Fin 1) q) : EReal)) := by
  have e1 : (⟨256 * (p.val / 256) + p.val % 256, by omega⟩ : Fin 768) = p := Fin.ext (by show 256 * (p.val / 256) + p.val % 256 = p.val; omega)
  have e2 : (⟨512 * (q.val / 512) + q.val % 512, by omega⟩ : Fin 1024) = q := Fin.ext (by show 512 * (q.val / 512) + q.val % 512 = q.val; omega)
  refine (square_apply a wg s cg h ⟨p.val / 256, by omega⟩ ⟨q.val / 512, by omega⟩ ⟨p.val % 256, by omega⟩ ⟨q.val % 512, by omega⟩).trans ?_
  simp only [e1, e2]

/-- A tile's weight is the array's. -/
theorem tile_apply (W : Vec Ideal S896x8192 .i32) (S : Vec Ideal S56x8192 .fp8e4m3) (n : Fin 8) (k : Fin 7168) (q : Fin 1024) :
    (tile W S n (ix2 k q) : EReal)
      = wgt (by decide : 7168 = 8 * 896) (by decide : 7168 = 128 * 56) (fun x n => W (ix2 x n)) (fun x n => S (ix2 x n)) k (col n q) := rfl

variable (m : (ℓ : Loc nD τ sig) → Buf (Elt Ideal) ℓ) (ρ : Dev nD → PrngReg)

/-- The layer's result as a function of the arguments. -/
def G (c : Dev nD) : Vec Ideal S6144x8192 .bf16 := fun y =>
  resid (by decide : 7168 = 8 * 896) (by decide : 7168 = 128 * 56) (fun r k => (m ((c : Thread nD τ).loc main_arg0) : Vec Ideal S6144x7168 .fp8e4m3) (ix2 r k))
    ((m ((c : Thread nD τ).loc main_arg1) : Vec Ideal S1 .f32) (ix1 0))
    (fun x n => (m ((c : Thread nD τ).loc main_arg2) : Vec Ideal S896x8192 .i32) (ix2 x n))
    (fun x n => (m ((c : Thread nD τ).loc main_arg3) : Vec Ideal S56x8192 .fp8e4m3) (ix2 x n))
    (fun n => (m ((c : Thread nD τ).loc main_arg4) : Vec Ideal S8192 .f32) (ix1 n))
    (fun r n => (m ((c : Thread nD τ).loc main_arg5) : Vec Ideal S6144x8192 .f32) (ix2 r n)) (y 0) (y 1)

theorem lt72 (t : Fin cfg0.N) : t.val < 72 := t.isLt

theorem rd0 (c : Dev nD) (t : Fin cfg0.N) (h : ¬ t.val < 8) (p : Fin 768) (k : Fin 7168) :
    (iblk m c 0 t : Vec Ideal S768x7168 .fp8e4m3) (ix2 p k)
      = (m ((c : Thread nD τ).loc main_arg0) : Vec Ideal S6144x7168 .fp8e4m3) (ix2 (⟨768 * (t.val % 8) + p.val, by omega⟩ : Fin 6144) k) := by
  have e := idx0 t
  rw [if_neg h] at e
  blk_point [iblk, V, e]

theorem rd3 (c : Dev nD) (t : Fin cfg0.N) :
    (iblk m c 3 t : Vec Ideal S1 .f32) (ix1 0)
      = (m ((c : Thread nD τ).loc main_arg1) : Vec Ideal S1 .f32) (ix1 0) := by
  blk_point [iblk, V, idx3 t]

theorem rd4 (c : Dev nD) (t : Fin cfg0.N) (q : Fin 1024) :
    (iblk m c 4 t : Vec Ideal S1x1024 .f32) (ix2 (0 : Fin 1) q)
      = (m ((c : Thread nD τ).loc main_arg4) : Vec Ideal S8192 .f32) (ix1 (⟨1024 * (t.val / 8 - 1) + q.val, by have := lt72 t; omega⟩ : Fin 8192)) := by
  blk_point [iblk, idx4 t]

theorem rd5 (c : Dev nD) (t : Fin cfg0.N) (h : ¬ t.val < 8) (p : Fin 768) (q : Fin 1024) :
    (iblk m c 5 t : Vec Ideal S768x1024 .f32) (ix2 p q)
      = (m ((c : Thread nD τ).loc main_arg5) : Vec Ideal S6144x8192 .f32) (ix2 (⟨768 * (t.val % 8) + p.val, by omega⟩ : Fin 6144) (⟨1024 * (t.val / 8 - 1) + q.val, by have := lt72 t; omega⟩ : Fin 8192)) := by
  have e := idx5 t
  rw [if_neg h] at e
  blk_point [iblk, V, e]

/-- A point's block is the result's rows and columns there. -/
theorem outAt_apply (c : Dev nD) (t : Fin cfg0.N) (h : ¬ t.val < 8) (p : Fin 768) (q : Fin 1024) :
    outAt m c t (ix2 p q) = G m c (ix2 (⟨768 * (t.val % 8) + p.val, by omega⟩ : Fin 6144) (⟨1024 * (t.val / 8 - 1) + q.val, by have := lt72 t; omega⟩ : Fin 8192)) := by
  have ht := lt72 t
  unfold outAt
  rw [outBlk_apply]
  simp only [rd0 m c t h, rd3, rd4, rd5 m c t h, tile_apply]
  have e0 : col (cur t.val) q = (⟨1024 * (t.val / 8 - 1) + q.val, by omega⟩ : Fin 8192) :=
    Fin.ext (by show 1024 * min (t.val / 8 - 1) 7 + q.val = 1024 * (t.val / 8 - 1) + q.val; omega)
  rw [e0]
  rfl

theorem idx6 : ∀ t : Fin cfg0.N, win0_6.index t = ![if t.val < 8 then 0 else t.val % 8, t.val / 8 - 1] :=
  (by decide +kernel : ∀ t : Fin grid0.N, win0_6.index t = ![if t.val < 8 then 0 else t.val % 8, t.val / 8 - 1])

/-- The result array after the run. -/
theorem final (c : Dev nD) : (dats m 0 c).arrAt 6 (cfgs 0).N = G m c := by
  refine (dats m 0 c).arrAt_eq_of_covers 6 _ (by decide +kernel) fun t hf y => ?_
  have h : ¬ t.val < 8 := fun h => by rw [flush6 t h] at hf; exact Bool.false_ne_true hf
  have e := idx6 t
  rw [if_neg h] at e
  blk_simp
  rw [after0_6]
  have hy : y = ix2 (y 0 : Fin 768) (y 1 : Fin 1024) := funext fun a => by
    match a with
    | ⟨0, _⟩ => rfl
    | ⟨1, _⟩ => rfl
  refine (congrArg (outAt m c t) hy).trans ((outAt_apply m c t h (y 0) (y 1)).trans ?_)
  blk_ext [e]

/-- The run: the result array, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 6).trans (final m c), h.2 c⟩)
    (θ_run_and (run_main m ρ) (frame_of m ρ (dats m) (A_eq m) (run_main m ρ)))

end Cert.DownIdeal.Hand

end
-- ==== Proof.DownRefValue.lean ====
module

public import proofs.«01_k».proof.Proof.Gen.DownRefIdeal.Value
public import proofs.«01_k».proof.Proof.Resid

/-! What the reference computes, entry by entry. -/

@[expose] public section

set_option maxRecDepth 16384

noncomputable section

open Idealize.ShloMosaic Idealize.ShloMosaic.TcCoe Idealize.ShloMosaic.Tactic
open Idealize.ShloMosaic.ValueIdx hiding ix1 ix2

namespace Cert.DownRefIdeal.Hand

open Cert.DownRefIdeal Cert.DownRefIdeal.Gen Cert.W4

/-- The stacked fields, read through the eight-way stack. -/
def ladder (a2 : Vec Ideal S896x8192 .i32) (x : Fin 896) (n : Fin 8192) (p : Fin 8) : BitVec 8 :=
  if h : p.val < 1 then k0_pay2 (F := Ideal) a2 (ix2 x n) else
  if h : p.val - 1 < 1 then k0_pay3 (F := Ideal) a2 (ix2 x n) else
  if h : p.val - 1 - 1 < 1 then k0_pay4 (F := Ideal) a2 (ix2 x n) else
  if h : p.val - 1 - 1 - 1 < 1 then k0_pay6 (F := Ideal) a2 k0_pay5 (ix2 x n) else
  if h : p.val - 1 - 1 - 1 - 1 < 1 then k0_pay7 (F := Ideal) a2 (ix2 x n) else
  if h : p.val - 1 - 1 - 1 - 1 - 1 < 1 then k0_pay8 (F := Ideal) a2 (ix2 x n) else
  if h : p.val - 1 - 1 - 1 - 1 - 1 - 1 < 1 then k0_pay9 (F := Ideal) a2 (ix2 x n) else
  BitVec.setWidth 8 (Scalar.select (IntOp.cmpi CmpIPredicate.sge (k0_pay10 (F := Ideal) a2 (ix2 x n)) 8#32) (IntOp.subi (k0_pay10 (F := Ideal) a2 (ix2 x n)) 16#32) (k0_pay10 (F := Ideal) a2 (ix2 x n)))

theorem ladder_eq (a2 : Vec Ideal S896x8192 .i32) (x : Fin 896) (n : Fin 8192) (p : Fin 8) : ladder a2 x n p = fld (a2 (ix2 x n)) p.val := by
  fin_cases p <;> rfl

/-- A column of the reference's product. -/
theorem dot_eq (a0 : Vec Ideal S6144x7168 .fp8e4m3) (a2 : Vec Ideal S896x8192 .i32) (a3 : Vec Ideal S56x8192 .fp8e4m3) (r : Fin 6144) (n : Fin 8192) :
    (∑ x : Fin 896, ∑ p : Fin 8, (a0 (ix2 r (⟨x.val * 8 + p.val, by omega⟩ : Fin 7168)) : EReal)
        * ((FloatOps.sitofp (F := Ideal) FTy.bf16 (ladder a2 x n p) : EReal) * (a3 (ix2 (⟨x.val / 16, by omega⟩ : Fin 56) n) : EReal)))
      = prod (by decide : 7168 = 8 * 896) (by decide : 7168 = 128 * 56) (fun r k => a0 (ix2 r k)) (fun x n => a2 (ix2 x n)) (fun q n => a3 (ix2 q n)) r n := by
  simp only [ladder_eq]
  exact prod_fields (by decide : 7168 = 8 * 896) (by decide : 7168 = 128 * 56) (fun r k => a0 (ix2 r k)) (fun x n => a2 (ix2 x n)) (fun q n => a3 (ix2 q n)) r n

theorem g6_apply (a0 : Vec Ideal S6144x7168 .fp8e4m3) (a1 : Vec Ideal S1 .f32) (a2 : Vec Ideal S896x8192 .i32) (a3 : Vec Ideal S56x8192 .fp8e4m3)
    (a4 : Vec Ideal S8192 .f32) (a5 : Vec Ideal S6144x8192 .f32) (r : Fin 6144) (n : Fin 8192) :
    Cert.DownRefIdeal.Value.G6 a0 a1 a2 a3 a4 a5 (ix2 r n)
      = resid (by decide : 7168 = 8 * 896) (by decide : 7168 = 128 * 56) (fun r k => a0 (ix2 r k)) (a1 (ix1 0)) (fun x n => a2 (ix2 x n)) (fun q n => a3 (ix2 q n)) (fun n => a4 (ix1 n)) (fun r n => a5 (ix2 r n)) r n := by
  unfold resid
  rw [← dot_eq]
  pointwise [Value.G6, k0_pay1]
  try (unfold ladder; rfl)

end Cert.DownRefIdeal.Hand

end
-- ==== Proof.DownAlgebraic.lean ====
module

public import proofs.«01_k».proof.Defs
public import proofs.«01_k».proof.Proof.DownIdealValue
public import proofs.«01_k».proof.Proof.DownRefValue

/-! Kernel and reference end with the same layer's result. -/

@[expose] public section

set_option maxRecDepth 16384

noncomputable section

open Idealize.ShloMosaic Idealize.ShloMosaic.TcCoe Idealize.ShloMosaic.Tactic Idealize.SL.Sem
open Idealize.ShloMosaic.ValueIdx hiding ix1 ix2

namespace Cert.Down.Hand

theorem algebraic : Cert.algebraic_DownIdeal_DownRefIdeal (hDownIdeal := Cert.DownIdeal.Gen.facts) (hDownRefIdeal := Cert.DownRefIdeal.Gen.facts) := by
  intro m g m' g' _ hm
  refine ⟨fun c => Cert.DownIdeal.Hand.G m c, Cert.DownIdeal.Hand.run m g, ?_⟩
  refine (θ_run _ _ _).mono (fun r h c => ⟨(h c).1.trans ?_, (h c).2⟩) (Cert.DownRefIdeal.Value.run m' g')
  obtain ⟨e0, e1, e2, e3, e4, e5⟩ := hm c
  rw [e0, e1, e2, e3, e4, e5]
  funext y
  have hy : y = ix2 (y 0 : Fin 6144) (y 1 : Fin 8192) := funext fun a => by
    match a with
    | ⟨0, _⟩ => rfl
    | ⟨1, _⟩ => rfl
  exact (congrArg _ hy).trans (Cert.DownRefIdeal.Hand.g6_apply _ _ _ _ _ _ (y 0) (y 1))

end Cert.Down.Hand

end
-- ==== Proof.OprojIdealConds.lean ====
module

public import proofs.«01_k».proof.Proof.Gen.OprojIdeal.Launch
public import proofs.«01_k».proof.Proof.Gen.OprojIdeal.Skeleton
public import proofs.«01_k».proof.Proof.Gen.OprojIdeal.Points
public import proofs.«01_k».proof.Proof.Gen.OprojIdeal.Frame
public import Idealize.ShloMosaic.Lib.Pipeline.FrameBody
public import Idealize.ShloMosaic.Lib.Pipeline.Value
public import Idealize.ShloMosaic.Lib.Tactic
public import Idealize.ShloMosaic.Lib.WordCmp
public import Idealize.ShloMosaic.Lib.WritesUnit

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's four branch conditions, over the grid's points. -/

/-- A tile of weights is begun: its scales are copied. -/
abbrev cond0 (i : grid0.Coords) : Prop := (Scalar.cmpi .ne (Scalar.extui (Scalar.cmpi .eq (BitVec.ofNat 32 (i 1).val) 0#32)) 0#32) = 1#1
/-- The first column step, which multiplies nothing. -/
abbrev cond1 (i : grid0.Coords) : Prop := k0_cond2 i = 1#1
/-- An odd column step. -/
abbrev cond2 (i : grid0.Coords) : Prop := k0_cond3 i = 1#1
/-- An even column step after the first. -/
abbrev cond3 (i : grid0.Coords) : Prop := k0_cond4 i = 1#1

theorem hcond0 : ∀ t : Fin cfg0.N, cond0 (grid0.coords t) ↔ t.val % 8 = 0 :=
  (by decide +kernel : ∀ t : Fin grid0.N, cond0 (grid0.coords t) ↔ t.val % 8 = 0)
theorem hcond1 : ∀ t : Fin cfg0.N, cond1 (grid0.coords t) ↔ t.val / 8 = 0 :=
  (by decide +kernel : ∀ t : Fin grid0.N, cond1 (grid0.coords t) ↔ t.val / 8 = 0)
theorem hcond2 : ∀ t : Fin cfg0.N, cond2 (grid0.coords t) ↔ t.val / 8 % 2 = 1 :=
  (by decide +kernel : ∀ t : Fin grid0.N, cond2 (grid0.coords t) ↔ t.val / 8 % 2 = 1)
theorem hcond3 : ∀ t : Fin cfg0.N, cond3 (grid0.coords t) ↔ (t.val / 8 ≠ 0 ∧ t.val / 8 % 2 = 0) :=
  (by decide +kernel : ∀ t : Fin grid0.N, cond3 (grid0.coords t) ↔ (t.val / 8 ≠ 0 ∧ t.val / 8 % 2 = 0))

/-- A whole buffer still at its contents is owned at them. -/
theorem own_back {sp : Space} {s : Shape} {e : EltTy} (c : Dev nD) {a : Memref sig .tc sp s e} (h : a.IsWhole) {x : Vec F s e} :
    (iprop(a.view.loc (c : Thread nD τ) ↦[a.view.set]{fullShare} h.unread x) : sProp 𝕄)
      ⊢ iprop(∃ f, ⌜a.view.read (Elt F) f = x⌝ ∗ (a.view.loc (c : Thread nD τ) ↦[a.view.set]{fullShare} f)) := by
  iintro H
  iexists _
  isplitr
  · ipureintro; exact h.read_unread _
  iexact H

end Cert.OprojIdeal.Hand

end
-- ==== Proof.OprojIdealRun.lean ====
module

public import proofs.«01_k».proof.Proof.OprojIdealConds

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S768x2048 .fp8e4m3) (harg2 : arg2.IsWhole) (arg3 : Memref sig .tc .vmem S32x1024 .i32) (harg3 : arg3.IsWhole) (arg4 : Memref sig .tc .vmem S16x1024 .fp8e4m3) (harg4 : arg4.IsWhole) (arg5 : Memref sig .tc .smem S1 .f32) (harg5 : arg5.IsWhole) (arg6 : Memref sig .tc .vmem S1x1024 .f32) (harg6 : arg6.IsWhole) (arg7 : Memref sig .tc .vmem S768x1024 .bf16) (harg7 : arg7.IsWhole) (arg8 : Memref sig .tc .vmem S768x1024 .f32) (harg8 : arg8.IsWhole) (arg9 : Memref sig .tc .vmem S2048x1024 .bf16) (harg9 : arg9.IsWhole) (arg10 : Memref sig .tc .vmem S2048x1024 .bf16) (harg10 : arg10.IsWhole) (arg11 : Memref sig .tc .vmem S16x1024 .f32) (harg11 : arg11.IsWhole)

-- the run's proof term is large: what follows the definition's elaboration walks it past the default budget
set_option maxHeartbeats 1000000 in
/-- The body before the first product (only the second buffer is filled), at a tile of weights not begun: run from whole
    buffers at named contents, it leaves each buffer it stored into with the pieces the run finds. -/
noncomputable def runZ0 (hc0 : cond0 i) (hc1 : cond1 i) (hc2 : ¬cond2 i) (hc3 : ¬cond3 i)
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32) :
    Σ' (L1 : List (View.Piece (Elt F) S2048x1024 .bf16)), { L2 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ d, owns (c : Thread nD τ) arg8 fullShare d)
                ∗ owns (c : Thread nD τ) arg9 fullShare xs0
                ∗ (arg10.view.loc (c : Thread nD τ) ↦[arg10.view.set]{fullShare} arg10.view.writes (Elt F) (harg10.unread xs1) L1)
                ∗ (∃ f, arg11.view.loc (c : Thread nD τ) ↦[arg11.view.set]{fullShare} arg11.view.writes (Elt F) f L2)) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_o_proj_eq_skeleton]; unfold cc0_o_proj_skel
    simp only [k0_part8_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]
    · iexists _, _; isplitr; swap; · iexact HO
      ipureintro; rfl
    isplitl [HS0]; · iapply (own_back c harg9); iexact HS0
    isplitl [HS1]; · iexact HS1
    iexists _; iexact HS2

-- the run's proof term is large: what follows the definition's elaboration walks it past the default budget
set_option maxHeartbeats 1000000 in
/-- The body before the first product (only the second buffer is filled), within a tile of weights: run from whole
    buffers at named contents, it leaves each buffer it stored into with the pieces the run finds. -/
noncomputable def runZ1 (hc0 : ¬cond0 i) (hc1 : cond1 i) (hc2 : ¬cond2 i) (hc3 : ¬cond3 i)
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32) :
    { L1 : List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ d, owns (c : Thread nD τ) arg8 fullShare d)
                ∗ owns (c : Thread nD τ) arg9 fullShare xs0
                ∗ (arg10.view.loc (c : Thread nD τ) ↦[arg10.view.set]{fullShare} arg10.view.writes (Elt F) (harg10.unread xs1) L1)
                ∗ owns (c : Thread nD τ) arg11 fullShare xs2) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11) K } := by
  refine ⟨?_, fun E K => ?run⟩
  case run =>
    simp only [cc0_o_proj_eq_skeleton]; unfold cc0_o_proj_skel
    simp only [k0_part8_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]
    · iexists _, _; isplitr; swap; · iexact HO
      ipureintro; rfl
    isplitl [HS0]; · iapply (own_back c harg9); iexact HS0
    isplitl [HS1]; · iexact HS1
    iapply (own_back c harg11); iexact HS2

-- the run's proof term is large: what follows the definition's elaboration walks it past the default budget
set_option maxHeartbeats 1000000 in
/-- The body at an odd step (the second buffer is multiplied, the first filled), at a tile of weights not begun: run from whole
    buffers at named contents, it leaves each buffer it stored into with the pieces the run finds. -/
noncomputable def runO0 (hc0 : cond0 i) (hc1 : ¬cond1 i) (hc2 : cond2 i) (hc3 : ¬cond3 i)
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32) :
    Σ' (LO : List (View.Piece (Elt F) S768x1024 .f32)), Σ' (L0 : List (View.Piece (Elt F) S2048x1024 .bf16)), { L2 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (arg9.view.loc (c : Thread nD τ) ↦[arg9.view.set]{fullShare} arg9.view.writes (Elt F) (harg9.unread xs0) L0)
                ∗ owns (c : Thread nD τ) arg10 fullShare xs1
                ∗ (∃ f, arg11.view.loc (c : Thread nD τ) ↦[arg11.view.set]{fullShare} arg11.view.writes (Elt F) f L2)) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_o_proj_eq_skeleton]; unfold cc0_o_proj_skel
    simp only [k0_part8_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]; · iexists _; iexact HO
    isplitl [HS0]; · iexact HS0
    isplitl [HS1]; · iapply (own_back c harg10); iexact HS1
    iexists _; iexact HS2

-- the run's proof term is large: what follows the definition's elaboration walks it past the default budget
set_option maxHeartbeats 1000000 in
/-- The body at an odd step (the second buffer is multiplied, the first filled), within a tile of weights: run from whole
    buffers at named contents, it leaves each buffer it stored into with the pieces the run finds. -/
noncomputable def runO1 (hc0 : ¬cond0 i) (hc1 : ¬cond1 i) (hc2 : cond2 i) (hc3 : ¬cond3 i)
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32) :
    Σ' (LO : List (View.Piece (Elt F) S768x1024 .f32)), { L0 : List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ (arg9.view.loc (c : Thread nD τ) ↦[arg9.view.set]{fullShare} arg9.view.writes (Elt F) (harg9.unread xs0) L0)
                ∗ owns (c : Thread nD τ) arg10 fullShare xs1
                ∗ owns (c : Thread nD τ) arg11 fullShare xs2) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_o_proj_eq_skeleton]; unfold cc0_o_proj_skel
    simp only [k0_part8_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]; · iexists _; iexact HO
    isplitl [HS0]; · iexact HS0
    isplitl [HS1]; · iapply (own_back c harg10); iexact HS1
    iapply (own_back c harg11); iexact HS2

-- the run's proof term is large: what follows the definition's elaboration walks it past the default budget
set_option maxHeartbeats 1000000 in
/-- The body at an even step (the first buffer is multiplied, the second filled), at a tile of weights not begun: run from whole
    buffers at named contents, it leaves each buffer it stored into with the pieces the run finds. -/
noncomputable def runE0 (hc0 : cond0 i) (hc1 : ¬cond1 i) (hc2 : ¬cond2 i) (hc3 : cond3 i)
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32) :
    Σ' (LO : List (View.Piece (Elt F) S768x1024 .f32)), Σ' (L1 : List (View.Piece (Elt F) S2048x1024 .bf16)), { L2 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ owns (c : Thread nD τ) arg9 fullShare xs0
                ∗ (arg10.view.loc (c : Thread nD τ) ↦[arg10.view.set]{fullShare} arg10.view.writes (Elt F) (harg10.unread xs1) L1)
                ∗ (∃ f, arg11.view.loc (c : Thread nD τ) ↦[arg11.view.set]{fullShare} arg11.view.writes (Elt F) f L2)) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_o_proj_eq_skeleton]; unfold cc0_o_proj_skel
    simp only [k0_part8_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]; · iexists _; iexact HO
    isplitl [HS0]; · iapply (own_back c harg9); iexact HS0
    isplitl [HS1]; · iexact HS1
    iexists _; iexact HS2

-- the run's proof term is large: what follows the definition's elaboration walks it past the default budget
set_option maxHeartbeats 1000000 in
/-- The body at an even step (the first buffer is multiplied, the second filled), within a tile of weights: run from whole
    buffers at named contents, it leaves each buffer it stored into with the pieces the run finds. -/
noncomputable def runE1 (hc0 : ¬cond0 i) (hc1 : ¬cond1 i) (hc2 : ¬cond2 i) (hc3 : cond3 i)
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32) :
    Σ' (LO : List (View.Piece (Elt F) S768x1024 .f32)), { L1 : List (View.Piece (Elt F) S2048x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f LO)
                ∗ owns (c : Thread nD τ) arg9 fullShare xs0
                ∗ (arg10.view.loc (c : Thread nD τ) ↦[arg10.view.set]{fullShare} arg10.view.writes (Elt F) (harg10.unread xs1) L1)
                ∗ owns (c : Thread nD τ) arg11 fullShare xs2) -∗ K ⟨⟩))
          ⊢ wp frame (wpE (defs₀ (F := F)) Variants.none c none) E (cc0_o_proj i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_o_proj_eq_skeleton]; unfold cc0_o_proj_skel
    simp only [k0_part8_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]; · iapply (own_back c harg2); iexact H0
    isplitl [H1]; · iapply (own_back c harg3); iexact H1
    isplitl [H2]; · iapply (own_back c harg4); iexact H2
    isplitl [H3]; · iapply (own_back c harg5); iexact H3
    isplitl [H4]; · iapply (own_back c harg6); iexact H4
    isplitl [H5]; · iapply (own_back c harg7); iexact H5
    isplitl [HO]; · iexists _; iexact HO
    isplitl [HS0]; · iapply (own_back c harg9); iexact HS0
    isplitl [HS1]; · iexact HS1
    iapply (own_back c harg11); iexact HS2

end

end Cert.OprojIdeal.Hand

end
-- ==== Proof.OprojIdealTiles.lean ====
module

public import proofs.«01_k».proof.Proof.OprojIdealConds
public import Idealize.ShloMosaic.Lib.Pipeline.ValueKit
public import Idealize.ShloMosaic.Lib.Pointwise
public import Idealize.ShloMosaic.Lib.WholeRead

/-! What a point stores: one strip of dequantised weights, which tiles of weights the carried buffers then hold, and the block of the result. -/

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic
open Idealize.ShloMosaic.ValueIdx hiding ix1 ix2

variable {F : FTy → Type} [FloatOps F]

section
/-- One dequantised weight: nibble `j` of a word, times its group's scale rounded to bf16. -/
def deq (w : BitVec 32) (j : ℕ) (g : F .f32) : F .bf16 :=
  FloatOps.mulf
    (FloatOps.sitofp .bf16
      ((IntOp.shrui .vector w (IntOp.muli (4#32) (BitVec.ofNat 32 j))).setWidth 4))
    (FloatOps.truncf .bf16 bitsLt_bf16_f32 g)

/-- A store's payload, entry by entry: row `r` is nibble `r % 8` of word row `r / 8`. -/
theorem pay2_apply (w : Vec F S16x1024 .i32) (g : Vec F S1x1024 .f32) (r : Fin 128) (c : Fin 1024) :
    k0_pay3 w g (ix2 r c) = deq (w (ix2 ⟨r.val / 8, by omega⟩ c)) (r.val % 8) (g (ix2 0 c)) := by
  unfold k0_pay3 deq
  pointwise

/-- A scale, widened to f32. -/
theorem payS_apply (g : Vec F S16x1024 .fp8e4m3) (r : Fin 16) (c : Fin 1024) :
    k0_pay21 g (ix2 r c) = FloatOps.extf .f32 bitsLt_fp8e4m3_f32 (g (ix2 r c)) := by
  unfold k0_pay21
  pointwise

/-- A weight buffer with rows `[256 k, 256 k + 256)` filled from a block of packed words and the scales. -/
def strip (k : ℕ) (hk : k < 8) (w : Vec F S32x1024 .i32) (g : Vec F S16x1024 .f32) (old : Vec F S2048x1024 .bf16) : Vec F S2048x1024 .bf16 :=
  fun y => if (y 0).val / 256 = k then
    deq (w (ix2 ⟨(y 0).val % 256 / 8, by omega⟩ (y 1))) ((y 0).val % 8) (g (ix2 ⟨(y 0).val / 128, by have := (y 0).isLt; simp at this; omega⟩ (y 1)))
  else old y

theorem read_strip (arg : Memref sig .tc .vmem S2048x1024 .bf16) (harg : arg.IsWhole) (xs : Vec F S2048x1024 .bf16)
    (k : ℕ) (hk : k < 8) (a3 : Memref sig .tc .vmem S32x1024 .i32) (ha3 : a3.IsWhole) (x1 : Vec F S32x1024 .i32)
    (gl : Fin 2 → Vec F S1x1024 .f32) (G : Vec F S16x1024 .f32)
    (hgl : ∀ j : Fin 2, ∀ c : Fin 1024, gl j (ix2 0 c) = G (ix2 ⟨2 * k + j.val, by omega⟩ c))
    (o2 : Fin 2 → Fin 2 → ℕ) (ho2 : ∀ j, o2 j = ![256 * k + 128 * j.val, 0])
    (inb2 : ∀ j a, o2 j a + ![128, 1024] a ≤ S2048x1024.size a)
    (inbw : ∀ (j : Fin 2) a, ![16 * j.val, 0] a + ![16, 1024] a ≤ S32x1024.size a) :
    arg.view.read (Elt F) (arg.view.writes (Elt F) (harg.unread xs)
      (View.tilePieces ![128, 1024] o2 inb2 (fun j => k0_pay3
        (View.readAt (Elt F) a3.view (Rect.unit (s := S32x1024) ![16 * j.val, 0] ![16, 1024] (inbw j)).toLoadRect (ha3.unread x1) : Vec F S16x1024 .i32) (gl j)) 2 le_rfl))
      = strip k hk x1 G xs := by
  funext y
  have hy0 : (y 0).val < 2048 := (y 0).isLt
  have hy1 : (y 1).val < 1024 := (y 1).isLt
  unfold strip
  by_cases h : (y 0).val / 256 = k
  · rw [if_pos h]
    rw [View.read_tilePieces arg.view _ ![128, 1024] o2 inb2 _ 2 le_rfl y ⟨(y 0).val % 256 / 128, by omega⟩ (by show _ / _ < 2; omega)
      (ix2 ⟨(y 0).val % 128, by omega⟩ (y 1))
      (by
        intro a
        rw [ho2]
        match a with
        | ⟨0, _⟩ => show (y 0).val = 256 * k + 128 * ((y 0).val % 256 / 128) + (y 0).val % 128; omega
        | ⟨1, _⟩ => show (y 1).val = 0 + (y 1).val; omega) 0
      (by
        intro j hj
        have hj' : j.val ≠ (y 0).val % 256 / 128 := fun e => hj (Fin.ext e)
        rw [ho2]
        show (y 0).val < 256 * k + 128 * j.val ∨ 256 * k + 128 * j.val + 128 ≤ (y 0).val
        omega)]
    refine (pay2_apply _ _ _ _).trans ?_
    rw [ha3.readAt_unread]; refine Eq.trans (congrArg _ (hgl _ _)) ?_
    have e1 : (Rect.unit (s := S32x1024) ![16 * ((y 0).val % 256 / 128), 0] ![16, 1024] (inbw ⟨(y 0).val % 256 / 128, by omega⟩)).toLoadRect.idx
        (ix2 (⟨(y 0).val % 128 / 8, by omega⟩ : Fin 16) (y 1)) = ix2 (⟨(y 0).val % 256 / 8, by omega⟩ : Fin 32) (y 1) := by
      funext a; apply Fin.ext
      match a with
      | ⟨0, _⟩ => show 16 * ((y 0).val % 256 / 128) + 1 * ((y 0).val % 128 / 8) = (y 0).val % 256 / 8; omega
      | ⟨1, _⟩ => show 0 + 1 * (y 1).val = (y 1).val; omega
    have e2 : (y 0).val % 128 % 8 = (y 0).val % 8 := by omega
    have e3 : (⟨2 * k + (y 0).val % 256 / 128, by omega⟩ : Fin 16) = ⟨(y 0).val / 128, by omega⟩ := Fin.ext (by show 2 * k + (y 0).val % 256 / 128 = (y 0).val / 128; omega)
    exact congr (congrArg₂ deq (congrArg x1 e1) e2) (congrArg (fun q : Fin 16 => G (ix2 q (y 1))) e3)
  · rw [if_neg h]
    rw [View.read_tilePieces_miss arg.view _ ![128, 1024] o2 inb2 _ 2 le_rfl y 0 (by
      intro j _
      rw [ho2]
      show (y 0).val < 256 * k + 128 * j.val ∨ 256 * k + 128 * j.val + 128 ≤ (y 0).val
      omega), harg.read_unread]

/-- The whole-buffer copy of a scale block, widened to f32. -/
theorem read_scales (a17 : Memref sig .tc .vmem S16x1024 .f32) (f : a17.view.ty.Contents (Elt F))
    (a5 : Memref sig .tc .vmem S16x1024 .fp8e4m3) (ha5 : a5.IsWhole) (x3 : Vec F S16x1024 .fp8e4m3) (p : Vec F S16x1024 .f32)
    (hp : p = k0_pay21 (View.readAt (Elt F) a5.view (Rect.unit ![0, 0] S16x1024.size inb_S16x1024_S16x1024_0_0).toLoadRect (ha5.unread x3))) :
    a17.view.read (Elt F) (a17.view.writes (Elt F) f [⟨Rect.unit ![0, 0] S16x1024.size inb_S16x1024_S16x1024_0_0, p⟩])
      = fun y => FloatOps.extf .f32 bitsLt_fp8e4m3_f32 (x3 y) := by
  funext y
  rw [View.read_writes_cons_unit_of_mem a17.view f inb_S16x1024_S16x1024_0_0 p [] y y rfl (by
    intro a
    match a with
    | ⟨0, _⟩ => exact (Nat.zero_add _).symm
    | ⟨1, _⟩ => exact (Nat.zero_add _).symm), hp]
  have hy : y = ix2 (y 0 : Fin 16) (y 1 : Fin 1024) := funext fun a => by
    match a with
    | ⟨0, _⟩ => rfl
    | ⟨1, _⟩ => rfl
  rw [hy]
  refine (payS_apply _ _ _).trans ?_
  rw [ha5.readAt_unread]
  refine congrArg (fun q => FloatOps.extf .f32 bitsLt_fp8e4m3_f32 (x3 q)) ?_
  funext a; apply Fin.ext
  match a with
  | ⟨0, _⟩ => show 0 + 1 * (y 0).val = (y 0).val; omega
  | ⟨1, _⟩ => show 0 + 1 * (y 1).val = (y 1).val; omega

/-- One row of the scales, loaded. -/
theorem readAt_scales (a17 : Memref sig .tc .vmem S16x1024 .f32) (f : a17.view.ty.Contents (Elt F)) (G : Vec F S16x1024 .f32)
    (hf : a17.view.read (Elt F) f = G) (q : ℕ) (hq : q < 16) (o : Fin 2 → ℕ) (ho : o = ![q, 0])
    (inb : ∀ a, o a + S1x1024.size a ≤ S16x1024.size a) (c : Fin 1024) :
    View.readAt (Elt F) a17.view (Rect.unit (s := S16x1024) o S1x1024.size inb).toLoadRect f (ix2 (0 : Fin 1) c) = G (ix2 ⟨q, hq⟩ c) := by
  subst ho
  rw [← hf]
  refine congrArg (a17.view.read (Elt F) f) ?_
  funext a; apply Fin.ext
  match a with
  | ⟨0, _⟩ => show q + 1 * 0 = q; omega
  | ⟨1, _⟩ => show 0 + 1 * c.val = c.val; omega

theorem scale_inb {o : Fin 2 → ℕ} {k : ℕ} {j : Fin 2} (h : o = ![2 * (k % 8) + j.val, 0]) : ∀ a, o a + S1x1024.size a ≤ S16x1024.size a := by
  subst h
  intro a
  match a with
  | ⟨0, _⟩ => show 2 * (k % 8) + j.val + 1 ≤ 16; omega
  | ⟨1, _⟩ => show 0 + 1024 ≤ 1024; omega

theorem strip_inb {o : Fin 2 → ℕ} {k : ℕ} {j : Fin 2} (h : o = ![256 * (k % 8) + 128 * j.val, 0]) : ∀ a, o a + ![128, 1024] a ≤ S2048x1024.size a := by
  subst h
  intro a
  match a with
  | ⟨0, _⟩ => show 256 * (k % 8) + 128 * j.val + 128 ≤ 2048; omega
  | ⟨1, _⟩ => show 0 + 1024 ≤ 1024; omega

theorem words_inb (j : Fin 2) : ∀ a, ![16 * j.val, 0] a + ![16, 1024] a ≤ S32x1024.size a := by
  intro a
  match a with
  | ⟨0, _⟩ => show 16 * j.val + 16 ≤ 32; omega
  | ⟨1, _⟩ => show 0 + 1024 ≤ 1024; omega

theorem off1 : ∀ t : Fin grid0.N, ∀ c : Fin 2, (k0_off1 (grid0.coords t) (BitVec.ofNat 32 c.val)) = ![2 * (t.val % 8) + c.val, 0] := by decide +kernel
theorem off2 : ∀ t : Fin grid0.N, ∀ c : Fin 2, (k0_off2 (grid0.coords t) (BitVec.ofNat 32 (128 * c.val))) = ![256 * (t.val % 8) + 128 * c.val, 0] := by decide +kernel
theorem off3 : ∀ t : Fin grid0.N, ∀ c : Fin 2, (k0_off3 (grid0.coords t) (BitVec.ofNat 32 c.val)) = ![2 * (t.val % 8) + c.val, 0] := by decide +kernel
theorem off4 : ∀ t : Fin grid0.N, ∀ c : Fin 2, (k0_off4 (grid0.coords t) (BitVec.ofNat 32 (128 * c.val))) = ![256 * (t.val % 8) + 128 * c.val, 0] := by decide +kernel
theorem off5 : ∀ t : Fin grid0.N, ∀ c : Fin 2, (k0_off5 (grid0.coords t) (BitVec.ofNat 32 c.val)) = ![2 * (t.val % 8) + c.val, 0] := by decide +kernel
theorem off6 : ∀ t : Fin grid0.N, ∀ c : Fin 2, (k0_off6 (grid0.coords t) (BitVec.ofNat 32 (128 * c.val))) = ![256 * (t.val % 8) + 128 * c.val, 0] := by decide +kernel

end

section
/-! What the carried buffers hold between two points. -/

/-- Column `l` of tile `n` of the weights. -/
def col (n : Fin 8) (l : Fin 1024) : Fin 8192 := ⟨1024 * n.val + l.val, by omega⟩

/-- A tile's scales, widened. -/
def scl (S : Vec F S16x8192 .fp8e4m3) (n : Fin 8) : Vec F S16x1024 .f32 :=
  fun y => FloatOps.extf .f32 bitsLt_fp8e4m3_f32 (S (ix2 (y 0 : Fin 16) (col n (y 1))))

/-- A tile of dequantised weights. -/
def tile (W : Vec F S256x8192 .i32) (S : Vec F S16x8192 .fp8e4m3) (n : Fin 8) : Vec F S2048x1024 .bf16 :=
  fun y => deq (W (ix2 (⟨(y 0).val / 8, by have : (y 0).val < 2048 := (y 0).isLt; omega⟩ : Fin 256) (col n (y 1)))) ((y 0).val % 8)
    (scl S n (ix2 (⟨(y 0).val / 128, by have : (y 0).val < 2048 := (y 0).isLt; omega⟩ : Fin 16) (y 1 : Fin 1024)))

/-- The first `k` rows of a buffer hold a tile. -/
def Hold (W : Vec F S256x8192 .i32) (S : Vec F S16x8192 .fp8e4m3) (n : Fin 8) (d : Vec F S2048x1024 .bf16) (k : ℕ) : Prop :=
  ∀ y : S2048x1024.Idx, (y 0).val < k → d y = tile W S n y

/-- The tile being filled at point `t`, -/
def nxt (t : ℕ) : Fin 8 := ⟨min (t / 8) 7, by omega⟩
/-- and the tile being multiplied. -/
def cur (t : ℕ) : Fin 8 := ⟨min (t / 8 - 1) 7, by omega⟩

variable (W : Vec F S256x8192 .i32) (S : Vec F S16x8192 .fp8e4m3)

theorem hold_zero (n : Fin 8) (d : Vec F S2048x1024 .bf16) : Hold W S n d 0 := fun y h => absurd h (Nat.not_lt_zero _)

theorem eq_of_hold {n : Fin 8} {d : Vec F S2048x1024 .bf16} (h : Hold W S n d 2048) : d = tile W S n :=
  funext fun y => h y (y 0).isLt

/-- A strip stored extends what is held. -/
theorem hold_strip {n : Fin 8} {k : ℕ} (hk : k < 8) (w : Vec F S32x1024 .i32)
    (hw : ∀ y : S32x1024.Idx, w y = W (ix2 (⟨32 * k + (y 0).val, by have : (y 0).val < 32 := (y 0).isLt; omega⟩ : Fin 256) (col n (y 1))))
    {d : Vec F S2048x1024 .bf16} (hd : Hold W S n d (256 * k)) : Hold W S n (strip k hk w (scl S n) d) (256 * k + 256) := by
  intro y hy
  have hy0 : (y 0).val < 2048 := (y 0).isLt
  unfold strip
  by_cases h : (y 0).val / 256 = k
  · rw [if_pos h, hw]
    unfold tile
    have e : (⟨32 * k + ((y 0).val % 256 / 8), by omega⟩ : Fin 256) = ⟨(y 0).val / 8, by omega⟩ := Fin.ext (by show 32 * k + (y 0).val % 256 / 8 = (y 0).val / 8; omega)
    exact congrArg (fun q : Fin 256 => deq (W (ix2 q (col n (y 1)))) ((y 0).val % 8) (scl S n (ix2 (⟨(y 0).val / 128, by omega⟩ : Fin 16) (y 1 : Fin 1024)))) e
  · rw [if_neg h]
    exact hd y (by omega)

/-- The carried buffers before point `t`: the buffer being filled holds the next tile down to the strip of the point, the
    other one the tile to be multiplied, and within a tile the scales are the next tile's. -/
def Inv (t : ℕ) (xs0 xs1 : Vec F S2048x1024 .bf16) (xs2 : Vec F S16x1024 .f32) : Prop :=
  (t / 8 % 2 = 1 → Hold W S (nxt t) xs0 (256 * (t % 8)) ∧ xs1 = tile W S (cur t))
  ∧ (t / 8 % 2 = 0 → Hold W S (nxt t) xs1 (256 * (t % 8)) ∧ (t / 8 ≠ 0 → xs0 = tile W S (cur t)))
  ∧ (t % 8 ≠ 0 → xs2 = scl S (nxt t))

variable {W S} in
theorem inv_zero (xs0 xs1 : Vec F S2048x1024 .bf16) (xs2 : Vec F S16x1024 .f32) : Inv W S 0 xs0 xs1 xs2 :=
  ⟨fun h => absurd h (by decide), fun _ => ⟨hold_zero W S _ _, fun h => absurd rfl h⟩, fun h => absurd rfl h⟩

/-- The tile that follows, and the one before it, at the next point. -/
theorem cur_next {t : ℕ} (h7 : t % 8 = 7) : cur (t + 1) = nxt t := Fin.ext (by show min ((t + 1) / 8 - 1) 7 = min (t / 8) 7; omega)
theorem nxt_same {t : ℕ} (h7 : ¬ t % 8 = 7) : nxt (t + 1) = nxt t := Fin.ext (by show min ((t + 1) / 8) 7 = min (t / 8) 7; omega)
theorem cur_same {t : ℕ} (h7 : ¬ t % 8 = 7) : cur (t + 1) = cur t := Fin.ext (by show min ((t + 1) / 8 - 1) 7 = min (t / 8 - 1) 7; omega)

/-- A step that fills the second buffer. -/
theorem inv_even {t : ℕ} (h2 : t / 8 % 2 = 0) {xs0 xs1 : Vec F S2048x1024 .bf16} {xs2 : Vec F S16x1024 .f32}
    (h : Inv W S t xs0 xs1 xs2) (w0 : Vec F S32x1024 .i32)
    (hw0 : ∀ y : S32x1024.Idx, w0 y = W (ix2 (⟨32 * (t % 8) + (y 0).val, by have : (y 0).val < 32 := (y 0).isLt; omega⟩ : Fin 256) (col (nxt t) (y 1)))) :
    Inv W S (t + 1) xs0 (strip (t % 8) (Nat.mod_lt _ (by decide)) w0 (scl S (nxt t)) xs1) (scl S (nxt t)) := by
  obtain ⟨ha, hf⟩ := h.2.1 h2
  have ha' := hold_strip W S (Nat.mod_lt t (by decide : 8 > 0)) w0 hw0 ha
  by_cases h7 : t % 8 = 7
  · rw [show 256 * (t % 8) + 256 = 2048 by omega] at ha'
    refine ⟨fun _ => ?_, fun h0 => absurd h0 (by omega), fun h0 => absurd h0 (by omega)⟩
    rw [show (t + 1) % 8 = 0 by omega, cur_next h7]
    exact ⟨hold_zero W S _ _, eq_of_hold W S ha'⟩
  · refine ⟨fun h0 => absurd h0 (by omega), fun _ => ?_, fun _ => by rw [nxt_same h7]⟩
    rw [nxt_same h7, cur_same h7, show 256 * ((t + 1) % 8) = 256 * (t % 8) + 256 by omega]
    exact ⟨ha', fun h0 => hf (by omega)⟩

/-- A step that fills the first buffer. -/
theorem inv_odd {t : ℕ} (h2 : t / 8 % 2 = 1) {xs0 xs1 : Vec F S2048x1024 .bf16} {xs2 : Vec F S16x1024 .f32}
    (h : Inv W S t xs0 xs1 xs2) (w0 : Vec F S32x1024 .i32)
    (hw0 : ∀ y : S32x1024.Idx, w0 y = W (ix2 (⟨32 * (t % 8) + (y 0).val, by have : (y 0).val < 32 := (y 0).isLt; omega⟩ : Fin 256) (col (nxt t) (y 1)))) :
    Inv W S (t + 1) (strip (t % 8) (Nat.mod_lt _ (by decide)) w0 (scl S (nxt t)) xs0) xs1 (scl S (nxt t)) := by
  obtain ⟨ha, hf⟩ := h.1 h2
  have ha' := hold_strip W S (Nat.mod_lt t (by decide : 8 > 0)) w0 hw0 ha
  by_cases h7 : t % 8 = 7
  · rw [show 256 * (t % 8) + 256 = 2048 by omega] at ha'
    refine ⟨fun h0 => absurd h0 (by omega), fun _ => ?_, fun h0 => absurd h0 (by omega)⟩
    rw [show (t + 1) % 8 = 0 by omega, cur_next h7]
    exact ⟨hold_zero W S _ _, fun _ => eq_of_hold W S ha'⟩
  · refine ⟨fun _ => ?_, fun h0 => absurd h0 (by omega), fun _ => by rw [nxt_same h7]⟩
    rw [nxt_same h7, cur_same h7, show 256 * ((t + 1) % 8) = 256 * (t % 8) + 256 by omega]
    exact ⟨ha', hf⟩

/-! The windows' blocks, at coordinates. -/

theorem idx0 : ∀ t : Fin cfg0.N, win0_0.index t = ![if t.val < 8 then 0 else t.val % 8, 0] := (by decide +kernel : ∀ t : Fin grid0.N, win0_0.index t = ![if t.val < 8 then 0 else t.val % 8, 0])
theorem idx1 : ∀ t : Fin cfg0.N, win0_1.index t = ![t.val % 8, min (t.val / 8) 7] := (by decide +kernel : ∀ t : Fin grid0.N, win0_1.index t = ![t.val % 8, min (t.val / 8) 7])
theorem idx2 : ∀ t : Fin cfg0.N, win0_2.index t = ![0, min (t.val / 8) 7] := (by decide +kernel : ∀ t : Fin grid0.N, win0_2.index t = ![0, min (t.val / 8) 7])
theorem idx3 : ∀ t : Fin cfg0.N, win0_3.index t = ![0] := (by decide +kernel : ∀ t : Fin grid0.N, win0_3.index t = ![0])
theorem idx4 : ∀ t : Fin cfg0.N, win0_4.index t = ![0, t.val / 8 - 1] := (by decide +kernel : ∀ t : Fin grid0.N, win0_4.index t = ![0, t.val / 8 - 1])
theorem idx5 : ∀ t : Fin cfg0.N, win0_5.index t = ![if t.val < 8 then 0 else t.val % 8, t.val / 8 - 1] := (by decide +kernel : ∀ t : Fin grid0.N, win0_5.index t = ![if t.val < 8 then 0 else t.val % 8, t.val / 8 - 1])

variable (m : (ℓ : Loc nD τ sig) → Buf (Elt F) ℓ)

theorem iblk1 (c : Dev nD) (t : Fin cfg0.N) (y : S32x1024.Idx) : (iblk m c 1 t : Vec F S32x1024 .i32) y
    = (V m c main_arg2 : Vec F S256x8192 .i32) (ix2 (⟨32 * (t.val % 8) + (y 0).val, by have : (y 0).val < 32 := (y 0).isLt; omega⟩ : Fin 256) (col (nxt t.val) (y 1))) := by
  unfold iblk
  rw [View.read_apply]
  refine congrArg (V m c main_arg2 : Vec F S256x8192 .i32) (funext fun a => Fin.ext ?_)
  match a with
  | ⟨0, _⟩ => show win0_1.index t 0 * 32 + 1 * (y 0).val = 32 * (t.val % 8) + (y 0).val; rw [idx1 t]; show t.val % 8 * 32 + 1 * (y 0).val = _; omega
  | ⟨1, _⟩ => show win0_1.index t 1 * 1024 + 1 * (y 1).val = 1024 * min (t.val / 8) 7 + (y 1).val; rw [idx1 t]; show min (t.val / 8) 7 * 1024 + 1 * (y 1).val = _; omega

theorem iblk2 (c : Dev nD) (t : Fin cfg0.N) :
    (fun y => FloatOps.extf .f32 bitsLt_fp8e4m3_f32 ((iblk m c 2 t : Vec F S16x1024 .fp8e4m3) y)) = scl (V m c main_arg3) (nxt t.val) := by
  funext y
  unfold scl iblk
  rw [View.read_apply]
  refine congrArg (fun q => FloatOps.extf .f32 bitsLt_fp8e4m3_f32 ((V m c main_arg3 : Vec F S16x8192 .fp8e4m3) q)) (funext fun a => Fin.ext ?_)
  match a with
  | ⟨0, _⟩ => show win0_2.index t 0 * 16 + 1 * (y 0).val = (y 0).val; rw [idx2 t]; show 0 * 16 + 1 * (y 0).val = _; omega
  | ⟨1, _⟩ => show win0_2.index t 1 * 1024 + 1 * (y 1).val = 1024 * min (t.val / 8) 7 + (y 1).val; rw [idx2 t]; show min (t.val / 8) 7 * 1024 + 1 * (y 1).val = _; omega

end

section
/-! A point's block of the result: six squares of rows and columns, each one product of the rows with the columns of the weights. -/

/-- Entry `(p, q)` of the square `(i, j)` of a point's block: rows `256 i`, columns `512 j` of the operands, multiplied,
    scaled and added to the residual. -/
def square (a : Vec F S768x2048 .fp8e4m3) (wg : Vec F S2048x1024 .bf16) (s : Elt F .f32) (cg : Vec F S1x1024 .f32) (res : Vec F S768x1024 .bf16)
    (i : Fin 3) (j : Fin 2) : FVec F S256x512 .f32 :=
  k0_pay2 (fun z => a (ix2 (⟨256 * i.val + (z 0).val, by have : (z 0).val < 256 := (z 0).isLt; omega⟩ : Fin 768) (z 1 : Fin 2048)))
    (fun z => wg (ix2 (z 0 : Fin 2048) (⟨512 * j.val + (z 1).val, by have : (z 1).val < 512 := (z 1).isLt; omega⟩ : Fin 1024)))
    (fun z => res (ix2 (⟨256 * i.val + (z 0).val, by have : (z 0).val < 256 := (z 0).isLt; omega⟩ : Fin 768) (⟨512 * j.val + (z 1).val, by have : (z 1).val < 512 := (z 1).isLt; omega⟩ : Fin 1024)))
    s (fun z => cg (ix2 (z 0 : Fin 1) (⟨512 * j.val + (z 1).val, by have : (z 1).val < 512 := (z 1).isLt; omega⟩ : Fin 1024)))

/-- The whole block. -/
def outBlk (a : Vec F S768x2048 .fp8e4m3) (wg : Vec F S2048x1024 .bf16) (s : Elt F .f32) (cg : Vec F S1x1024 .f32) (res : Vec F S768x1024 .bf16) :
    Vec F S768x1024 .f32 :=
  fun y => square a wg s cg res ⟨(y 0).val / 256, by have : (y 0).val < 768 := (y 0).isLt; omega⟩ ⟨(y 1).val / 512, by have : (y 1).val < 1024 := (y 1).isLt; omega⟩
    (ix2 (⟨(y 0).val % 256, by omega⟩ : Fin 256) (⟨(y 1).val % 512, by omega⟩ : Fin 512))

theorem sq_inb (i : Fin 3) (j : Fin 2) : ∀ a : Fin 2, ![256 * i.val, 512 * j.val] a + S256x512.size a ≤ S768x1024.size a := by
  intro a
  match a with
  | ⟨0, _⟩ => show 256 * i.val + 256 ≤ 768; omega
  | ⟨1, _⟩ => show 512 * j.val + 512 ≤ 1024; omega
theorem rows_inb (i : Fin 3) : ∀ a : Fin 2, ![256 * i.val, 0] a + S256x2048.size a ≤ S768x2048.size a := by
  intro a
  match a with
  | ⟨0, _⟩ => show 256 * i.val + 256 ≤ 768; omega
  | ⟨1, _⟩ => show 0 + 2048 ≤ 2048; omega
theorem cols_inb (j : Fin 2) : ∀ a : Fin 2, ![0, 512 * j.val] a + S2048x512.size a ≤ S2048x1024.size a := by
  intro a
  match a with
  | ⟨0, _⟩ => show 0 + 2048 ≤ 2048; omega
  | ⟨1, _⟩ => show 512 * j.val + 512 ≤ 1024; omega
theorem row_inb (j : Fin 2) : ∀ a : Fin 2, ![0, 512 * j.val] a + S1x512.size a ≤ S1x1024.size a := by
  intro a
  match a with
  | ⟨0, _⟩ => show 0 + 1 ≤ 1; omega
  | ⟨1, _⟩ => show 512 * j.val + 512 ≤ 1024; omega

/-- The store of square `(i, j)`, its operands loaded from the buffers. -/
def sqPiece (a2 : Memref sig .tc .vmem S768x2048 .fp8e4m3) (h2 : a2.IsWhole) (bg : Memref sig .tc .vmem S2048x1024 .bf16) (hg : bg.IsWhole) (a6 : Memref sig .tc .vmem S1x1024 .f32) (h6 : a6.IsWhole) (a7 : Memref sig .tc .vmem S768x1024 .bf16) (h7 : a7.IsWhole)
    (a : Vec F S768x2048 .fp8e4m3) (wg : Vec F S2048x1024 .bf16) (s : Elt F .f32) (cg : Vec F S1x1024 .f32) (res : Vec F S768x1024 .bf16)
    (i : Fin 3) (j : Fin 2) : View.Piece (Elt F) S768x1024 .f32 :=
  ⟨Rect.unit (s := S768x1024) ![256 * i.val, 512 * j.val] S256x512.size (sq_inb i j),
    k0_pay2 (View.readAt (Elt F) a2.view (Rect.unit (s := S768x2048) ![256 * i.val, 0] S256x2048.size (rows_inb i)).toLoadRect (h2.unread a))
      (View.readAt (Elt F) bg.view (Rect.unit (s := S2048x1024) ![0, 512 * j.val] S2048x512.size (cols_inb j)).toLoadRect (hg.unread wg))
      (View.readAt (Elt F) a7.view (Rect.unit (s := S768x1024) ![256 * i.val, 512 * j.val] S256x512.size (sq_inb i j)).toLoadRect (h7.unread res))
      s (View.readAt (Elt F) a6.view (Rect.unit (s := S1x1024) ![0, 512 * j.val] S1x512.size (row_inb j)).toLoadRect (h6.unread cg))⟩

/-- An operand of a square, loaded. -/
theorem load_row (m : Memref sig .tc .vmem S1x1024 .f32) (h : m.IsWhole) (X : Vec F S1x1024 .f32) (j : Fin 2) :
    View.readAt (Elt F) m.view (Rect.unit (s := S1x1024) ![0, 512 * j.val] S1x512.size (row_inb j)).toLoadRect (h.unread X)
      = fun z => X (ix2 (z 0 : Fin 1) (⟨512 * j.val + (z 1).val, by have : (z 1).val < 512 := (z 1).isLt; omega⟩ : Fin 1024)) := by
  funext z
  rw [h.readAt_unread]
  refine congrArg X (funext fun a => Fin.ext ?_)
  match a with
  | ⟨0, _⟩ => show 0 + 1 * (z 0).val = (z 0).val; omega
  | ⟨1, _⟩ => show 512 * j.val + 1 * (z 1).val = 512 * j.val + (z 1).val; omega

theorem load_cols (m : Memref sig .tc .vmem S2048x1024 .bf16) (h : m.IsWhole) (X : Vec F S2048x1024 .bf16) (j : Fin 2) :
    View.readAt (Elt F) m.view (Rect.unit (s := S2048x1024) ![0, 512 * j.val] S2048x512.size (cols_inb j)).toLoadRect (h.unread X)
      = fun z => X (ix2 (z 0 : Fin 2048) (⟨512 * j.val + (z 1).val, by have : (z 1).val < 512 := (z 1).isLt; omega⟩ : Fin 1024)) := by
  funext z
  rw [h.readAt_unread]
  refine congrArg X (funext fun a => Fin.ext ?_)
  match a with
  | ⟨0, _⟩ => show 0 + 1 * (z 0).val = (z 0).val; omega
  | ⟨1, _⟩ => show 512 * j.val + 1 * (z 1).val = 512 * j.val + (z 1).val; omega

theorem load_rows (m : Memref sig .tc .vmem S768x2048 .fp8e4m3) (h : m.IsWhole) (X : Vec F S768x2048 .fp8e4m3) (i : Fin 3) :
    View.readAt (Elt F) m.view (Rect.unit (s := S768x2048) ![256 * i.val, 0] S256x2048.size (rows_inb i)).toLoadRect (h.unread X)
      = fun z => X (ix2 (⟨256 * i.val + (z 0).val, by have : (z 0).val < 256 := (z 0).isLt; omega⟩ : Fin 768) (z 1 : Fin 2048)) := by
  funext z
  rw [h.readAt_unread]
  refine congrArg X (funext fun a => Fin.ext ?_)
  match a with
  | ⟨0, _⟩ => show 256 * i.val + 1 * (z 0).val = 256 * i.val + (z 0).val; omega
  | ⟨1, _⟩ => show 0 + 1 * (z 1).val = (z 1).val; omega

theorem load_res (m : Memref sig .tc .vmem S768x1024 .bf16) (h : m.IsWhole) (X : Vec F S768x1024 .bf16) (i : Fin 3) (j : Fin 2) :
    View.readAt (Elt F) m.view (Rect.unit (s := S768x1024) ![256 * i.val, 512 * j.val] S256x512.size (sq_inb i j)).toLoadRect (h.unread X)
      = fun z => X (ix2 (⟨256 * i.val + (z 0).val, by have : (z 0).val < 256 := (z 0).isLt; omega⟩ : Fin 768) (⟨512 * j.val + (z 1).val, by have : (z 1).val < 512 := (z 1).isLt; omega⟩ : Fin 1024)) := by
  funext z
  rw [h.readAt_unread]
  refine congrArg X (funext fun a => Fin.ext ?_)
  match a with
  | ⟨0, _⟩ => show 256 * i.val + 1 * (z 0).val = 256 * i.val + (z 0).val; omega
  | ⟨1, _⟩ => show 512 * j.val + 1 * (z 1).val = 512 * j.val + (z 1).val; omega

/-- The one word of a scalar operand, loaded. -/
theorem load_word (m : Memref sig .tc .smem S1 .f32) (h : m.IsWhole) (X : Vec F S1 .f32) (i : S1.Idx) :
    View.readAt (Elt F) m.view (Rect.unit (s := S1) ![0] S1.size inb_S1_S1_0).toLoadRect (h.unread X) i = X (ix1 0) := by
  rw [h.readAt_unread]
  refine congrArg X (funext fun a => Fin.ext ?_)
  have h1 : ∀ v : Fin (S1.size a), v.val = 0 := fun v => by
    have := v.isLt
    match a, v, this with
    | ⟨0, _⟩, v, this => exact Nat.lt_one_iff.mp this
  rw [h1, h1]

section
variable (a8 : Memref sig .tc .vmem S768x1024 .f32) (f : a8.view.ty.Contents (Elt F))
    (a2 : Memref sig .tc .vmem S768x2048 .fp8e4m3) (h2 : a2.IsWhole) (bg : Memref sig .tc .vmem S2048x1024 .bf16) (hg : bg.IsWhole) (a6 : Memref sig .tc .vmem S1x1024 .f32) (h6 : a6.IsWhole) (a7 : Memref sig .tc .vmem S768x1024 .bf16) (h7 : a7.IsWhole)
    (a : Vec F S768x2048 .fp8e4m3) (wg : Vec F S2048x1024 .bf16) (s : Elt F .f32) (cg : Vec F S1x1024 .f32) (res : Vec F S768x1024 .bf16)

/-- A square's store writes the block's entries there. -/
theorem sqPiece_apply (i : Fin 3) (j : Fin 2) (x : (sqPiece a2 h2 bg hg a6 h6 a7 h7 a wg s cg res i j).1.shape.Idx) :
    (sqPiece a2 h2 bg hg a6 h6 a7 h7 a wg s cg res i j).2 x = outBlk a wg s cg res ((sqPiece a2 h2 bg hg a6 h6 a7 h7 a wg s cg res i j).1.emb x) := by
  have hx0 : (x 0).val < 256 := (x 0).isLt
  have hx1 : (x 1).val < 512 := (x 1).isLt
  unfold outBlk
  have e0 : (((sqPiece a2 h2 bg hg a6 h6 a7 h7 a wg s cg res i j).1.emb x) 0).val = 256 * i.val + (x 0).val := by
    show 256 * i.val + 1 * (x 0).val = _; omega
  have e1 : (((sqPiece a2 h2 bg hg a6 h6 a7 h7 a wg s cg res i j).1.emb x) 1).val = 512 * j.val + (x 1).val := by
    show 512 * j.val + 1 * (x 1).val = _; omega
  have hi : (⟨(((sqPiece a2 h2 bg hg a6 h6 a7 h7 a wg s cg res i j).1.emb x) 0).val / 256, by rw [e0]; omega⟩ : Fin 3) = i := Fin.ext (by show _ / 256 = _; rw [e0]; omega)
  have hj : (⟨(((sqPiece a2 h2 bg hg a6 h6 a7 h7 a wg s cg res i j).1.emb x) 1).val / 512, by rw [e1]; omega⟩ : Fin 2) = j := Fin.ext (by show _ / 512 = _; rw [e1]; omega)
  rw [hi, hj]
  have hz : x = ix2 (⟨(((sqPiece a2 h2 bg hg a6 h6 a7 h7 a wg s cg res i j).1.emb x) 0).val % 256, by omega⟩ : Fin 256)
      (⟨(((sqPiece a2 h2 bg hg a6 h6 a7 h7 a wg s cg res i j).1.emb x) 1).val % 512, by omega⟩ : Fin 512) := funext fun b => Fin.ext (by
    match b with
    | ⟨0, _⟩ => show (x 0).val = _ % 256; rw [e0]; omega
    | ⟨1, _⟩ => show (x 1).val = _ % 512; rw [e1]; omega)
  refine Eq.trans ?_ (congrArg (square a wg s cg res i j) hz)
  unfold sqPiece square
  show k0_pay2 _ _ _ _ _ x = _
  rw [load_rows, load_cols, load_res, load_row]
  rfl

/-- The six stores leave the block, whatever the buffer held. -/
theorem read_out :
    a8.view.read (Elt F) (a8.view.writes (Elt F) f
      [sqPiece a2 h2 bg hg a6 h6 a7 h7 a wg s cg res 2 1, sqPiece a2 h2 bg hg a6 h6 a7 h7 a wg s cg res 2 0, sqPiece a2 h2 bg hg a6 h6 a7 h7 a wg s cg res 1 1, sqPiece a2 h2 bg hg a6 h6 a7 h7 a wg s cg res 1 0, sqPiece a2 h2 bg hg a6 h6 a7 h7 a wg s cg res 0 1, sqPiece a2 h2 bg hg a6 h6 a7 h7 a wg s cg res 0 0])
      = outBlk a wg s cg res := by
  funext y
  have hy0 : (y 0).val < 768 := (y 0).isLt
  have hy1 : (y 1).val < 1024 := (y 1).isLt
  refine View.read_writes_apply_of_pieces _ _ _ _ ?_ y ?_
  · intro p hp x
    simp only [List.mem_cons, List.not_mem_nil, or_false] at hp
    rcases hp with rfl | rfl | rfl | rfl | rfl | rfl <;> exact sqPiece_apply a2 h2 bg hg a6 h6 a7 h7 a wg s cg res _ _ x
  · have key : ∀ (i : Fin 3) (j : Fin 2), (y 0).val / 256 = i.val → (y 1).val / 512 = j.val →
        y ∈ (sqPiece a2 h2 bg hg a6 h6 a7 h7 a wg s cg res i j).1.set := by
      intro i j hi hj
      refine (Rect.mem_set_unit (inb := sq_inb i j)).mpr ?_
      intro b
      match b with
      | ⟨0, _⟩ => show 256 * i.val ≤ (y 0).val ∧ (y 0).val < 256 * i.val + 256; omega
      | ⟨1, _⟩ => show 512 * j.val ≤ (y 1).val ∧ (y 1).val < 512 * j.val + 512; omega
    have h0 : (y 0).val / 256 = 0 ∨ (y 0).val / 256 = 1 ∨ (y 0).val / 256 = 2 := by omega
    have h1 : (y 1).val / 512 = 0 ∨ (y 1).val / 512 = 1 := by omega
    rcases h0 with h0 | h0 | h0 <;> rcases h1 with h1 | h1
    · exact ⟨_, by simp only [List.mem_cons, true_or, or_true], key 0 0 h0 h1⟩
    · exact ⟨_, by simp only [List.mem_cons, true_or, or_true], key 0 1 h0 h1⟩
    · exact ⟨_, by simp only [List.mem_cons, true_or, or_true], key 1 0 h0 h1⟩
    · exact ⟨_, by simp only [List.mem_cons, true_or, or_true], key 1 1 h0 h1⟩
    · exact ⟨_, by simp only [List.mem_cons, true_or, or_true], key 2 0 h0 h1⟩
    · exact ⟨_, by simp only [List.mem_cons, true_or, or_true], key 2 1 h0 h1⟩
end

end

end Cert.OprojIdeal.Hand

end
-- ==== Proof.OprojIdealDat.lean ====
module

public import proofs.«01_k».proof.Proof.OprojIdealTiles

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2
open Idealize.ShloMosaic.Pipeline (Dat Cfg Window BodyObligation cellOf)

variable {F : FTy → Type} [FloatOps F]

local notation "𝕄" => MT nD τ sig Unit (Elt F) ℕ (UR sig nD τ) ℕ

/-! The pipeline's proof data: what each buffer holds at each point. -/

variable (m : (ℓ : Loc nD τ sig) → Buf (Elt F) ℓ) (ρ : Dev nD → PrngReg)

abbrev ms0_0 (t : Fin cfg0.N) : Memref sig .tc .vmem S768x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1024 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x1024 .f32 := win0_6.stage (cfg0.slots t 6)
abbrev hs0_6 (t : Fin cfg0.N) : (ms0_6 t).IsWhole := hstage0_6 ((cfg0.slots t 6).cast nbuf0_6)
abbrev scM0_0 : Memref sig .tc .vmem S2048x1024 .bf16 := Memref.whole cc0_scratch0
abbrev scM0_1 : Memref sig .tc .vmem S2048x1024 .bf16 := Memref.whole cc0_scratch1
abbrev scM0_2 : Memref sig .tc .vmem S16x1024 .f32 := Memref.whole cc0_scratch2

/-- The block of the result that point `t` stores: the point's rows against the tile's weights. -/
def outAt (c : Dev nD) (t : Fin cfg0.N) : Vec F S768x1024 .f32 :=
  outBlk (iblk m c 0 t) (tile (V m c main_arg2) (V m c main_arg3) (cur t.val)) ((iblk m c 3 t : Vec F S1 .f32) (ix1 0)) (iblk m c 4 t) (iblk m c 5 t)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant between two points: the carried buffers, at contents that `Inv` describes. -/
def Phi (c : Dev nD) (t : ℕ) : sProp 𝕄 :=
  iprop(∃ (xs0 xs1 : Vec F S2048x1024 .bf16) (xs2 : Vec F S16x1024 .f32),
    ⌜Inv (V m c main_arg2) (V m c main_arg3) t xs0 xs1 xs2⌝
    ∗ (owns (c : Thread nD τ) scM0_0 fullShare xs0 ∗ owns (c : Thread nD τ) scM0_1 fullShare xs1 ∗ owns (c : Thread nD τ) scM0_2 fullShare xs2)
    ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by dsimp only [dats]; rfl
theorem Phi_succ (c : Dev nD) (t : Fin cfg0.N) : (dats m 0 c).Φ t.succ = Phi m c (t.val + 1) := by dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]

theorem idle6 : ∀ t : Fin cfg0.N, t.val < 8 → cfg0.idle 6 (grid0.coords t) = true :=
  (by decide +kernel : ∀ t : Fin grid0.N, t.val < 8 → idle0 6 (grid0.coords t) = true)
theorem live6 : ∀ t : Fin cfg0.N, ¬ t.val < 8 → cfg0.idle 6 (grid0.coords t) = false :=
  (by decide +kernel : ∀ t : Fin grid0.N, ¬ t.val < 8 → idle0 6 (grid0.coords t) = false)
theorem flush6 : ∀ t : Fin cfg0.N, t.val < 8 → (cfg0.win 6).flush t = false :=
  (by decide +kernel : ∀ t : Fin grid0.N, t.val < 8 → win0_6.flush t = false)
theorem fetch6 : ∀ t : Fin cfg0.N, (cfg0.win 6).fetch t = false :=
  (by decide +kernel : ∀ t : Fin grid0.N, win0_6.fetch t = false)

theorem leaves0_6 (c : Dev nD) (t : Fin cfg0.N) (h : ¬ t.val < 8) :
    (dats m 0 c).leavesExact 6 t = owns (c : Thread nD τ) (ms0_6 t) fullShare (outAt m c t) := by
  unfold Dat.leavesExact; rw [show cfg0.idle 6 (cfg0.grid.coords t) = false from live6 t h, after0_6]

/-- Until something is stored the result's buffer holds what it was handed with. -/
theorem before0_6 (c : Dev nD) : ∀ (n : ℕ) (hn : n < cfg0.N), n < 8 → ∀ d, (dats m 0 c).before 6 ⟨n, hn⟩ d = d
  | 0, hn, _, d => by
    unfold Dat.before
    rw [fetch6, if_neg Bool.false_ne_true, if_pos rfl]
  | n + 1, hn, h8, d => by
    rw [Dat.before_of_pos (dats m 0 c) 6 ⟨n + 1, hn⟩ (Nat.succ_ne_zero n) (fetch6 _)]
    rw [show (cfg0.win 6).flush ⟨n + 1 - 1, _⟩ = false from flush6 ⟨n, Nat.lt_of_succ_lt hn⟩ (Nat.lt_of_succ_lt h8), if_neg Bool.false_ne_true]
    unfold Dat.left
    rw [show cfg0.idle 6 (cfg0.grid.coords ⟨n + 1 - 1, _⟩) = true from idle6 ⟨n, Nat.lt_of_succ_lt hn⟩ (Nat.lt_of_succ_lt h8)]
    exact before0_6 c n (Nat.lt_of_succ_lt hn) (Nat.lt_of_succ_lt h8) d

theorem leaves0_6_idle (c : Dev nD) (t : Fin cfg0.N) (h : t.val < 8) :
    (dats m 0 c).leavesExact 6 t = iprop(∃ d, owns (c : Thread nD τ) (ms0_6 t) fullShare d) := by
  rw [Dat.leavesExact_idle (dats m 0 c) 6 t (idle6 t h) (flush6 t h)]
  refine congrArg _ (funext fun d => ?_)
  rw [show (dats m 0 c).before 6 t d = d from before0_6 m c t.val t.isLt h d]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem owns_of {sp : Space} {s : Shape} {e : EltTy} (c : Dev nD) (a : Memref sig .tc sp s e) (f : a.view.ty.Contents (Elt F)) {d : Vec F s e}
    (h : a.view.read (Elt F) f = d) :
    (iprop(a.view.loc (c : Thread nD τ) ↦[a.view.set]{fullShare} f) : sProp 𝕄) ⊢ owns (c : Thread nD τ) a fullShare d := by
  subst h
  unfold owns
  iintro H
  iexists _
  isplitr
  · ipureintro; rfl
  iexact H

end Cert.OprojIdeal.Hand

end
-- ==== Proof.OprojIdealFrame.lean ====
module

public import proofs.«01_k».proof.Proof.OprojIdealRun
public import proofs.«01_k».proof.Proof.OprojIdealTiles
public import proofs.«01_k».proof.Proof.OprojIdealDat

/-! What the stores of a point leave in the buffers; that the body keeps the invariant; the run of the kernel. -/

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2
open Idealize.ShloMosaic.Pipeline (Dat Cfg Window BodyObligation cellOf)

variable {F : FTy → Type} [FloatOps F]

local notation "𝕄" => MT nD τ sig Unit (Elt F) ℕ (UR sig nD τ) ℕ

section
section
variable (c : Dev nD) (t : Fin cfg0.N) (arg2 : Memref sig .tc .vmem S768x2048 .fp8e4m3) (harg2 : arg2.IsWhole) (arg3 : Memref sig .tc .vmem S32x1024 .i32) (harg3 : arg3.IsWhole) (arg4 : Memref sig .tc .vmem S16x1024 .fp8e4m3) (harg4 : arg4.IsWhole) (arg5 : Memref sig .tc .smem S1 .f32) (harg5 : arg5.IsWhole) (arg6 : Memref sig .tc .vmem S1x1024 .f32) (harg6 : arg6.IsWhole) (arg7 : Memref sig .tc .vmem S768x1024 .bf16) (harg7 : arg7.IsWhole) (arg8 : Memref sig .tc .vmem S768x1024 .f32) (harg8 : arg8.IsWhole) (arg9 : Memref sig .tc .vmem S2048x1024 .bf16) (harg9 : arg9.IsWhole) (arg10 : Memref sig .tc .vmem S2048x1024 .bf16) (harg10 : arg10.IsWhole) (arg11 : Memref sig .tc .vmem S16x1024 .f32) (harg11 : arg11.IsWhole)

/-! What the stores of a point before the first product (only the second buffer is filled) leave, at a tile not begun. -/

section
variable (hc0 : cond0 (grid0.coords t)) (hc1 : cond1 (grid0.coords t)) (hc2 : ¬cond2 (grid0.coords t)) (hc3 : ¬cond3 (grid0.coords t))
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32)

/-- The scales, copied. -/
theorem runZ0_scales (f : arg11.view.ty.Contents (Elt F)) :
    arg11.view.read (Elt F) (arg11.view.writes (Elt F) f (runZ0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = fun y => FloatOps.extf .f32 bitsLt_fp8e4m3_f32 (x2 y) :=
  read_scales arg11 f arg4 harg4 x2 _ rfl

/-- The strip of weights. -/
theorem runZ0_strip :
    arg10.view.read (Elt F) (arg10.view.writes (Elt F) (harg10.unread xs1) (runZ0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = strip (t.val % 8) (Nat.mod_lt _ (by decide)) x1 (fun y => FloatOps.extf .f32 bitsLt_fp8e4m3_f32 (x2 y)) xs1 :=
  read_strip arg10 harg10 xs1 (t.val % 8) (Nat.mod_lt _ (by decide)) arg3 harg3 x1
    (fun j => View.readAt (Elt F) arg11.view (Rect.unit (s := S16x1024) (k0_off1 (grid0.coords t) (BitVec.ofNat 32 j.val)) S1x1024.size
      (scale_inb (off1 t j))).toLoadRect (arg11.view.writes (Elt F) arg11.view.junk (runZ0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)) (fun y => FloatOps.extf .f32 bitsLt_fp8e4m3_f32 (x2 y))
    (fun j l => readAt_scales arg11 _ (fun y => FloatOps.extf .f32 bitsLt_fp8e4m3_f32 (x2 y)) (read_scales arg11 _ arg4 harg4 x2 _ rfl) (2 * (t.val % 8) + j.val) (by omega) _ (off1 t j) _ l)
    (fun j => k0_off2 (grid0.coords t) (BitVec.ofNat 32 (128 * j.val))) (off2 t) (fun j => strip_inb (off2 t j)) words_inb

end

/-! What the stores of a point before the first product (only the second buffer is filled) leave, within a tile. -/

section
variable (hc0 : ¬cond0 (grid0.coords t)) (hc1 : cond1 (grid0.coords t)) (hc2 : ¬cond2 (grid0.coords t)) (hc3 : ¬cond3 (grid0.coords t))
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32)

/-- The strip of weights. -/
theorem runZ1_strip :
    arg10.view.read (Elt F) (arg10.view.writes (Elt F) (harg10.unread xs1) (runZ1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = strip (t.val % 8) (Nat.mod_lt _ (by decide)) x1 xs2 xs1 :=
  read_strip arg10 harg10 xs1 (t.val % 8) (Nat.mod_lt _ (by decide)) arg3 harg3 x1
    (fun j => View.readAt (Elt F) arg11.view (Rect.unit (s := S16x1024) (k0_off1 (grid0.coords t) (BitVec.ofNat 32 j.val)) S1x1024.size
      (scale_inb (off1 t j))).toLoadRect (harg11.unread xs2)) xs2
    (fun j l => readAt_scales arg11 _ xs2 (harg11.read_unread _) (2 * (t.val % 8) + j.val) (by omega) _ (off1 t j) _ l)
    (fun j => k0_off2 (grid0.coords t) (BitVec.ofNat 32 (128 * j.val))) (off2 t) (fun j => strip_inb (off2 t j)) words_inb

end

/-! What the stores of a point at an odd step (the second buffer is multiplied, the first filled) leave, at a tile not begun. -/

section
variable (hc0 : cond0 (grid0.coords t)) (hc1 : ¬cond1 (grid0.coords t)) (hc2 : cond2 (grid0.coords t)) (hc3 : ¬cond3 (grid0.coords t))
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32)

/-- The scales, copied. -/
theorem runO0_scales (f : arg11.view.ty.Contents (Elt F)) :
    arg11.view.read (Elt F) (arg11.view.writes (Elt F) f (runO0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.2.1)
      = fun y => FloatOps.extf .f32 bitsLt_fp8e4m3_f32 (x2 y) :=
  read_scales arg11 f arg4 harg4 x2 _ rfl

/-- The strip of weights. -/
theorem runO0_strip :
    arg9.view.read (Elt F) (arg9.view.writes (Elt F) (harg9.unread xs0) (runO0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = strip (t.val % 8) (Nat.mod_lt _ (by decide)) x1 (fun y => FloatOps.extf .f32 bitsLt_fp8e4m3_f32 (x2 y)) xs0 :=
  read_strip arg9 harg9 xs0 (t.val % 8) (Nat.mod_lt _ (by decide)) arg3 harg3 x1
    (fun j => View.readAt (Elt F) arg11.view (Rect.unit (s := S16x1024) (k0_off3 (grid0.coords t) (BitVec.ofNat 32 j.val)) S1x1024.size
      (scale_inb (off3 t j))).toLoadRect (arg11.view.writes (Elt F) arg11.view.junk (runO0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.2.1)) (fun y => FloatOps.extf .f32 bitsLt_fp8e4m3_f32 (x2 y))
    (fun j l => readAt_scales arg11 _ (fun y => FloatOps.extf .f32 bitsLt_fp8e4m3_f32 (x2 y)) (read_scales arg11 _ arg4 harg4 x2 _ rfl) (2 * (t.val % 8) + j.val) (by omega) _ (off3 t j) _ l)
    (fun j => k0_off4 (grid0.coords t) (BitVec.ofNat 32 (128 * j.val))) (off4 t) (fun j => strip_inb (off4 t j)) words_inb

/-- The block of the result. -/
theorem runO0_out (f : arg8.view.ty.Contents (Elt F)) :
    arg8.view.read (Elt F) (arg8.view.writes (Elt F) f (runO0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = outBlk x0 xs1 (x3 (ix1 0)) x4 x5 :=
  (read_out arg8 f arg2 harg2 arg10 harg10 arg6 harg6 arg7 harg7 x0 xs1
    (View.readAt (Elt F) arg5.view (Rect.unit (s := S1) ![0] S1.size inb_S1_S1_0).toLoadRect (harg5.unread x3) (Shape.Idx.first (show 0 < S1.numel by decide))) x4 x5).trans
    (by rw [load_word])

end

/-! What the stores of a point at an odd step (the second buffer is multiplied, the first filled) leave, within a tile. -/

section
variable (hc0 : ¬cond0 (grid0.coords t)) (hc1 : ¬cond1 (grid0.coords t)) (hc2 : cond2 (grid0.coords t)) (hc3 : ¬cond3 (grid0.coords t))
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32)

/-- The strip of weights. -/
theorem runO1_strip :
    arg9.view.read (Elt F) (arg9.view.writes (Elt F) (harg9.unread xs0) (runO1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = strip (t.val % 8) (Nat.mod_lt _ (by decide)) x1 xs2 xs0 :=
  read_strip arg9 harg9 xs0 (t.val % 8) (Nat.mod_lt _ (by decide)) arg3 harg3 x1
    (fun j => View.readAt (Elt F) arg11.view (Rect.unit (s := S16x1024) (k0_off3 (grid0.coords t) (BitVec.ofNat 32 j.val)) S1x1024.size
      (scale_inb (off3 t j))).toLoadRect (harg11.unread xs2)) xs2
    (fun j l => readAt_scales arg11 _ xs2 (harg11.read_unread _) (2 * (t.val % 8) + j.val) (by omega) _ (off3 t j) _ l)
    (fun j => k0_off4 (grid0.coords t) (BitVec.ofNat 32 (128 * j.val))) (off4 t) (fun j => strip_inb (off4 t j)) words_inb

/-- The block of the result. -/
theorem runO1_out (f : arg8.view.ty.Contents (Elt F)) :
    arg8.view.read (Elt F) (arg8.view.writes (Elt F) f (runO1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = outBlk x0 xs1 (x3 (ix1 0)) x4 x5 :=
  (read_out arg8 f arg2 harg2 arg10 harg10 arg6 harg6 arg7 harg7 x0 xs1
    (View.readAt (Elt F) arg5.view (Rect.unit (s := S1) ![0] S1.size inb_S1_S1_0).toLoadRect (harg5.unread x3) (Shape.Idx.first (show 0 < S1.numel by decide))) x4 x5).trans
    (by rw [load_word])

end

/-! What the stores of a point at an even step (the first buffer is multiplied, the second filled) leave, at a tile not begun. -/

section
variable (hc0 : cond0 (grid0.coords t)) (hc1 : ¬cond1 (grid0.coords t)) (hc2 : ¬cond2 (grid0.coords t)) (hc3 : cond3 (grid0.coords t))
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32)

/-- The scales, copied. -/
theorem runE0_scales (f : arg11.view.ty.Contents (Elt F)) :
    arg11.view.read (Elt F) (arg11.view.writes (Elt F) f (runE0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.2.1)
      = fun y => FloatOps.extf .f32 bitsLt_fp8e4m3_f32 (x2 y) :=
  read_scales arg11 f arg4 harg4 x2 _ rfl

/-- The strip of weights. -/
theorem runE0_strip :
    arg10.view.read (Elt F) (arg10.view.writes (Elt F) (harg10.unread xs1) (runE0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = strip (t.val % 8) (Nat.mod_lt _ (by decide)) x1 (fun y => FloatOps.extf .f32 bitsLt_fp8e4m3_f32 (x2 y)) xs1 :=
  read_strip arg10 harg10 xs1 (t.val % 8) (Nat.mod_lt _ (by decide)) arg3 harg3 x1
    (fun j => View.readAt (Elt F) arg11.view (Rect.unit (s := S16x1024) (k0_off5 (grid0.coords t) (BitVec.ofNat 32 j.val)) S1x1024.size
      (scale_inb (off5 t j))).toLoadRect (arg11.view.writes (Elt F) arg11.view.junk (runE0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.2.1)) (fun y => FloatOps.extf .f32 bitsLt_fp8e4m3_f32 (x2 y))
    (fun j l => readAt_scales arg11 _ (fun y => FloatOps.extf .f32 bitsLt_fp8e4m3_f32 (x2 y)) (read_scales arg11 _ arg4 harg4 x2 _ rfl) (2 * (t.val % 8) + j.val) (by omega) _ (off5 t j) _ l)
    (fun j => k0_off6 (grid0.coords t) (BitVec.ofNat 32 (128 * j.val))) (off6 t) (fun j => strip_inb (off6 t j)) words_inb

/-- The block of the result. -/
theorem runE0_out (f : arg8.view.ty.Contents (Elt F)) :
    arg8.view.read (Elt F) (arg8.view.writes (Elt F) f (runE0 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = outBlk x0 xs0 (x3 (ix1 0)) x4 x5 :=
  (read_out arg8 f arg2 harg2 arg9 harg9 arg6 harg6 arg7 harg7 x0 xs0
    (View.readAt (Elt F) arg5.view (Rect.unit (s := S1) ![0] S1.size inb_S1_S1_0).toLoadRect (harg5.unread x3) (Shape.Idx.first (show 0 < S1.numel by decide))) x4 x5).trans
    (by rw [load_word])

end

/-! What the stores of a point at an even step (the first buffer is multiplied, the second filled) leave, within a tile. -/

section
variable (hc0 : ¬cond0 (grid0.coords t)) (hc1 : ¬cond1 (grid0.coords t)) (hc2 : ¬cond2 (grid0.coords t)) (hc3 : cond3 (grid0.coords t))
    (x0 : Vec F S768x2048 .fp8e4m3) (x1 : Vec F S32x1024 .i32) (x2 : Vec F S16x1024 .fp8e4m3) (x3 : Vec F S1 .f32) (x4 : Vec F S1x1024 .f32) (x5 : Vec F S768x1024 .bf16)
    (xs0 : Vec F S2048x1024 .bf16) (xs1 : Vec F S2048x1024 .bf16) (xs2 : Vec F S16x1024 .f32)

/-- The strip of weights. -/
theorem runE1_strip :
    arg10.view.read (Elt F) (arg10.view.writes (Elt F) (harg10.unread xs1) (runE1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).2.1)
      = strip (t.val % 8) (Nat.mod_lt _ (by decide)) x1 xs2 xs1 :=
  read_strip arg10 harg10 xs1 (t.val % 8) (Nat.mod_lt _ (by decide)) arg3 harg3 x1
    (fun j => View.readAt (Elt F) arg11.view (Rect.unit (s := S16x1024) (k0_off5 (grid0.coords t) (BitVec.ofNat 32 j.val)) S1x1024.size
      (scale_inb (off5 t j))).toLoadRect (harg11.unread xs2)) xs2
    (fun j l => readAt_scales arg11 _ xs2 (harg11.read_unread _) (2 * (t.val % 8) + j.val) (by omega) _ (off5 t j) _ l)
    (fun j => k0_off6 (grid0.coords t) (BitVec.ofNat 32 (128 * j.val))) (off6 t) (fun j => strip_inb (off6 t j)) words_inb

/-- The block of the result. -/
theorem runE1_out (f : arg8.view.ty.Contents (Elt F)) :
    arg8.view.read (Elt F) (arg8.view.writes (Elt F) f (runE1 c (grid0.coords t) arg2 harg2 arg3 harg3 arg4 harg4 arg5 harg5 arg6 harg6 arg7 harg7 arg8 harg8 arg9 harg9 arg10 harg10 arg11 harg11 hc0 hc1 hc2 hc3 x0 x1 x2 x3 x4 x5 xs0 xs1 xs2).1)
      = outBlk x0 xs0 (x3 (ix1 0)) x4 x5 :=
  (read_out arg8 f arg2 harg2 arg9 harg9 arg6 harg6 arg7 harg7 x0 xs0
    (View.readAt (Elt F) arg5.view (Rect.unit (s := S1) ![0] S1.size inb_S1_S1_0).toLoadRect (harg5.unread x3) (Shape.Idx.first (show 0 < S1.numel by decide))) x4 x5).trans
    (by rw [load_word])

end

end

end

/-! The body keeps the invariant at every point. -/

section
/-- A fact about any buffers, at the buffers of a point. -/
theorem atPoint (t : Fin cfg0.N) {P : ∀ (arg2 : Memref sig .tc .vmem S768x2048 .fp8e4m3) (harg2 : arg2.IsWhole) (arg3 : Memref sig .tc .vmem S32x1024 .i32) (harg3 : arg3.IsWhole) (arg4 : Memref sig .tc .vmem S16x1024 .fp8e4m3) (harg4 : arg4.IsWhole) (arg5 : Memref sig .tc .smem S1 .f32) (harg5 : arg5.IsWhole) (arg6 : Memref sig .tc .vmem S1x1024 .f32) (harg6 : arg6.IsWhole) (arg7 : Memref sig .tc .vmem S768x1024 .bf16) (harg7 : arg7.IsWhole) (arg8 : Memref sig .tc .vmem S768x1024 .f32) (harg8 : arg8.IsWhole) (arg9 : Memref sig .tc .vmem S2048x1024 .bf16) (harg9 : arg9.IsWhole) (arg10 : Memref sig .tc .vmem S2048x1024 .bf16) (harg10 : arg10.IsWhole) (arg11 : Memref sig .tc .vmem S16x1024 .f32) (harg11 : arg11.IsWhole), Prop}
    (f : ∀ arg2 harg2 arg3 harg3 arg4 harg4 arg5 harg5 arg6 harg6 arg7 harg7 arg8 harg8 arg9 harg9 arg10 harg10 arg11 harg11, P arg2 harg2 arg3 harg3 arg4 harg4 arg5 harg5 arg6 harg6 arg7 harg7 arg8 harg8 arg9 harg9 arg10 harg10 arg11 harg11) :
    P (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) :=
  f _ _ _ _ _ _ _ _ _ _ _ _ _ _ _ _ _ _ _ _

variable (m : (ℓ : Loc nD τ sig) → Buf (Elt F) ℓ)

/-- From the invariant before point `t` the body comes to the invariant after it. -/
abbrev Keeps (c : Dev nD) (t : Fin cfg0.N) : Prop :=
  bodyPre m c t ⊢ wp frame (wpE (defs₀ (F := F)) Variants.none c none) Set.univ (bodyAt0 t) (fun _ => bodyPost m c t)

theorem owes_succ (c : Dev nD) (t : Fin cfg0.N) : (dats m 0 c).owesAt () t.succ = (dats m 0 c).owesAt () t.castSucc := rfl

/-! The body before the first product (only the second buffer is filled), at a tile not begun: the invariant is kept. -/

set_option maxHeartbeats 4000000 in
theorem bodyZ0 (c : Dev nD) (t : Fin cfg0.N) (h0 : t.val % 8 = 0) (h8 : t.val < 8) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6_idle m c t h8]
  have hc0 := (hcond0 t).mpr h0
  have hc1 := (hcond1 t).mpr (by omega)
  have hc2 := mt (hcond2 t).mp (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runZ0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2 Set.univ _)
  iframe H0 H1 H2 H3 H4 H5
  isplitl [H6]; · iexists _; iexact H6
  iframe HS0 HS1 HS2
  iintro ⟨H0, H1, H2, H3, H4, H5, H6, HS0, HS1, ⟨%g2, HS2⟩⟩
  have hN := inv_even _ _ (show t.val / 8 % 2 = 0 by omega) hI (iblk m c 1 t) (iblk1 m c t)
  have e0 := atPoint t (runZ0_strip c t) hc0 hc1 hc2 hc3 (iblk m c 0 t) (iblk m c 1 t) (iblk m c 2 t) (iblk m c 3 t) (iblk m c 4 t) (iblk m c 5 t) xs0 xs1 xs2
  have e2 := (atPoint t (runZ0_scales c t) hc0 hc1 hc2 hc3 (iblk m c 0 t) (iblk m c 1 t) (iblk m c 2 t) (iblk m c 3 t) (iblk m c 4 t) (iblk m c 5 t) xs0 xs1 xs2 g2).trans (iblk2 m c t)
  have e0 := e0.trans (congrArg (fun q : Vec F S16x1024 .f32 => strip (t.val % 8) (Nat.mod_lt _ (by decide)) (iblk m c 1 t : Vec F S32x1024 .i32) q xs1) (iblk2 m c t))
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iapply (owns_of c scM0_2 _ e2); iexact HS2
    iexact Hg
  iframe Ho H0 H1 H2 H3 H4 H5
  iexact H6

/-! The body before the first product (only the second buffer is filled), within a tile: the invariant is kept. -/

set_option maxHeartbeats 4000000 in
theorem bodyZ1 (c : Dev nD) (t : Fin cfg0.N) (h0 : ¬t.val % 8 = 0) (h8 : t.val < 8) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6_idle m c t h8]
  have hc0 := mt (hcond0 t).mp h0
  have hc1 := (hcond1 t).mpr (by omega)
  have hc2 := mt (hcond2 t).mp (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runZ1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2 Set.univ _)
  iframe H0 H1 H2 H3 H4 H5
  isplitl [H6]; · iexists _; iexact H6
  iframe HS0 HS1 HS2
  iintro ⟨H0, H1, H2, H3, H4, H5, H6, HS0, HS1, HS2⟩
  have hN := inv_even _ _ (show t.val / 8 % 2 = 0 by omega) hI (iblk m c 1 t) (iblk1 m c t)
  have e0 := atPoint t (runZ1_strip c t) hc0 hc1 hc2 hc3 (iblk m c 0 t) (iblk m c 1 t) (iblk m c 2 t) (iblk m c 3 t) (iblk m c 4 t) (iblk m c 5 t) xs0 xs1 xs2
  have r2 := hI.2.2 h0
  subst r2
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iexact HS2
    iexact Hg
  iframe Ho H0 H1 H2 H3 H4 H5
  iexact H6

/-! The body at an odd step (the second buffer is multiplied, the first filled), at a tile not begun: the invariant is kept. -/

set_option maxHeartbeats 4000000 in
theorem bodyO0 (c : Dev nD) (t : Fin cfg0.N) (h0 : t.val % 8 = 0) (h8 : ¬ t.val < 8) (h2 : t.val / 8 % 2 = 1) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6 m c t h8]
  have hc0 := (hcond0 t).mpr h0
  have hc1 := mt (hcond1 t).mp (by omega)
  have hc2 := (hcond2 t).mpr (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runO0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2.2 Set.univ _)
  iframe H0 H1 H2 H3 H4 H5
  isplitl [H6]; · iexists _; iexact H6
  iframe HS0 HS1 HS2
  iintro ⟨H0, H1, H2, H3, H4, H5, ⟨%fo, H6⟩, HS0, HS1, ⟨%g2, HS2⟩⟩
  have hN := inv_odd _ _ h2 hI (iblk m c 1 t) (iblk1 m c t)
  have e0 := atPoint t (runO0_strip c t) hc0 hc1 hc2 hc3 (iblk m c 0 t) (iblk m c 1 t) (iblk m c 2 t) (iblk m c 3 t) (iblk m c 4 t) (iblk m c 5 t) xs0 xs1 xs2
  have e2 := (atPoint t (runO0_scales c t) hc0 hc1 hc2 hc3 (iblk m c 0 t) (iblk m c 1 t) (iblk m c 2 t) (iblk m c 3 t) (iblk m c 4 t) (iblk m c 5 t) xs0 xs1 xs2 g2).trans (iblk2 m c t)
  have e0 := e0.trans (congrArg (fun q : Vec F S16x1024 .f32 => strip (t.val % 8) (Nat.mod_lt _ (by decide)) (iblk m c 1 t : Vec F S32x1024 .i32) q xs0) (iblk2 m c t))
  have w0 := (hI.1 h2).2
  have eo := atPoint t (runO0_out c t) hc0 hc1 hc2 hc3 (iblk m c 0 t) (iblk m c 1 t) (iblk m c 2 t) (iblk m c 3 t) (iblk m c 4 t) (iblk m c 5 t) xs0 xs1 xs2 fo
  subst w0
  isplitl [HS0 HS1 HS2 Hg]
  · iexists _, _, _
    isplitr; · ipureintro; exact hN
    isplitr [Hg]
    · isplitl [HS0]; · iapply (owns_of c scM0_0 _ e0); iexact HS0
      isplitl [HS1]; · iexact HS1
      iapply (owns_of c scM0_2 _ e2); iexact HS2
    iexact Hg
  iframe Ho H0 H1 H2 H3 H4 H5
  unfold outAt
  iapply (owns_of c (ms0_6 t) _ eo); iexact H6

/-! The body at an odd step (the second buffer is multiplied, the first filled), within a tile: the invariant is kept. -/

set_option maxHeartbeats 4000000 in
theorem bodyO1 (c : Dev nD) (t : Fin cfg0.N) (h0 : ¬t.val % 8 = 0) (h8 : ¬ t.val < 8) (h2 : t.val / 8 % 2 = 1) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6 m c t h8]
  have hc0 := mt (hcond0 t).mp h0
  have hc1 := mt (hcond1 t).mp (by omega)
  have hc2 := (hcond2 t).mpr (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runO1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2 Set.univ _)
  iframe H0 H1 H2 H3 H4 H5
  isplitl [H6]; · iexists _; iexact H6
  iframe HS0 HS1 HS2
  iintro ⟨H0, H1, H2, H3, H4, H5, ⟨%fo, H6⟩, HS0, HS1, HS2⟩
  have hN := inv_odd _ _ h2 hI (iblk m c 1 t) (iblk1 m c t)
  have e0 := atPoint t (runO1_strip c t) hc0 hc1 hc2 hc3 (iblk m c 0 t) (iblk m c 1 t) (iblk m c 2 t) (iblk m c 3 t) (iblk m c 4 t) (iblk m c 5 t) xs0 xs1 xs2
  have w0 := (hI.1 h2).2
  have eo := atPoint t (runO1_out c t) hc0 hc1 hc2 hc3 (iblk m c 0 t) (iblk m c 1 t) (iblk m c 2 t) (iblk m c 3 t) (iblk m c 4 t) (iblk m c 5 t) xs0 xs1 xs2 fo
  subst w0
  have r2 := hI.2.2 h0
  subst r2
  isplitl [HS0 HS1 HS2 Hg]
  · iexists _, _, _
    isplitr; · ipureintro; exact hN
    isplitr [Hg]
    · isplitl [HS0]; · iapply (owns_of c scM0_0 _ e0); iexact HS0
      isplitl [HS1]; · iexact HS1
      iexact HS2
    iexact Hg
  iframe Ho H0 H1 H2 H3 H4 H5
  unfold outAt
  iapply (owns_of c (ms0_6 t) _ eo); iexact H6

/-! The body at an even step (the first buffer is multiplied, the second filled), at a tile not begun: the invariant is kept. -/

set_option maxHeartbeats 4000000 in
theorem bodyE0 (c : Dev nD) (t : Fin cfg0.N) (h0 : t.val % 8 = 0) (h8 : ¬ t.val < 8) (h2 : t.val / 8 % 2 = 0) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6 m c t h8]
  have hc0 := (hcond0 t).mpr h0
  have hc1 := mt (hcond1 t).mp (by omega)
  have hc2 := mt (hcond2 t).mp (by omega)
  have hc3 := (hcond3 t).mpr (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runE0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2.2 Set.univ _)
  iframe H0 H1 H2 H3 H4 H5
  isplitl [H6]; · iexists _; iexact H6
  iframe HS0 HS1 HS2
  iintro ⟨H0, H1, H2, H3, H4, H5, ⟨%fo, H6⟩, HS0, HS1, ⟨%g2, HS2⟩⟩
  have hN := inv_even _ _ h2 hI (iblk m c 1 t) (iblk1 m c t)
  have e0 := atPoint t (runE0_strip c t) hc0 hc1 hc2 hc3 (iblk m c 0 t) (iblk m c 1 t) (iblk m c 2 t) (iblk m c 3 t) (iblk m c 4 t) (iblk m c 5 t) xs0 xs1 xs2
  have e2 := (atPoint t (runE0_scales c t) hc0 hc1 hc2 hc3 (iblk m c 0 t) (iblk m c 1 t) (iblk m c 2 t) (iblk m c 3 t) (iblk m c 4 t) (iblk m c 5 t) xs0 xs1 xs2 g2).trans (iblk2 m c t)
  have e0 := e0.trans (congrArg (fun q : Vec F S16x1024 .f32 => strip (t.val % 8) (Nat.mod_lt _ (by decide)) (iblk m c 1 t : Vec F S32x1024 .i32) q xs1) (iblk2 m c t))
  have w0 := (hI.2.1 h2).2 (by omega)
  have eo := atPoint t (runE0_out c t) hc0 hc1 hc2 hc3 (iblk m c 0 t) (iblk m c 1 t) (iblk m c 2 t) (iblk m c 3 t) (iblk m c 4 t) (iblk m c 5 t) xs0 xs1 xs2 fo
  subst w0
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iapply (owns_of c scM0_2 _ e2); iexact HS2
    iexact Hg
  iframe Ho H0 H1 H2 H3 H4 H5
  unfold outAt
  iapply (owns_of c (ms0_6 t) _ eo); iexact H6

/-! The body at an even step (the first buffer is multiplied, the second filled), within a tile: the invariant is kept. -/

set_option maxHeartbeats 4000000 in
theorem bodyE1 (c : Dev nD) (t : Fin cfg0.N) (h0 : ¬t.val % 8 = 0) (h8 : ¬ t.val < 8) (h2 : t.val / 8 % 2 = 0) : Keeps m c t := by
  unfold Keeps bodyPre bodyPost bodyAt0
  simp only [before0_0, before0_1, before0_2, before0_3, before0_4, before0_5]
  rw [owes_succ, Phi_castSucc, Phi_succ,
    leaves0_0, leaves0_1, leaves0_2, leaves0_3, leaves0_4, leaves0_5, leaves0_6 m c t h8]
  have hc0 := mt (hcond0 t).mp h0
  have hc1 := mt (hcond1 t).mp (by omega)
  have hc2 := mt (hcond2 t).mp (by omega)
  have hc3 := (hcond3 t).mpr (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((runE1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _)
      hc0 hc1 hc2 hc3 (iblk m c 0 t) (iblk m c 1 t) (iblk m c 2 t) (iblk m c 3 t) (iblk m c 4 t) (iblk m c 5 t) xs0 xs1 xs2).2.2 Set.univ _)
  iframe H0 H1 H2 H3 H4 H5
  isplitl [H6]; · iexists _; iexact H6
  iframe HS0 HS1 HS2
  iintro ⟨H0, H1, H2, H3, H4, H5, ⟨%fo, H6⟩, HS0, HS1, HS2⟩
  have hN := inv_even _ _ h2 hI (iblk m c 1 t) (iblk1 m c t)
  have e0 := atPoint t (runE1_strip c t) hc0 hc1 hc2 hc3 (iblk m c 0 t) (iblk m c 1 t) (iblk m c 2 t) (iblk m c 3 t) (iblk m c 4 t) (iblk m c 5 t) xs0 xs1 xs2
  have w0 := (hI.2.1 h2).2 (by omega)
  have eo := atPoint t (runE1_out c t) hc0 hc1 hc2 hc3 (iblk m c 0 t) (iblk m c 1 t) (iblk m c 2 t) (iblk m c 3 t) (iblk m c 4 t) (iblk m c 5 t) xs0 xs1 xs2 fo
  subst w0
  have r2 := hI.2.2 h0
  subst r2
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iexact HS2
    iexact Hg
  iframe Ho H0 H1 H2 H3 H4 H5
  unfold outAt
  iapply (owns_of c (ms0_6 t) _ eo); iexact H6

end

section
/-! The kernel's run: every execution ends, with every array as the proof data says. -/

variable (m : (ℓ : Loc nD τ sig) → Buf (Elt F) ℓ) (ρ : Dev nD → PrngReg)

/-- The body at any point. -/
theorem sound_body (c : Dev nD) (t : Fin cfg0.N) : Keeps m c t := by
  by_cases h0 : t.val % 8 = 0
  · by_cases h8 : t.val < 8
    · exact bodyZ0 m c t h0 h8
    · by_cases h2 : t.val / 8 % 2 = 1
      · exact bodyO0 m c t h0 h8 h2
      · exact bodyE0 m c t h0 h8 (by omega)
  · by_cases h8 : t.val < 8
    · exact bodyZ1 m c t h0 h8
    · by_cases h2 : t.val / 8 % 2 = 1
      · exact bodyO1 m c t h0 h8 h2
      · exact bodyE1 m c t h0 h8 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA0_eq]
  unfold Phi
  iintro ⟨⟨⟨%xs0, HS0⟩, ⟨%xs1, HS1⟩, ⟨%xs2, HS2⟩⟩, Hg⟩
  iexists xs0, xs1, xs2
  isplitr; · ipureintro; exact inv_zero xs0 xs1 xs2
  isplitr [Hg]
  · isplitl [HS0]; · iexact HS0
    isplitl [HS1]; · iexact HS1
    iexact HS2
  iexact Hg

/-- After the last point the carried contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA0_eq]
  unfold Phi
  iintro ⟨%xs0, %xs1, %xs2, -, ⟨HS0, HS1, HS2⟩, Hg⟩
  isplitr [Hg]
  · isplitl [HS0]; · iexists _; iexact HS0
    isplitl [HS1]; · iexists _; iexact HS1
    iexists _; iexact HS2
  iexact Hg

set_option backward.isDefEq.respectTransparency.types false in
/-- The run, the counters at zero at its end. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end

end Cert.OprojIdeal.Hand

end
-- ==== Proof.OprojFrame.lean ====
module

public import proofs.«01_k».proof.Proof.Gen.Oproj
public import proofs.«01_k».proof.Proof.OprojIdealFrame

/-! The kernel as printed is, at any float values, the text its ideal reading is; so its frame is the same frame. -/

@[expose] public section

set_option maxRecDepth 16384

noncomputable section

namespace Cert.Oproj.Hand

open Cert.Oproj Cert.Oproj.Gen
open Idealize.ShloMosaic Idealize.ShloMosaic.TcCoe Idealize.SL.Sem

variable {F : FTy → Type} [FloatOps F]

/-- The two kernel functions are one. -/
theorem body_eq : @cc0_o_proj F _ _ = @Cert.OprojIdeal.cc0_o_proj F _ _ := rfl

set_option maxHeartbeats 1000000 in
/-- The two body tables are one. -/
theorem defs_eq : @defs F _ _ = @Cert.OprojIdeal.defs F _ _ := by
  refine congrArg (Pipeline.defs pcfgs) (congrArg Defs.onTc (funext fun l => funext fun a => ?_))
  match l, a with
  | 0, (t, s) => rfl

/-- Every execution ends, the argument arrays unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq]
  exact Cert.OprojIdeal.Hand.frame m ρ

end Cert.Oproj.Hand

end
-- ==== Proof.OprojIdealValue.lean ====
module

public import proofs.«01_k».proof.Proof.OprojIdealFrame
public import proofs.«01_k».proof.Proof.Resid

/-! What the kernel computes, entry by entry. -/

@[expose] public section

set_option maxRecDepth 16384

noncomputable section

namespace Cert.OprojIdeal.Hand

open Cert.OprojIdeal Cert.OprojIdeal.Gen Cert.W4
open Idealize.ShloMosaic Idealize.ShloMosaic.TcCoe Idealize.ShloMosaic.Tactic Idealize.SL.Sem
open Idealize.ShloMosaic.ValueIdx hiding ix1 ix2
open Idealize.ShloMosaic.Pipeline (Dat)

/-- An entry of a square: the residual, and a sum over the rows of the weights, scaled. -/
theorem square_apply (a : Vec Ideal S768x2048 .fp8e4m3) (wg : Vec Ideal S2048x1024 .bf16) (s : Elt Ideal .f32) (cg : Vec Ideal S1x1024 .f32) (h : Vec Ideal S768x1024 .bf16)
    (i : Fin 3) (j : Fin 2) (p : Fin 256) (q : Fin 512) :
    square a wg s cg h i j (ix2 p q)
      = (h (ix2 (⟨256 * i.val + p.val, by omega⟩ : Fin 768) (⟨512 * j.val + q.val, by omega⟩ : Fin 1024)) : EReal)
        + (∑ k : Fin 2048, (a (ix2 (⟨256 * i.val + p.val, by omega⟩ : Fin 768) k) : EReal) * (wg (ix2 k (⟨512 * j.val + q.val, by omega⟩ : Fin 1024)) : EReal))
          * ((s : EReal) * (cg (ix2 (0 : Fin 1) (⟨512 * j.val + q.val, by omega⟩ : Fin 1024)) : EReal)) := by
  unfold square
  pointwise [k0_pay2]

/-- An entry of a point's block. -/
theorem outBlk_apply (a : Vec Ideal S768x2048 .fp8e4m3) (wg : Vec Ideal S2048x1024 .bf16) (s : Elt Ideal .f32) (cg : Vec Ideal S1x1024 .f32) (h : Vec Ideal S768x1024 .bf16)
    (p : Fin 768) (q : Fin 1024) :
    outBlk a wg s cg h (ix2 p q)
      = (h (ix2 p q) : EReal) + (∑ k : Fin 2048, (a (ix2 p k) : EReal) * (wg (ix2 k q) : EReal)) * ((s : EReal) * (cg (ix2 (0 : Fin 1) q) : EReal)) := by
  have e1 : (⟨256 * (p.val / 256) + p.val % 256, by omega⟩ : Fin 768) = p := Fin.ext (by show 256 * (p.val / 256) + p.val % 256 = p.val; omega)
  have e2 : (⟨512 * (q.val / 512) + q.val % 512, by omega⟩ : Fin 1024) = q := Fin.ext (by show 512 * (q.val / 512) + q.val % 512 = q.val; omega)
  refine (square_apply a wg s cg h ⟨p.val / 256, by omega⟩ ⟨q.val / 512, by omega⟩ ⟨p.val % 256, by omega⟩ ⟨q.val % 512, by omega⟩).trans ?_
  simp only [e1, e2]

/-- A tile's weight is the array's. -/
theorem tile_apply (W : Vec Ideal S256x8192 .i32) (S : Vec Ideal S16x8192 .fp8e4m3) (n : Fin 8) (k : Fin 2048) (q : Fin 1024) :
    (tile W S n (ix2 k q) : EReal)
      = wgt (by decide : 2048 = 8 * 256) (by decide : 2048 = 128 * 16) (fun x n => W (ix2 x n)) (fun x n => S (ix2 x n)) k (col n q) := rfl

variable (m : (ℓ : Loc nD τ sig) → Buf (Elt Ideal) ℓ) (ρ : Dev nD → PrngReg)

/-- The hidden rows as a function of the arguments. -/
def G (c : Dev nD) : Vec Ideal S6144x8192 .f32 := fun y =>
  resid (by decide : 2048 = 8 * 256) (by decide : 2048 = 128 * 16) (fun r k => (m ((c : Thread nD τ).loc main_arg0) : Vec Ideal S6144x2048 .fp8e4m3) (ix2 r k))
    ((m ((c : Thread nD τ).loc main_arg1) : Vec Ideal S1 .f32) (ix1 0))
    (fun x n => (m ((c : Thread nD τ).loc main_arg2) : Vec Ideal S256x8192 .i32) (ix2 x n))
    (fun x n => (m ((c : Thread nD τ).loc main_arg3) : Vec Ideal S16x8192 .fp8e4m3) (ix2 x n))
    (fun n => (m ((c : Thread nD τ).loc main_arg4) : Vec Ideal S8192 .f32) (ix1 n))
    (fun r n => (m ((c : Thread nD τ).loc main_arg5) : Vec Ideal S6144x8192 .bf16) (ix2 r n)) (y 0) (y 1)

theorem lt72 (t : Fin cfg0.N) : t.val < 72 := t.isLt

theorem rd0 (c : Dev nD) (t : Fin cfg0.N) (h : ¬ t.val < 8) (p : Fin 768) (k : Fin 2048) :
    (iblk m c 0 t : Vec Ideal S768x2048 .fp8e4m3) (ix2 p k)
      = (m ((c : Thread nD τ).loc main_arg0) : Vec Ideal S6144x2048 .fp8e4m3) (ix2 (⟨768 * (t.val % 8) + p.val, by omega⟩ : Fin 6144) k) := by
  have e := idx0 t
  rw [if_neg h] at e
  blk_point [iblk, V, e]

theorem rd3 (c : Dev nD) (t : Fin cfg0.N) :
    (iblk m c 3 t : Vec Ideal S1 .f32) (ix1 0)
      = (m ((c : Thread nD τ).loc main_arg1) : Vec Ideal S1 .f32) (ix1 0) := by
  blk_point [iblk, V, idx3 t]

theorem rd4 (c : Dev nD) (t : Fin cfg0.N) (q : Fin 1024) :
    (iblk m c 4 t : Vec Ideal S1x1024 .f32) (ix2 (0 : Fin 1) q)
      = (m ((c : Thread nD τ).loc main_arg4) : Vec Ideal S8192 .f32) (ix1 (⟨1024 * (t.val / 8 - 1) + q.val, by have := lt72 t; omega⟩ : Fin 8192)) := by
  blk_point [iblk, idx4 t]

theorem rd5 (c : Dev nD) (t : Fin cfg0.N) (h : ¬ t.val < 8) (p : Fin 768) (q : Fin 1024) :
    (iblk m c 5 t : Vec Ideal S768x1024 .bf16) (ix2 p q)
      = (m ((c : Thread nD τ).loc main_arg5) : Vec Ideal S6144x8192 .bf16) (ix2 (⟨768 * (t.val % 8) + p.val, by omega⟩ : Fin 6144) (⟨1024 * (t.val / 8 - 1) + q.val, by have := lt72 t; omega⟩ : Fin 8192)) := by
  have e := idx5 t
  rw [if_neg h] at e
  blk_point [iblk, V, e]

/-- A point's block is the result's rows and columns there. -/
theorem outAt_apply (c : Dev nD) (t : Fin cfg0.N) (h : ¬ t.val < 8) (p : Fin 768) (q : Fin 1024) :
    outAt m c t (ix2 p q) = G m c (ix2 (⟨768 * (t.val % 8) + p.val, by omega⟩ : Fin 6144) (⟨1024 * (t.val / 8 - 1) + q.val, by have := lt72 t; omega⟩ : Fin 8192)) := by
  have ht := lt72 t
  unfold outAt
  rw [outBlk_apply]
  simp only [rd0 m c t h, rd3, rd4, rd5 m c t h, tile_apply]
  have e0 : col (cur t.val) q = (⟨1024 * (t.val / 8 - 1) + q.val, by omega⟩ : Fin 8192) :=
    Fin.ext (by show 1024 * min (t.val / 8 - 1) 7 + q.val = 1024 * (t.val / 8 - 1) + q.val; omega)
  rw [e0]
  rfl

theorem idx6 : ∀ t : Fin cfg0.N, win0_6.index t = ![if t.val < 8 then 0 else t.val % 8, t.val / 8 - 1] :=
  (by decide +kernel : ∀ t : Fin grid0.N, win0_6.index t = ![if t.val < 8 then 0 else t.val % 8, t.val / 8 - 1])

/-- The result array after the run. -/
theorem final (c : Dev nD) : (dats m 0 c).arrAt 6 (cfgs 0).N = G m c := by
  refine (dats m 0 c).arrAt_eq_of_covers 6 _ (by decide +kernel) fun t hf y => ?_
  have h : ¬ t.val < 8 := fun h => by rw [flush6 t h] at hf; exact Bool.false_ne_true hf
  have e := idx6 t
  rw [if_neg h] at e
  blk_simp
  rw [after0_6]
  have hy : y = ix2 (y 0 : Fin 768) (y 1 : Fin 1024) := funext fun a => by
    match a with
    | ⟨0, _⟩ => rfl
    | ⟨1, _⟩ => rfl
  refine (congrArg (outAt m c t) hy).trans ((outAt_apply m c t h (y 0) (y 1)).trans ?_)
  blk_ext [e]

/-- The run: the result array, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 6).trans (final m c), h.2 c⟩)
    (θ_run_and (run_main m ρ) (frame_of m ρ (dats m) (A_eq m) (run_main m ρ)))

end Cert.OprojIdeal.Hand

end
-- ==== Proof.OprojRefValue.lean ====
module

public import proofs.«01_k».proof.Proof.Gen.OprojRefIdeal.Value
public import proofs.«01_k».proof.Proof.Resid

/-! What the reference computes, entry by entry. -/

@[expose] public section

set_option maxRecDepth 16384

noncomputable section

open Idealize.ShloMosaic Idealize.ShloMosaic.TcCoe Idealize.ShloMosaic.Tactic
open Idealize.ShloMosaic.ValueIdx hiding ix1 ix2

namespace Cert.OprojRefIdeal.Hand

open Cert.OprojRefIdeal Cert.OprojRefIdeal.Gen Cert.W4

/-- The stacked fields, read through the eight-way stack. -/
def ladder (a2 : Vec Ideal S256x8192 .i32) (x : Fin 256) (n : Fin 8192) (p : Fin 8) : BitVec 8 :=
  if h : p.val < 1 then k0_pay3 (F := Ideal) a2 (ix2 x n) else
  if h : p.val - 1 < 1 then k0_pay4 (F := Ideal) a2 (ix2 x n) else
  if h : p.val - 1 - 1 < 1 then k0_pay5 (F := Ideal) a2 (ix2 x n) else
  if h : p.val - 1 - 1 - 1 < 1 then k0_pay6 (F := Ideal) a2 12#32 (ix2 x n) else
  if h : p.val - 1 - 1 - 1 - 1 < 1 then k0_pay7 (F := Ideal) a2 (ix2 x n) else
  if h : p.val - 1 - 1 - 1 - 1 - 1 < 1 then k0_pay8 (F := Ideal) a2 (ix2 x n) else
  if h : p.val - 1 - 1 - 1 - 1 - 1 - 1 < 1 then k0_pay9 (F := Ideal) a2 (ix2 x n) else
  BitVec.setWidth 8 (Scalar.select (IntOp.cmpi CmpIPredicate.sge (IntOp.andi (k0_pay10 (F := Ideal) a2 (ix2 x n)) (k0_pay11 (ix2 x n))) 8#32) (IntOp.subi (IntOp.andi (k0_pay10 (F := Ideal) a2 (ix2 x n)) (k0_pay11 (ix2 x n))) 16#32) (IntOp.andi (k0_pay10 (F := Ideal) a2 (ix2 x n)) (k0_pay11 (ix2 x n))))

theorem ladder_eq (a2 : Vec Ideal S256x8192 .i32) (x : Fin 256) (n : Fin 8192) (p : Fin 8) : ladder a2 x n p = fld (a2 (ix2 x n)) p.val := by
  fin_cases p <;> rfl

/-- A column of the reference's product. -/
theorem dot_eq (a0 : Vec Ideal S6144x2048 .fp8e4m3) (a2 : Vec Ideal S256x8192 .i32) (a3 : Vec Ideal S16x8192 .fp8e4m3) (r : Fin 6144) (n : Fin 8192) :
    (∑ x : Fin 256, ∑ p : Fin 8, (a0 (ix2 r (⟨x.val * 8 + p.val, by omega⟩ : Fin 2048)) : EReal)
        * ((FloatOps.sitofp (F := Ideal) FTy.bf16 (ladder a2 x n p) : EReal) * (a3 (ix2 (⟨x.val / 16, by omega⟩ : Fin 16) n) : EReal)))
      = prod (by decide : 2048 = 8 * 256) (by decide : 2048 = 128 * 16) (fun r k => a0 (ix2 r k)) (fun x n => a2 (ix2 x n)) (fun q n => a3 (ix2 q n)) r n := by
  simp only [ladder_eq]
  exact prod_fields (by decide : 2048 = 8 * 256) (by decide : 2048 = 128 * 16) (fun r k => a0 (ix2 r k)) (fun x n => a2 (ix2 x n)) (fun q n => a3 (ix2 q n)) r n

theorem g6_apply (a0 : Vec Ideal S6144x2048 .fp8e4m3) (a1 : Vec Ideal S1 .f32) (a2 : Vec Ideal S256x8192 .i32) (a3 : Vec Ideal S16x8192 .fp8e4m3)
    (a4 : Vec Ideal S8192 .f32) (a5 : Vec Ideal S6144x8192 .bf16) (r : Fin 6144) (n : Fin 8192) :
    Cert.OprojRefIdeal.Value.G6 a0 a1 a2 a3 a4 a5 (ix2 r n)
      = resid (by decide : 2048 = 8 * 256) (by decide : 2048 = 128 * 16) (fun r k => a0 (ix2 r k)) (a1 (ix1 0)) (fun x n => a2 (ix2 x n)) (fun q n => a3 (ix2 q n)) (fun n => a4 (ix1 n)) (fun r n => a5 (ix2 r n)) r n := by
  unfold resid
  rw [← dot_eq]
  pointwise [Value.G6, k0_pay1, k0_pay2]
  try (unfold ladder; rfl)

end Cert.OprojRefIdeal.Hand

end
-- ==== Proof.OprojAlgebraic.lean ====
module

public import proofs.«01_k».proof.Defs
public import proofs.«01_k».proof.Proof.OprojIdealValue
public import proofs.«01_k».proof.Proof.OprojRefValue

/-! Kernel and reference end with the same hidden rows. -/

@[expose] public section

set_option maxRecDepth 16384

noncomputable section

open Idealize.ShloMosaic Idealize.ShloMosaic.TcCoe Idealize.ShloMosaic.Tactic Idealize.SL.Sem
open Idealize.ShloMosaic.ValueIdx hiding ix1 ix2

namespace Cert.Oproj.Hand

theorem algebraic : Cert.algebraic_OprojIdeal_OprojRefIdeal (hOprojIdeal := Cert.OprojIdeal.Gen.facts) (hOprojRefIdeal := Cert.OprojRefIdeal.Gen.facts) := by
  intro m g m' g' _ hm
  refine ⟨fun c => Cert.OprojIdeal.Hand.G m c, Cert.OprojIdeal.Hand.run m g, ?_⟩
  refine (θ_run _ _ _).mono (fun r h c => ⟨(h c).1.trans ?_, (h c).2⟩) (Cert.OprojRefIdeal.Value.run m' g')
  obtain ⟨e0, e1, e2, e3, e4, e5⟩ := hm c
  rw [e0, e1, e2, e3, e4, e5]
  funext y
  have hy : y = ix2 (y 0 : Fin 6144) (y 1 : Fin 8192) := funext fun a => by
    match a with
    | ⟨0, _⟩ => rfl
    | ⟨1, _⟩ => rfl
  exact (congrArg _ hy).trans (Cert.OprojRefIdeal.Hand.g6_apply _ _ _ _ _ _ (y 0) (y 1))

end Cert.Oproj.Hand

end
-- ==== Proof.QkvIdealConds.lean ====
module

public import proofs.«01_k».proof.Proof.Gen.QkvIdeal.Launch
public import proofs.«01_k».proof.Proof.Gen.QkvIdeal.Skeleton
public import proofs.«01_k».proof.Proof.Gen.QkvIdeal.Points
public import proofs.«01_k».proof.Proof.Gen.QkvIdeal.Frame
public import Idealize.ShloMosaic.Lib.Pipeline.FrameBody
public import Idealize.ShloMosaic.Lib.Pipeline.Value
public import Idealize.ShloMosaic.Lib.Tactic
public import Idealize.ShloMosaic.Lib.WordCmp
public import Idealize.ShloMosaic.Lib.WritesUnit

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body's branch conditions, over the grid's points. -/

/-- A tile of weights is begun: its scales are copied. -/
abbrev cond0 (i : grid0.Coords) : Prop := (Scalar.cmpi .ne (Scalar.extui (Scalar.cmpi .eq (BitVec.ofNat 32 (i 1).val) 0#32)) 0#32) = 1#1
/-- The first column step, which multiplies nothing. -/
abbrev cond1 (i : grid0.Coords) : Prop := k0_cond2 i = 1#1
/-- An odd column step. -/
abbrev cond2 (i : grid0.Coords) : Prop := k0_cond3 i = 1#1
/-- An even column step after the first. -/
abbrev cond3 (i : grid0.Coords) : Prop := k0_cond16 i = 1#1
/-- The product's columns are heads of q (each square asks this again), -/
abbrev condQ (i : grid0.Coords) : Prop := k0_cond4 i = 1#1
/-- or of k and v. -/
abbrev condV (i : grid0.Coords) : Prop := k0_cond5 i = 1#1

theorem hcond0 : ∀ t : Fin cfg0.N, cond0 (grid0.coords t) ↔ t.val % 8 = 0 :=
  (by decide +kernel : ∀ t : Fin grid0.N, cond0 (grid0.coords t) ↔ t.val % 8 = 0)
theorem hcond1 : ∀ t : Fin cfg0.N, cond1 (grid0.coords t) ↔ t.val / 8 = 0 :=
  (by decide +kernel : ∀ t : Fin grid0.N, cond1 (grid0.coords t) ↔ t.val / 8 = 0)
theorem hcond2 : ∀ t : Fin cfg0.N, cond2 (grid0.coords t) ↔ t.val / 8 % 2 = 1 :=
  (by decide +kernel : ∀ t : Fin grid0.N, cond2 (grid0.coords t) ↔ t.val / 8 % 2 = 1)
theorem hcond3 : ∀ t : Fin cfg0.N, cond3 (grid0.coords t) ↔ (t.val / 8 ≠ 0 ∧ t.val / 8 % 2 = 0) :=
  (by decide +kernel : ∀ t : Fin grid0.N, cond3 (grid0.coords t) ↔ (t.val / 8 ≠ 0 ∧ t.val / 8 % 2 = 0))
theorem hcondQ : ∀ t : Fin cfg0.N, condQ (grid0.coords t) ↔ t.val < 40 :=
  (by decide +kernel : ∀ t : Fin grid0.N, condQ (grid0.coords t) ↔ t.val < 40)
theorem hcondV : ∀ t : Fin cfg0.N, condV (grid0.coords t) ↔ ¬ t.val < 40 :=
  (by decide +kernel : ∀ t : Fin grid0.N, condV (grid0.coords t) ↔ ¬ t.val < 40)

/-- A whole buffer still at its contents is owned at them. -/
theorem own_back {sp : Space} {s : Shape} {e : EltTy} (c : Dev nD) {a : Memref sig .tc sp s e} (h : a.IsWhole) {x : Vec F s e} :
    (iprop(a.view.loc (c : Thread nD τ) ↦[a.view.set]{fullShare} h.unread x) : sProp 𝕄)
      ⊢ iprop(∃ f, ⌜a.view.read (Elt F) f = x⌝ ∗ (a.view.loc (c : Thread nD τ) ↦[a.view.set]{fullShare} f)) := by
  iintro H
  iexists _
  isplitr
  · ipureintro; exact h.read_unread _
  iexact H

end Cert.QkvIdeal.Hand

end
-- ==== Proof.QkvIdealRun.lean ====
module

public import proofs.«01_k».proof.Proof.QkvIdealConds

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S768x8192 .fp8e4m3) (harg2 : arg2.IsWhole)
    (arg3 : Memref sig .tc .vmem S128x512 .i32) (harg3 : arg3.IsWhole)
    (arg4 : Memref sig .tc .vmem S64x512 .fp8e4m3) (harg4 : arg4.IsWhole)
    (arg5 : Memref sig .tc .smem S1 .f32) (harg5 : arg5.IsWhole)
    (arg6 : Memref sig .tc .vmem S1x512 .f32) (harg6 : arg6.IsWhole)
    (arg7 : Memref sig .tc .vmem S768x64 .f32) (harg7 : arg7.IsWhole)
    (arg8 : Memref sig .tc .vmem S768x64 .f32) (harg8 : arg8.IsWhole)
    (arg9 : Memref sig .tc .smem S2 .f32) (harg9 : arg9.IsWhole)
    (arg10 : Memref sig .tc .smem S2 .f32) (harg10 : arg10.IsWhole)
    (arg11 : Memref sig .tc .vmem S768x512 .bf16) (harg11 : arg11.IsWhole)
    (arg12 : Memref sig .tc .vmem S768x256 .fp8e4m3) (harg12 : arg12.IsWhole)
    (arg13 : Memref sig .tc .vmem S768x256 .fp8e4m3) (harg13 : arg13.IsWhole)
    (arg14 : Memref sig .tc .vmem S8192x512 .bf16) (harg14 : arg14.IsWhole)
    (arg15 : Memref sig .tc .vmem S8192x512 .bf16) (harg15 : arg15.IsWhole)
    (arg16 : Memref sig .tc .vmem S64x512 .f32) (harg16 : arg16.IsWhole)

/-! The body before the first product (only the second buffer is filled), run from whole buffers at named contents: each buffer it stores into is left with the
    pieces the run finds. -/

-- the run's proof term is large: what follows the definition's elaboration walks it past the default budget
set_option maxHeartbeats 2000000 in
/-- A tile of weights begun. -/
noncomputable def runZ0 (hc0 : cond0 i) (hc1 : cond1 i) (hc2 : ¬cond2 i) (hc3 : ¬cond3 i)
    (x1 : Vec F S128x512 .i32) (x2 : Vec F S64x512 .fp8e4m3) (xs1 : Vec F S8192x512 .bf16) :
    Σ' (L15 : List (View.Piece (Elt F) S8192x512 .bf16)), { L16 : List (View.Piece (Elt F) S64x512 .f32) //
      ∀ (E : Set ℕ) (K : PUnit → sProp 𝕄),
        iprop(owns (c : Thread nD τ) arg3 fullShare x1 ∗ owns (c : Thread nD τ) arg4 fullShare x2 ∗ (∃ d, owns (c : Thread nD τ) arg16 fullShare d) ∗ owns (c : Thread nD τ) arg15 fullShare xs1
            ∗ (iprop(owns (c : Thread nD τ) arg3 fullShare x1 ∗ owns (c : Thread nD τ) arg4 fullShare x2 ∗ (∃ f, arg16.view.loc (c : Thread nD τ) ↦[arg16.view.set]{fullShare} arg16.view.writes (Elt F) f L16) ∗ (arg15.view.loc (c : Thread nD τ) ↦[arg15.view.set]{fullShare} arg15.view.writes (Elt F) (harg15.unread xs1) L15)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_qkv_eq_skeleton]; unfold cc0_qkv_skel
    simp only [k0_part21_eq_skeleton, k0_part1_eq_skeleton, k0_part2_eq_skeleton, k0_part3_eq_skeleton, k0_part4_eq_skeleton]
    unfold owns
    iintro ⟨⟨%f3, %hf3, H3⟩, ⟨%f4, %hf4, H4⟩, ⟨%d16, %f16, -, H16⟩, ⟨%f15, %hf15, H15⟩, Hk⟩
    obtain rfl := harg3.eq_unread hf3; obtain rfl := harg4.eq_unread hf4; obtain rfl := harg15.eq_unread hf15
    sl_exec (disch := first | sl_exact hc0 | sl_exact hc1 | sl_exact hc2 | sl_exact hc3)
    sl_step
    iapply Hk
    isplitl [H3]; · iapply (own_back c harg3); iexact H3
    isplitl [H4]; · iapply (own_back c harg4); iexact H4
    isplitl [H16]; · iexists _; iexact H16
    iexact H15

-- the run's proof term is large: what follows the definition's elaboration walks it past the default budget
set_option maxHeartbeats 2000000 in
/-- Within a tile of weights. -/
noncomputable def runZ1 (hc0 : ¬cond0 i) (hc1 : cond1 i) (hc2 : ¬cond2 i) (hc3 : ¬cond3 i)
    (x1 : Vec F S128x512 .i32) (xs1 : Vec F S8192x512 .bf16) (xs2 : Vec F S64x512 .f32) :
    { L15 : List (View.Piece (Elt F) S8192x512 .bf16) //
      ∀ (E : Set ℕ) (K : PUnit → sProp 𝕄),
        iprop(owns (c : Thread nD τ) arg3 fullShare x1 ∗ owns (c : Thread nD τ) arg15 fullShare xs1 ∗ owns (c : Thread nD τ) arg16 fullShare xs2
            ∗ (iprop(owns (c : Thread nD τ) arg3 fullShare x1 ∗ (arg15.view.loc (c : Thread nD τ) ↦[arg15.view.set]{fullShare} arg15.view.writes (Elt F) (harg15.unread xs1) L15) ∗ owns (c : Thread nD τ) arg16 fullShare xs2) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_qkv_eq_skeleton]; unfold cc0_qkv_skel
    simp only [k0_part21_eq_skeleton, k0_part1_eq_skeleton, k0_part2_eq_skeleton, k0_part3_eq_skeleton, k0_part4_eq_skeleton]
    unfold owns
    iintro ⟨⟨%f3, %hf3, H3⟩, ⟨%f15, %hf15, H15⟩, ⟨%f16, %hf16, H16⟩, Hk⟩
    obtain rfl := harg3.eq_unread hf3; obtain rfl := harg15.eq_unread hf15; obtain rfl := harg16.eq_unread hf16
    sl_exec (disch := first | sl_exact hc0 | sl_exact hc1 | sl_exact hc2 | sl_exact hc3)
    sl_step
    iapply Hk
    isplitl [H3]; · iapply (own_back c harg3); iexact H3
    isplitl [H15]; · iexact H15
    iapply (own_back c harg16); iexact H16

/-! The body at an odd step before the last (the second buffer is multiplied, the first filled, heads of q stored), run from whole buffers at named contents: each buffer it stores into is left with the
    pieces the run finds. -/

-- the run's proof term is large: what follows the definition's elaboration walks it past the default budget
set_option maxHeartbeats 2000000 in
/-- A tile of weights begun. -/
noncomputable def runO0 (hc0 : cond0 i) (hc1 : ¬cond1 i) (hc2 : cond2 i) (hc3 : ¬cond3 i) (hq : condQ i) (hv : ¬condV i)
    (x0 : Vec F S768x8192 .fp8e4m3) (x1 : Vec F S128x512 .i32) (x2 : Vec F S64x512 .fp8e4m3) (x3 : Vec F S1 .f32) (x4 : Vec F S1x512 .f32) (x5 : Vec F S768x64 .f32) (x6 : Vec F S768x64 .f32) (xs0 : Vec F S8192x512 .bf16) (xs1 : Vec F S8192x512 .bf16) :
    Σ' (L11 : List (View.Piece (Elt F) S768x512 .bf16)), Σ' (L14 : List (View.Piece (Elt F) S8192x512 .bf16)), { L16 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg11 fullShare d) ∗ (∃ d, owns (c : Thread nD τ) arg16 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg11.view.loc (c : Thread nD τ) ↦[arg11.view.set]{fullShare} arg11.view.writes (Elt F) f L11) ∗ (∃ f, arg16.view.loc (c : Thread nD τ) ↦[arg16.view.set]{fullShare} arg16.view.writes (Elt F) f L16) ∗ (arg14.view.loc (c : Thread nD τ) ↦[arg14.view.set]{fullShare} arg14.view.writes (Elt F) (harg14.unread xs0) L14) ∗ owns (c : Thread nD τ) arg15 fullShare xs1) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_qkv_eq_skeleton]; unfold cc0_qkv_skel
    simp only [k0_part21_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%d16, %f16, -, H16⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15
    sl_exec (disch := first | sl_exact hc0 | sl_exact hc1 | sl_exact hc2 | sl_exact hc3 | sl_exact hq | sl_exact hv)
    sl_step
    iapply Hk
    isplitl [H2]; · iapply (own_back c harg2); iexact H2
    isplitl [H3]; · iapply (own_back c harg3); iexact H3
    isplitl [H4]; · iapply (own_back c harg4); iexact H4
    isplitl [H5]; · iapply (own_back c harg5); iexact H5
    isplitl [H6]; · iapply (own_back c harg6); iexact H6
    isplitl [H7]; · iapply (own_back c harg7); iexact H7
    isplitl [H8]; · iapply (own_back c harg8); iexact H8
    isplitl [H11]; · iexists _; iexact H11
    isplitl [H16]; · iexists _; iexact H16
    isplitl [H14]; · iexact H14
    iapply (own_back c harg15); iexact H15

-- the run's proof term is large: what follows the definition's elaboration walks it past the default budget
set_option maxHeartbeats 2000000 in
/-- Within a tile of weights. -/
noncomputable def runO1 (hc0 : ¬cond0 i) (hc1 : ¬cond1 i) (hc2 : cond2 i) (hc3 : ¬cond3 i) (hq : condQ i) (hv : ¬condV i)
    (x0 : Vec F S768x8192 .fp8e4m3) (x1 : Vec F S128x512 .i32) (x3 : Vec F S1 .f32) (x4 : Vec F S1x512 .f32) (x5 : Vec F S768x64 .f32) (x6 : Vec F S768x64 .f32) (xs0 : Vec F S8192x512 .bf16) (xs1 : Vec F S8192x512 .bf16) (xs2 : Vec F S64x512 .f32) :
    Σ' (L11 : List (View.Piece (Elt F) S768x512 .bf16)), { L14 : List (View.Piece (Elt F) S8192x512 .bf16) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg11 fullShare d) ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg11.view.loc (c : Thread nD τ) ↦[arg11.view.set]{fullShare} arg11.view.writes (Elt F) f L11) ∗ (arg14.view.loc (c : Thread nD τ) ↦[arg14.view.set]{fullShare} arg14.view.writes (Elt F) (harg14.unread xs0) L14) ∗ owns (c : Thread nD τ) arg15 fullShare xs1 ∗ owns (c : Thread nD τ) arg16 fullShare xs2) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_qkv_eq_skeleton]; unfold cc0_qkv_skel
    simp only [k0_part21_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f2, %hf2, H2⟩, ⟨%f3, %hf3, H3⟩, ⟨%f5, %hf5, H5⟩, ⟨%f6, %hf6, H6⟩, ⟨%f7, %hf7, H7⟩, ⟨%f8, %hf8, H8⟩, ⟨%d11, %f11, -, H11⟩, ⟨%f14, %hf14, H14⟩, ⟨%f15, %hf15, H15⟩, ⟨%f16, %hf16, H16⟩, Hk⟩
    obtain rfl := harg2.eq_unread hf2; obtain rfl := harg3.eq_unread hf3; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16
    sl_exec (disch := first | sl_exact hc0 | sl_exact hc1 | sl_exact hc2 | sl_exact hc3 | sl_exact hq | sl_exact hv)
    sl_step
    iapply Hk
    isplitl [H2]; · iapply (own_back c harg2); iexact H2
    isplitl [H3]; · iapply (own_back c harg3); iexact H3
    isplitl [H5]; · iapply (own_back c harg5); iexact H5
    isplitl [H6]; · iapply (own_back c harg6); iexact H6
    isplitl [H7]; · iapply (own_back c harg7); iexact H7
    isplitl [H8]; · iapply (own_back c harg8); iexact H8
    isplitl [H11]; · iexists _; iexact H11
    isplitl [H14]; · iexact H14
    isplitl [H15]; · iapply (own_back c harg15); iexact H15
    iapply (own_back c harg16); iexact H16

/-! The body at an even step (the first buffer is multiplied, the second filled, heads of q stored), run from whole buffers at named contents: each buffer it stores into is left with the
    pieces the run finds. -/

-- the run's proof term is large: what follows the definition's elaboration walks it past the default budget
set_option maxHeartbeats 2000000 in
/-- A tile of weights begun. -/
noncomputable def runE0 (hc0 : cond0 i) (hc1 : ¬cond1 i) (hc2 : ¬cond2 i) (hc3 : cond3 i) (hq : condQ i) (hv : ¬condV i)
    (x0 : Vec F S768x8192 .fp8e4m3) (x1 : Vec F S128x512 .i32) (x2 : Vec F S64x512 .fp8e4m3) (x3 : Vec F S1 .f32) (x4 : Vec F S1x512 .f32) (x5 : Vec F S768x64 .f32) (x6 : Vec F S768x64 .f32) (xs0 : Vec F S8192x512 .bf16) (xs1 : Vec F S8192x512 .bf16) :
    Σ' (L11 : List (View.Piece (Elt F) S768x512 .bf16)), Σ' (L15 : List (View.Piece (Elt F) S8192x512 .bf16)), { L16 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg11 fullShare d) ∗ (∃ d, owns (c : Thread nD τ) arg16 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg11.view.loc (c : Thread nD τ) ↦[arg11.view.set]{fullShare} arg11.view.writes (Elt F) f L11) ∗ (∃ f, arg16.view.loc (c : Thread nD τ) ↦[arg16.view.set]{fullShare} arg16.view.writes (Elt F) f L16) ∗ owns (c : Thread nD τ) arg14 fullShare xs0 ∗ (arg15.view.loc (c : Thread nD τ) ↦[arg15.view.set]{fullShare} arg15.view.writes (Elt F) (harg15.unread xs1) L15)) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_qkv_eq_skeleton]; unfold cc0_qkv_skel
    simp only [k0_part21_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d11, %f11, -, H11⟩, ⟨%d16, %f16, -, H16⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg14.eq_unread hf14; obtain rfl := harg15.eq_unread hf15
    sl_exec (disch := first | sl_exact hc0 | sl_exact hc1 | sl_exact hc2 | sl_exact hc3 | sl_exact hq | sl_exact hv)
    sl_step
    iapply Hk
    isplitl [H2]; · iapply (own_back c harg2); iexact H2
    isplitl [H3]; · iapply (own_back c harg3); iexact H3
    isplitl [H4]; · iapply (own_back c harg4); iexact H4
    isplitl [H5]; · iapply (own_back c harg5); iexact H5
    isplitl [H6]; · iapply (own_back c harg6); iexact H6
    isplitl [H7]; · iapply (own_back c harg7); iexact H7
    isplitl [H8]; · iapply (own_back c harg8); iexact H8
    isplitl [H11]; · iexists _; iexact H11
    isplitl [H16]; · iexists _; iexact H16
    isplitl [H14]; · iapply (own_back c harg14); iexact H14
    iexact H15

-- the run's proof term is large: what follows the definition's elaboration walks it past the default budget
set_option maxHeartbeats 2000000 in
/-- Within a tile of weights. -/
noncomputable def runE1 (hc0 : ¬cond0 i) (hc1 : ¬cond1 i) (hc2 : ¬cond2 i) (hc3 : cond3 i) (hq : condQ i) (hv : ¬condV i)
    (x0 : Vec F S768x8192 .fp8e4m3) (x1 : Vec F S128x512 .i32) (x3 : Vec F S1 .f32) (x4 : Vec F S1x512 .f32) (x5 : Vec F S768x64 .f32) (x6 : Vec F S768x64 .f32) (xs0 : Vec F S8192x512 .bf16) (xs1 : Vec F S8192x512 .bf16) (xs2 : Vec F S64x512 .f32) :
    Σ' (L11 : List (View.Piece (Elt F) S768x512 .bf16)), { L15 : List (View.Piece (Elt F) S8192x512 .bf16) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg11 fullShare d) ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg11.view.loc (c : Thread nD τ) ↦[arg11.view.set]{fullShare} arg11.view.writes (Elt F) f L11) ∗ owns (c : Thread nD τ) arg14 fullShare xs0 ∗ (arg15.view.loc (c : Thread nD τ) ↦[arg15.view.set]{fullShare} arg15.view.writes (Elt F) (harg15.unread xs1) L15) ∗ owns (c : Thread nD τ) arg16 fullShare xs2) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_qkv_eq_skeleton]; unfold cc0_qkv_skel
    simp only [k0_part21_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f2, %hf2, H2⟩, ⟨%f3, %hf3, H3⟩, ⟨%f5, %hf5, H5⟩, ⟨%f6, %hf6, H6⟩, ⟨%f7, %hf7, H7⟩, ⟨%f8, %hf8, H8⟩, ⟨%d11, %f11, -, H11⟩, ⟨%f14, %hf14, H14⟩, ⟨%f15, %hf15, H15⟩, ⟨%f16, %hf16, H16⟩, Hk⟩
    obtain rfl := harg2.eq_unread hf2; obtain rfl := harg3.eq_unread hf3; obtain rfl := harg5.eq_unread hf5; obtain rfl := harg6.eq_unread hf6; obtain rfl := harg7.eq_unread hf7; obtain rfl := harg8.eq_unread hf8; obtain rfl := harg14.eq_unread hf14; obtain rfl := harg15.eq_unread hf15; obtain rfl := harg16.eq_unread hf16
    sl_exec (disch := first | sl_exact hc0 | sl_exact hc1 | sl_exact hc2 | sl_exact hc3 | sl_exact hq | sl_exact hv)
    sl_step
    iapply Hk
    isplitl [H2]; · iapply (own_back c harg2); iexact H2
    isplitl [H3]; · iapply (own_back c harg3); iexact H3
    isplitl [H5]; · iapply (own_back c harg5); iexact H5
    isplitl [H6]; · iapply (own_back c harg6); iexact H6
    isplitl [H7]; · iapply (own_back c harg7); iexact H7
    isplitl [H8]; · iapply (own_back c harg8); iexact H8
    isplitl [H11]; · iexists _; iexact H11
    isplitl [H14]; · iapply (own_back c harg14); iexact H14
    isplitl [H15]; · iexact H15
    iapply (own_back c harg16); iexact H16

/-! The body at the last step (the second buffer is multiplied, the first filled, heads of k and v stored), run from whole buffers at named contents: each buffer it stores into is left with the
    pieces the run finds. -/

-- the run's proof term is large: what follows the definition's elaboration walks it past the default budget
set_option maxHeartbeats 2000000 in
/-- A tile of weights begun. -/
noncomputable def runV0 (hc0 : cond0 i) (hc1 : ¬cond1 i) (hc2 : cond2 i) (hc3 : ¬cond3 i) (hq : ¬condQ i) (hv : condV i)
    (x0 : Vec F S768x8192 .fp8e4m3) (x1 : Vec F S128x512 .i32) (x2 : Vec F S64x512 .fp8e4m3) (x3 : Vec F S1 .f32) (x4 : Vec F S1x512 .f32) (x5 : Vec F S768x64 .f32) (x6 : Vec F S768x64 .f32) (x7 : Vec F S2 .f32) (x8 : Vec F S2 .f32) (xs0 : Vec F S8192x512 .bf16) (xs1 : Vec F S8192x512 .bf16) :
    Σ' (L12 : List (View.Piece (Elt F) S768x256 .fp8e4m3)), Σ' (L13 : List (View.Piece (Elt F) S768x256 .fp8e4m3)), Σ' (L14 : List (View.Piece (Elt F) S8192x512 .bf16)), { L16 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg12 fullShare d) ∗ (∃ d, owns (c : Thread nD τ) arg13 fullShare d) ∗ (∃ d, owns (c : Thread nD τ) arg16 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg16.view.loc (c : Thread nD τ) ↦[arg16.view.set]{fullShare} arg16.view.writes (Elt F) f L16) ∗ (arg14.view.loc (c : Thread nD τ) ↦[arg14.view.set]{fullShare} arg14.view.writes (Elt F) (harg14.unread xs0) L14) ∗ owns (c : Thread nD τ) arg15 fullShare xs1) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_qkv_eq_skeleton]; unfold cc0_qkv_skel
    simp only [k0_part21_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, -, H12⟩, ⟨%d13, %f13, -, H13⟩, ⟨%d16, %f16, -, H16⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15
    sl_exec (disch := first | sl_exact hc0 | sl_exact hc1 | sl_exact hc2 | sl_exact hc3 | sl_exact hq | sl_exact hv)
    sl_step
    iapply Hk
    isplitl [H2]; · iapply (own_back c harg2); iexact H2
    isplitl [H3]; · iapply (own_back c harg3); iexact H3
    isplitl [H4]; · iapply (own_back c harg4); iexact H4
    isplitl [H5]; · iapply (own_back c harg5); iexact H5
    isplitl [H6]; · iapply (own_back c harg6); iexact H6
    isplitl [H7]; · iapply (own_back c harg7); iexact H7
    isplitl [H8]; · iapply (own_back c harg8); iexact H8
    isplitl [H9]; · iapply (own_back c harg9); iexact H9
    isplitl [H10]; · iapply (own_back c harg10); iexact H10
    isplitl [H12]; · iexists _; iexact H12
    isplitl [H13]; · iexists _; iexact H13
    isplitl [H16]; · iexists _; iexact H16
    isplitl [H14]; · iexact H14
    iapply (own_back c harg15); iexact H15

-- the run's proof term is large: what follows the definition's elaboration walks it past the default budget
set_option maxHeartbeats 2000000 in
/-- Within a tile of weights. -/
noncomputable def runV1 (hc0 : ¬cond0 i) (hc1 : ¬cond1 i) (hc2 : cond2 i) (hc3 : ¬cond3 i) (hq : ¬condQ i) (hv : condV i)
    (x0 : Vec F S768x8192 .fp8e4m3) (x1 : Vec F S128x512 .i32) (x3 : Vec F S1 .f32) (x4 : Vec F S1x512 .f32) (x5 : Vec F S768x64 .f32) (x6 : Vec F S768x64 .f32) (x7 : Vec F S2 .f32) (x8 : Vec F S2 .f32) (xs0 : Vec F S8192x512 .bf16) (xs1 : Vec F S8192x512 .bf16) (xs2 : Vec F S64x512 .f32) :
    Σ' (L12 : List (View.Piece (Elt F) S768x256 .fp8e4m3)), Σ' (L13 : List (View.Piece (Elt F) S768x256 .fp8e4m3)), { L14 : List (View.Piece (Elt F) S8192x512 .bf16) //
      ∀ (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ owns (c : Thread nD τ) arg16 fullShare xs2
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread xs0) L14) ∗ owns (c : Thread nD τ) arg15 fullShare xs1 ∗ owns (c : Thread nD τ) arg16 fullShare xs2) -∗ K ⟨⟩))
          ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_qkv_eq_skeleton]; unfold cc0_qkv_skel
    simp only [k0_part21_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, -, H12⟩, ⟨%d13, %f13, -, H13⟩, ⟨%f14, %hf14, H14⟩, ⟨%f15, %hf15, H15⟩, ⟨%f16, %hf16, H16⟩, Hk⟩
    obtain rfl := harg2.eq_unread hf2; obtain rfl := harg3.eq_unread hf3; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec (disch := first | sl_exact hc0 | sl_exact hc1 | sl_exact hc2 | sl_exact hc3 | sl_exact hq | sl_exact hv)
    sl_step
    iapply Hk
    isplitl [H2]; · iapply (own_back c harg2); iexact H2
    isplitl [H3]; · iapply (own_back c harg3); iexact H3
    isplitl [H5]; · iapply (own_back c harg5); iexact H5
    isplitl [H6]; · iapply (own_back c harg6); iexact H6
    isplitl [H7]; · iapply (own_back c harg7); iexact H7
    isplitl [H8]; · iapply (own_back c harg8); iexact H8
    isplitl [H9]; · iapply (own_back c harg9); iexact H9
    isplitl [H10]; · iapply (own_back c harg10); iexact H10
    isplitl [H12]; · iexists _; iexact H12
    isplitl [H13]; · iexists _; iexact H13
    isplitl [H14]; · iexact H14
    isplitl [H15]; · iapply (own_back c harg15); iexact H15
    iapply (own_back c harg16); iexact H16

end

end Cert.QkvIdeal.Hand

end
-- ==== Proof.QkvIdealStrip.lean ====
module

public import proofs.«01_k».proof.Proof.QkvIdealConds
public import Idealize.ShloMosaic.Lib.Pipeline.ValueKit
public import Idealize.ShloMosaic.Lib.Pointwise
public import Idealize.ShloMosaic.Lib.WholeRead

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.ShloMosaic.ValueIdx hiding ix1 ix2

variable {F : FTy → Type} [FloatOps F]

/-- One dequantised weight: nibble `j` of a word, times its group's scale rounded to bf16. -/
def deq (w : BitVec 32) (j : ℕ) (g : F .f32) : F .bf16 :=
  FloatOps.mulf
    (FloatOps.sitofp .bf16
      ((IntOp.shrui .vector w (IntOp.muli (4#32) (BitVec.ofNat 32 j))).setWidth 4))
    (FloatOps.truncf .bf16 bitsLt_bf16_f32 g)

/-- A store's payload, entry by entry: row `r` is nibble `r % 8` of word row `r / 8`. -/
theorem pay2_apply (w : Vec F S16x512 .i32) (g : Vec F S1x512 .f32) (r : Fin 128) (c : Fin 512) :
    k0_pay10 w g (ix2 r c) = deq (w (ix2 ⟨r.val / 8, by omega⟩ c)) (r.val % 8) (g (ix2 0 c)) := by
  unfold k0_pay10 deq
  pointwise

/-- A scale, widened to f32. -/
theorem payS_apply (g : Vec F S64x512 .fp8e4m3) (r : Fin 64) (c : Fin 512) :
    k0_pay139 g (ix2 r c) = FloatOps.extf .f32 bitsLt_fp8e4m3_f32 (g (ix2 r c)) := by
  unfold k0_pay139
  pointwise

/-- A weight buffer with rows `[1024 k, 1024 k + 1024)` filled from a block of packed words and the scales. -/
def strip (k : ℕ) (hk : k < 8) (w : Vec F S128x512 .i32) (g : Vec F S64x512 .f32) (old : Vec F S8192x512 .bf16) : Vec F S8192x512 .bf16 :=
  fun y => if (y 0).val / 1024 = k then
    deq (w (ix2 ⟨(y 0).val % 1024 / 8, by omega⟩ (y 1))) ((y 0).val % 8) (g (ix2 ⟨(y 0).val / 128, by have := (y 0).isLt; simp at this; omega⟩ (y 1)))
  else old y

theorem read_strip (arg : Memref sig .tc .vmem S8192x512 .bf16) (harg : arg.IsWhole) (xs : Vec F S8192x512 .bf16)
    (k : ℕ) (hk : k < 8) (a3 : Memref sig .tc .vmem S128x512 .i32) (ha3 : a3.IsWhole) (x1 : Vec F S128x512 .i32)
    (gl : Fin 8 → Vec F S1x512 .f32) (G : Vec F S64x512 .f32)
    (hgl : ∀ j : Fin 8, ∀ c : Fin 512, gl j (ix2 0 c) = G (ix2 ⟨8 * k + j.val, by omega⟩ c))
    (o2 : Fin 8 → Fin 2 → ℕ) (ho2 : ∀ j, o2 j = ![1024 * k + 128 * j.val, 0])
    (inb2 : ∀ j a, o2 j a + ![128, 512] a ≤ S8192x512.size a)
    (inbw : ∀ (j : Fin 8) a, ![16 * j.val, 0] a + ![16, 512] a ≤ S128x512.size a) :
    arg.view.read (Elt F) (arg.view.writes (Elt F) (harg.unread xs)
      (View.tilePieces ![128, 512] o2 inb2 (fun j => k0_pay10
        (View.readAt (Elt F) a3.view (Rect.unit (s := S128x512) ![16 * j.val, 0] ![16, 512] (inbw j)).toLoadRect (ha3.unread x1) : Vec F S16x512 .i32) (gl j)) 8 le_rfl))
      = strip k hk x1 G xs := by
  funext y
  have hy0 : (y 0).val < 8192 := (y 0).isLt
  have hy1 : (y 1).val < 512 := (y 1).isLt
  unfold strip
  by_cases h : (y 0).val / 1024 = k
  · rw [if_pos h]
    rw [View.read_tilePieces arg.view _ ![128, 512] o2 inb2 _ 8 le_rfl y ⟨(y 0).val % 1024 / 128, by omega⟩ (by show _ / _ < 8; omega)
      (ix2 ⟨(y 0).val % 128, by omega⟩ (y 1))
      (by
        intro a
        rw [ho2]
        match a with
        | ⟨0, _⟩ => show (y 0).val = 1024 * k + 128 * ((y 0).val % 1024 / 128) + (y 0).val % 128; omega
        | ⟨1, _⟩ => show (y 1).val = 0 + (y 1).val; omega) 0
      (by
        intro j hj
        have hj' : j.val ≠ (y 0).val % 1024 / 128 := fun e => hj (Fin.ext e)
        rw [ho2]
        show (y 0).val < 1024 * k + 128 * j.val ∨ 1024 * k + 128 * j.val + 128 ≤ (y 0).val
        omega)]
    refine (pay2_apply _ _ _ _).trans ?_
    rw [ha3.readAt_unread]; refine Eq.trans (congrArg _ (hgl _ _)) ?_
    have e1 : (Rect.unit (s := S128x512) ![16 * ((y 0).val % 1024 / 128), 0] ![16, 512] (inbw ⟨(y 0).val % 1024 / 128, by omega⟩)).toLoadRect.idx
        (ix2 (⟨(y 0).val % 128 / 8, by omega⟩ : Fin 16) (y 1)) = ix2 (⟨(y 0).val % 1024 / 8, by omega⟩ : Fin 128) (y 1) := by
      funext a; apply Fin.ext
      match a with
      | ⟨0, _⟩ => show 16 * ((y 0).val % 1024 / 128) + 1 * ((y 0).val % 128 / 8) = (y 0).val % 1024 / 8; omega
      | ⟨1, _⟩ => show 0 + 1 * (y 1).val = (y 1).val; omega
    have e2 : (y 0).val % 128 % 8 = (y 0).val % 8 := by omega
    have e3 : (⟨8 * k + (y 0).val % 1024 / 128, by omega⟩ : Fin 64) = ⟨(y 0).val / 128, by omega⟩ := Fin.ext (by show 8 * k + (y 0).val % 1024 / 128 = (y 0).val / 128; omega)
    exact congr (congrArg₂ deq (congrArg x1 e1) e2) (congrArg (fun q : Fin 64 => G (ix2 q (y 1))) e3)
  · rw [if_neg h]
    rw [View.read_tilePieces_miss arg.view _ ![128, 512] o2 inb2 _ 8 le_rfl y 0 (by
      intro j _
      rw [ho2]
      show (y 0).val < 1024 * k + 128 * j.val ∨ 1024 * k + 128 * j.val + 128 ≤ (y 0).val
      omega), harg.read_unread]

/-- The whole-buffer copy of a scale block, widened to f32. -/
theorem read_scales (a17 : Memref sig .tc .vmem S64x512 .f32) (f : a17.view.ty.Contents (Elt F))
    (a5 : Memref sig .tc .vmem S64x512 .fp8e4m3) (ha5 : a5.IsWhole) (x3 : Vec F S64x512 .fp8e4m3) (p : Vec F S64x512 .f32)
    (hp : p = k0_pay139 (View.readAt (Elt F) a5.view (Rect.unit ![0, 0] S64x512.size inb_S64x512_S64x512_0_0).toLoadRect (ha5.unread x3))) :
    a17.view.read (Elt F) (a17.view.writes (Elt F) f [⟨Rect.unit ![0, 0] S64x512.size inb_S64x512_S64x512_0_0, p⟩])
      = fun y => FloatOps.extf .f32 bitsLt_fp8e4m3_f32 (x3 y) := by
  funext y
  rw [View.read_writes_cons_unit_of_mem a17.view f inb_S64x512_S64x512_0_0 p [] y y rfl (by
    intro a
    match a with
    | ⟨0, _⟩ => exact (Nat.zero_add _).symm
    | ⟨1, _⟩ => exact (Nat.zero_add _).symm), hp]
  have hy : y = ix2 (y 0 : Fin 64) (y 1 : Fin 512) := funext fun a => by
    match a with
    | ⟨0, _⟩ => rfl
    | ⟨1, _⟩ => rfl
  rw [hy]
  refine (payS_apply _ _ _).trans ?_
  rw [ha5.readAt_unread]
  refine congrArg (fun q => FloatOps.extf .f32 bitsLt_fp8e4m3_f32 (x3 q)) ?_
  funext a; apply Fin.ext
  match a with
  | ⟨0, _⟩ => show 0 + 1 * (y 0).val = (y 0).val; omega
  | ⟨1, _⟩ => show 0 + 1 * (y 1).val = (y 1).val; omega

/-- One row of the scales, loaded. -/
theorem readAt_scales (a17 : Memref sig .tc .vmem S64x512 .f32) (f : a17.view.ty.Contents (Elt F)) (G : Vec F S64x512 .f32)
    (hf : a17.view.read (Elt F) f = G) (q : ℕ) (hq : q < 64) (o : Fin 2 → ℕ) (ho : o = ![q, 0])
    (inb : ∀ a, o a + S1x512.size a ≤ S64x512.size a) (c : Fin 512) :
    View.readAt (Elt F) a17.view (Rect.unit (s := S64x512) o S1x512.size inb).toLoadRect f (ix2 (0 : Fin 1) c) = G (ix2 ⟨q, hq⟩ c) := by
  subst ho
  rw [← hf]
  refine congrArg (a17.view.read (Elt F) f) ?_
  funext a; apply Fin.ext
  match a with
  | ⟨0, _⟩ => show q + 1 * 0 = q; omega
  | ⟨1, _⟩ => show 0 + 1 * c.val = c.val; omega

theorem scale_inb {o : Fin 2 → ℕ} {k : ℕ} {j : Fin 8} (h : o = ![8 * (k % 8) + j.val, 0]) : ∀ a, o a + S1x512.size a ≤ S64x512.size a := by
  subst h
  intro a
  match a with
  | ⟨0, _⟩ => show 8 * (k % 8) + j.val + 1 ≤ 64; omega
  | ⟨1, _⟩ => show 0 + 512 ≤ 512; omega

theorem strip_inb {o : Fin 2 → ℕ} {k : ℕ} {j : Fin 8} (h : o = ![1024 * (k % 8) + 128 * j.val, 0]) : ∀ a, o a + ![128, 512] a ≤ S8192x512.size a := by
  subst h
  intro a
  match a with
  | ⟨0, _⟩ => show 1024 * (k % 8) + 128 * j.val + 128 ≤ 8192; omega
  | ⟨1, _⟩ => show 0 + 512 ≤ 512; omega

theorem words_inb (j : Fin 8) : ∀ a, ![16 * j.val, 0] a + ![16, 512] a ≤ S128x512.size a := by
  intro a
  match a with
  | ⟨0, _⟩ => show 16 * j.val + 16 ≤ 128; omega
  | ⟨1, _⟩ => show 0 + 512 ≤ 512; omega

theorem off1 : ∀ t : Fin grid0.N, ∀ c : Fin 8, (k0_off1 (grid0.coords t) (BitVec.ofNat 32 c.val)) = ![8 * (t.val % 8) + c.val, 0] := by decide +kernel
theorem off2 : ∀ t : Fin grid0.N, ∀ c : Fin 8, (k0_off2 (grid0.coords t) (BitVec.ofNat 32 (128 * c.val))) = ![1024 * (t.val % 8) + 128 * c.val, 0] := by decide +kernel
theorem off3 : ∀ t : Fin grid0.N, ∀ c : Fin 8, (k0_off3 (grid0.coords t) (BitVec.ofNat 32 c.val)) = ![8 * (t.val % 8) + c.val, 0] := by decide +kernel
theorem off4 : ∀ t : Fin grid0.N, ∀ c : Fin 8, (k0_off4 (grid0.coords t) (BitVec.ofNat 32 (128 * c.val))) = ![1024 * (t.val % 8) + 128 * c.val, 0] := by decide +kernel
theorem off5 : ∀ t : Fin grid0.N, ∀ c : Fin 8, (k0_off5 (grid0.coords t) (BitVec.ofNat 32 c.val)) = ![8 * (t.val % 8) + c.val, 0] := by decide +kernel
theorem off6 : ∀ t : Fin grid0.N, ∀ c : Fin 8, (k0_off6 (grid0.coords t) (BitVec.ofNat 32 (128 * c.val))) = ![1024 * (t.val % 8) + 128 * c.val, 0] := by decide +kernel

end Cert.QkvIdeal.Hand

end
-- ==== Proof.QkvIdealInv.lean ====
module

public import proofs.«01_k».proof.Proof.QkvIdealStrip

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.ShloMosaic.ValueIdx hiding ix1 ix2

variable {F : FTy → Type} [FloatOps F]

/-! What the carried buffers hold between two points. -/

/-- Column `l` of tile `n` of the weights. -/
def col (n : Fin 5) (l : Fin 512) : Fin 2560 := ⟨512 * n.val + l.val, by omega⟩

/-- A tile's scales, widened. -/
def scl (S : Vec F S64x2560 .fp8e4m3) (n : Fin 5) : Vec F S64x512 .f32 :=
  fun y => FloatOps.extf .f32 bitsLt_fp8e4m3_f32 (S (ix2 (y 0 : Fin 64) (col n (y 1))))

/-- A tile of dequantised weights. -/
def tile (W : Vec F S1024x2560 .i32) (S : Vec F S64x2560 .fp8e4m3) (n : Fin 5) : Vec F S8192x512 .bf16 :=
  fun y => deq (W (ix2 (⟨(y 0).val / 8, by have : (y 0).val < 8192 := (y 0).isLt; omega⟩ : Fin 1024) (col n (y 1)))) ((y 0).val % 8)
    (scl S n (ix2 (⟨(y 0).val / 128, by have : (y 0).val < 8192 := (y 0).isLt; omega⟩ : Fin 64) (y 1 : Fin 512)))

/-- The first `k` rows of a buffer hold a tile. -/
def Hold (W : Vec F S1024x2560 .i32) (S : Vec F S64x2560 .fp8e4m3) (n : Fin 5) (d : Vec F S8192x512 .bf16) (k : ℕ) : Prop :=
  ∀ y : S8192x512.Idx, (y 0).val < k → d y = tile W S n y

/-- The tile being filled at point `t`, -/
def nxt (t : ℕ) : Fin 5 := ⟨min (t / 8) 4, by omega⟩
/-- and the tile being multiplied. -/
def cur (t : ℕ) : Fin 5 := ⟨min (t / 8 - 1) 4, by omega⟩

variable (W : Vec F S1024x2560 .i32) (S : Vec F S64x2560 .fp8e4m3)

theorem hold_zero (n : Fin 5) (d : Vec F S8192x512 .bf16) : Hold W S n d 0 := fun y h => absurd h (Nat.not_lt_zero _)

theorem eq_of_hold {n : Fin 5} {d : Vec F S8192x512 .bf16} (h : Hold W S n d 8192) : d = tile W S n :=
  funext fun y => h y (y 0).isLt

/-- A strip stored extends what is held. -/
theorem hold_strip {n : Fin 5} {k : ℕ} (hk : k < 8) (w : Vec F S128x512 .i32)
    (hw : ∀ y : S128x512.Idx, w y = W (ix2 (⟨128 * k + (y 0).val, by have : (y 0).val < 128 := (y 0).isLt; omega⟩ : Fin 1024) (col n (y 1))))
    {d : Vec F S8192x512 .bf16} (hd : Hold W S n d (1024 * k)) : Hold W S n (strip k hk w (scl S n) d) (1024 * k + 1024) := by
  intro y hy
  have hy0 : (y 0).val < 8192 := (y 0).isLt
  unfold strip
  by_cases h : (y 0).val / 1024 = k
  · rw [if_pos h, hw]
    unfold tile
    have e : (⟨128 * k + ((y 0).val % 1024 / 8), by omega⟩ : Fin 1024) = ⟨(y 0).val / 8, by omega⟩ := Fin.ext (by show 128 * k + (y 0).val % 1024 / 8 = (y 0).val / 8; omega)
    exact congrArg (fun q : Fin 1024 => deq (W (ix2 q (col n (y 1)))) ((y 0).val % 8) (scl S n (ix2 (⟨(y 0).val / 128, by omega⟩ : Fin 64) (y 1 : Fin 512)))) e
  · rw [if_neg h]
    exact hd y (by omega)

/-- The carried buffers before point `t`: the buffer being filled holds the next tile down to the strip of the point, the
    other one the tile to be multiplied, and within a tile the scales are the next tile's. -/
def Inv (t : ℕ) (xs0 xs1 : Vec F S8192x512 .bf16) (xs2 : Vec F S64x512 .f32) : Prop :=
  (t / 8 % 2 = 1 → Hold W S (nxt t) xs0 (1024 * (t % 8)) ∧ xs1 = tile W S (cur t))
  ∧ (t / 8 % 2 = 0 → Hold W S (nxt t) xs1 (1024 * (t % 8)) ∧ (t / 8 ≠ 0 → xs0 = tile W S (cur t)))
  ∧ (t % 8 ≠ 0 → xs2 = scl S (nxt t))

variable {W S} in
theorem inv_zero (xs0 xs1 : Vec F S8192x512 .bf16) (xs2 : Vec F S64x512 .f32) : Inv W S 0 xs0 xs1 xs2 :=
  ⟨fun h => absurd h (by decide), fun _ => ⟨hold_zero W S _ _, fun h => absurd rfl h⟩, fun h => absurd rfl h⟩

/-- The tile that follows, and the one before it, at the next point. -/
theorem cur_next {t : ℕ} (h7 : t % 8 = 7) : cur (t + 1) = nxt t := Fin.ext (by show min ((t + 1) / 8 - 1) 4 = min (t / 8) 4; omega)
theorem nxt_same {t : ℕ} (h7 : ¬ t % 8 = 7) : nxt (t + 1) = nxt t := Fin.ext (by show min ((t + 1) / 8) 4 = min (t / 8) 4; omega)
theorem cur_same {t : ℕ} (h7 : ¬ t % 8 = 7) : cur (t + 1) = cur t := Fin.ext (by show min ((t + 1) / 8 - 1) 4 = min (t / 8 - 1) 4; omega)

/-- A step that fills the second buffer. -/
theorem inv_even {t : ℕ} (h2 : t / 8 % 2 = 0) {xs0 xs1 : Vec F S8192x512 .bf16} {xs2 : Vec F S64x512 .f32}
    (h : Inv W S t xs0 xs1 xs2) (w0 : Vec F S128x512 .i32)
    (hw0 : ∀ y : S128x512.Idx, w0 y = W (ix2 (⟨128 * (t % 8) + (y 0).val, by have : (y 0).val < 128 := (y 0).isLt; omega⟩ : Fin 1024) (col (nxt t) (y 1)))) :
    Inv W S (t + 1) xs0 (strip (t % 8) (Nat.mod_lt _ (by decide)) w0 (scl S (nxt t)) xs1) (scl S (nxt t)) := by
  obtain ⟨ha, hf⟩ := h.2.1 h2
  have ha' := hold_strip W S (Nat.mod_lt t (by decide : 8 > 0)) w0 hw0 ha
  by_cases h7 : t % 8 = 7
  · rw [show 1024 * (t % 8) + 1024 = 8192 by omega] at ha'
    refine ⟨fun _ => ?_, fun h0 => absurd h0 (by omega), fun h0 => absurd h0 (by omega)⟩
    rw [show (t + 1) % 8 = 0 by omega, cur_next h7]
    exact ⟨hold_zero W S _ _, eq_of_hold W S ha'⟩
  · refine ⟨fun h0 => absurd h0 (by omega), fun _ => ?_, fun _ => by rw [nxt_same h7]⟩
    rw [nxt_same h7, cur_same h7, show 1024 * ((t + 1) % 8) = 1024 * (t % 8) + 1024 by omega]
    exact ⟨ha', fun h0 => hf (by omega)⟩

/-- A step that fills the first buffer. -/
theorem inv_odd {t : ℕ} (h2 : t / 8 % 2 = 1) {xs0 xs1 : Vec F S8192x512 .bf16} {xs2 : Vec F S64x512 .f32}
    (h : Inv W S t xs0 xs1 xs2) (w0 : Vec F S128x512 .i32)
    (hw0 : ∀ y : S128x512.Idx, w0 y = W (ix2 (⟨128 * (t % 8) + (y 0).val, by have : (y 0).val < 128 := (y 0).isLt; omega⟩ : Fin 1024) (col (nxt t) (y 1)))) :
    Inv W S (t + 1) (strip (t % 8) (Nat.mod_lt _ (by decide)) w0 (scl S (nxt t)) xs0) xs1 (scl S (nxt t)) := by
  obtain ⟨ha, hf⟩ := h.1 h2
  have ha' := hold_strip W S (Nat.mod_lt t (by decide : 8 > 0)) w0 hw0 ha
  by_cases h7 : t % 8 = 7
  · rw [show 1024 * (t % 8) + 1024 = 8192 by omega] at ha'
    refine ⟨fun h0 => absurd h0 (by omega), fun _ => ?_, fun h0 => absurd h0 (by omega)⟩
    rw [show (t + 1) % 8 = 0 by omega, cur_next h7]
    exact ⟨hold_zero W S _ _, fun _ => eq_of_hold W S ha'⟩
  · refine ⟨fun _ => ?_, fun h0 => absurd h0 (by omega), fun _ => by rw [nxt_same h7]⟩
    rw [nxt_same h7, cur_same h7, show 1024 * ((t + 1) % 8) = 1024 * (t % 8) + 1024 by omega]
    exact ⟨ha', hf⟩

/-! The windows' blocks, at coordinates. -/

theorem idx0 : ∀ t : Fin cfg0.N, win0_0.index t = ![if t.val < 8 then 0 else t.val % 8, 0] := (by decide +kernel : ∀ t : Fin grid0.N, win0_0.index t = ![if t.val < 8 then 0 else t.val % 8, 0])
theorem idx1 : ∀ t : Fin cfg0.N, win0_1.index t = ![t.val % 8, min (t.val / 8) 4] := (by decide +kernel : ∀ t : Fin grid0.N, win0_1.index t = ![t.val % 8, min (t.val / 8) 4])
theorem idx2 : ∀ t : Fin cfg0.N, win0_2.index t = ![0, min (t.val / 8) 4] := (by decide +kernel : ∀ t : Fin grid0.N, win0_2.index t = ![0, min (t.val / 8) 4])
theorem idx3 : ∀ t : Fin cfg0.N, win0_3.index t = ![0] := (by decide +kernel : ∀ t : Fin grid0.N, win0_3.index t = ![0])
theorem idx4 : ∀ t : Fin cfg0.N, win0_4.index t = ![0, t.val / 8 - 1] := (by decide +kernel : ∀ t : Fin grid0.N, win0_4.index t = ![0, t.val / 8 - 1])
theorem idx5 : ∀ t : Fin cfg0.N, win0_5.index t = ![if t.val < 8 then 0 else t.val % 8, 0] := (by decide +kernel : ∀ t : Fin grid0.N, win0_5.index t = ![if t.val < 8 then 0 else t.val % 8, 0])
theorem idx6 : ∀ t : Fin cfg0.N, win0_6.index t = ![if t.val < 8 then 0 else t.val % 8, 0] := (by decide +kernel : ∀ t : Fin grid0.N, win0_6.index t = ![if t.val < 8 then 0 else t.val % 8, 0])
theorem idx7 : ∀ t : Fin cfg0.N, win0_7.index t = ![0] := (by decide +kernel : ∀ t : Fin grid0.N, win0_7.index t = ![0])
theorem idx8 : ∀ t : Fin cfg0.N, win0_8.index t = ![0] := (by decide +kernel : ∀ t : Fin grid0.N, win0_8.index t = ![0])

variable (m : (ℓ : Loc nD τ sig) → Buf (Elt F) ℓ)

theorem iblk1 (c : Dev nD) (t : Fin cfg0.N) (y : S128x512.Idx) : (iblk m c 1 t : Vec F S128x512 .i32) y
    = (V m c main_arg2 : Vec F S1024x2560 .i32) (ix2 (⟨128 * (t.val % 8) + (y 0).val, by have : (y 0).val < 128 := (y 0).isLt; omega⟩ : Fin 1024) (col (nxt t.val) (y 1))) := by
  unfold iblk
  rw [View.read_apply]
  refine congrArg (V m c main_arg2 : Vec F S1024x2560 .i32) (funext fun a => Fin.ext ?_)
  match a with
  | ⟨0, _⟩ => show win0_1.index t 0 * 128 + 1 * (y 0).val = 128 * (t.val % 8) + (y 0).val; rw [idx1 t]; show t.val % 8 * 128 + 1 * (y 0).val = _; omega
  | ⟨1, _⟩ => show win0_1.index t 1 * 512 + 1 * (y 1).val = 512 * min (t.val / 8) 4 + (y 1).val; rw [idx1 t]; show min (t.val / 8) 4 * 512 + 1 * (y 1).val = _; omega

theorem iblk2 (c : Dev nD) (t : Fin cfg0.N) :
    (fun y => FloatOps.extf .f32 bitsLt_fp8e4m3_f32 ((iblk m c 2 t : Vec F S64x512 .fp8e4m3) y)) = scl (V m c main_arg3) (nxt t.val) := by
  funext y
  unfold scl iblk
  rw [View.read_apply]
  refine congrArg (fun q => FloatOps.extf .f32 bitsLt_fp8e4m3_f32 ((V m c main_arg3 : Vec F S64x2560 .fp8e4m3) q)) (funext fun a => Fin.ext ?_)
  match a with
  | ⟨0, _⟩ => show win0_2.index t 0 * 64 + 1 * (y 0).val = (y 0).val; rw [idx2 t]; show 0 * 64 + 1 * (y 0).val = _; omega
  | ⟨1, _⟩ => show win0_2.index t 1 * 512 + 1 * (y 1).val = 512 * min (t.val / 8) 4 + (y 1).val; rw [idx2 t]; show min (t.val / 8) 4 * 512 + 1 * (y 1).val = _; omega

end Cert.QkvIdeal.Hand

end
-- ==== Proof.QkvIdealOut.lean ====
module

public import proofs.«01_k».proof.Proof.QkvIdealStrip

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2
open Idealize.ShloMosaic.Pipeline (Dat Cfg Window BodyObligation cellOf)

variable {F : FTy → Type} [FloatOps F]

local notation "𝕄" => MT nD τ sig Unit (Elt F) ℕ (UR sig nD τ) ℕ

/-! The heads a step stores: a block of 768 rows falls into tiles of 256 rows and 128 columns, one head each. -/

section
variable {e : EltTy} {N C : ℕ} (hN : N = 128 * C) (T : Fin 3 → Fin C → Vec F S256x128 e)

/-- A block from its tiles. -/
def tileBlk : Vec F ⟨2, ![768, N]⟩ e := fun y =>
  T ⟨(y 0).val / 256, by have : (y 0).val < 768 := (y 0).isLt; omega⟩ ⟨(y 1).val / 128, by have : (y 1).val < N := (y 1).isLt; omega⟩
    (ix2 (⟨(y 0).val % 256, by omega⟩ : Fin 256) (⟨(y 1).val % 128, by omega⟩ : Fin 128))

include hN in
theorem tile_inb (i : Fin 3) (c : Fin C) : ∀ a : Fin 2, ![256 * i.val, 128 * c.val] a + S256x128.size a ≤ (⟨2, ![768, N]⟩ : Shape).size a := by
  intro a
  match a with
  | ⟨0, _⟩ => show 256 * i.val + 256 ≤ 768; omega
  | ⟨1, _⟩ => show 128 * c.val + 128 ≤ N; omega

/-- The store of a tile. -/
def tilePc (i : Fin 3) (c : Fin C) : View.Piece (Elt F) ⟨2, ![768, N]⟩ e :=
  ⟨Rect.unit (s := ⟨2, ![768, N]⟩) ![256 * i.val, 128 * c.val] S256x128.size (tile_inb hN i c), T i c⟩

/-- It writes the block's entries there. -/
theorem tilePc_apply (i : Fin 3) (c : Fin C) (x : (tilePc hN T i c).1.shape.Idx) :
    (tilePc hN T i c).2 x = tileBlk hN T ((tilePc hN T i c).1.emb x) := by
  have hx0 : (x 0).val < 256 := (x 0).isLt
  have hx1 : (x 1).val < 128 := (x 1).isLt
  unfold tileBlk
  have e0 : (((tilePc hN T i c).1.emb x) 0).val = 256 * i.val + (x 0).val := by show 256 * i.val + 1 * (x 0).val = _; omega
  have e1 : (((tilePc hN T i c).1.emb x) 1).val = 128 * c.val + (x 1).val := by show 128 * c.val + 1 * (x 1).val = _; omega
  have hi : (⟨(((tilePc hN T i c).1.emb x) 0).val / 256, by rw [e0]; omega⟩ : Fin 3) = i := Fin.ext (by show _ / 256 = _; rw [e0]; omega)
  have hc : (⟨(((tilePc hN T i c).1.emb x) 1).val / 128, by rw [e1]; omega⟩ : Fin C) = c := Fin.ext (by show _ / 128 = _; rw [e1]; omega)
  rw [hi, hc]
  show T i c x = T i c _
  refine congrArg (T i c) (funext fun b => Fin.ext ?_)
  match b with
  | ⟨0, _⟩ => show (x 0).val = _ % 256; rw [e0]; omega
  | ⟨1, _⟩ => show (x 1).val = _ % 128; rw [e1]; omega

/-- Stores of every tile leave the block, whatever the buffer held. -/
theorem read_tiles {sp : Space} (v : Memref sig .tc sp ⟨2, ![768, N]⟩ e) (f : v.view.ty.Contents (Elt F)) (L : List (View.Piece (Elt F) ⟨2, ![768, N]⟩ e))
    (hL : ∀ p ∈ L, ∃ i c, p = tilePc hN T i c) (hA : ∀ i c, tilePc hN T i c ∈ L) :
    v.view.read (Elt F) (v.view.writes (Elt F) f L) = tileBlk hN T := by
  funext y
  have hy0 : (y 0).val < 768 := (y 0).isLt
  have hy1 : (y 1).val < N := (y 1).isLt
  refine View.read_writes_apply_of_pieces _ _ _ _ ?_ y ⟨_, hA ⟨(y 0).val / 256, by omega⟩ ⟨(y 1).val / 128, by omega⟩, ?_⟩
  · intro p hp x
    obtain ⟨i, c, rfl⟩ := hL p hp
    exact tilePc_apply hN T i c x
  · refine (Rect.mem_set_unit (inb := tile_inb hN _ _)).mpr ?_
    intro b
    match b with
    | ⟨0, _⟩ => show 256 * ((y 0).val / 256) ≤ (y 0).val ∧ (y 0).val < 256 * ((y 0).val / 256) + 256; omega
    | ⟨1, _⟩ => show 128 * ((y 1).val / 128) ≤ (y 1).val ∧ (y 1).val < 128 * ((y 1).val / 128) + 128; omega
end

/-- Twelve tiles. -/
theorem read_tiles4 {e : EltTy} {sp : Space} (T : Fin 3 → Fin 4 → Vec F S256x128 e) (v : Memref sig .tc sp S768x512 e) (f : v.view.ty.Contents (Elt F)) :
    v.view.read (Elt F) (v.view.writes (Elt F) f [tilePc (N := 512) rfl T 2 3, tilePc (N := 512) rfl T 2 2, tilePc (N := 512) rfl T 2 1, tilePc (N := 512) rfl T 2 0, tilePc (N := 512) rfl T 1 3, tilePc (N := 512) rfl T 1 2, tilePc (N := 512) rfl T 1 1, tilePc (N := 512) rfl T 1 0, tilePc (N := 512) rfl T 0 3, tilePc (N := 512) rfl T 0 2, tilePc (N := 512) rfl T 0 1, tilePc (N := 512) rfl T 0 0]) = tileBlk (N := 512) rfl T := by
  refine read_tiles (N := 512) rfl T v f _ ?_ ?_
  · intro p hp
    simp only [List.mem_cons, List.not_mem_nil, or_false] at hp
    rcases hp with rfl | rfl | rfl | rfl | rfl | rfl | rfl | rfl | rfl | rfl | rfl | rfl <;> exact ⟨_, _, rfl⟩
  · intro i c
    rcases (by decide : ∀ i : Fin 3, i = 0 ∨ i = 1 ∨ i = 2) i with rfl | rfl | rfl <;>
      rcases (by decide : ∀ c : Fin 4, c = 0 ∨ c = 1 ∨ c = 2 ∨ c = 3) c with rfl | rfl | rfl | rfl <;>
      simp only [List.mem_cons, true_or, or_true]

/-- Six tiles. -/
theorem read_tiles2 {e : EltTy} {sp : Space} (T : Fin 3 → Fin 2 → Vec F S256x128 e) (v : Memref sig .tc sp S768x256 e) (f : v.view.ty.Contents (Elt F)) :
    v.view.read (Elt F) (v.view.writes (Elt F) f [tilePc (N := 256) rfl T 2 1, tilePc (N := 256) rfl T 2 0, tilePc (N := 256) rfl T 1 1, tilePc (N := 256) rfl T 1 0, tilePc (N := 256) rfl T 0 1, tilePc (N := 256) rfl T 0 0]) = tileBlk (N := 256) rfl T := by
  refine read_tiles (N := 256) rfl T v f _ ?_ ?_
  · intro p hp
    simp only [List.mem_cons, List.not_mem_nil, or_false] at hp
    rcases hp with rfl | rfl | rfl | rfl | rfl | rfl <;> exact ⟨_, _, rfl⟩
  · intro i c
    rcases (by decide : ∀ i : Fin 3, i = 0 ∨ i = 1 ∨ i = 2) i with rfl | rfl | rfl <;>
      rcases (by decide : ∀ c : Fin 2, c = 0 ∨ c = 1) c with rfl | rfl <;>
      simp only [List.mem_cons, true_or, or_true]

/-! The operands of a square of 256 rows and 256 columns. -/

/-- Rows of the codes, -/
def aRows (a : Vec F S768x8192 .fp8e4m3) (i : Fin 3) : Vec F S256x8192 .fp8e4m3 :=
  fun z => a (ix2 (⟨256 * i.val + (z 0).val, by have : (z 0).val < 256 := (z 0).isLt; omega⟩ : Fin 768) (z 1 : Fin 8192))
/-- columns of the weights, -/
def wCols (w : Vec F S8192x512 .bf16) (j : Fin 2) : Vec F S8192x256 .bf16 :=
  fun z => w (ix2 (z 0 : Fin 8192) (⟨256 * j.val + (z 1).val, by have : (z 1).val < 256 := (z 1).isLt; omega⟩ : Fin 512))
/-- columns of the scales, -/
def cCols (c : Vec F S1x512 .f32) (j : Fin 2) : Vec F S1x256 .f32 :=
  fun z => c (ix2 (z 0 : Fin 1) (⟨256 * j.val + (z 1).val, by have : (z 1).val < 256 := (z 1).isLt; omega⟩ : Fin 512))
/-- and rows of the cosines or sines. -/
def hRows (h : Vec F S768x64 .f32) (i : Fin 3) : Vec F S256x64 .f32 :=
  fun z => h (ix2 (⟨256 * i.val + (z 0).val, by have : (z 0).val < 256 := (z 0).isLt; omega⟩ : Fin 768) (z 1 : Fin 64))

theorem aRows_inb (i : Fin 3) : ∀ a : Fin 2, ![256 * i.val, 0] a + S256x8192.size a ≤ S768x8192.size a := by
  intro a
  match a with
  | ⟨0, _⟩ => show 256 * i.val + 256 ≤ 768; omega
  | ⟨1, _⟩ => show 0 + 8192 ≤ 8192; omega
theorem wCols_inb (j : Fin 2) : ∀ a : Fin 2, ![0, 256 * j.val] a + S8192x256.size a ≤ S8192x512.size a := by
  intro a
  match a with
  | ⟨0, _⟩ => show 0 + 8192 ≤ 8192; omega
  | ⟨1, _⟩ => show 256 * j.val + 256 ≤ 512; omega
theorem cCols_inb (j : Fin 2) : ∀ a : Fin 2, ![0, 256 * j.val] a + S1x256.size a ≤ S1x512.size a := by
  intro a
  match a with
  | ⟨0, _⟩ => show 0 + 1 ≤ 1; omega
  | ⟨1, _⟩ => show 256 * j.val + 256 ≤ 512; omega
theorem hRows_inb (i : Fin 3) : ∀ a : Fin 2, ![256 * i.val, 0] a + S256x64.size a ≤ S768x64.size a := by
  intro a
  match a with
  | ⟨0, _⟩ => show 256 * i.val + 256 ≤ 768; omega
  | ⟨1, _⟩ => show 0 + 64 ≤ 64; omega
theorem word_inb (h : Fin 2) : ∀ a : Fin 1, ![h.val] a + S1.size a ≤ S2.size a := by
  intro a
  match a with
  | ⟨0, _⟩ => show h.val + 1 ≤ 2; omega

theorem load_a (m : Memref sig .tc .vmem S768x8192 .fp8e4m3) (h : m.IsWhole) (X : Vec F S768x8192 .fp8e4m3) (i : Fin 3) :
    View.readAt (Elt F) m.view (Rect.unit (s := S768x8192) ![256 * i.val, 0] S256x8192.size (aRows_inb i)).toLoadRect (h.unread X) = aRows X i := by
  funext z
  rw [h.readAt_unread]
  refine congrArg X (funext fun a => Fin.ext ?_)
  match a with
  | ⟨0, _⟩ => show 256 * i.val + 1 * (z 0).val = 256 * i.val + (z 0).val; omega
  | ⟨1, _⟩ => show 0 + 1 * (z 1).val = (z 1).val; omega
theorem load_w (m : Memref sig .tc .vmem S8192x512 .bf16) (h : m.IsWhole) (X : Vec F S8192x512 .bf16) (j : Fin 2) :
    View.readAt (Elt F) m.view (Rect.unit (s := S8192x512) ![0, 256 * j.val] S8192x256.size (wCols_inb j)).toLoadRect (h.unread X) = wCols X j := by
  funext z
  rw [h.readAt_unread]
  refine congrArg X (funext fun a => Fin.ext ?_)
  match a with
  | ⟨0, _⟩ => show 0 + 1 * (z 0).val = (z 0).val; omega
  | ⟨1, _⟩ => show 256 * j.val + 1 * (z 1).val = 256 * j.val + (z 1).val; omega
theorem load_c (m : Memref sig .tc .vmem S1x512 .f32) (h : m.IsWhole) (X : Vec F S1x512 .f32) (j : Fin 2) :
    View.readAt (Elt F) m.view (Rect.unit (s := S1x512) ![0, 256 * j.val] S1x256.size (cCols_inb j)).toLoadRect (h.unread X) = cCols X j := by
  funext z
  rw [h.readAt_unread]
  refine congrArg X (funext fun a => Fin.ext ?_)
  match a with
  | ⟨0, _⟩ => show 0 + 1 * (z 0).val = (z 0).val; omega
  | ⟨1, _⟩ => show 256 * j.val + 1 * (z 1).val = 256 * j.val + (z 1).val; omega
theorem load_h (m : Memref sig .tc .vmem S768x64 .f32) (h : m.IsWhole) (X : Vec F S768x64 .f32) (i : Fin 3) :
    View.readAt (Elt F) m.view (Rect.unit (s := S768x64) ![256 * i.val, 0] S256x64.size (hRows_inb i)).toLoadRect (h.unread X) = hRows X i := by
  funext z
  rw [h.readAt_unread]
  refine congrArg X (funext fun a => Fin.ext ?_)
  match a with
  | ⟨0, _⟩ => show 256 * i.val + 1 * (z 0).val = 256 * i.val + (z 0).val; omega
  | ⟨1, _⟩ => show 0 + 1 * (z 1).val = (z 1).val; omega

/-- The one word of a scalar operand, loaded, -/
theorem load_word (m : Memref sig .tc .smem S1 .f32) (h : m.IsWhole) (X : Vec F S1 .f32) (i : S1.Idx) :
    View.readAt (Elt F) m.view (Rect.unit (s := S1) ![0] S1.size inb_S1_S1_0).toLoadRect (h.unread X) i = X (ix1 0) := by
  rw [h.readAt_unread]
  refine congrArg X (funext fun a => Fin.ext ?_)
  have h1 : ∀ v : Fin (S1.size a), v.val = 0 := fun v => by
    have := v.isLt
    match a, v, this with
    | ⟨0, _⟩, v, this => exact Nat.lt_one_iff.mp this
  rw [h1, h1]
/-- and one of two words. -/
theorem load_word2 (m : Memref sig .tc .smem S2 .f32) (h : m.IsWhole) (X : Vec F S2 .f32) (k : Fin 2) :
    View.readAt (Elt F) m.view (Rect.unit (s := S2) ![k.val] S1.size (word_inb k)).toLoadRect (h.unread X) (Shape.Idx.first (show 0 < S1.numel by decide)) = X (ix1 k) := by
  rw [h.readAt_unread]
  refine congrArg X (funext fun a => Fin.ext ?_)
  match a with
  | ⟨0, _⟩ => show k.val + 1 * _ = k.val; rw [show ((Shape.Idx.first (show 0 < S1.numel by decide) : S1.Idx) ⟨0, by decide⟩).val = 0 from rfl]; omega

/-! The tiles of the three results. -/

/-- The square of columns a tile of 128 lies in. -/
def half (c : Fin 4) : Fin 2 := ⟨c.val / 2, by omega⟩

def qTile (a : Vec F S256x8192 .fp8e4m3) (w : Fin 2 → Vec F S8192x256 .bf16) (s : Elt F .f32) (cs : Fin 2 → Vec F S1x256 .f32) (co si : Vec F S256x64 .f32)
    (c : Fin 4) : Vec F S256x128 .bf16 :=
  cond (Nat.beq (c.val % 2) 0) k0_pay38 k0_pay39 a (w (half c)) s (cs (half c)) co si
def kTile (a : Vec F S256x8192 .fp8e4m3) (w : Vec F S8192x256 .bf16) (s : Elt F .f32) (cs : Vec F S1x256 .f32) (co si : Vec F S256x64 .f32)
    (c : Fin 2) (ks : Elt F .f32) : Vec F S256x128 .fp8e4m3 :=
  cond (Nat.beq c.val 0) k0_pay40 k0_pay41 a w s cs co si ks
def vTile (a : Vec F S256x8192 .fp8e4m3) (w : Vec F S8192x256 .bf16) (s : Elt F .f32) (cs : Vec F S1x256 .f32)
    (c : Fin 2) (vs : Elt F .f32) : Vec F S256x128 .fp8e4m3 :=
  cond (Nat.beq c.val 0) k0_pay50 k0_pay51 (k0_pay42 a w) s cs vs

/-- The block of heads of q, -/
def qBlk (a : Vec F S768x8192 .fp8e4m3) (w : Vec F S8192x512 .bf16) (s : Elt F .f32) (cs : Vec F S1x512 .f32) (co si : Vec F S768x64 .f32) : Vec F S768x512 .bf16 :=
  tileBlk (N := 512) rfl fun i c => qTile (aRows a i) (wCols w) s (cCols cs) (hRows co i) (hRows si i) c
/-- of k, -/
def kBlk (a : Vec F S768x8192 .fp8e4m3) (w : Vec F S8192x512 .bf16) (s : Elt F .f32) (cs : Vec F S1x512 .f32) (co si : Vec F S768x64 .f32) (ks : Vec F S2 .f32) : Vec F S768x256 .fp8e4m3 :=
  tileBlk (N := 256) rfl fun i c => kTile (aRows a i) (wCols w 0) s (cCols cs 0) (hRows co i) (hRows si i) c (ks (ix1 c))
/-- and of v. -/
def vBlk (a : Vec F S768x8192 .fp8e4m3) (w : Vec F S8192x512 .bf16) (s : Elt F .f32) (cs : Vec F S1x512 .f32) (vs : Vec F S2 .f32) : Vec F S768x256 .fp8e4m3 :=
  tileBlk (N := 256) rfl fun i c => vTile (aRows a i) (wCols w 1) s (cCols cs 1) c (vs (ix1 c))

section
variable (a2 : Memref sig .tc .vmem S768x8192 .fp8e4m3) (h2 : a2.IsWhole) (bg : Memref sig .tc .vmem S8192x512 .bf16) (hg : bg.IsWhole)
    (a6 : Memref sig .tc .vmem S1x512 .f32) (h6 : a6.IsWhole) (a7 : Memref sig .tc .vmem S768x64 .f32) (h7 : a7.IsWhole) (a8 : Memref sig .tc .vmem S768x64 .f32) (h8 : a8.IsWhole)
    (a9 : Memref sig .tc .smem S2 .f32) (h9 : a9.IsWhole)
    (a : Vec F S768x8192 .fp8e4m3) (w : Vec F S8192x512 .bf16) (s : Elt F .f32) (cs : Vec F S1x512 .f32) (co si : Vec F S768x64 .f32) (ks : Vec F S2 .f32)

/-- The tiles with their operands loaded from the buffers. -/
def qLd (i : Fin 3) (c : Fin 4) : Vec F S256x128 .bf16 :=
  qTile (View.readAt (Elt F) a2.view (Rect.unit (s := S768x8192) ![256 * i.val, 0] S256x8192.size (aRows_inb i)).toLoadRect (h2.unread a))
    (fun j => View.readAt (Elt F) bg.view (Rect.unit (s := S8192x512) ![0, 256 * j.val] S8192x256.size (wCols_inb j)).toLoadRect (hg.unread w)) s
    (fun j => View.readAt (Elt F) a6.view (Rect.unit (s := S1x512) ![0, 256 * j.val] S1x256.size (cCols_inb j)).toLoadRect (h6.unread cs))
    (View.readAt (Elt F) a7.view (Rect.unit (s := S768x64) ![256 * i.val, 0] S256x64.size (hRows_inb i)).toLoadRect (h7.unread co))
    (View.readAt (Elt F) a8.view (Rect.unit (s := S768x64) ![256 * i.val, 0] S256x64.size (hRows_inb i)).toLoadRect (h8.unread si)) c
def kLd (i : Fin 3) (c : Fin 2) : Vec F S256x128 .fp8e4m3 :=
  kTile (View.readAt (Elt F) a2.view (Rect.unit (s := S768x8192) ![256 * i.val, 0] S256x8192.size (aRows_inb i)).toLoadRect (h2.unread a))
    (View.readAt (Elt F) bg.view (Rect.unit (s := S8192x512) ![0, 256 * (0 : Fin 2).val] S8192x256.size (wCols_inb 0)).toLoadRect (hg.unread w)) s
    (View.readAt (Elt F) a6.view (Rect.unit (s := S1x512) ![0, 256 * (0 : Fin 2).val] S1x256.size (cCols_inb 0)).toLoadRect (h6.unread cs))
    (View.readAt (Elt F) a7.view (Rect.unit (s := S768x64) ![256 * i.val, 0] S256x64.size (hRows_inb i)).toLoadRect (h7.unread co))
    (View.readAt (Elt F) a8.view (Rect.unit (s := S768x64) ![256 * i.val, 0] S256x64.size (hRows_inb i)).toLoadRect (h8.unread si)) c
    (View.readAt (Elt F) a9.view (Rect.unit (s := S2) ![c.val] S1.size (word_inb c)).toLoadRect (h9.unread ks) (Shape.Idx.first (show 0 < S1.numel by decide)))
def vLd (i : Fin 3) (c : Fin 2) : Vec F S256x128 .fp8e4m3 :=
  vTile (View.readAt (Elt F) a2.view (Rect.unit (s := S768x8192) ![256 * i.val, 0] S256x8192.size (aRows_inb i)).toLoadRect (h2.unread a))
    (View.readAt (Elt F) bg.view (Rect.unit (s := S8192x512) ![0, 256 * (1 : Fin 2).val] S8192x256.size (wCols_inb 1)).toLoadRect (hg.unread w)) s
    (View.readAt (Elt F) a6.view (Rect.unit (s := S1x512) ![0, 256 * (1 : Fin 2).val] S1x256.size (cCols_inb 1)).toLoadRect (h6.unread cs)) c
    (View.readAt (Elt F) a9.view (Rect.unit (s := S2) ![c.val] S1.size (word_inb c)).toLoadRect (h9.unread ks) (Shape.Idx.first (show 0 < S1.numel by decide)))

theorem qLd_blk : tileBlk (N := 512) rfl (qLd a2 h2 bg hg a6 h6 a7 h7 a8 h8 a w s cs co si) = qBlk a w s cs co si := by
  refine congrArg _ (funext fun i => funext fun c => ?_)
  unfold qLd
  rw [load_a, load_h, load_h]
  exact congrArg₂ (fun W C => qTile (aRows a i) W s C (hRows co i) (hRows si i) c) (funext fun j => load_w bg hg w j) (funext fun j => load_c a6 h6 cs j)
theorem kLd_blk : tileBlk (N := 256) rfl (kLd a2 h2 bg hg a6 h6 a7 h7 a8 h8 a9 h9 a w s cs co si ks) = kBlk a w s cs co si ks := by
  refine congrArg _ (funext fun i => funext fun c => ?_)
  unfold kLd
  rw [load_a, load_w, load_c, load_h, load_h, load_word2]
theorem vLd_blk : tileBlk (N := 256) rfl (vLd a2 h2 bg hg a6 h6 a9 h9 a w s cs ks) = vBlk a w s cs ks := by
  refine congrArg _ (funext fun i => funext fun c => ?_)
  unfold vLd
  rw [load_a, load_w, load_c, load_word2]
end

end Cert.QkvIdeal.Hand

end
-- ==== Proof.QkvIdealDat.lean ====
module

public import proofs.«01_k».proof.Proof.QkvIdealInv
public import proofs.«01_k».proof.Proof.QkvIdealOut

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2
open Idealize.ShloMosaic.Pipeline (Dat Cfg Window BodyObligation cellOf)

variable {F : FTy → Type} [FloatOps F]

local notation "𝕄" => MT nD τ sig Unit (Elt F) ℕ (UR sig nD τ) ℕ

/-! The pipeline's proof data: what each buffer holds at each point. -/

variable (m : (ℓ : Loc nD τ sig) → Buf (Elt F) ℓ) (ρ : Dev nD → PrngReg)

abbrev ms0_0 (t : Fin cfg0.N) : Memref sig .tc .vmem S768x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S2 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S2 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S768x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S768x256 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S768x256 .fp8e4m3 := win0_11.stage (cfg0.slots t 11)
abbrev hs0_11 (t : Fin cfg0.N) : (ms0_11 t).IsWhole := hstage0_11 ((cfg0.slots t 11).cast nbuf0_11)
abbrev scM0_0 : Memref sig .tc .vmem S8192x512 .bf16 := Memref.whole cc0_scratch0
abbrev scM0_1 : Memref sig .tc .vmem S8192x512 .bf16 := Memref.whole cc0_scratch1
abbrev scM0_2 : Memref sig .tc .vmem S64x512 .f32 := Memref.whole cc0_scratch2

/-- The heads of q that point `t` stores: the point's rows against the tile's weights, -/
def qAt (c : Dev nD) (t : Fin cfg0.N) : Vec F S768x512 .bf16 :=
  qBlk (iblk m c 0 t) (tile (V m c main_arg2) (V m c main_arg3) (cur t.val)) ((iblk m c 3 t : Vec F S1 .f32) (ix1 0)) (iblk m c 4 t) (iblk m c 5 t) (iblk m c 6 t)
/-- of k, -/
def kAt (c : Dev nD) (t : Fin cfg0.N) : Vec F S768x256 .fp8e4m3 :=
  kBlk (iblk m c 0 t) (tile (V m c main_arg2) (V m c main_arg3) (cur t.val)) ((iblk m c 3 t : Vec F S1 .f32) (ix1 0)) (iblk m c 4 t) (iblk m c 5 t) (iblk m c 6 t) (iblk m c 7 t)
/-- and of v. -/
def vAt (c : Dev nD) (t : Fin cfg0.N) : Vec F S768x256 .fp8e4m3 :=
  vBlk (iblk m c 0 t) (tile (V m c main_arg2) (V m c main_arg3) (cur t.val)) ((iblk m c 3 t : Vec F S1 .f32) (ix1 0)) (iblk m c 4 t) (iblk m c 8 t)

/-- The last point up to `t` that stores heads of q. -/
def lastQ (t : Fin cfg0.N) : Fin cfg0.N := if t.val < 40 then t else ⟨39, by decide⟩

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant between two points: the carried buffers, at contents that `Inv` describes. -/
def Phi (c : Dev nD) (t : ℕ) : sProp 𝕄 :=
  iprop(∃ (xs0 xs1 : Vec F S8192x512 .bf16) (xs2 : Vec F S64x512 .f32),
    ⌜Inv (V m c main_arg2) (V m c main_arg3) t xs0 xs1 xs2⌝
    ∗ (owns (c : Thread nD τ) scM0_0 fullShare xs0 ∗ owns (c : Thread nD τ) scM0_1 fullShare xs1 ∗ owns (c : Thread nD τ) scM0_2 fullShare xs2)
    ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => qAt m c (lastQ t)
    | ⟨10, _⟩ => kAt m c t
    | ⟨11, _⟩ => vAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val := by dsimp only [dats]; rfl
theorem Phi_succ (c : Dev nD) (t : Fin cfg0.N) : (dats m 0 c).Φ t.succ = Phi m c (t.val + 1) := by dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = qAt m c (lastQ t) := by dsimp only [dats]
theorem after0_10 (c : Dev nD) (t : Fin cfg0.N) : (dats m 0 c).after 10 t = kAt m c t := by dsimp only [dats]
theorem after0_11 (c : Dev nD) (t : Fin cfg0.N) : (dats m 0 c).after 11 t = vAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]

/-! Where the results are stored. -/

theorem idle9 : ∀ t : Fin cfg0.N, (t.val < 8 ∨ ¬ t.val < 40) → cfg0.idle 9 (grid0.coords t) = true :=
  (by decide +kernel : ∀ t : Fin grid0.N, (t.val < 8 ∨ ¬ t.val < 40) → idle0 9 (grid0.coords t) = true)
theorem live9 : ∀ t : Fin cfg0.N, ¬ t.val < 8 → t.val < 40 → cfg0.idle 9 (grid0.coords t) = false :=
  (by decide +kernel : ∀ t : Fin grid0.N, ¬ t.val < 8 → t.val < 40 → idle0 9 (grid0.coords t) = false)
theorem flush9 : ∀ t : Fin cfg0.N, (t.val < 8 ∨ ¬ t.val < 39) → t.val ≠ 47 → (cfg0.win 9).flush t = false :=
  (by decide +kernel : ∀ t : Fin grid0.N, (t.val < 8 ∨ ¬ t.val < 39) → t.val ≠ 47 → win0_9.flush t = false)
theorem fetch9 : ∀ t : Fin cfg0.N, (cfg0.win 9).fetch t = false :=
  (by decide +kernel : ∀ t : Fin grid0.N, win0_9.fetch t = false)
theorem idle10 : ∀ t : Fin cfg0.N, t.val < 40 → cfg0.idle 10 (grid0.coords t) = true :=
  (by decide +kernel : ∀ t : Fin grid0.N, t.val < 40 → idle0 10 (grid0.coords t) = true)
theorem live10 : ∀ t : Fin cfg0.N, ¬ t.val < 40 → cfg0.idle 10 (grid0.coords t) = false :=
  (by decide +kernel : ∀ t : Fin grid0.N, ¬ t.val < 40 → idle0 10 (grid0.coords t) = false)
theorem flush10 : ∀ t : Fin cfg0.N, t.val < 40 → (cfg0.win 10).flush t = false :=
  (by decide +kernel : ∀ t : Fin grid0.N, t.val < 40 → win0_10.flush t = false)
theorem idle11 : ∀ t : Fin cfg0.N, t.val < 40 → cfg0.idle 11 (grid0.coords t) = true :=
  (by decide +kernel : ∀ t : Fin grid0.N, t.val < 40 → idle0 11 (grid0.coords t) = true)
theorem live11 : ∀ t : Fin cfg0.N, ¬ t.val < 40 → cfg0.idle 11 (grid0.coords t) = false :=
  (by decide +kernel : ∀ t : Fin grid0.N, ¬ t.val < 40 → idle0 11 (grid0.coords t) = false)
theorem flush11 : ∀ t : Fin cfg0.N, t.val < 40 → (cfg0.win 11).flush t = false :=
  (by decide +kernel : ∀ t : Fin grid0.N, t.val < 40 → win0_11.flush t = false)

theorem leaves0_9 (c : Dev nD) (t : Fin cfg0.N) (h : ¬ t.val < 8) (h4 : t.val < 40) :
    (dats m 0 c).leavesExact 9 t = owns (c : Thread nD τ) (ms0_9 t) fullShare (qAt m c t) := by
  unfold Dat.leavesExact
  rw [show cfg0.idle 9 (cfg0.grid.coords t) = false from live9 t h h4, after0_9, show lastQ t = t from if_pos h4]

/-- After the last heads of q their buffer keeps them. -/
theorem before0_9 (c : Dev nD) : ∀ (n : ℕ) (hn : n < cfg0.N), ¬ n < 40 → ∀ d, (dats m 0 c).before 9 ⟨n, hn⟩ d = qAt m c (lastQ ⟨n, hn⟩)
  | 0, hn, h, d => absurd (by omega) h
  | n + 1, hn, h, d => by
    have hN : n + 1 < 48 := hn
    rw [Dat.before_of_pos (dats m 0 c) 9 ⟨n + 1, hn⟩ (Nat.succ_ne_zero n) (fetch9 _)]
    rw [show (cfg0.win 9).flush ⟨n + 1 - 1, _⟩ = false from flush9 ⟨n, Nat.lt_of_succ_lt hn⟩ (Or.inr (by show ¬ n < 39; omega)) (by show n ≠ 47; omega), if_neg Bool.false_ne_true]
    unfold Dat.left
    have e : lastQ ⟨n + 1, hn⟩ = lastQ ⟨n, Nat.lt_of_succ_lt hn⟩ := by
      unfold lastQ
      rw [if_neg h]
      by_cases h' : n < 40
      · rw [if_pos h']; exact Fin.ext (by show 39 = n; omega)
      · rw [if_neg h']
    rw [e]
    by_cases h' : n < 40
    · rw [show cfg0.idle 9 (cfg0.grid.coords ⟨n + 1 - 1, _⟩) = false from live9 ⟨n, Nat.lt_of_succ_lt hn⟩ (by show ¬ n < 8; omega) h']
      exact after0_9 m c ⟨n, Nat.lt_of_succ_lt hn⟩
    · rw [show cfg0.idle 9 (cfg0.grid.coords ⟨n + 1 - 1, _⟩) = true from idle9 ⟨n, Nat.lt_of_succ_lt hn⟩ (Or.inr h')]
      exact before0_9 c n (Nat.lt_of_succ_lt hn) h' d

/-- A point that stores no head of q leaves their buffer as it is. -/
theorem keep9 (c : Dev nD) (t : Fin cfg0.N) (h : t.val < 8 ∨ ¬ t.val < 40) :
    (iprop(∃ d, owns (c : Thread nD τ) (ms0_9 t) fullShare ((dats m 0 c).before 9 t d)) : sProp 𝕄) ⊢ (dats m 0 c).leavesExact 9 t := by
  by_cases h7 : t.val = 47
  · by_cases hf : (cfg0.win 9).flush t = false
    · rw [Dat.leavesExact_idle (dats m 0 c) 9 t (idle9 t h) hf]
    · unfold Dat.leavesExact
      rw [show cfg0.idle 9 (cfg0.grid.coords t) = true from idle9 t h, show (cfg0.win 9).flush t = true from eq_true_of_ne_false hf, after0_9]
      iintro ⟨%d, H⟩
      rw [show (dats m 0 c).before 9 t d = qAt m c (lastQ t) from before0_9 m c t.val t.isLt (by omega) d]
      iexact H
  · rw [Dat.leavesExact_idle (dats m 0 c) 9 t (idle9 t h) (flush9 t (by omega) h7)]

theorem leaves0_10 (c : Dev nD) (t : Fin cfg0.N) (h : ¬ t.val < 40) :
    (dats m 0 c).leavesExact 10 t = owns (c : Thread nD τ) (ms0_10 t) fullShare (kAt m c t) := by
  unfold Dat.leavesExact; rw [show cfg0.idle 10 (cfg0.grid.coords t) = false from live10 t h, after0_10]
theorem keep10 (c : Dev nD) (t : Fin cfg0.N) (h : t.val < 40) :
    (iprop(∃ d, owns (c : Thread nD τ) (ms0_10 t) fullShare ((dats m 0 c).before 10 t d)) : sProp 𝕄) ⊢ (dats m 0 c).leavesExact 10 t := by
  rw [Dat.leavesExact_idle (dats m 0 c) 10 t (idle10 t h) (flush10 t h)]
theorem leaves0_11 (c : Dev nD) (t : Fin cfg0.N) (h : ¬ t.val < 40) :
    (dats m 0 c).leavesExact 11 t = owns (c : Thread nD τ) (ms0_11 t) fullShare (vAt m c t) := by
  unfold Dat.leavesExact; rw [show cfg0.idle 11 (cfg0.grid.coords t) = false from live11 t h, after0_11]
theorem keep11 (c : Dev nD) (t : Fin cfg0.N) (h : t.val < 40) :
    (iprop(∃ d, owns (c : Thread nD τ) (ms0_11 t) fullShare ((dats m 0 c).before 11 t d)) : sProp 𝕄) ⊢ (dats m 0 c).leavesExact 11 t := by
  rw [Dat.leavesExact_idle (dats m 0 c) 11 t (idle11 t h) (flush11 t h)]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem owns_of {sp : Space} {s : Shape} {e : EltTy} (c : Dev nD) (a : Memref sig .tc sp s e) (f : a.view.ty.Contents (Elt F)) {d : Vec F s e}
    (h : a.view.read (Elt F) f = d) :
    (iprop(a.view.loc (c : Thread nD τ) ↦[a.view.set]{fullShare} f) : sProp 𝕄) ⊢ owns (c : Thread nD τ) a fullShare d := by
  subst h
  unfold owns
  iintro H
  iexists _
  isplitr
  · ipureintro; rfl
  iexact H

end Cert.QkvIdeal.Hand

end
-- ==== Proof.QkvIdealFrame.lean ====
module

public import proofs.«01_k».proof.Proof.QkvIdealRun
public import proofs.«01_k».proof.Proof.QkvIdealDat

/-! What the stores of a point leave in the buffers; that the body keeps the invariant; the run of the kernel. -/

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx hiding ix1 ix2
open Idealize.ShloMosaic.Pipeline (Dat Cfg Window BodyObligation cellOf)

variable {F : FTy → Type} [FloatOps F]

local notation "𝕄" => MT nD τ sig Unit (Elt F) ℕ (UR sig nD τ) ℕ

section
section
variable (c : Dev nD) (t : Fin cfg0.N) (arg2 : Memref sig .tc .vmem S768x8192 .fp8e4m3) (harg2 : arg2.IsWhole)
    (arg3 : Memref sig .tc .vmem S128x512 .i32) (harg3 : arg3.IsWhole)
    (arg4 : Memref sig .tc .vmem S64x512 .fp8e4m3) (harg4 : arg4.IsWhole)
    (arg5 : Memref sig .tc .smem S1 .f32) (harg5 : arg5.IsWhole)
    (arg6 : Memref sig .tc .vmem S1x512 .f32) (harg6 : arg6.IsWhole)
    (arg7 : Memref sig .tc .vmem S768x64 .f32) (harg7 : arg7.IsWhole)
    (arg8 : Memref sig .tc .vmem S768x64 .f32) (harg8 : arg8.IsWhole)
    (arg9 : Memref sig .tc .smem S2 .f32) (harg9 : arg9.IsWhole)
    (arg10 : Memref sig .tc .smem S2 .f32) (harg10 : arg10.IsWhole)
    (arg11 : Memref sig .tc .vmem S768x512 .bf16) (harg11 : arg11.IsWhole)
    (arg12 : Memref sig .tc .vmem S768x256 .fp8e4m3) (harg12 : arg12.IsWhole)
    (arg13 : Memref sig .tc .vmem S768x256 .fp8e4m3) (harg13 : arg13.IsWhole)
    (arg14 : Memref sig .tc .vmem S8192x512 .bf16) (harg14 : arg14.IsWhole)
    (arg15 : Memref sig .tc .vmem S8192x512 .bf16) (harg15 : arg15.IsWhole)
    (arg16 : Memref sig .tc .vmem S64x512 .f32) (harg16 : arg16.IsWhole)

section
variable (hc0 : cond0 (grid0.coords t)) (hc1 : cond1 (grid0.coords t)) (hc2 : ¬cond2 (grid0.coords t)) (hc3 : ¬cond3 (grid0.coords t))
    (x1 : Vec F S128x512 .i32) (x2 : Vec F S64x512 .fp8e4m3) (xs1 : Vec F S8192x512 .bf16)

/-- The scales, copied. -/
theorem runZ0_scales (f : arg16.view.ty.Contents (Elt F)) :
    arg16.view.read (Elt F) (arg16.view.writes (Elt F) f (runZ0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x1 x2 xs1).2.1)
      = fun y => FloatOps.extf .f32 bitsLt_fp8e4m3_f32 (x2 y) :=
  read_scales arg16 f arg4 harg4 x2 _ rfl

/-- The strip of weights. -/
theorem runZ0_strip :
    arg15.view.read (Elt F) (arg15.view.writes (Elt F) (harg15.unread xs1) (runZ0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x1 x2 xs1).1)
      = strip (t.val % 8) (Nat.mod_lt _ (by decide)) x1 (fun y => FloatOps.extf .f32 bitsLt_fp8e4m3_f32 (x2 y)) xs1 :=
  read_strip arg15 harg15 xs1 (t.val % 8) (Nat.mod_lt _ (by decide)) arg3 harg3 x1
    (fun j => View.readAt (Elt F) arg16.view (Rect.unit (s := S64x512) (k0_off1 (grid0.coords t) (BitVec.ofNat 32 j.val)) S1x512.size
      (scale_inb (off1 t j))).toLoadRect (arg16.view.writes (Elt F) arg16.view.junk (runZ0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x1 x2 xs1).2.1)) (fun y => FloatOps.extf .f32 bitsLt_fp8e4m3_f32 (x2 y))
    (fun j l => readAt_scales arg16 _ (fun y => FloatOps.extf .f32 bitsLt_fp8e4m3_f32 (x2 y)) (read_scales arg16 _ arg4 harg4 x2 _ rfl) (8 * (t.val % 8) + j.val) (by omega) _ (off1 t j) _ l)
    (fun j => k0_off2 (grid0.coords t) (BitVec.ofNat 32 (128 * j.val))) (off2 t) (fun j => strip_inb (off2 t j)) words_inb

end

section
variable (hc0 : ¬cond0 (grid0.coords t)) (hc1 : cond1 (grid0.coords t)) (hc2 : ¬cond2 (grid0.coords t)) (hc3 : ¬cond3 (grid0.coords t))
    (x1 : Vec F S128x512 .i32) (xs1 : Vec F S8192x512 .bf16) (xs2 : Vec F S64x512 .f32)

/-- The strip of weights. -/
theorem runZ1_strip :
    arg15.view.read (Elt F) (arg15.view.writes (Elt F) (harg15.unread xs1) (runZ1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x1 xs1 xs2).1)
      = strip (t.val % 8) (Nat.mod_lt _ (by decide)) x1 xs2 xs1 :=
  read_strip arg15 harg15 xs1 (t.val % 8) (Nat.mod_lt _ (by decide)) arg3 harg3 x1
    (fun j => View.readAt (Elt F) arg16.view (Rect.unit (s := S64x512) (k0_off1 (grid0.coords t) (BitVec.ofNat 32 j.val)) S1x512.size
      (scale_inb (off1 t j))).toLoadRect (harg16.unread xs2)) xs2
    (fun j l => readAt_scales arg16 _ xs2 (harg16.read_unread _) (8 * (t.val % 8) + j.val) (by omega) _ (off1 t j) _ l)
    (fun j => k0_off2 (grid0.coords t) (BitVec.ofNat 32 (128 * j.val))) (off2 t) (fun j => strip_inb (off2 t j)) words_inb

end

section
variable (hc0 : cond0 (grid0.coords t)) (hc1 : ¬cond1 (grid0.coords t)) (hc2 : cond2 (grid0.coords t)) (hc3 : ¬cond3 (grid0.coords t)) (hq : condQ (grid0.coords t)) (hv : ¬condV (grid0.coords t))
    (x0 : Vec F S768x8192 .fp8e4m3) (x1 : Vec F S128x512 .i32) (x2 : Vec F S64x512 .fp8e4m3) (x3 : Vec F S1 .f32) (x4 : Vec F S1x512 .f32) (x5 : Vec F S768x64 .f32) (x6 : Vec F S768x64 .f32) (xs0 : Vec F S8192x512 .bf16) (xs1 : Vec F S8192x512 .bf16)

/-- The scales, copied. -/
theorem runO0_scales (f : arg16.view.ty.Contents (Elt F)) :
    arg16.view.read (Elt F) (arg16.view.writes (Elt F) f (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 xs0 xs1).2.2.1)
      = fun y => FloatOps.extf .f32 bitsLt_fp8e4m3_f32 (x2 y) :=
  read_scales arg16 f arg4 harg4 x2 _ rfl

/-- The strip of weights. -/
theorem runO0_strip :
    arg14.view.read (Elt F) (arg14.view.writes (Elt F) (harg14.unread xs0) (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 xs0 xs1).2.1)
      = strip (t.val % 8) (Nat.mod_lt _ (by decide)) x1 (fun y => FloatOps.extf .f32 bitsLt_fp8e4m3_f32 (x2 y)) xs0 :=
  read_strip arg14 harg14 xs0 (t.val % 8) (Nat.mod_lt _ (by decide)) arg3 harg3 x1
    (fun j => View.readAt (Elt F) arg16.view (Rect.unit (s := S64x512) (k0_off3 (grid0.coords t) (BitVec.ofNat 32 j.val)) S1x512.size
      (scale_inb (off3 t j))).toLoadRect (arg16.view.writes (Elt F) arg16.view.junk (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 xs0 xs1).2.2.1)) (fun y => FloatOps.extf .f32 bitsLt_fp8e4m3_f32 (x2 y))
    (fun j l => readAt_scales arg16 _ (fun y => FloatOps.extf .f32 bitsLt_fp8e4m3_f32 (x2 y)) (read_scales arg16 _ arg4 harg4 x2 _ rfl) (8 * (t.val % 8) + j.val) (by omega) _ (off3 t j) _ l)
    (fun j => k0_off4 (grid0.coords t) (BitVec.ofNat 32 (128 * j.val))) (off4 t) (fun j => strip_inb (off4 t j)) words_inb

/-- The heads of q. -/
theorem runO0_q (f : arg11.view.ty.Contents (Elt F)) :
    arg11.view.read (Elt F) (arg11.view.writes (Elt F) f (runO0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 xs0 xs1).1) = qBlk x0 xs1 (x3 (ix1 0)) x4 x5 x6 :=
  (read_tiles4 (qLd arg2 harg2 arg15 harg15 arg6 harg6 arg7 harg7 arg8 harg8 x0 xs1 (View.readAt (Elt F) arg5.view (Rect.unit (s := S1) ![0] S1.size inb_S1_S1_0).toLoadRect (harg5.unread x3) (Shape.Idx.first (show 0 < S1.numel by decide))) x4 x5 x6) arg11 f).trans (by rw [qLd_blk, load_word])

end

section
variable (hc0 : ¬cond0 (grid0.coords t)) (hc1 : ¬cond1 (grid0.coords t)) (hc2 : cond2 (grid0.coords t)) (hc3 : ¬cond3 (grid0.coords t)) (hq : condQ (grid0.coords t)) (hv : ¬condV (grid0.coords t))
    (x0 : Vec F S768x8192 .fp8e4m3) (x1 : Vec F S128x512 .i32) (x3 : Vec F S1 .f32) (x4 : Vec F S1x512 .f32) (x5 : Vec F S768x64 .f32) (x6 : Vec F S768x64 .f32) (xs0 : Vec F S8192x512 .bf16) (xs1 : Vec F S8192x512 .bf16) (xs2 : Vec F S64x512 .f32)

/-- The strip of weights. -/
theorem runO1_strip :
    arg14.view.read (Elt F) (arg14.view.writes (Elt F) (harg14.unread xs0) (runO1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x3 x4 x5 x6 xs0 xs1 xs2).2.1)
      = strip (t.val % 8) (Nat.mod_lt _ (by decide)) x1 xs2 xs0 :=
  read_strip arg14 harg14 xs0 (t.val % 8) (Nat.mod_lt _ (by decide)) arg3 harg3 x1
    (fun j => View.readAt (Elt F) arg16.view (Rect.unit (s := S64x512) (k0_off3 (grid0.coords t) (BitVec.ofNat 32 j.val)) S1x512.size
      (scale_inb (off3 t j))).toLoadRect (harg16.unread xs2)) xs2
    (fun j l => readAt_scales arg16 _ xs2 (harg16.read_unread _) (8 * (t.val % 8) + j.val) (by omega) _ (off3 t j) _ l)
    (fun j => k0_off4 (grid0.coords t) (BitVec.ofNat 32 (128 * j.val))) (off4 t) (fun j => strip_inb (off4 t j)) words_inb

/-- The heads of q. -/
theorem runO1_q (f : arg11.view.ty.Contents (Elt F)) :
    arg11.view.read (Elt F) (arg11.view.writes (Elt F) f (runO1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x3 x4 x5 x6 xs0 xs1 xs2).1) = qBlk x0 xs1 (x3 (ix1 0)) x4 x5 x6 :=
  (read_tiles4 (qLd arg2 harg2 arg15 harg15 arg6 harg6 arg7 harg7 arg8 harg8 x0 xs1 (View.readAt (Elt F) arg5.view (Rect.unit (s := S1) ![0] S1.size inb_S1_S1_0).toLoadRect (harg5.unread x3) (Shape.Idx.first (show 0 < S1.numel by decide))) x4 x5 x6) arg11 f).trans (by rw [qLd_blk, load_word])

end

section
variable (hc0 : cond0 (grid0.coords t)) (hc1 : ¬cond1 (grid0.coords t)) (hc2 : ¬cond2 (grid0.coords t)) (hc3 : cond3 (grid0.coords t)) (hq : condQ (grid0.coords t)) (hv : ¬condV (grid0.coords t))
    (x0 : Vec F S768x8192 .fp8e4m3) (x1 : Vec F S128x512 .i32) (x2 : Vec F S64x512 .fp8e4m3) (x3 : Vec F S1 .f32) (x4 : Vec F S1x512 .f32) (x5 : Vec F S768x64 .f32) (x6 : Vec F S768x64 .f32) (xs0 : Vec F S8192x512 .bf16) (xs1 : Vec F S8192x512 .bf16)

/-- The scales, copied. -/
theorem runE0_scales (f : arg16.view.ty.Contents (Elt F)) :
    arg16.view.read (Elt F) (arg16.view.writes (Elt F) f (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 xs0 xs1).2.2.1)
      = fun y => FloatOps.extf .f32 bitsLt_fp8e4m3_f32 (x2 y) :=
  read_scales arg16 f arg4 harg4 x2 _ rfl

/-- The strip of weights. -/
theorem runE0_strip :
    arg15.view.read (Elt F) (arg15.view.writes (Elt F) (harg15.unread xs1) (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 xs0 xs1).2.1)
      = strip (t.val % 8) (Nat.mod_lt _ (by decide)) x1 (fun y => FloatOps.extf .f32 bitsLt_fp8e4m3_f32 (x2 y)) xs1 :=
  read_strip arg15 harg15 xs1 (t.val % 8) (Nat.mod_lt _ (by decide)) arg3 harg3 x1
    (fun j => View.readAt (Elt F) arg16.view (Rect.unit (s := S64x512) (k0_off5 (grid0.coords t) (BitVec.ofNat 32 j.val)) S1x512.size
      (scale_inb (off5 t j))).toLoadRect (arg16.view.writes (Elt F) arg16.view.junk (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 xs0 xs1).2.2.1)) (fun y => FloatOps.extf .f32 bitsLt_fp8e4m3_f32 (x2 y))
    (fun j l => readAt_scales arg16 _ (fun y => FloatOps.extf .f32 bitsLt_fp8e4m3_f32 (x2 y)) (read_scales arg16 _ arg4 harg4 x2 _ rfl) (8 * (t.val % 8) + j.val) (by omega) _ (off5 t j) _ l)
    (fun j => k0_off6 (grid0.coords t) (BitVec.ofNat 32 (128 * j.val))) (off6 t) (fun j => strip_inb (off6 t j)) words_inb

/-- The heads of q. -/
theorem runE0_q (f : arg11.view.ty.Contents (Elt F)) :
    arg11.view.read (Elt F) (arg11.view.writes (Elt F) f (runE0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 xs0 xs1).1) = qBlk x0 xs0 (x3 (ix1 0)) x4 x5 x6 :=
  (read_tiles4 (qLd arg2 harg2 arg14 harg14 arg6 harg6 arg7 harg7 arg8 harg8 x0 xs0 (View.readAt (Elt F) arg5.view (Rect.unit (s := S1) ![0] S1.size inb_S1_S1_0).toLoadRect (harg5.unread x3) (Shape.Idx.first (show 0 < S1.numel by decide))) x4 x5 x6) arg11 f).trans (by rw [qLd_blk, load_word])

end

section
variable (hc0 : ¬cond0 (grid0.coords t)) (hc1 : ¬cond1 (grid0.coords t)) (hc2 : ¬cond2 (grid0.coords t)) (hc3 : cond3 (grid0.coords t)) (hq : condQ (grid0.coords t)) (hv : ¬condV (grid0.coords t))
    (x0 : Vec F S768x8192 .fp8e4m3) (x1 : Vec F S128x512 .i32) (x3 : Vec F S1 .f32) (x4 : Vec F S1x512 .f32) (x5 : Vec F S768x64 .f32) (x6 : Vec F S768x64 .f32) (xs0 : Vec F S8192x512 .bf16) (xs1 : Vec F S8192x512 .bf16) (xs2 : Vec F S64x512 .f32)

/-- The strip of weights. -/
theorem runE1_strip :
    arg15.view.read (Elt F) (arg15.view.writes (Elt F) (harg15.unread xs1) (runE1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x3 x4 x5 x6 xs0 xs1 xs2).2.1)
      = strip (t.val % 8) (Nat.mod_lt _ (by decide)) x1 xs2 xs1 :=
  read_strip arg15 harg15 xs1 (t.val % 8) (Nat.mod_lt _ (by decide)) arg3 harg3 x1
    (fun j => View.readAt (Elt F) arg16.view (Rect.unit (s := S64x512) (k0_off5 (grid0.coords t) (BitVec.ofNat 32 j.val)) S1x512.size
      (scale_inb (off5 t j))).toLoadRect (harg16.unread xs2)) xs2
    (fun j l => readAt_scales arg16 _ xs2 (harg16.read_unread _) (8 * (t.val % 8) + j.val) (by omega) _ (off5 t j) _ l)
    (fun j => k0_off6 (grid0.coords t) (BitVec.ofNat 32 (128 * j.val))) (off6 t) (fun j => strip_inb (off6 t j)) words_inb

/-- The heads of q. -/
theorem runE1_q (f : arg11.view.ty.Contents (Elt F)) :
    arg11.view.read (Elt F) (arg11.view.writes (Elt F) f (runE1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x3 x4 x5 x6 xs0 xs1 xs2).1) = qBlk x0 xs0 (x3 (ix1 0)) x4 x5 x6 :=
  (read_tiles4 (qLd arg2 harg2 arg14 harg14 arg6 harg6 arg7 harg7 arg8 harg8 x0 xs0 (View.readAt (Elt F) arg5.view (Rect.unit (s := S1) ![0] S1.size inb_S1_S1_0).toLoadRect (harg5.unread x3) (Shape.Idx.first (show 0 < S1.numel by decide))) x4 x5 x6) arg11 f).trans (by rw [qLd_blk, load_word])

end

section
variable (hc0 : cond0 (grid0.coords t)) (hc1 : ¬cond1 (grid0.coords t)) (hc2 : cond2 (grid0.coords t)) (hc3 : ¬cond3 (grid0.coords t)) (hq : ¬condQ (grid0.coords t)) (hv : condV (grid0.coords t))
    (x0 : Vec F S768x8192 .fp8e4m3) (x1 : Vec F S128x512 .i32) (x2 : Vec F S64x512 .fp8e4m3) (x3 : Vec F S1 .f32) (x4 : Vec F S1x512 .f32) (x5 : Vec F S768x64 .f32) (x6 : Vec F S768x64 .f32) (x7 : Vec F S2 .f32) (x8 : Vec F S2 .f32) (xs0 : Vec F S8192x512 .bf16) (xs1 : Vec F S8192x512 .bf16)

/-- The scales, copied. -/
theorem runV0_scales (f : arg16.view.ty.Contents (Elt F)) :
    arg16.view.read (Elt F) (arg16.view.writes (Elt F) f (runV0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 x7 x8 xs0 xs1).2.2.2.1)
      = fun y => FloatOps.extf .f32 bitsLt_fp8e4m3_f32 (x2 y) :=
  read_scales arg16 f arg4 harg4 x2 _ rfl

/-- The strip of weights. -/
theorem runV0_strip :
    arg14.view.read (Elt F) (arg14.view.writes (Elt F) (harg14.unread xs0) (runV0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 x7 x8 xs0 xs1).2.2.1)
      = strip (t.val % 8) (Nat.mod_lt _ (by decide)) x1 (fun y => FloatOps.extf .f32 bitsLt_fp8e4m3_f32 (x2 y)) xs0 :=
  read_strip arg14 harg14 xs0 (t.val % 8) (Nat.mod_lt _ (by decide)) arg3 harg3 x1
    (fun j => View.readAt (Elt F) arg16.view (Rect.unit (s := S64x512) (k0_off3 (grid0.coords t) (BitVec.ofNat 32 j.val)) S1x512.size
      (scale_inb (off3 t j))).toLoadRect (arg16.view.writes (Elt F) arg16.view.junk (runV0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 x7 x8 xs0 xs1).2.2.2.1)) (fun y => FloatOps.extf .f32 bitsLt_fp8e4m3_f32 (x2 y))
    (fun j l => readAt_scales arg16 _ (fun y => FloatOps.extf .f32 bitsLt_fp8e4m3_f32 (x2 y)) (read_scales arg16 _ arg4 harg4 x2 _ rfl) (8 * (t.val % 8) + j.val) (by omega) _ (off3 t j) _ l)
    (fun j => k0_off4 (grid0.coords t) (BitVec.ofNat 32 (128 * j.val))) (off4 t) (fun j => strip_inb (off4 t j)) words_inb

/-- The heads of k. -/
theorem runV0_k (f : arg12.view.ty.Contents (Elt F)) :
    arg12.view.read (Elt F) (arg12.view.writes (Elt F) f (runV0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 x7 x8 xs0 xs1).1) = kBlk x0 xs1 (x3 (ix1 0)) x4 x5 x6 x7 :=
  (read_tiles2 (kLd arg2 harg2 arg15 harg15 arg6 harg6 arg7 harg7 arg8 harg8 arg9 harg9 x0 xs1 (View.readAt (Elt F) arg5.view (Rect.unit (s := S1) ![0] S1.size inb_S1_S1_0).toLoadRect (harg5.unread x3) (Shape.Idx.first (show 0 < S1.numel by decide))) x4 x5 x6 x7) arg12 f).trans (by rw [kLd_blk, load_word])

/-- The heads of v. -/
theorem runV0_v (f : arg13.view.ty.Contents (Elt F)) :
    arg13.view.read (Elt F) (arg13.view.writes (Elt F) f (runV0 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x2 x3 x4 x5 x6 x7 x8 xs0 xs1).2.1) = vBlk x0 xs1 (x3 (ix1 0)) x4 x8 :=
  (read_tiles2 (vLd arg2 harg2 arg15 harg15 arg6 harg6 arg10 harg10 x0 xs1 (View.readAt (Elt F) arg5.view (Rect.unit (s := S1) ![0] S1.size inb_S1_S1_0).toLoadRect (harg5.unread x3) (Shape.Idx.first (show 0 < S1.numel by decide))) x4 x8) arg13 f).trans (by rw [vLd_blk, load_word])

end

section
variable (hc0 : ¬cond0 (grid0.coords t)) (hc1 : ¬cond1 (grid0.coords t)) (hc2 : cond2 (grid0.coords t)) (hc3 : ¬cond3 (grid0.coords t)) (hq : ¬condQ (grid0.coords t)) (hv : condV (grid0.coords t))
    (x0 : Vec F S768x8192 .fp8e4m3) (x1 : Vec F S128x512 .i32) (x3 : Vec F S1 .f32) (x4 : Vec F S1x512 .f32) (x5 : Vec F S768x64 .f32) (x6 : Vec F S768x64 .f32) (x7 : Vec F S2 .f32) (x8 : Vec F S2 .f32) (xs0 : Vec F S8192x512 .bf16) (xs1 : Vec F S8192x512 .bf16) (xs2 : Vec F S64x512 .f32)

/-- The strip of weights. -/
theorem runV1_strip :
    arg14.view.read (Elt F) (arg14.view.writes (Elt F) (harg14.unread xs0) (runV1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x3 x4 x5 x6 x7 x8 xs0 xs1 xs2).2.2.1)
      = strip (t.val % 8) (Nat.mod_lt _ (by decide)) x1 xs2 xs0 :=
  read_strip arg14 harg14 xs0 (t.val % 8) (Nat.mod_lt _ (by decide)) arg3 harg3 x1
    (fun j => View.readAt (Elt F) arg16.view (Rect.unit (s := S64x512) (k0_off3 (grid0.coords t) (BitVec.ofNat 32 j.val)) S1x512.size
      (scale_inb (off3 t j))).toLoadRect (harg16.unread xs2)) xs2
    (fun j l => readAt_scales arg16 _ xs2 (harg16.read_unread _) (8 * (t.val % 8) + j.val) (by omega) _ (off3 t j) _ l)
    (fun j => k0_off4 (grid0.coords t) (BitVec.ofNat 32 (128 * j.val))) (off4 t) (fun j => strip_inb (off4 t j)) words_inb

/-- The heads of k. -/
theorem runV1_k (f : arg12.view.ty.Contents (Elt F)) :
    arg12.view.read (Elt F) (arg12.view.writes (Elt F) f (runV1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x3 x4 x5 x6 x7 x8 xs0 xs1 xs2).1) = kBlk x0 xs1 (x3 (ix1 0)) x4 x5 x6 x7 :=
  (read_tiles2 (kLd arg2 harg2 arg15 harg15 arg6 harg6 arg7 harg7 arg8 harg8 arg9 harg9 x0 xs1 (View.readAt (Elt F) arg5.view (Rect.unit (s := S1) ![0] S1.size inb_S1_S1_0).toLoadRect (harg5.unread x3) (Shape.Idx.first (show 0 < S1.numel by decide))) x4 x5 x6 x7) arg12 f).trans (by rw [kLd_blk, load_word])

/-- The heads of v. -/
theorem runV1_v (f : arg13.view.ty.Contents (Elt F)) :
    arg13.view.read (Elt F) (arg13.view.writes (Elt F) f (runV1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hq hv x0 x1 x3 x4 x5 x6 x7 x8 xs0 xs1 xs2).2.1) = vBlk x0 xs1 (x3 (ix1 0)) x4 x8 :=
  (read_tiles2 (vLd arg2 harg2 arg15 harg15 arg6 harg6 arg10 harg10 x0 xs1 (View.readAt (Elt F) arg5.view (Rect.unit (s := S1) ![0] S1.size inb_S1_S1_0).toLoadRect (harg5.unread x3) (Shape.Idx.first (show 0 < S1.numel by decide))) x4 x8) arg13 f).trans (by rw [vLd_blk, load_word])

end

end

end

/-! The body keeps the invariant at every point: `Z` before the first product, `O` and `E` at odd and even steps, `V` at the step of the keys and values; `0` at a tile not begun, `1` within a tile. -/

section
/-- A fact about any buffers, at the buffers of a point. -/
theorem atPoint (t : Fin cfg0.N) {P : ∀ (arg2 : Memref sig .tc .vmem S768x8192 .fp8e4m3) (harg2 : arg2.IsWhole) (arg3 : Memref sig .tc .vmem S128x512 .i32) (harg3 : arg3.IsWhole) (arg4 : Memref sig .tc .vmem S64x512 .fp8e4m3) (harg4 : arg4.IsWhole) (arg5 : Memref sig .tc .smem S1 .f32) (harg5 : arg5.IsWhole) (arg6 : Memref sig .tc .vmem S1x512 .f32) (harg6 : arg6.IsWhole) (arg7 : Memref sig .tc .vmem S768x64 .f32) (harg7 : arg7.IsWhole) (arg8 : Memref sig .tc .vmem S768x64 .f32) (harg8 : arg8.IsWhole) (arg9 : Memref sig .tc .smem S2 .f32) (harg9 : arg9.IsWhole) (arg10 : Memref sig .tc .smem S2 .f32) (harg10 : arg10.IsWhole) (arg11 : Memref sig .tc .vmem S768x512 .bf16) (harg11 : arg11.IsWhole) (arg12 : Memref sig .tc .vmem S768x256 .fp8e4m3) (harg12 : arg12.IsWhole) (arg13 : Memref sig .tc .vmem S768x256 .fp8e4m3) (harg13 : arg13.IsWhole) (arg14 : Memref sig .tc .vmem S8192x512 .bf16) (harg14 : arg14.IsWhole) (arg15 : Memref sig .tc .vmem S8192x512 .bf16) (harg15 : arg15.IsWhole) (arg16 : Memref sig .tc .vmem S64x512 .f32) (harg16 : arg16.IsWhole), Prop}
    (f : ∀ arg2 harg2 arg3 harg3 arg4 harg4 arg5 harg5 arg6 harg6 arg7 harg7 arg8 harg8 arg9 harg9 arg10 harg10 arg11 harg11 arg12 harg12 arg13 harg13 arg14 harg14 arg15 harg15 arg16 harg16, P arg2 harg2 arg3 harg3 arg4 harg4 arg5 harg5 arg6 harg6 arg7 harg7 arg8 harg8 arg9 harg9 arg10 harg10 arg11 harg11 arg12 harg12 arg13 harg13 arg14 harg14 arg15 harg15 arg16 harg16) :
    P (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) :=
  f _ _ _ _ _ _ _ _ _ _ _ _ _ _ _ _ _ _ _ _ _ _ _ _ _ _ _ _ _ _

variable (m : (ℓ : Loc nD τ sig) → Buf (Elt F) ℓ)

/-- From the invariant before point `t` the body comes to the invariant after it. -/
abbrev Keeps (c : Dev nD) (t : Fin cfg0.N) : Prop :=
  bodyPre m c t ⊢ wp frame (wpE (defs₀ (F := F)) Variants.none c none) Set.univ (bodyAt0 t) (fun _ => bodyPost m c t)

theorem owes_succ (c : Dev nD) (t : Fin cfg0.N) : (dats m 0 c).owesAt () t.succ = (dats m 0 c).owesAt () t.castSucc := rfl

set_option maxHeartbeats 4000000 in
theorem bodyZ0 (c : Dev nD) (t : Fin cfg0.N) (h0 : t.val % 8 = 0) (h8 : t.val < 8) : Keeps m c t := by
  have ht : t.val < 48 := t.isLt
  unfold Keeps bodyPre bodyPost bodyAt0
  simp only [before0_0, before0_1, before0_2, before0_3, before0_4, before0_5, before0_6, before0_7, before0_8]
  rw [owes_succ, Phi_castSucc, Phi_succ,
    leaves0_0, leaves0_1, leaves0_2, leaves0_3, leaves0_4, leaves0_5, leaves0_6, leaves0_7, leaves0_8]
  have h2 : t.val / 8 % 2 = 0 := by omega
  have hc0 := (hcond0 t).mpr (by omega)
  have hc1 := (hcond1 t).mpr (by omega)
  have hc2 := mt (hcond2 t).mp (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply ((runZ0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
      hc0 hc1 hc2 hc3 (iblk m c 1 t) (iblk m c 2 t) xs1).2.2 Set.univ _)
  iframe H1 H2
  isplitl [HS2]; · iexists _; iexact HS2
  isplitl [HS1]; · iexact HS1
  iintro ⟨H1, H2, ⟨%g16, HS2⟩, HS1⟩
  have hN := inv_even _ _ h2 hI (iblk m c 1 t) (iblk1 m c t)
  have e0 := atPoint t (runZ0_strip c t) hc0 hc1 hc2 hc3 (iblk m c 1 t) (iblk m c 2 t) xs1
  have e2 := (atPoint t (runZ0_scales c t) hc0 hc1 hc2 hc3 (iblk m c 1 t) (iblk m c 2 t) xs1 g16).trans (iblk2 m c t)
  have e0 := e0.trans (congrArg (fun q : Vec F S64x512 .f32 => strip (t.val % 8) (Nat.mod_lt _ (by decide)) (iblk m c 1 t : Vec F S128x512 .i32) q xs1) (iblk2 m c t))
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iapply (owns_of c scM0_2 _ e2); iexact HS2
    iexact Hg
  iframe Ho H0 H1 H2 H3 H4 H5 H6 H7 H8
  isplitl [H9]; · iapply (keep9 m c t (by omega)); iexact H9
  isplitl [H10]; · iapply (keep10 m c t (by omega)); iexact H10
  iapply (keep11 m c t (by omega)); iexact H11

set_option maxHeartbeats 4000000 in
theorem bodyZ1 (c : Dev nD) (t : Fin cfg0.N) (h0 : ¬ t.val % 8 = 0) (h8 : t.val < 8) : Keeps m c t := by
  have ht : t.val < 48 := t.isLt
  unfold Keeps bodyPre bodyPost bodyAt0
  simp only [before0_0, before0_1, before0_2, before0_3, before0_4, before0_5, before0_6, before0_7, before0_8]
  rw [owes_succ, Phi_castSucc, Phi_succ,
    leaves0_0, leaves0_1, leaves0_2, leaves0_3, leaves0_4, leaves0_5, leaves0_6, leaves0_7, leaves0_8]
  have h2 : t.val / 8 % 2 = 0 := by omega
  have hc0 := mt (hcond0 t).mp (by omega)
  have hc1 := (hcond1 t).mpr (by omega)
  have hc2 := mt (hcond2 t).mp (by omega)
  have hc3 := mt (hcond3 t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply ((runZ1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
      hc0 hc1 hc2 hc3 (iblk m c 1 t) xs1 xs2).2 Set.univ _)
  iframe H1 HS1 HS2
  iintro ⟨H1, HS1, HS2⟩
  have hN := inv_even _ _ h2 hI (iblk m c 1 t) (iblk1 m c t)
  have e0 := atPoint t (runZ1_strip c t) hc0 hc1 hc2 hc3 (iblk m c 1 t) xs1 xs2
  have r2 := hI.2.2 h0
  subst r2
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iexact HS2
    iexact Hg
  iframe Ho H0 H1 H2 H3 H4 H5 H6 H7 H8
  isplitl [H9]; · iapply (keep9 m c t (by omega)); iexact H9
  isplitl [H10]; · iapply (keep10 m c t (by omega)); iexact H10
  iapply (keep11 m c t (by omega)); iexact H11

set_option maxHeartbeats 4000000 in
theorem bodyO0 (c : Dev nD) (t : Fin cfg0.N) (h0 : t.val % 8 = 0) (h8 : ¬ t.val < 8) (h4 : t.val < 40) (h2 : t.val / 8 % 2 = 1) : Keeps m c t := by
  have ht : t.val < 48 := t.isLt
  unfold Keeps bodyPre bodyPost bodyAt0
  simp only [before0_0, before0_1, before0_2, before0_3, before0_4, before0_5, before0_6, before0_7, before0_8]
  rw [owes_succ, Phi_castSucc, Phi_succ,
    leaves0_0, leaves0_1, leaves0_2, leaves0_3, leaves0_4, leaves0_5, leaves0_6, leaves0_7, leaves0_8, leaves0_9 m c t h8 h4]
  have hc0 := (hcond0 t).mpr (by omega)
  have hc1 := mt (hcond1 t).mp (by omega)
  have hc2 := (hcond2 t).mpr (by omega)
  have hc3 := mt (hcond3 t).mp (by omega)
  have hq := (hcondQ t).mpr (by omega)
  have hv := mt (hcondV t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply ((runO0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
      hc0 hc1 hc2 hc3 hq hv (iblk m c 0 t) (iblk m c 1 t) (iblk m c 2 t) (iblk m c 3 t) (iblk m c 4 t) (iblk m c 5 t) (iblk m c 6 t) xs0 xs1).2.2.2 Set.univ _)
  iframe H0 H1 H2 H3 H4 H5 H6
  isplitl [H9]; · iexists _; iexact H9
  isplitl [HS2]; · iexists _; iexact HS2
  iframe HS0 HS1
  iintro ⟨H0, H1, H2, H3, H4, H5, H6, ⟨%g11, H9⟩, ⟨%g16, HS2⟩, HS0, HS1⟩
  have hN := inv_odd _ _ h2 hI (iblk m c 1 t) (iblk1 m c t)
  have e0 := atPoint t (runO0_strip c t) hc0 hc1 hc2 hc3 hq hv (iblk m c 0 t) (iblk m c 1 t) (iblk m c 2 t) (iblk m c 3 t) (iblk m c 4 t) (iblk m c 5 t) (iblk m c 6 t) xs0 xs1
  have e2 := (atPoint t (runO0_scales c t) hc0 hc1 hc2 hc3 hq hv (iblk m c 0 t) (iblk m c 1 t) (iblk m c 2 t) (iblk m c 3 t) (iblk m c 4 t) (iblk m c 5 t) (iblk m c 6 t) xs0 xs1 g16).trans (iblk2 m c t)
  have e0 := e0.trans (congrArg (fun q : Vec F S64x512 .f32 => strip (t.val % 8) (Nat.mod_lt _ (by decide)) (iblk m c 1 t : Vec F S128x512 .i32) q xs0) (iblk2 m c t))
  have w0 := (hI.1 h2).2
  have eq := atPoint t (runO0_q c t) hc0 hc1 hc2 hc3 hq hv (iblk m c 0 t) (iblk m c 1 t) (iblk m c 2 t) (iblk m c 3 t) (iblk m c 4 t) (iblk m c 5 t) (iblk m c 6 t) xs0 xs1 g11
  subst w0
  isplitl [HS0 HS1 HS2 Hg]
  · iexists _, _, _
    isplitr; · ipureintro; exact hN
    isplitr [Hg]
    · isplitl [HS0]; · iapply (owns_of c scM0_0 _ e0); iexact HS0
      isplitl [HS1]; · iexact HS1
      iapply (owns_of c scM0_2 _ e2); iexact HS2
    iexact Hg
  iframe Ho H0 H1 H2 H3 H4 H5 H6 H7 H8
  isplitl [H9]; · unfold qAt; iapply (owns_of c (ms0_9 t) _ eq); iexact H9
  isplitl [H10]; · iapply (keep10 m c t h4); iexact H10
  iapply (keep11 m c t h4); iexact H11

set_option maxHeartbeats 4000000 in
theorem bodyO1 (c : Dev nD) (t : Fin cfg0.N) (h0 : ¬ t.val % 8 = 0) (h8 : ¬ t.val < 8) (h4 : t.val < 40) (h2 : t.val / 8 % 2 = 1) : Keeps m c t := by
  have ht : t.val < 48 := t.isLt
  unfold Keeps bodyPre bodyPost bodyAt0
  simp only [before0_0, before0_1, before0_2, before0_3, before0_4, before0_5, before0_6, before0_7, before0_8]
  rw [owes_succ, Phi_castSucc, Phi_succ,
    leaves0_0, leaves0_1, leaves0_2, leaves0_3, leaves0_4, leaves0_5, leaves0_6, leaves0_7, leaves0_8, leaves0_9 m c t h8 h4]
  have hc0 := mt (hcond0 t).mp (by omega)
  have hc1 := mt (hcond1 t).mp (by omega)
  have hc2 := (hcond2 t).mpr (by omega)
  have hc3 := mt (hcond3 t).mp (by omega)
  have hq := (hcondQ t).mpr (by omega)
  have hv := mt (hcondV t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply ((runO1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
      hc0 hc1 hc2 hc3 hq hv (iblk m c 0 t) (iblk m c 1 t) (iblk m c 3 t) (iblk m c 4 t) (iblk m c 5 t) (iblk m c 6 t) xs0 xs1 xs2).2.2 Set.univ _)
  iframe H0 H1 H3 H4 H5 H6
  isplitl [H9]; · iexists _; iexact H9
  iframe HS0 HS1 HS2
  iintro ⟨H0, H1, H3, H4, H5, H6, ⟨%g11, H9⟩, HS0, HS1, HS2⟩
  have hN := inv_odd _ _ h2 hI (iblk m c 1 t) (iblk1 m c t)
  have e0 := atPoint t (runO1_strip c t) hc0 hc1 hc2 hc3 hq hv (iblk m c 0 t) (iblk m c 1 t) (iblk m c 3 t) (iblk m c 4 t) (iblk m c 5 t) (iblk m c 6 t) xs0 xs1 xs2
  have r2 := hI.2.2 h0
  have w0 := (hI.1 h2).2
  have eq := atPoint t (runO1_q c t) hc0 hc1 hc2 hc3 hq hv (iblk m c 0 t) (iblk m c 1 t) (iblk m c 3 t) (iblk m c 4 t) (iblk m c 5 t) (iblk m c 6 t) xs0 xs1 xs2 g11
  subst r2
  subst w0
  isplitl [HS0 HS1 HS2 Hg]
  · iexists _, _, _
    isplitr; · ipureintro; exact hN
    isplitr [Hg]
    · isplitl [HS0]; · iapply (owns_of c scM0_0 _ e0); iexact HS0
      isplitl [HS1]; · iexact HS1
      iexact HS2
    iexact Hg
  iframe Ho H0 H1 H2 H3 H4 H5 H6 H7 H8
  isplitl [H9]; · unfold qAt; iapply (owns_of c (ms0_9 t) _ eq); iexact H9
  isplitl [H10]; · iapply (keep10 m c t h4); iexact H10
  iapply (keep11 m c t h4); iexact H11

set_option maxHeartbeats 4000000 in
theorem bodyE0 (c : Dev nD) (t : Fin cfg0.N) (h0 : t.val % 8 = 0) (h8 : ¬ t.val < 8) (h4 : t.val < 40) (h2 : t.val / 8 % 2 = 0) : Keeps m c t := by
  have ht : t.val < 48 := t.isLt
  unfold Keeps bodyPre bodyPost bodyAt0
  simp only [before0_0, before0_1, before0_2, before0_3, before0_4, before0_5, before0_6, before0_7, before0_8]
  rw [owes_succ, Phi_castSucc, Phi_succ,
    leaves0_0, leaves0_1, leaves0_2, leaves0_3, leaves0_4, leaves0_5, leaves0_6, leaves0_7, leaves0_8, leaves0_9 m c t h8 h4]
  have hc0 := (hcond0 t).mpr (by omega)
  have hc1 := mt (hcond1 t).mp (by omega)
  have hc2 := mt (hcond2 t).mp (by omega)
  have hc3 := (hcond3 t).mpr (by omega)
  have hq := (hcondQ t).mpr (by omega)
  have hv := mt (hcondV t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply ((runE0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
      hc0 hc1 hc2 hc3 hq hv (iblk m c 0 t) (iblk m c 1 t) (iblk m c 2 t) (iblk m c 3 t) (iblk m c 4 t) (iblk m c 5 t) (iblk m c 6 t) xs0 xs1).2.2.2 Set.univ _)
  iframe H0 H1 H2 H3 H4 H5 H6
  isplitl [H9]; · iexists _; iexact H9
  isplitl [HS2]; · iexists _; iexact HS2
  iframe HS0 HS1
  iintro ⟨H0, H1, H2, H3, H4, H5, H6, ⟨%g11, H9⟩, ⟨%g16, HS2⟩, HS0, HS1⟩
  have hN := inv_even _ _ h2 hI (iblk m c 1 t) (iblk1 m c t)
  have e0 := atPoint t (runE0_strip c t) hc0 hc1 hc2 hc3 hq hv (iblk m c 0 t) (iblk m c 1 t) (iblk m c 2 t) (iblk m c 3 t) (iblk m c 4 t) (iblk m c 5 t) (iblk m c 6 t) xs0 xs1
  have e2 := (atPoint t (runE0_scales c t) hc0 hc1 hc2 hc3 hq hv (iblk m c 0 t) (iblk m c 1 t) (iblk m c 2 t) (iblk m c 3 t) (iblk m c 4 t) (iblk m c 5 t) (iblk m c 6 t) xs0 xs1 g16).trans (iblk2 m c t)
  have e0 := e0.trans (congrArg (fun q : Vec F S64x512 .f32 => strip (t.val % 8) (Nat.mod_lt _ (by decide)) (iblk m c 1 t : Vec F S128x512 .i32) q xs1) (iblk2 m c t))
  have w0 := (hI.2.1 h2).2 (by omega)
  have eq := atPoint t (runE0_q c t) hc0 hc1 hc2 hc3 hq hv (iblk m c 0 t) (iblk m c 1 t) (iblk m c 2 t) (iblk m c 3 t) (iblk m c 4 t) (iblk m c 5 t) (iblk m c 6 t) xs0 xs1 g11
  subst w0
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iapply (owns_of c scM0_2 _ e2); iexact HS2
    iexact Hg
  iframe Ho H0 H1 H2 H3 H4 H5 H6 H7 H8
  isplitl [H9]; · unfold qAt; iapply (owns_of c (ms0_9 t) _ eq); iexact H9
  isplitl [H10]; · iapply (keep10 m c t h4); iexact H10
  iapply (keep11 m c t h4); iexact H11

set_option maxHeartbeats 4000000 in
theorem bodyE1 (c : Dev nD) (t : Fin cfg0.N) (h0 : ¬ t.val % 8 = 0) (h8 : ¬ t.val < 8) (h4 : t.val < 40) (h2 : t.val / 8 % 2 = 0) : Keeps m c t := by
  have ht : t.val < 48 := t.isLt
  unfold Keeps bodyPre bodyPost bodyAt0
  simp only [before0_0, before0_1, before0_2, before0_3, before0_4, before0_5, before0_6, before0_7, before0_8]
  rw [owes_succ, Phi_castSucc, Phi_succ,
    leaves0_0, leaves0_1, leaves0_2, leaves0_3, leaves0_4, leaves0_5, leaves0_6, leaves0_7, leaves0_8, leaves0_9 m c t h8 h4]
  have hc0 := mt (hcond0 t).mp (by omega)
  have hc1 := mt (hcond1 t).mp (by omega)
  have hc2 := mt (hcond2 t).mp (by omega)
  have hc3 := (hcond3 t).mpr (by omega)
  have hq := (hcondQ t).mpr (by omega)
  have hv := mt (hcondV t).mp (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply ((runE1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
      hc0 hc1 hc2 hc3 hq hv (iblk m c 0 t) (iblk m c 1 t) (iblk m c 3 t) (iblk m c 4 t) (iblk m c 5 t) (iblk m c 6 t) xs0 xs1 xs2).2.2 Set.univ _)
  iframe H0 H1 H3 H4 H5 H6
  isplitl [H9]; · iexists _; iexact H9
  iframe HS0 HS1 HS2
  iintro ⟨H0, H1, H3, H4, H5, H6, ⟨%g11, H9⟩, HS0, HS1, HS2⟩
  have hN := inv_even _ _ h2 hI (iblk m c 1 t) (iblk1 m c t)
  have e0 := atPoint t (runE1_strip c t) hc0 hc1 hc2 hc3 hq hv (iblk m c 0 t) (iblk m c 1 t) (iblk m c 3 t) (iblk m c 4 t) (iblk m c 5 t) (iblk m c 6 t) xs0 xs1 xs2
  have r2 := hI.2.2 h0
  have w0 := (hI.2.1 h2).2 (by omega)
  have eq := atPoint t (runE1_q c t) hc0 hc1 hc2 hc3 hq hv (iblk m c 0 t) (iblk m c 1 t) (iblk m c 3 t) (iblk m c 4 t) (iblk m c 5 t) (iblk m c 6 t) xs0 xs1 xs2 g11
  subst r2
  subst w0
  isplitl [HS0 HS1 HS2 Hg]
  · iexists _, _, _
    isplitr; · ipureintro; exact hN
    isplitr [Hg]
    · isplitl [HS0]; · iexact HS0
      isplitl [HS1]; · iapply (owns_of c scM0_1 _ e0); iexact HS1
      iexact HS2
    iexact Hg
  iframe Ho H0 H1 H2 H3 H4 H5 H6 H7 H8
  isplitl [H9]; · unfold qAt; iapply (owns_of c (ms0_9 t) _ eq); iexact H9
  isplitl [H10]; · iapply (keep10 m c t h4); iexact H10
  iapply (keep11 m c t h4); iexact H11

set_option maxHeartbeats 4000000 in
theorem bodyV0 (c : Dev nD) (t : Fin cfg0.N) (h0 : t.val % 8 = 0) (h4 : ¬ t.val < 40) : Keeps m c t := by
  have ht : t.val < 48 := t.isLt
  unfold Keeps bodyPre bodyPost bodyAt0
  simp only [before0_0, before0_1, before0_2, before0_3, before0_4, before0_5, before0_6, before0_7, before0_8]
  rw [owes_succ, Phi_castSucc, Phi_succ,
    leaves0_0, leaves0_1, leaves0_2, leaves0_3, leaves0_4, leaves0_5, leaves0_6, leaves0_7, leaves0_8, leaves0_10 m c t h4, leaves0_11 m c t h4]
  have h2 : t.val / 8 % 2 = 1 := by omega
  have hc0 := (hcond0 t).mpr (by omega)
  have hc1 := mt (hcond1 t).mp (by omega)
  have hc2 := (hcond2 t).mpr (by omega)
  have hc3 := mt (hcond3 t).mp (by omega)
  have hq := mt (hcondQ t).mp (by omega)
  have hv := (hcondV t).mpr (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, ⟨%d10, H10⟩, ⟨%d11, H11⟩⟩
  iapply ((runV0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
      hc0 hc1 hc2 hc3 hq hv (iblk m c 0 t) (iblk m c 1 t) (iblk m c 2 t) (iblk m c 3 t) (iblk m c 4 t) (iblk m c 5 t) (iblk m c 6 t) (iblk m c 7 t) (iblk m c 8 t) xs0 xs1).2.2.2.2 Set.univ _)
  iframe H0 H1 H2 H3 H4 H5 H6 H7 H8
  isplitl [H10]; · iexists _; iexact H10
  isplitl [H11]; · iexists _; iexact H11
  isplitl [HS2]; · iexists _; iexact HS2
  iframe HS0 HS1
  iintro ⟨H0, H1, H2, H3, H4, H5, H6, H7, H8, ⟨%g12, H10⟩, ⟨%g13, H11⟩, ⟨%g16, HS2⟩, HS0, HS1⟩
  have hN := inv_odd _ _ h2 hI (iblk m c 1 t) (iblk1 m c t)
  have e0 := atPoint t (runV0_strip c t) hc0 hc1 hc2 hc3 hq hv (iblk m c 0 t) (iblk m c 1 t) (iblk m c 2 t) (iblk m c 3 t) (iblk m c 4 t) (iblk m c 5 t) (iblk m c 6 t) (iblk m c 7 t) (iblk m c 8 t) xs0 xs1
  have e2 := (atPoint t (runV0_scales c t) hc0 hc1 hc2 hc3 hq hv (iblk m c 0 t) (iblk m c 1 t) (iblk m c 2 t) (iblk m c 3 t) (iblk m c 4 t) (iblk m c 5 t) (iblk m c 6 t) (iblk m c 7 t) (iblk m c 8 t) xs0 xs1 g16).trans (iblk2 m c t)
  have e0 := e0.trans (congrArg (fun q : Vec F S64x512 .f32 => strip (t.val % 8) (Nat.mod_lt _ (by decide)) (iblk m c 1 t : Vec F S128x512 .i32) q xs0) (iblk2 m c t))
  have w0 := (hI.1 h2).2
  have ek := atPoint t (runV0_k c t) hc0 hc1 hc2 hc3 hq hv (iblk m c 0 t) (iblk m c 1 t) (iblk m c 2 t) (iblk m c 3 t) (iblk m c 4 t) (iblk m c 5 t) (iblk m c 6 t) (iblk m c 7 t) (iblk m c 8 t) xs0 xs1 g12
  have ev := atPoint t (runV0_v c t) hc0 hc1 hc2 hc3 hq hv (iblk m c 0 t) (iblk m c 1 t) (iblk m c 2 t) (iblk m c 3 t) (iblk m c 4 t) (iblk m c 5 t) (iblk m c 6 t) (iblk m c 7 t) (iblk m c 8 t) xs0 xs1 g13
  subst w0
  isplitl [HS0 HS1 HS2 Hg]
  · iexists _, _, _
    isplitr; · ipureintro; exact hN
    isplitr [Hg]
    · isplitl [HS0]; · iapply (owns_of c scM0_0 _ e0); iexact HS0
      isplitl [HS1]; · iexact HS1
      iapply (owns_of c scM0_2 _ e2); iexact HS2
    iexact Hg
  iframe Ho H0 H1 H2 H3 H4 H5 H6 H7 H8
  isplitl [H9]; · iapply (keep9 m c t (by omega)); iexact H9
  isplitl [H10]; · unfold kAt; iapply (owns_of c (ms0_10 t) _ ek); iexact H10
  unfold vAt; iapply (owns_of c (ms0_11 t) _ ev); iexact H11

set_option maxHeartbeats 4000000 in
theorem bodyV1 (c : Dev nD) (t : Fin cfg0.N) (h0 : ¬ t.val % 8 = 0) (h4 : ¬ t.val < 40) : Keeps m c t := by
  have ht : t.val < 48 := t.isLt
  unfold Keeps bodyPre bodyPost bodyAt0
  simp only [before0_0, before0_1, before0_2, before0_3, before0_4, before0_5, before0_6, before0_7, before0_8]
  rw [owes_succ, Phi_castSucc, Phi_succ,
    leaves0_0, leaves0_1, leaves0_2, leaves0_3, leaves0_4, leaves0_5, leaves0_6, leaves0_7, leaves0_8, leaves0_10 m c t h4, leaves0_11 m c t h4]
  have h2 : t.val / 8 % 2 = 1 := by omega
  have hc0 := mt (hcond0 t).mp (by omega)
  have hc1 := mt (hcond1 t).mp (by omega)
  have hc2 := (hcond2 t).mpr (by omega)
  have hc3 := mt (hcond3 t).mp (by omega)
  have hq := mt (hcondQ t).mp (by omega)
  have hv := (hcondV t).mpr (by omega)
  unfold Phi
  iintro ⟨⟨%xs0, %xs1, %xs2, %hI, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, ⟨%d10, H10⟩, ⟨%d11, H11⟩⟩
  iapply ((runV1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _)
      hc0 hc1 hc2 hc3 hq hv (iblk m c 0 t) (iblk m c 1 t) (iblk m c 3 t) (iblk m c 4 t) (iblk m c 5 t) (iblk m c 6 t) (iblk m c 7 t) (iblk m c 8 t) xs0 xs1 xs2).2.2.2 Set.univ _)
  iframe H0 H1 H3 H4 H5 H6 H7 H8
  isplitl [H10]; · iexists _; iexact H10
  isplitl [H11]; · iexists _; iexact H11
  iframe HS0 HS1 HS2
  iintro ⟨H0, H1, H3, H4, H5, H6, H7, H8, ⟨%g12, H10⟩, ⟨%g13, H11⟩, HS0, HS1, HS2⟩
  have hN := inv_odd _ _ h2 hI (iblk m c 1 t) (iblk1 m c t)
  have e0 := atPoint t (runV1_strip c t) hc0 hc1 hc2 hc3 hq hv (iblk m c 0 t) (iblk m c 1 t) (iblk m c 3 t) (iblk m c 4 t) (iblk m c 5 t) (iblk m c 6 t) (iblk m c 7 t) (iblk m c 8 t) xs0 xs1 xs2
  have r2 := hI.2.2 h0
  have w0 := (hI.1 h2).2
  have ek := atPoint t (runV1_k c t) hc0 hc1 hc2 hc3 hq hv (iblk m c 0 t) (iblk m c 1 t) (iblk m c 3 t) (iblk m c 4 t) (iblk m c 5 t) (iblk m c 6 t) (iblk m c 7 t) (iblk m c 8 t) xs0 xs1 xs2 g12
  have ev := atPoint t (runV1_v c t) hc0 hc1 hc2 hc3 hq hv (iblk m c 0 t) (iblk m c 1 t) (iblk m c 3 t) (iblk m c 4 t) (iblk m c 5 t) (iblk m c 6 t) (iblk m c 7 t) (iblk m c 8 t) xs0 xs1 xs2 g13
  subst r2
  subst w0
  isplitl [HS0 HS1 HS2 Hg]
  · iexists _, _, _
    isplitr; · ipureintro; exact hN
    isplitr [Hg]
    · isplitl [HS0]; · iapply (owns_of c scM0_0 _ e0); iexact HS0
      isplitl [HS1]; · iexact HS1
      iexact HS2
    iexact Hg
  iframe Ho H0 H1 H2 H3 H4 H5 H6 H7 H8
  isplitl [H9]; · iapply (keep9 m c t (by omega)); iexact H9
  isplitl [H10]; · unfold kAt; iapply (owns_of c (ms0_10 t) _ ek); iexact H10
  unfold vAt; iapply (owns_of c (ms0_11 t) _ ev); iexact H11

end

section
/-! The kernel's run: every execution ends, with every array as the proof data says. -/

variable (m : (ℓ : Loc nD τ sig) → Buf (Elt F) ℓ) (ρ : Dev nD → PrngReg)

/-- The body at any point. -/
theorem sound_body (c : Dev nD) (t : Fin cfg0.N) : Keeps m c t := by
  by_cases h0 : t.val % 8 = 0
  · by_cases h8 : t.val < 8
    · exact bodyZ0 m c t h0 h8
    · by_cases h4 : t.val < 40
      · by_cases h2 : t.val / 8 % 2 = 1
        · exact bodyO0 m c t h0 h8 h4 h2
        · exact bodyE0 m c t h0 h8 h4 (by omega)
      · exact bodyV0 m c t h0 h4
  · by_cases h8 : t.val < 8
    · exact bodyZ1 m c t h0 h8
    · by_cases h4 : t.val < 40
      · by_cases h2 : t.val / 8 % 2 = 1
        · exact bodyO1 m c t h0 h8 h4 h2
        · exact bodyE1 m c t h0 h8 h4 (by omega)
      · exact bodyV1 m c t h0 h4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Phi m c 0 from rfl, PhiA0_eq]
  unfold Phi
  iintro ⟨⟨⟨%xs0, HS0⟩, ⟨%xs1, HS1⟩, ⟨%xs2, HS2⟩⟩, Hg⟩
  iexists xs0, xs1, xs2
  isplitr; · ipureintro; exact inv_zero xs0 xs1 xs2
  isplitr [Hg]
  · isplitl [HS0]; · iexact HS0
    isplitl [HS1]; · iexact HS1
    iexact HS2
  iexact Hg

/-- After the last point the carried contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA0_eq]
  unfold Phi
  iintro ⟨%xs0, %xs1, %xs2, -, ⟨HS0, HS1, HS2⟩, Hg⟩
  isplitr [Hg]
  · isplitl [HS0]; · iexists _; iexact HS0
    isplitl [HS1]; · iexists _; iexact HS1
    iexists _; iexact HS2
  iexact Hg

set_option backward.isDefEq.respectTransparency.types false in
/-- The run, the counters at zero at its end. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every execution ends, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end

end Cert.QkvIdeal.Hand

end
-- ==== Proof.QkvFrame.lean ====
module

public import proofs.«01_k».proof.Proof.Gen.Qkv
public import proofs.«01_k».proof.Proof.QkvIdealFrame

/-! The kernel as printed is, at any float values, the text its ideal reading is; so its frame is the same frame. -/

@[expose] public section

set_option maxRecDepth 16384

noncomputable section

namespace Cert.Qkv.Hand

open Cert.Qkv Cert.Qkv.Gen
open Idealize.ShloMosaic Idealize.ShloMosaic.TcCoe Idealize.SL.Sem

variable {F : FTy → Type} [FloatOps F]

/-- The two kernel functions are one. -/
theorem body_eq : @cc0_qkv F _ _ = @Cert.QkvIdeal.cc0_qkv F _ _ := rfl

set_option maxHeartbeats 1000000 in
/-- The two body tables are one. -/
theorem defs_eq : @defs F _ _ = @Cert.QkvIdeal.defs F _ _ := by
  refine congrArg (Pipeline.defs pcfgs) (congrArg Defs.onTc (funext fun l => funext fun a => ?_))
  match l, a with
  | 0, (t, s) => rfl

/-- Every execution ends, the argument arrays unchanged and the counters at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq]
  exact Cert.QkvIdeal.Hand.frame m ρ

end Cert.Qkv.Hand

end
-- ==== Proof.GuEpi.lean ====
module

public import proofs.«01_k».proof.Proof.W4

/-! The entry of the activation codes that both programs compute. -/

@[expose] public section

noncomputable section

open Idealize.ShloMosaic

namespace Cert.W4

/-- `x`, clipped to the range of the eight-bit codes. -/
def clip (x : EReal) : EReal := min (Ideal.ofBits FTy.f32 0x43E00000#32) (max (Ideal.ofBits FTy.f32 0xC3E00000#32) x)

/-- From the two products to the code: dequantise, gate, smooth, divide by the static scale, clip. -/
def guEpi (g u s cg cu p d : EReal) : EReal :=
  clip (Ideal.div (g * (s * cg) * Ideal.logistic (g * (s * cg)) * (u * (s * cu)) * p) d)

/-- Entry `(r, n)` of the activation codes. -/
def gu (X : Fin 6144 → Fin 8192 → EReal) (s : EReal) (W : Fin 1024 → Fin 14336 → BitVec 32) (S : Fin 64 → Fin 14336 → EReal)
    (C : Fin 14336 → EReal) (P : Fin 7168 → EReal) (d : EReal) (r : Fin 6144) (n : Fin 7168) : EReal :=
  guEpi (prod (by decide : 8192 = 8 * 1024) (by decide : 8192 = 128 * 64) X W S r ⟨n.val, by omega⟩)
    (prod (by decide : 8192 = 8 * 1024) (by decide : 8192 = 128 * 64) X W S r ⟨7168 + n.val, by omega⟩)
    s (C ⟨n.val, by omega⟩) (C ⟨7168 + n.val, by omega⟩) (P n) d

end Cert.W4

end
-- ==== Proof.Heads.lean ====
module

public import proofs.«01_k».proof.Proof.GuEpi

/-! The heads of q, k and v, entry by entry: a product with four-bit weights, rotated and quantised. -/

@[expose] public section

noncomputable section

open Idealize.ShloMosaic

namespace Cert.W4

/-- Entry `d` of a head `L`, its halves rotated by the cosines and sines of the row. -/
def rot (L : Fin 128 → EReal) (co si : Fin 64 → EReal) (d : Fin 128) : EReal :=
  if h : d.val < 64 then L d * co ⟨d.val, h⟩ - L ⟨64 + d.val, by omega⟩ * si ⟨d.val, h⟩
  else L d * co ⟨d.val - 64, by omega⟩ + L ⟨d.val - 64, by omega⟩ * si ⟨d.val - 64, by omega⟩

/-- The same entry from the head and the head turned by half its length. -/
theorem rot_turn (L : Fin 128 → EReal) (co si : Fin 64 → EReal) (d : Fin 128) :
    (L d * (if h : d.val < 64 then co ⟨d.val, h⟩ else co ⟨d.val - 64, by omega⟩)
      + L ⟨(d.val + 128 - 64) % 128, Nat.mod_lt _ (by decide)⟩ * (if h : d.val < 64 then 0 - si ⟨d.val, h⟩ else si ⟨d.val - 64, by omega⟩))
      = rot L co si d := by
  unfold rot
  by_cases h : d.val < 64
  · rw [dif_pos h, dif_pos h, dif_pos h, zero_sub, mul_neg, ← sub_eq_add_neg]
    have e : (⟨(d.val + 128 - 64) % 128, Nat.mod_lt _ (by decide)⟩ : Fin 128) = ⟨64 + d.val, by omega⟩ := Fin.ext (by show (d.val + 128 - 64) % 128 = 64 + d.val; omega)
    rw [e]
  · rw [dif_neg h, dif_neg h, dif_neg h]
    have e : (⟨(d.val + 128 - 64) % 128, Nat.mod_lt _ (by decide)⟩ : Fin 128) = ⟨d.val - 64, by omega⟩ := Fin.ext (by show (d.val + 128 - 64) % 128 = d.val - 64; omega)
    rw [e]

section
variable (X : Fin 6144 → Fin 8192 → EReal) (s : EReal) (W : Fin 1024 → Fin 2560 → BitVec 32) (S : Fin 64 → Fin 2560 → EReal)
    (C : Fin 2560 → EReal) (co si : Fin 6144 → Fin 64 → EReal) (ks vs : Fin 2 → EReal)

/-- Entry `(r, n)` of the product, dequantised by the row scale `s` and the column scale `C`. -/
def lin (r : Fin 6144) (n : Fin 2560) : EReal :=
  prod (by decide : 8192 = 8 * 1024) (by decide : 8192 = 128 * 64) X W S r n * (s * C n)

/-- Entry `d` of head `h` of a row. -/
def headOf (r : Fin 6144) (h : Fin 20) (d : Fin 128) : EReal := lin X s W S C r ⟨h.val * 128 + d.val, by omega⟩

/-- Entry `(r, n)` of q, -/
def headQ (r : Fin 6144) (n : Fin 2048) : EReal :=
  rot (headOf X s W S C r ⟨n.val / 128, by omega⟩) (co r) (si r) ⟨n.val % 128, Nat.mod_lt _ (by decide)⟩
/-- of the codes of k, -/
def headK (r : Fin 6144) (n : Fin 256) : EReal :=
  clip (Ideal.div (rot (headOf X s W S C r ⟨16 + n.val / 128, by omega⟩) (co r) (si r) ⟨n.val % 128, Nat.mod_lt _ (by decide)⟩) (ks ⟨n.val / 128, by omega⟩))
/-- and of the codes of v. -/
def headV (r : Fin 6144) (n : Fin 256) : EReal :=
  clip (Ideal.div (headOf X s W S C r ⟨18 + n.val / 128, by omega⟩ ⟨n.val % 128, Nat.mod_lt _ (by decide)⟩) (vs ⟨n.val / 128, by omega⟩))
end

end Cert.W4

end
-- ==== Proof.QkvIdealEntry.lean ====
module

public import proofs.«01_k».proof.Proof.QkvIdealOut
public import proofs.«01_k».proof.Proof.Heads

/-! The entries of the tiles a point stores. -/

@[expose] public section

set_option maxRecDepth 16384

noncomputable section

namespace Cert.QkvIdeal.Hand

open Cert.QkvIdeal Cert.QkvIdeal.Gen Cert.W4
open Idealize.ShloMosaic Idealize.ShloMosaic.TcCoe Idealize.ShloMosaic.Tactic Idealize.SL.Sem
open Idealize.ShloMosaic.ValueIdx hiding ix1 ix2

section
variable (a : Vec Ideal S256x8192 .fp8e4m3) (w : Vec Ideal S8192x256 .bf16) (s : Elt Ideal .f32) (cs : Vec Ideal S1x256 .f32) (co si : Vec Ideal S256x64 .f32)

/-- An entry of a square: a sum over the rows of the weights, scaled. -/
def sq (p : Fin 256) (q : Fin 256) : EReal :=
  (∑ k : Fin 8192, (a (ix2 p k) : EReal) * (w (ix2 k q) : EReal)) * ((s : EReal) * (cs (ix2 (0 : Fin 1) q) : EReal))

theorem pay33_apply (p : Fin 256) (q : Fin 256) : (k0_pay33 a w s cs (ix2 p q) : EReal) = sq a w s cs p q := by
  unfold sq
  pointwise [k0_pay33]

theorem pay43_eq : k0_pay43 (k0_pay42 a w) s cs = k0_pay33 a w s cs := rfl

/-- The first head of a square, rotated, -/
theorem pay38_apply (p : Fin 256) (d : Fin 128) :
    (k0_pay38 a w s cs co si (ix2 p d) : EReal)
      = rot (fun d => sq a w s cs p ⟨128 * 0 + d.val, by omega⟩) (fun j => co (ix2 p j)) (fun j => si (ix2 p j)) d := by
  rw [← rot_turn]
  simp only [← pay33_apply]
  pointwise [k0_pay38, k0_pay36, k0_pay34, k0_pay35]
/-- and the second one. -/
theorem pay39_apply (p : Fin 256) (d : Fin 128) :
    (k0_pay39 a w s cs co si (ix2 p d) : EReal)
      = rot (fun d => sq a w s cs p ⟨128 * 1 + d.val, by omega⟩) (fun j => co (ix2 p j)) (fun j => si (ix2 p j)) d := by
  rw [← rot_turn]
  simp only [← pay33_apply]
  pointwise [k0_pay39, k0_pay37, k0_pay34, k0_pay35]

variable (ks : Elt Ideal .f32)

/-- The codes are the rotated heads over their scale, clipped. -/
theorem pay40_apply (p : Fin 256) (d : Fin 128) :
    (k0_pay40 a w s cs co si ks (ix2 p d) : EReal) = clip (Ideal.div (k0_pay38 a w s cs co si (ix2 p d)) ks) := rfl
theorem pay41_apply (p : Fin 256) (d : Fin 128) :
    (k0_pay41 a w s cs co si ks (ix2 p d) : EReal) = clip (Ideal.div (k0_pay39 a w s cs co si (ix2 p d)) ks) := rfl

/-- The heads that are not rotated. -/
theorem pay50_apply (p : Fin 256) (d : Fin 128) :
    (k0_pay50 (k0_pay42 a w) s cs ks (ix2 p d) : EReal) = clip (Ideal.div (sq a w s cs p ⟨128 * 0 + d.val, by omega⟩) ks) := by
  rw [← pay33_apply, ← pay43_eq]
  unfold clip
  pointwise [k0_pay50, k0_pay46]
theorem pay51_apply (p : Fin 256) (d : Fin 128) :
    (k0_pay51 (k0_pay42 a w) s cs ks (ix2 p d) : EReal) = clip (Ideal.div (sq a w s cs p ⟨128 * 1 + d.val, by omega⟩) ks) := by
  rw [← pay33_apply, ← pay43_eq]
  unfold clip
  pointwise [k0_pay51, k0_pay47]
end

end Cert.QkvIdeal.Hand

end
-- ==== Proof.QkvIdealValue.lean ====
module

public import proofs.«01_k».proof.Proof.QkvIdealFrame
public import proofs.«01_k».proof.Proof.QkvIdealEntry

/-! What the kernel computes, entry by entry. -/

@[expose] public section

set_option maxRecDepth 16384

noncomputable section

namespace Cert.QkvIdeal.Hand

open Cert.QkvIdeal Cert.QkvIdeal.Gen Cert.W4
open Idealize.ShloMosaic Idealize.ShloMosaic.TcCoe Idealize.ShloMosaic.Tactic Idealize.SL.Sem
open Idealize.ShloMosaic.ValueIdx hiding ix1 ix2
open Idealize.ShloMosaic.Pipeline (Dat)

section
variable (a : Vec Ideal S768x8192 .fp8e4m3) (w : Vec Ideal S8192x512 .bf16) (s : Elt Ideal .f32) (cs : Vec Ideal S1x512 .f32) (co si : Vec Ideal S768x64 .f32)

/-- An entry of a point's product, scaled. -/
def blkLin (p : Fin 768) (q : Fin 512) : EReal :=
  (∑ k : Fin 8192, (a (ix2 p k) : EReal) * (w (ix2 k q) : EReal)) * ((s : EReal) * (cs (ix2 (0 : Fin 1) q) : EReal))

/-- A square's entry is the product's. -/
theorem sq_eq (p : Fin 768) (j : Fin 2) (q : Fin 256) (h : Fin 512) (hh : h.val = 256 * j.val + q.val) :
    sq (aRows a ⟨p.val / 256, by omega⟩) (wCols w j) s (cCols cs j) ⟨p.val % 256, by omega⟩ q = blkLin a w s cs p h := by
  have e1 : (⟨256 * (p.val / 256) + p.val % 256, by omega⟩ : Fin 768) = p := Fin.ext (by show 256 * (p.val / 256) + p.val % 256 = p.val; omega)
  have e2 : (⟨256 * j.val + q.val, by omega⟩ : Fin 512) = h := Fin.ext hh.symm
  unfold sq blkLin aRows wCols cCols
  show (∑ k : Fin 8192, (a (ix2 (⟨256 * (p.val / 256) + p.val % 256, by omega⟩ : Fin 768) k) : EReal) * (w (ix2 k (⟨256 * j.val + q.val, by omega⟩ : Fin 512)) : EReal)) * ((s : EReal) * (cs (ix2 (0 : Fin 1) (⟨256 * j.val + q.val, by omega⟩ : Fin 512)) : EReal)) = _
  simp only [e1, e2]

theorem hRows_eq (h : Vec Ideal S768x64 .f32) (p : Fin 768) :
    (fun j => (hRows h ⟨p.val / 256, by omega⟩ (ix2 (⟨p.val % 256, by omega⟩ : Fin 256) j) : EReal)) = fun j => h (ix2 p j) := by
  have e1 : (⟨256 * (p.val / 256) + p.val % 256, by omega⟩ : Fin 768) = p := Fin.ext (by show 256 * (p.val / 256) + p.val % 256 = p.val; omega)
  funext j
  exact congrArg (fun q : Fin 768 => h (ix2 q j)) e1

/-- Entry of a head of q: head `n / 128` of the block, rotated. -/
theorem qBlk_apply (p : Fin 768) (n : Fin 512) :
    (qBlk a w s cs co si (ix2 p n) : EReal)
      = rot (fun d => blkLin a w s cs p ⟨n.val / 128 * 128 + d.val, by omega⟩) (fun j => co (ix2 p j)) (fun j => si (ix2 p j)) ⟨n.val % 128, by omega⟩ := by
  have key : ∀ c : Fin 4, ∀ d : Fin 128, (qTile (aRows a ⟨p.val / 256, by omega⟩) (wCols w) s (cCols cs) (hRows co ⟨p.val / 256, by omega⟩) (hRows si ⟨p.val / 256, by omega⟩) c (ix2 (⟨p.val % 256, by omega⟩ : Fin 256) d) : EReal)
      = rot (fun d => blkLin a w s cs p ⟨c.val * 128 + d.val, by omega⟩) (fun j => co (ix2 p j)) (fun j => si (ix2 p j)) d := by
    intro c d
    rcases (by decide : ∀ c : Fin 4, c = 0 ∨ c = 1 ∨ c = 2 ∨ c = 3) c with rfl | rfl | rfl | rfl
    · refine (pay38_apply _ _ _ _ _ _ _ _).trans ?_
      rw [hRows_eq, hRows_eq]
      exact congrArg (fun L => rot L _ _ d) (funext fun d => sq_eq a w s cs p 0 _ _ (by show 0 * 128 + d.val = 256 * 0 + (128 * 0 + d.val); omega))
    · refine (pay39_apply _ _ _ _ _ _ _ _).trans ?_
      rw [hRows_eq, hRows_eq]
      exact congrArg (fun L => rot L _ _ d) (funext fun d => sq_eq a w s cs p 0 _ _ (by show 1 * 128 + d.val = 256 * 0 + (128 * 1 + d.val); omega))
    · refine (pay38_apply _ _ _ _ _ _ _ _).trans ?_
      rw [hRows_eq, hRows_eq]
      exact congrArg (fun L => rot L _ _ d) (funext fun d => sq_eq a w s cs p 1 _ _ (by show 2 * 128 + d.val = 256 * 1 + (128 * 0 + d.val); omega))
    · refine (pay39_apply _ _ _ _ _ _ _ _).trans ?_
      rw [hRows_eq, hRows_eq]
      exact congrArg (fun L => rot L _ _ d) (funext fun d => sq_eq a w s cs p 1 _ _ (by show 3 * 128 + d.val = 256 * 1 + (128 * 1 + d.val); omega))
  exact key ⟨n.val / 128, by omega⟩ ⟨n.val % 128, by omega⟩

/-- Entry of a head of k, coded, -/
theorem kBlk_apply (ks : Vec Ideal S2 .f32) (p : Fin 768) (n : Fin 256) :
    (kBlk a w s cs co si ks (ix2 p n) : EReal)
      = clip (Ideal.div (rot (fun d => blkLin a w s cs p ⟨n.val / 128 * 128 + d.val, by omega⟩) (fun j => co (ix2 p j)) (fun j => si (ix2 p j)) ⟨n.val % 128, by omega⟩)
          (ks (ix1 (⟨n.val / 128, by omega⟩ : Fin 2)))) := by
  have key : ∀ c : Fin 2, ∀ d : Fin 128, (kTile (aRows a ⟨p.val / 256, by omega⟩) (wCols w 0) s (cCols cs 0) (hRows co ⟨p.val / 256, by omega⟩) (hRows si ⟨p.val / 256, by omega⟩) c (ks (ix1 c)) (ix2 (⟨p.val % 256, by omega⟩ : Fin 256) d) : EReal)
      = clip (Ideal.div (rot (fun d => blkLin a w s cs p ⟨c.val * 128 + d.val, by omega⟩) (fun j => co (ix2 p j)) (fun j => si (ix2 p j)) d) (ks (ix1 c))) := by
    intro c d
    rcases (by decide : ∀ c : Fin 2, c = 0 ∨ c = 1) c with rfl | rfl
    · refine (pay40_apply _ _ _ _ _ _ _ _ _).trans (congrArg (fun x => clip (Ideal.div x _)) ((pay38_apply _ _ _ _ _ _ _ _).trans ?_))
      rw [hRows_eq, hRows_eq]
      exact congrArg (fun L => rot L _ _ d) (funext fun d => sq_eq a w s cs p 0 _ _ (by show 0 * 128 + d.val = 256 * 0 + (128 * 0 + d.val); omega))
    · refine (pay41_apply _ _ _ _ _ _ _ _ _).trans (congrArg (fun x => clip (Ideal.div x _)) ((pay39_apply _ _ _ _ _ _ _ _).trans ?_))
      rw [hRows_eq, hRows_eq]
      exact congrArg (fun L => rot L _ _ d) (funext fun d => sq_eq a w s cs p 0 _ _ (by show 1 * 128 + d.val = 256 * 0 + (128 * 1 + d.val); omega))
  exact key ⟨n.val / 128, by omega⟩ ⟨n.val % 128, by omega⟩

/-- and of a head of v. -/
theorem vBlk_apply (vs : Vec Ideal S2 .f32) (p : Fin 768) (n : Fin 256) :
    (vBlk a w s cs vs (ix2 p n) : EReal)
      = clip (Ideal.div (blkLin a w s cs p ⟨256 + (n.val / 128 * 128 + n.val % 128), by omega⟩) (vs (ix1 (⟨n.val / 128, by omega⟩ : Fin 2)))) := by
  have key : ∀ c : Fin 2, ∀ d : Fin 128, (vTile (aRows a ⟨p.val / 256, by omega⟩) (wCols w 1) s (cCols cs 1) c (vs (ix1 c)) (ix2 (⟨p.val % 256, by omega⟩ : Fin 256) d) : EReal)
      = clip (Ideal.div (blkLin a w s cs p ⟨256 + (c.val * 128 + d.val), by omega⟩) (vs (ix1 c))) := by
    intro c d
    rcases (by decide : ∀ c : Fin 2, c = 0 ∨ c = 1) c with rfl | rfl
    · refine (pay50_apply _ _ _ _ _ _ _).trans (congrArg (fun x => clip (Ideal.div x _)) ?_)
      exact sq_eq a w s cs p 1 _ _ (by show 256 + (0 * 128 + d.val) = 256 * 1 + (128 * 0 + d.val); omega)
    · refine (pay51_apply _ _ _ _ _ _ _).trans (congrArg (fun x => clip (Ideal.div x _)) ?_)
      exact sq_eq a w s cs p 1 _ _ (by show 256 + (1 * 128 + d.val) = 256 * 1 + (128 * 1 + d.val); omega)
  exact key ⟨n.val / 128, by omega⟩ ⟨n.val % 128, by omega⟩
end

/-- A tile's weight is the array's. -/
theorem tile_apply (W : Vec Ideal S1024x2560 .i32) (S : Vec Ideal S64x2560 .fp8e4m3) (n : Fin 5) (k : Fin 8192) (q : Fin 512) :
    (tile W S n (ix2 k q) : EReal)
      = wgt (by decide : 8192 = 8 * 1024) (by decide : 8192 = 128 * 64) (fun x n => W (ix2 x n)) (fun x n => S (ix2 x n)) k (col n q) := rfl

variable (m : (ℓ : Loc nD τ sig) → Buf (Elt Ideal) ℓ) (ρ : Dev nD → PrngReg)

section
variable (c : Dev nD)

/-! The arguments as functions of coordinates. -/
abbrev argX (r : Fin 6144) (k : Fin 8192) : EReal := (m ((c : Thread nD τ).loc main_arg0) : Vec Ideal S6144x8192 .fp8e4m3) (ix2 r k)
abbrev argS : EReal := (m ((c : Thread nD τ).loc main_arg1) : Vec Ideal S1 .f32) (ix1 0)
abbrev argW (x : Fin 1024) (n : Fin 2560) : BitVec 32 := (m ((c : Thread nD τ).loc main_arg2) : Vec Ideal S1024x2560 .i32) (ix2 x n)
abbrev argG (x : Fin 64) (n : Fin 2560) : EReal := (m ((c : Thread nD τ).loc main_arg3) : Vec Ideal S64x2560 .fp8e4m3) (ix2 x n)
abbrev argC (n : Fin 2560) : EReal := (m ((c : Thread nD τ).loc main_arg4) : Vec Ideal S2560 .f32) (ix1 n)
abbrev argCo (r : Fin 6144) (j : Fin 64) : EReal := (m ((c : Thread nD τ).loc main_arg5) : Vec Ideal S6144x64 .f32) (ix2 r j)
abbrev argSi (r : Fin 6144) (j : Fin 64) : EReal := (m ((c : Thread nD τ).loc main_arg6) : Vec Ideal S6144x64 .f32) (ix2 r j)
abbrev argK (h : Fin 2) : EReal := (m ((c : Thread nD τ).loc main_arg7) : Vec Ideal S2 .f32) (ix1 h)
abbrev argV (h : Fin 2) : EReal := (m ((c : Thread nD τ).loc main_arg8) : Vec Ideal S2 .f32) (ix1 h)

/-- The results as functions of the arguments: q, -/
def G9 : Vec Ideal S6144x2048 .bf16 := fun y => headQ (argX m c) (argS m c) (argW m c) (argG m c) (argC m c) (argCo m c) (argSi m c) (y 0) (y 1)
/-- the codes of k, -/
def G10 : Vec Ideal S6144x256 .fp8e4m3 := fun y => headK (argX m c) (argS m c) (argW m c) (argG m c) (argC m c) (argCo m c) (argSi m c) (argK m c) (y 0) (y 1)
/-- and the codes of v. -/
def G11 : Vec Ideal S6144x256 .fp8e4m3 := fun y => headV (argX m c) (argS m c) (argW m c) (argG m c) (argC m c) (argV m c) (y 0) (y 1)

theorem lt48 (t : Fin cfg0.N) : t.val < 48 := t.isLt

theorem rd0 (t : Fin cfg0.N) (h : ¬ t.val < 8) (p : Fin 768) (k : Fin 8192) :
    (iblk m c 0 t : Vec Ideal S768x8192 .fp8e4m3) (ix2 p k) = argX m c (⟨768 * (t.val % 8) + p.val, by omega⟩ : Fin 6144) k := by
  have e := idx0 t
  rw [if_neg h] at e
  blk_point [iblk, V, e]
theorem rd3 (t : Fin cfg0.N) : (iblk m c 3 t : Vec Ideal S1 .f32) (ix1 0) = argS m c := by
  blk_point [iblk, V, idx3 t]
theorem rd4 (t : Fin cfg0.N) (q : Fin 512) :
    (iblk m c 4 t : Vec Ideal S1x512 .f32) (ix2 (0 : Fin 1) q) = argC m c (⟨512 * (t.val / 8 - 1) + q.val, by have := lt48 t; omega⟩ : Fin 2560) := by
  blk_point [iblk, idx4 t]
theorem rd5 (t : Fin cfg0.N) (h : ¬ t.val < 8) (p : Fin 768) (j : Fin 64) :
    (iblk m c 5 t : Vec Ideal S768x64 .f32) (ix2 p j) = argCo m c (⟨768 * (t.val % 8) + p.val, by omega⟩ : Fin 6144) j := by
  have e := idx5 t
  rw [if_neg h] at e
  blk_point [iblk, V, e]
theorem rd6 (t : Fin cfg0.N) (h : ¬ t.val < 8) (p : Fin 768) (j : Fin 64) :
    (iblk m c 6 t : Vec Ideal S768x64 .f32) (ix2 p j) = argSi m c (⟨768 * (t.val % 8) + p.val, by omega⟩ : Fin 6144) j := by
  have e := idx6 t
  rw [if_neg h] at e
  blk_point [iblk, V, e]
theorem rd7 (t : Fin cfg0.N) (h : Fin 2) : (iblk m c 7 t : Vec Ideal S2 .f32) (ix1 h) = argK m c h := by
  blk_point [iblk, V, idx7 t]
theorem rd8 (t : Fin cfg0.N) (h : Fin 2) : (iblk m c 8 t : Vec Ideal S2 .f32) (ix1 h) = argV m c h := by
  blk_point [iblk, V, idx8 t]

/-- An entry of a point's product is the row's product with the column there. -/
theorem lin_at (t : Fin cfg0.N) (h : ¬ t.val < 8) (p : Fin 768) (q : Fin 512) (n : Fin 2560) (hn : n.val = 512 * (t.val / 8 - 1) + q.val) :
    blkLin (iblk m c 0 t) (tile (V m c main_arg2) (V m c main_arg3) (cur t.val)) ((iblk m c 3 t : Vec Ideal S1 .f32) (ix1 0)) (iblk m c 4 t) p q
      = lin (argX m c) (argS m c) (argW m c) (argG m c) (argC m c) (⟨768 * (t.val % 8) + p.val, by omega⟩ : Fin 6144) n := by
  have ht := lt48 t
  unfold blkLin
  simp only [rd0 m c t h, rd3, rd4, tile_apply]
  have e0 : col (cur t.val) q = n := Fin.ext (by show 512 * min (t.val / 8 - 1) 4 + q.val = n.val; omega)
  have e1 : (⟨512 * (t.val / 8 - 1) + q.val, by omega⟩ : Fin 2560) = n := Fin.ext hn.symm
  rw [e0, e1]
  rfl

/-- A point's block of q is the result's rows and columns there. -/
theorem qAt_apply (t : Fin cfg0.N) (h : ¬ t.val < 8) (h4 : t.val < 40) (p : Fin 768) (q : Fin 512) :
    qAt m c t (ix2 p q) = G9 m c (ix2 (⟨768 * (t.val % 8) + p.val, by omega⟩ : Fin 6144) (⟨512 * (t.val / 8 - 1) + q.val, by omega⟩ : Fin 2048)) := by
  unfold qAt
  rw [qBlk_apply]
  simp only [rd5 m c t h, rd6 m c t h]
  show _ = rot (headOf (argX m c) (argS m c) (argW m c) (argG m c) (argC m c) _ ⟨(512 * (t.val / 8 - 1) + q.val) / 128, by omega⟩) _ _ ⟨(512 * (t.val / 8 - 1) + q.val) % 128, by omega⟩
  have e : (⟨(512 * (t.val / 8 - 1) + q.val) % 128, by omega⟩ : Fin 128) = ⟨q.val % 128, by omega⟩ := Fin.ext (by show (512 * (t.val / 8 - 1) + q.val) % 128 = q.val % 128; omega)
  rw [e]
  refine congrArg (fun L => rot L _ _ _) (funext fun d => lin_at m c t h p _ _ ?_)
  show (512 * (t.val / 8 - 1) + q.val) / 128 * 128 + d.val = 512 * (t.val / 8 - 1) + (q.val / 128 * 128 + d.val)
  omega

theorem kAt_apply (t : Fin cfg0.N) (h4 : ¬ t.val < 40) (p : Fin 768) (q : Fin 256) :
    kAt m c t (ix2 p q) = G10 m c (ix2 (⟨768 * (t.val % 8) + p.val, by omega⟩ : Fin 6144) q) := by
  have ht := lt48 t
  unfold kAt
  rw [kBlk_apply]
  simp only [rd5 m c t (by omega), rd6 m c t (by omega), rd7]
  refine congrArg (fun L => clip (Ideal.div (rot L _ _ _) _)) (funext fun d => lin_at m c t (by omega) p _ _ ?_)
  show (16 + q.val / 128) * 128 + d.val = 512 * (t.val / 8 - 1) + (q.val / 128 * 128 + d.val)
  omega

theorem vAt_apply (t : Fin cfg0.N) (h4 : ¬ t.val < 40) (p : Fin 768) (q : Fin 256) :
    vAt m c t (ix2 p q) = G11 m c (ix2 (⟨768 * (t.val % 8) + p.val, by omega⟩ : Fin 6144) q) := by
  have ht := lt48 t
  unfold vAt
  rw [vBlk_apply]
  simp only [rd8]
  refine congrArg (fun L => clip (Ideal.div L _)) (lin_at m c t (by omega) p _ _ ?_)
  show (18 + q.val / 128) * 128 + q.val % 128 = 512 * (t.val / 8 - 1) + (256 + (q.val / 128 * 128 + q.val % 128))
  omega

theorem idx9 : ∀ t : Fin cfg0.N, ¬ t.val < 8 → win0_9.index t = ![(lastQ t).val % 8, (lastQ t).val / 8 - 1] :=
  (by decide +kernel : ∀ t : Fin grid0.N, ¬ t.val < 8 → win0_9.index t = ![(lastQ t).val % 8, (lastQ t).val / 8 - 1])
theorem idx10 : ∀ t : Fin cfg0.N, ¬ t.val < 40 → win0_10.index t = ![t.val % 8, 0] :=
  (by decide +kernel : ∀ t : Fin grid0.N, ¬ t.val < 40 → win0_10.index t = ![t.val % 8, 0])
theorem idx11 : ∀ t : Fin cfg0.N, ¬ t.val < 40 → win0_11.index t = ![t.val % 8, 0] :=
  (by decide +kernel : ∀ t : Fin grid0.N, ¬ t.val < 40 → win0_11.index t = ![t.val % 8, 0])
theorem lastQ_lt (t : Fin cfg0.N) (h : ¬ t.val < 8) : ¬ (lastQ t).val < 8 ∧ (lastQ t).val < 40 := by
  unfold lastQ
  by_cases h4 : t.val < 40
  · rw [if_pos h4]; exact ⟨h, h4⟩
  · rw [if_neg h4]; exact ⟨by show ¬ 39 < 8; omega, by show 39 < 40; omega⟩

/-- The result arrays after the run. -/
theorem final9 : (dats m 0 c).arrAt 9 (cfgs 0).N = G9 m c := by
  refine (dats m 0 c).arrAt_eq_of_covers 9 _ (by decide +kernel) fun t hf y => ?_
  have h : ¬ t.val < 8 := fun h => by rw [flush9 t (Or.inl h) (by omega)] at hf; exact Bool.false_ne_true hf
  have e := idx9 t h
  obtain ⟨hl, hl4⟩ := lastQ_lt t h
  blk_simp
  rw [after0_9]
  have hy : y = ix2 (y 0 : Fin 768) (y 1 : Fin 512) := funext fun a => by
    match a with
    | ⟨0, _⟩ => rfl
    | ⟨1, _⟩ => rfl
  refine (congrArg (qAt m c (lastQ t)) hy).trans ((qAt_apply m c (lastQ t) hl hl4 (y 0) (y 1)).trans ?_)
  blk_ext [e]
theorem final10 : (dats m 0 c).arrAt 10 (cfgs 0).N = G10 m c := by
  refine (dats m 0 c).arrAt_eq_of_covers 10 _ (by decide +kernel) fun t hf y => ?_
  have h : ¬ t.val < 40 := fun h => by rw [flush10 t h] at hf; exact Bool.false_ne_true hf
  have e := idx10 t h
  blk_simp
  rw [after0_10]
  have hy : y = ix2 (y 0 : Fin 768) (y 1 : Fin 256) := funext fun a => by
    match a with
    | ⟨0, _⟩ => rfl
    | ⟨1, _⟩ => rfl
  refine (congrArg (kAt m c t) hy).trans ((kAt_apply m c t h (y 0) (y 1)).trans ?_)
  blk_ext [e]
theorem final11 : (dats m 0 c).arrAt 11 (cfgs 0).N = G11 m c := by
  refine (dats m 0 c).arrAt_eq_of_covers 11 _ (by decide +kernel) fun t hf y => ?_
  have h : ¬ t.val < 40 := fun h => by rw [flush11 t h] at hf; exact Bool.false_ne_true hf
  have e := idx11 t h
  blk_simp
  rw [after0_11]
  have hy : y = ix2 (y 0 : Fin 768) (y 1 : Fin 256) := funext fun a => by
    match a with
    | ⟨0, _⟩ => rfl
    | ⟨1, _⟩ => rfl
  refine (congrArg (vAt m c t) hy).trans ((vAt_apply m c t h (y 0) (y 1)).trans ?_)
  blk_ext [e]
end

/-- The run: the result arrays, the arguments unchanged. -/
theorem run : θ_run defs (onTc (τ := τ) (main (F := Ideal))) ⟨m, fun _ => 0, ρ⟩ fun r => ∀ c : Dev nD,
      r.2.mem ((c : Thread nD τ).loc main_v1_0) = G9 m c
      ∧ r.2.mem ((c : Thread nD τ).loc main_v1_1) = G10 m c
      ∧ r.2.mem ((c : Thread nD τ).loc main_v1_2) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨((h.1 c).1 9).trans (final9 m c), ((h.1 c).1 10).trans (final10 m c), ((h.1 c).1 11).trans (final11 m c), h.2 c⟩)
    (θ_run_and (run_main m ρ) (frame_of m ρ (dats m) (A_eq m) (run_main m ρ)))

end Cert.QkvIdeal.Hand

end
-- ==== Proof.QkvRefValue.lean ====
module

public import proofs.«01_k».proof.Proof.Gen.QkvRefIdeal.Value
public import proofs.«01_k».proof.Proof.Heads

/-! What the reference computes, entry by entry. -/

@[expose] public section

set_option maxRecDepth 16384

noncomputable section

open Idealize.ShloMosaic Idealize.ShloMosaic.TcCoe Idealize.ShloMosaic.Tactic
open Idealize.ShloMosaic.ValueIdx hiding ix1 ix2 ix3

namespace Cert.QkvRefIdeal.Hand

open Cert.QkvRefIdeal Cert.QkvRefIdeal.Gen Cert.W4

section
variable (a0 : Vec Ideal S6144x8192 .fp8e4m3) (a1 : Vec Ideal S1 .f32) (a2 : Vec Ideal S1024x2560 .i32) (a3 : Vec Ideal S64x2560 .fp8e4m3)
    (a4 : Vec Ideal S2560 .f32)

/-- The twenty heads of every row. -/
def heads : Vec Ideal S6144x20x128 .f32 :=
  k0_pay14 a0 a1 a3 a4 (k0_pay3 a2) (k0_pay4 a2) (k0_pay5 a2) (k0_pay8 (k0_pay6 a2) k0_pay7) (k0_pay9 a2) (k0_pay10 a2) (k0_pay11 a2) (k0_pay12 a2) (k0_pay13 a2)

/-- The frame's names for the fields are the fields. -/
theorem heads_eq (co si : Vec Ideal S6144x64 .f32) (ks vs : Vec Ideal S2 .f32) :
    k0_pay14 a0 a1 a3 a4 (k0_pay20 a0 a1 a2 a3 a4 co si ks vs) (k0_pay21 a0 a1 a2 a3 a4 co si ks vs) (k0_pay22 a0 a1 a2 a3 a4 co si ks vs)
      (k0_pay23 a0 a1 a2 a3 a4 co si ks vs) (k0_pay24 a0 a1 a2 a3 a4 co si ks vs) (k0_pay25 a0 a1 a2 a3 a4 co si ks vs)
      (k0_pay26 a0 a1 a2 a3 a4 co si ks vs) (k0_pay27 a0 a1 a2 a3 a4 co si ks vs) (k0_pay28 a0 a1 a2 a3 a4 co si ks vs) = heads a0 a1 a2 a3 a4 := by
  unfold heads k0_pay20 k0_pay21 k0_pay22 k0_pay23 k0_pay24 k0_pay25 k0_pay26 k0_pay27 k0_pay28
  rw [View.ld_unit_zero (S := S1024x2560) (funext fun a => by fin_cases a <;> rfl) _ a2]

/-- The stacked fields, read through the eight-way stack. -/
def ladder (x : Fin 1024) (n : Fin 2560) (p : Fin 8) : BitVec 8 :=
  if h : p.val < 1 then k0_pay3 (F := Ideal) a2 (ix2 x n) else
  if h : p.val - 1 < 1 then k0_pay4 (F := Ideal) a2 (ix2 x n) else
  if h : p.val - 1 - 1 < 1 then k0_pay5 (F := Ideal) a2 (ix2 x n) else
  if h : p.val - 1 - 1 - 1 < 1 then k0_pay8 (k0_pay6 (F := Ideal) a2) k0_pay7 (ix2 x n) else
  if h : p.val - 1 - 1 - 1 - 1 < 1 then k0_pay9 (F := Ideal) a2 (ix2 x n) else
  if h : p.val - 1 - 1 - 1 - 1 - 1 < 1 then k0_pay10 (F := Ideal) a2 (ix2 x n) else
  if h : p.val - 1 - 1 - 1 - 1 - 1 - 1 < 1 then k0_pay11 (F := Ideal) a2 (ix2 x n) else
  BitVec.setWidth 8 (Scalar.select (k0_pay13 (F := Ideal) a2 (ix2 x n)) (IntOp.subi (k0_pay12 (F := Ideal) a2 (ix2 x n)) 16#32) (k0_pay12 (F := Ideal) a2 (ix2 x n)))

theorem ladder_eq (x : Fin 1024) (n : Fin 2560) (p : Fin 8) : ladder a2 x n p = fld (a2 (ix2 x n)) p.val := by
  fin_cases p <;> rfl

/-- A column of the reference's product. -/
theorem dot_eq (r : Fin 6144) (n : Fin 2560) :
    (∑ x : Fin 1024, ∑ p : Fin 8, (a0 (ix2 r (⟨x.val * 8 + p.val, by omega⟩ : Fin 8192)) : EReal)
        * ((FloatOps.sitofp (F := Ideal) FTy.bf16 (ladder a2 x n p) : EReal) * (a3 (ix2 (⟨x.val / 16, by omega⟩ : Fin 64) n) : EReal)))
      = prod (by decide : 8192 = 8 * 1024) (by decide : 8192 = 128 * 64) (fun r k => a0 (ix2 r k)) (fun x n => a2 (ix2 x n)) (fun q n => a3 (ix2 q n)) r n := by
  simp only [ladder_eq]
  exact prod_fields (by decide : 8192 = 8 * 1024) (by decide : 8192 = 128 * 64) (fun r k => a0 (ix2 r k)) (fun x n => a2 (ix2 x n)) (fun q n => a3 (ix2 q n)) r n

theorem heads_apply (r : Fin 6144) (h : Fin 20) (d : Fin 128) :
    (heads a0 a1 a2 a3 a4 (ix3 r h d) : EReal)
      = headOf (fun r k => a0 (ix2 r k)) (a1 (ix1 0)) (fun x n => a2 (ix2 x n)) (fun q n => a3 (ix2 q n)) (fun n => a4 (ix1 n)) r h d := by
  unfold headOf lin
  rw [← dot_eq]
  pointwise [heads, k0_pay14]
  try (unfold ladder; rfl)
end

section
variable (a0 : Vec Ideal S6144x8192 .fp8e4m3) (a1 : Vec Ideal S1 .f32) (a2 : Vec Ideal S1024x2560 .i32) (a3 : Vec Ideal S64x2560 .fp8e4m3)
    (a4 : Vec Ideal S2560 .f32) (co si : Vec Ideal S6144x64 .f32) (ks vs : Vec Ideal S2 .f32)

theorem g9_apply (r : Fin 6144) (n : Fin 2048) :
    Cert.QkvRefIdeal.Value.G9 a0 a1 a2 a3 a4 co si ks vs (ix2 r n)
      = headQ (fun r k => a0 (ix2 r k)) (a1 (ix1 0)) (fun x n => a2 (ix2 x n)) (fun q n => a3 (ix2 q n)) (fun n => a4 (ix1 n)) (fun r j => co (ix2 r j)) (fun r j => si (ix2 r j)) r n := by
  unfold headQ rot
  simp only [← heads_apply]
  pointwise [Value.G9, k0_pay19, k0_pay17, k0_pay18]
  simp only [heads_eq]
  have e : ∀ h : ¬ n.val % 128 < 64, (⟨64 + (n.val % 128 - 64), by omega⟩ : Fin 128) = ⟨n.val % 128, by omega⟩ :=
    fun h => Fin.ext (by show 64 + (n.val % 128 - 64) = n.val % 128; omega)
  by_cases h : n.val % 128 < 64
  · simp only [dif_pos h]
  · simp only [dif_neg h, e h]

theorem g10_apply (r : Fin 6144) (n : Fin 256) :
    Cert.QkvRefIdeal.Value.G10 a0 a1 a2 a3 a4 co si ks vs (ix2 r n)
      = headK (fun r k => a0 (ix2 r k)) (a1 (ix1 0)) (fun x n => a2 (ix2 x n)) (fun q n => a3 (ix2 q n)) (fun n => a4 (ix1 n)) (fun r j => co (ix2 r j)) (fun r j => si (ix2 r j)) (fun h => ks (ix1 h)) r n := by
  unfold headK rot clip
  simp only [← heads_apply]
  pointwise [Value.G10, k0_pay1, k0_pay15, k0_pay17, k0_pay18]
  simp only [heads_eq]
  have e : ∀ h : ¬ n.val % 128 < 64, (⟨64 + (n.val % 128 - 64), by omega⟩ : Fin 128) = ⟨n.val % 128, by omega⟩ :=
    fun h => Fin.ext (by show 64 + (n.val % 128 - 64) = n.val % 128; omega)
  by_cases h : n.val % 128 < 64
  · simp only [dif_pos h]
  · simp only [dif_neg h, e h]

theorem g11_apply (r : Fin 6144) (n : Fin 256) :
    Cert.QkvRefIdeal.Value.G11 a0 a1 a2 a3 a4 co si ks vs (ix2 r n)
      = headV (fun r k => a0 (ix2 r k)) (a1 (ix1 0)) (fun x n => a2 (ix2 x n)) (fun q n => a3 (ix2 q n)) (fun n => a4 (ix1 n)) (fun h => vs (ix1 h)) r n := by
  unfold headV clip
  simp only [← heads_apply]
  pointwise [Value.G11, k0_pay2, k0_pay16]
  simp only [heads_eq]
end

end Cert.QkvRefIdeal.Hand

end
-- ==== Proof.QkvAlgebraic.lean ====
module

public import proofs.«01_k».proof.Defs
public import proofs.«01_k».proof.Proof.QkvIdealValue
public import proofs.«01_k».proof.Proof.QkvRefValue

/-! Kernel and reference end with the same queries and codes. -/

@[expose] public section

set_option maxRecDepth 16384

noncomputable section

open Idealize.ShloMosaic Idealize.ShloMosaic.TcCoe Idealize.ShloMosaic.Tactic Idealize.SL.Sem
open Idealize.ShloMosaic.ValueIdx hiding ix1 ix2

namespace Cert.Qkv.Hand

/-- An index of two coordinates is its coordinates. -/
theorem pair {M N : Nat} (y : (a : Fin 2) → Fin (![M, N] a)) : y = ix2 (y 0 : Fin M) (y 1 : Fin N) := funext fun a => by
  match a with
  | ⟨0, _⟩ => rfl
  | ⟨1, _⟩ => rfl

theorem algebraic : Cert.algebraic_QkvIdeal_QkvRefIdeal (hQkvIdeal := Cert.QkvIdeal.Gen.facts) (hQkvRefIdeal := Cert.QkvRefIdeal.Gen.facts) := by
  intro m g m' g' _ hm
  refine ⟨fun c => Cert.QkvIdeal.Hand.G9 m c, fun c => Cert.QkvIdeal.Hand.G10 m c, fun c => Cert.QkvIdeal.Hand.G11 m c, Cert.QkvIdeal.Hand.run m g, ?_⟩
  refine (θ_run _ _ _).mono (fun r h c => ⟨(h c).1.trans ?_, (h c).2.1.trans ?_, (h c).2.2.1.trans ?_, (h c).2.2.2⟩) (Cert.QkvRefIdeal.Value.run m' g')
  all_goals
    obtain ⟨e0, e1, e2, e3, e4, e5, e6, e7, e8⟩ := hm c
    rw [e0, e1, e2, e3, e4, e5, e6, e7, e8]
    funext y
  · exact (congrArg _ (pair y)).trans (Cert.QkvRefIdeal.Hand.g9_apply _ _ _ _ _ _ _ _ _ (y 0) (y 1))
  · exact (congrArg _ (pair y)).trans (Cert.QkvRefIdeal.Hand.g10_apply _ _ _ _ _ _ _ _ _ (y 0) (y 1))
  · exact (congrArg _ (pair y)).trans (Cert.QkvRefIdeal.Hand.g11_apply _ _ _ _ _ _ _ _ _ (y 0) (y 1))

end Cert.Qkv.Hand

end
-- ==== Proof.GuIdealValue.lean ====
module

public import proofs.«01_k».proof.Proof.GuIdealFrame
public import proofs.«01_k».proof.Proof.GuEpi

/-! What the kernel computes, entry by entry. -/

@[expose] public section

set_option maxRecDepth 16384

noncomputable section

namespace Cert.GuIdeal.Hand

open Cert.GuIdeal Cert.GuIdeal.Gen Cert.W4
open Idealize.ShloMosaic Idealize.ShloMosaic.TcCoe Idealize.ShloMosaic.Tactic Idealize.SL.Sem
open Idealize.ShloMosaic.ValueIdx hiding ix1 ix2
open Idealize.ShloMosaic.Pipeline (Dat)

/-- An entry of a square: two sums over the rows of the weights, and the epilogue. -/
theorem square_apply (a : Vec Ideal S768x8192 .fp8e4m3) (wg wu : Vec Ideal S8192x512 .bf16) (s : Elt Ideal .f32) (cg cu pre : Vec Ideal S1x512 .f32) (sd : Elt Ideal .f32)
    (i : Fin 3) (j : Fin 2) (p q : Fin 256) :
    square a wg wu s cg cu pre sd i j (ix2 p q)
      = guEpi (∑ k : Fin 8192, (a (ix2 (⟨256 * i.val + p.val, by omega⟩ : Fin 768) k) : EReal) * (wg (ix2 k (⟨256 * j.val + q.val, by omega⟩ : Fin 512)) : EReal))
          (∑ k : Fin 8192, (a (ix2 (⟨256 * i.val + p.val, by omega⟩ : Fin 768) k) : EReal) * (wu (ix2 k (⟨256 * j.val + q.val, by omega⟩ : Fin 512)) : EReal))
          s (cg (ix2 (0 : Fin 1) (⟨256 * j.val + q.val, by omega⟩ : Fin 512))) (cu (ix2 (0 : Fin 1) (⟨256 * j.val + q.val, by omega⟩ : Fin 512)))
          (pre (ix2 (0 : Fin 1) (⟨256 * j.val + q.val, by omega⟩ : Fin 512))) sd := by
  unfold square guEpi clip
  pointwise [k0_pay53]

/-- An entry of a point's block. -/
theorem outBlk_apply (a : Vec Ideal S768x8192 .fp8e4m3) (wg wu : Vec Ideal S8192x512 .bf16) (s : Elt Ideal .f32) (cg cu pre : Vec Ideal S1x512 .f32) (sd : Elt Ideal .f32)
    (p : Fin 768) (q : Fin 512) :
    outBlk a wg wu s cg cu pre sd (ix2 p q)
      = guEpi (∑ k : Fin 8192, (a (ix2 p k) : EReal) * (wg (ix2 k q) : EReal)) (∑ k : Fin 8192, (a (ix2 p k) : EReal) * (wu (ix2 k q) : EReal))
          s (cg (ix2 (0 : Fin 1) q)) (cu (ix2 (0 : Fin 1) q)) (pre (ix2 (0 : Fin 1) q)) sd := by
  have e1 : (⟨256 * (p.val / 256) + p.val % 256, by omega⟩ : Fin 768) = p := Fin.ext (by show 256 * (p.val / 256) + p.val % 256 = p.val; omega)
  have e2 : (⟨256 * (q.val / 256) + q.val % 256, by omega⟩ : Fin 512) = q := Fin.ext (by show 256 * (q.val / 256) + q.val % 256 = q.val; omega)
  refine (square_apply a wg wu s cg cu pre sd ⟨p.val / 256, by omega⟩ ⟨q.val / 256, by omega⟩ ⟨p.val % 256, by omega⟩ ⟨q.val % 256, by omega⟩).trans ?_
  simp only [e1, e2]

/-- A tile's weight is the array's. -/
theorem tile_apply (W : Vec Ideal S1024x14336 .i32) (S : Vec Ideal S64x14336 .fp8e4m3) (g : Fin 2) (n : Fin 14) (k : Fin 8192) (q : Fin 512) :
    (tile W S g n (ix2 k q) : EReal)
      = wgt (by decide : 8192 = 8 * 1024) (by decide : 8192 = 128 * 64) (fun x n => W (ix2 x n)) (fun x n => S (ix2 x n)) k (col g n q) := rfl

variable (m : (ℓ : Loc nD τ sig) → Buf (Elt Ideal) ℓ) (ρ : Dev nD → PrngReg)

/-- The activation codes as a function of the arguments. -/
def G (c : Dev nD) : Vec Ideal S6144x7168 .fp8e4m3 := fun y =>
  gu (fun r k => (m ((c : Thread nD τ).loc main_arg0) : Vec Ideal S6144x8192 .fp8e4m3) (ix2 r k))
    ((m ((c : Thread nD τ).loc main_arg1) : Vec Ideal S1 .f32) (ix1 0))
    (fun x n => (m ((c : Thread nD τ).loc main_arg2) : Vec Ideal S1024x14336 .i32) (ix2 x n))
    (fun x n => (m ((c : Thread nD τ).loc main_arg3) : Vec Ideal S64x14336 .fp8e4m3) (ix2 x n))
    (fun n => (m ((c : Thread nD τ).loc main_arg4) : Vec Ideal S14336 .f32) (ix1 n))
    (fun n => (m ((c : Thread nD τ).loc main_arg5) : Vec Ideal S7168 .f32) (ix1 n))
    ((m ((c : Thread nD τ).loc main_arg6) : Vec Ideal S1 .f32) (ix1 0)) (y 0) (y 1)

theorem rd0 (c : Dev nD) (t : Fin cfg0.N) (h : ¬ t.val < 8) (p : Fin 768) (k : Fin 8192) :
    (iblk m c 0 t : Vec Ideal S768x8192 .fp8e4m3) (ix2 p k)
      = (m ((c : Thread nD τ).loc main_arg0) : Vec Ideal S6144x8192 .fp8e4m3) (ix2 (⟨768 * (t.val % 8) + p.val, by omega⟩ : Fin 6144) k) := by
  have e := idx0 t
  rw [if_neg h] at e
  blk_point [iblk, V, e]

theorem rd5 (c : Dev nD) (t : Fin cfg0.N) :
    (iblk m c 5 t : Vec Ideal S1 .f32) (ix1 0) = (m ((c : Thread nD τ).loc main_arg1) : Vec Ideal S1 .f32) (ix1 0) := by
  blk_point [iblk, V, idx5 t]

theorem rd9 (c : Dev nD) (t : Fin cfg0.N) :
    (iblk m c 9 t : Vec Ideal S1 .f32) (ix1 0) = (m ((c : Thread nD τ).loc main_arg6) : Vec Ideal S1 .f32) (ix1 0) := by
  blk_point [iblk, V, idx9 t]

theorem lt112 (t : Fin cfg0.N) : t.val < 120 := t.isLt

theorem rd6 (c : Dev nD) (t : Fin cfg0.N) (q : Fin 512) :
    (iblk m c 6 t : Vec Ideal S1x512 .f32) (ix2 (0 : Fin 1) q)
      = (m ((c : Thread nD τ).loc main_arg4) : Vec Ideal S14336 .f32) (ix1 (⟨512 * (t.val / 8 - 1) + q.val, by have := lt112 t; omega⟩ : Fin 14336)) := by
  blk_point [iblk, idx6 t]

theorem rd7 (c : Dev nD) (t : Fin cfg0.N) (q : Fin 512) :
    (iblk m c 7 t : Vec Ideal S1x512 .f32) (ix2 (0 : Fin 1) q)
      = (m ((c : Thread nD τ).loc main_arg4) : Vec Ideal S14336 .f32) (ix1 (⟨7168 + (512 * (t.val / 8 - 1) + q.val), by have := lt112 t; omega⟩ : Fin 14336)) := by
  blk_point [iblk, idx7 t]

theorem rd8 (c : Dev nD) (t : Fin cfg0.N) (q : Fin 512) :
    (iblk m c 8 t : Vec Ideal S1x512 .f32) (ix2 (0 : Fin 1) q)
      = (m ((c : Thread nD τ).loc main_arg5) : Vec Ideal S7168 .f32) (ix1 (⟨512 * (t.val / 8 - 1) + q.val, by have := lt112 t; omega⟩ : Fin 7168)) := by
  blk_point [iblk, idx8 t]

/-- A point's block is the result's rows and columns there. -/
theorem outAt_apply (c : Dev nD) (t : Fin cfg0.N) (h : ¬ t.val < 8) (p : Fin 768) (q : Fin 512) :
    outAt m c t (ix2 p q) = G m c (ix2 (⟨768 * (t.val % 8) + p.val, by omega⟩ : Fin 6144) (⟨512 * (t.val / 8 - 1) + q.val, by have := lt112 t; omega⟩ : Fin 7168)) := by
  have ht := lt112 t
  unfold outAt
  rw [outBlk_apply]
  simp only [rd0 m c t h, rd5, rd9, rd6, rd7, rd8, tile_apply]
  have e0 : col 0 (cur t.val) q = (⟨512 * (t.val / 8 - 1) + q.val, by omega⟩ : Fin 14336) :=
    Fin.ext (by show 7168 * 0 + 512 * min (t.val / 8 - 1) 13 + q.val = 512 * (t.val / 8 - 1) + q.val; omega)
  have e1 : col 1 (cur t.val) q = (⟨7168 + (512 * (t.val / 8 - 1) + q.val), by omega⟩ : Fin 14336) :=
    Fin.ext (by show 7168 * 1 + 512 * min (t.val / 8 - 1) 13 + q.val = 7168 + (512 * (t.val / 8 - 1) + q.val); omega)
  rw [e0, e1]
  rfl

theorem idx10 : ∀ t : Fin cfg0.N, win0_10.index t = ![if t.val < 8 then 0 else t.val % 8, t.val / 8 - 1] :=
  (by decide +kernel : ∀ t : Fin grid0.N, win0_10.index t = ![if t.val < 8 then 0 else t.val % 8, t.val / 8 - 1])

/-- The result array after the run. -/
theorem final (c : Dev nD) : (dats m 0 c).arrAt 10 (cfgs 0).N = G m c := by
  refine (dats m 0 c).arrAt_eq_of_covers 10 _ (by decide +kernel) fun t hf y => ?_
  have h : ¬ t.val < 8 := fun h => by rw [flush10 t h] at hf; exact Bool.false_ne_true hf
  have e := idx10 t
  rw [if_neg h] at e
  blk_simp
  rw [after0_10]
  have hy : y = ix2 (y 0 : Fin 768) (y 1 : Fin 512) := funext fun a => by
    match a with
    | ⟨0, _⟩ => rfl
    | ⟨1, _⟩ => rfl
  refine (congrArg (outAt m c t) hy).trans ((outAt_apply m c t h (y 0) (y 1)).trans ?_)
  blk_ext [e]

/-- The run: the result array, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h.1 c).1 10).trans (final m c), h.2 c⟩)
    (θ_run_and (run_main m ρ) (frame_of m ρ (dats m) (A_eq m) (run_main m ρ)))

end Cert.GuIdeal.Hand

end
-- ==== Proof.GuRefValue.lean ====
module

public import proofs.«01_k».proof.Proof.Gen.GuRefIdeal.Value
public import proofs.«01_k».proof.Proof.GuEpi

/-! What the reference computes, entry by entry. -/

@[expose] public section

set_option maxRecDepth 16384

noncomputable section

open Idealize.ShloMosaic Idealize.ShloMosaic.TcCoe Idealize.ShloMosaic.Tactic
open Idealize.ShloMosaic.ValueIdx hiding ix1 ix2

namespace Cert.GuRefIdeal.Hand

open Cert.GuRefIdeal Cert.GuRefIdeal.Gen Cert.W4

/-- The stacked fields, read through the eight-way stack. -/
def ladder (a2 : Vec Ideal S1024x14336 .i32) (x : Fin 1024) (n : Fin 14336) (p : Fin 8) : BitVec 8 :=
  if h : p.val < 1 then k0_pay1 (F := Ideal) a2 (ix2 x n) else
    if h : p.val - 1 < 1 then k0_pay2 (F := Ideal) a2 (ix2 x n) else
    if h : p.val - 1 - 1 < 1 then k0_pay3 (F := Ideal) a2 (ix2 x n) else
    if h : p.val - 1 - 1 - 1 < 1 then k0_pay6 (k0_pay4 (F := Ideal) a2) k0_pay5 (ix2 x n) else
    if h : p.val - 1 - 1 - 1 - 1 < 1 then k0_pay7 (F := Ideal) a2 (ix2 x n) else
    if h : p.val - 1 - 1 - 1 - 1 - 1 < 1 then k0_pay8 (F := Ideal) a2 (ix2 x n) else
    if h : p.val - 1 - 1 - 1 - 1 - 1 - 1 < 1 then k0_pay9 (F := Ideal) a2 (ix2 x n) else
    BitVec.setWidth 8 (Scalar.select (k0_pay11 (F := Ideal) a2 (ix2 x n)) (IntOp.subi (k0_pay10 (F := Ideal) a2 (ix2 x n)) 16#32) (k0_pay10 (F := Ideal) a2 (ix2 x n)))

theorem ladder_eq (a2 : Vec Ideal S1024x14336 .i32) (x : Fin 1024) (n : Fin 14336) (p : Fin 8) : ladder a2 x n p = fld (a2 (ix2 x n)) p.val := by
  fin_cases p <;> rfl

/-- A column of the reference's product. -/
theorem dot_eq (a0 : Vec Ideal S6144x8192 .fp8e4m3) (a2 : Vec Ideal S1024x14336 .i32) (a3 : Vec Ideal S64x14336 .fp8e4m3) (r : Fin 6144) (n : Fin 14336) :
    (∑ x : Fin 1024, ∑ p : Fin 8, (a0 (ix2 r (⟨x.val * 8 + p.val, by omega⟩ : Fin 8192)) : EReal)
        * ((FloatOps.sitofp (F := Ideal) FTy.bf16 (ladder a2 x n p) : EReal) * (a3 (ix2 (⟨x.val / 16, by omega⟩ : Fin 64) n) : EReal)))
      = prod (by decide : 8192 = 8 * 1024) (by decide : 8192 = 128 * 64) (fun r k => a0 (ix2 r k)) (fun x n => a2 (ix2 x n)) (fun q n => a3 (ix2 q n)) r n := by
  simp only [ladder_eq]
  exact prod_fields (by decide : 8192 = 8 * 1024) (by decide : 8192 = 128 * 64) (fun r k => a0 (ix2 r k)) (fun x n => a2 (ix2 x n)) (fun q n => a3 (ix2 q n)) r n

theorem g7_apply (a0 : Vec Ideal S6144x8192 .fp8e4m3) (a1 : Vec Ideal S1 .f32) (a2 : Vec Ideal S1024x14336 .i32) (a3 : Vec Ideal S64x14336 .fp8e4m3)
    (a4 : Vec Ideal S14336 .f32) (a5 : Vec Ideal S7168 .f32) (a6 : Vec Ideal S1 .f32) (r : Fin 6144) (n : Fin 7168) :
    Cert.GuRefIdeal.Value.G7 a0 a1 a2 a3 a4 a5 a6 (ix2 r n)
      = gu (fun r k => a0 (ix2 r k)) (a1 (ix1 0)) (fun x n => a2 (ix2 x n)) (fun q n => a3 (ix2 q n)) (fun n => a4 (ix1 n)) (fun n => a5 (ix1 n)) (a6 (ix1 0)) r n := by
  unfold gu
  rw [← dot_eq, ← dot_eq]
  pointwise [Value.G7, k0_pay12]
  unfold guEpi clip ladder
  rfl

end Cert.GuRefIdeal.Hand

end
-- ==== Proof.GuAlgebraic.lean ====
module

public import proofs.«01_k».proof.Defs
public import proofs.«01_k».proof.Proof.GuIdealValue
public import proofs.«01_k».proof.Proof.GuRefValue

/-! Kernel and reference end with the same activation codes. -/

@[expose] public section

set_option maxRecDepth 16384

noncomputable section

open Idealize.ShloMosaic Idealize.ShloMosaic.TcCoe Idealize.ShloMosaic.Tactic Idealize.SL.Sem
open Idealize.ShloMosaic.ValueIdx hiding ix1 ix2

namespace Cert.Gu.Hand

theorem algebraic : Cert.algebraic_GuIdeal_GuRefIdeal (hGuIdeal := Cert.GuIdeal.Gen.facts) (hGuRefIdeal := Cert.GuRefIdeal.Gen.facts) := by
  intro m g m' g' _ hm
  refine ⟨fun c => Cert.GuIdeal.Hand.G m c, Cert.GuIdeal.Hand.run m g, ?_⟩
  refine (θ_run _ _ _).mono (fun r h c => ⟨(h c).1.trans ?_, (h c).2⟩) (Cert.GuRefIdeal.Value.run m' g')
  obtain ⟨e0, e1, e2, e3, e4, e5, e6⟩ := hm c
  rw [e0, e1, e2, e3, e4, e5, e6]
  funext y
  have hy : y = ix2 (y 0 : Fin 6144) (y 1 : Fin 7168) := funext fun a => by
    match a with
    | ⟨0, _⟩ => rfl
    | ⟨1, _⟩ => rfl
  exact (congrArg _ hy).trans (Cert.GuRefIdeal.Hand.g7_apply _ _ _ _ _ _ _ (y 0) (y 1))

end Cert.Gu.Hand

end
-- ==== Proof.NormEpi.lean ====
module

public import proofs.«01_k».proof.Proof.GuEpi

/-! The entry of the codes of a normalised row that both programs compute. -/

@[expose] public section

noncomputable section

open Idealize.ShloMosaic

namespace Cert.W4

/-- Entry `k` of a row `x`: over the root of the mean square, times gain and prescale, over the static scale, clipped. -/
def nrm (x : Fin 8192 → EReal) (g p d : EReal) (k : Fin 8192) : EReal :=
  clip (Ideal.div (Ideal.div (x k)
    (Ideal.sqrt (Ideal.div (∑ j : Fin 8192, x j * x j) (Ideal.ofBits FTy.f32 0x46000000#32) + Ideal.ofBits FTy.f32 0x3727C5AC#32)) * g * p) d)

end Cert.W4

end
-- ==== Proof.NormAValue.lean ====
module

public import proofs.«01_k».proof.Proof.NormEpi
public import proofs.«01_k».proof.Proof.Gen.NormAIdeal.Value
public import proofs.«01_k».proof.Proof.Gen.NormARefIdeal.Run

/-! Both programs of the first norm end with the same codes. -/

@[expose] public section

set_option maxRecDepth 16384

noncomputable section

open Idealize.ShloMosaic Idealize.ShloMosaic.TcCoe Idealize.ShloMosaic.Tactic Idealize.SL.Sem
open Idealize.ShloMosaic.ValueIdx hiding ix1 ix2 ix3
open Idealize.ShloMosaic.Pipeline (Dat)

namespace Cert.NormAIdeal.Hand

open Cert.NormAIdeal Cert.NormAIdeal.Gen Cert.W4

/-- An entry of a block. -/
theorem pay_apply (x : Vec Ideal S256x8192 .bf16) (g p : Vec Ideal S1x8192 .f32) (d : Elt Ideal .f32) (i : Fin 256) (k : Fin 8192) :
    k0_pay1 x g p d (ix2 i k) = nrm (fun j => x (ix2 i j)) (g (ix2 (0 : Fin 1) k)) (p (ix2 (0 : Fin 1) k)) d k := by
  unfold nrm clip
  pointwise [k0_pay1]

variable (m : (ℓ : Loc nD τ sig) → Buf (Elt Ideal) ℓ) (ρ : Dev nD → PrngReg)

/-- The codes as a function of the arguments. -/
def G (x : Vec Ideal S6x1024x8192 .bf16) (g p : Vec Ideal S8192 .f32) (d : Vec Ideal S1 .f32) : Vec Ideal S6144x8192 .fp8e4m3 := fun y =>
  nrm (fun j => x (ix3 (⟨(y 0).val / 1024, by have : (y 0).val < 6144 := (y 0).isLt; omega⟩ : Fin 6) (⟨(y 0).val % 1024, by omega⟩ : Fin 1024) j)) (g (ix1 (y 1 : Fin 8192))) (p (ix1 (y 1 : Fin 8192))) (d (ix1 0)) (y 1)

theorem idx : ∀ t : Fin cfg0.N, win0_0.index t = ![0] ∧ win0_1.index t = ![t.val, 0] ∧ win0_2.index t = ![0, 0] ∧ win0_3.index t = ![0, 0] ∧ win0_4.index t = ![t.val, 0] :=
  (by decide +kernel : ∀ t : Fin grid0.N, win0_0.index t = ![0] ∧ win0_1.index t = ![t.val, 0] ∧ win0_2.index t = ![0, 0] ∧ win0_3.index t = ![0, 0] ∧ win0_4.index t = ![t.val, 0])

theorem lt24 (t : Fin cfg0.N) : t.val < 24 := t.isLt

theorem rd1 (c : Dev nD) (t : Fin cfg0.N) (i : Fin 256) (k : Fin 8192) :
    (iblk m c 1 t : Vec Ideal S256x8192 .bf16) (ix2 i k)
      = (m ((c : Thread nD τ).loc main_arg0) : Vec Ideal S6x1024x8192 .bf16)
          (ix3 (⟨(256 * t.val + i.val) / 1024, by have := lt24 t; omega⟩ : Fin 6) (⟨(256 * t.val + i.val) % 1024, by omega⟩ : Fin 1024) k) := by
  blk_point [iblk, idx t]

theorem rd0 (c : Dev nD) (t : Fin cfg0.N) :
    (iblk m c 0 t : Vec Ideal S1 .f32) (ix1 0) = (m ((c : Thread nD τ).loc main_arg3) : Vec Ideal S1 .f32) (ix1 0) := by
  blk_point [iblk, V, idx t]

theorem rd2 (c : Dev nD) (t : Fin cfg0.N) (k : Fin 8192) :
    (iblk m c 2 t : Vec Ideal S1x8192 .f32) (ix2 (0 : Fin 1) k) = (m ((c : Thread nD τ).loc main_arg1) : Vec Ideal S8192 .f32) (ix1 k) := by
  blk_point [iblk, idx t]

theorem rd3 (c : Dev nD) (t : Fin cfg0.N) (k : Fin 8192) :
    (iblk m c 3 t : Vec Ideal S1x8192 .f32) (ix2 (0 : Fin 1) k) = (m ((c : Thread nD τ).loc main_arg2) : Vec Ideal S8192 .f32) (ix1 k) := by
  blk_point [iblk, idx t]

/-- A point's block is the result's rows there. -/
theorem out_apply (c : Dev nD) (t : Fin cfg0.N) (i : Fin 256) (k : Fin 8192) :
    k0_pay1 (iblk m c 1 t) (iblk m c 2 t) (iblk m c 3 t) ((iblk m c 0 t : Vec Ideal S1 .f32) (ix1 0)) (ix2 i k)
      = G (m ((c : Thread nD τ).loc main_arg0)) (m ((c : Thread nD τ).loc main_arg1)) (m ((c : Thread nD τ).loc main_arg2)) (m ((c : Thread nD τ).loc main_arg3))
          (ix2 (⟨256 * t.val + i.val, by have := lt24 t; omega⟩ : Fin 6144) k) := by
  refine (pay_apply (iblk m c 1 t) (iblk m c 2 t) (iblk m c 3 t) ((iblk m c 0 t : Vec Ideal S1 .f32) (ix1 0)) i k).trans ?_
  rw [rd0, rd2, rd3, show (fun j => (iblk m c 1 t : Vec Ideal S256x8192 .bf16) (ix2 i j)) = _ from funext fun j => rd1 m c t i j]
  rfl

/-- The result array after the run. -/
theorem final (c : Dev nD) : (dats m 0 c).arrAt 4 (cfgs 0).N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  have hy : y = ix2 (y 0 : Fin 256) (y 1 : Fin 8192) := funext fun a => by
    match a with
    | ⟨0, _⟩ => rfl
    | ⟨1, _⟩ => rfl
  have hd : View.ld (iblk m c 0 t : Vec Ideal S1 .f32) (Rect.unit ![0] ![1] inb_S1_S1_0) (Shape.Idx.first (show 0 < S1.numel by decide)) = (iblk m c 0 t : Vec Ideal S1 .f32) (ix1 0) :=
    congrArg (iblk m c 0 t : Vec Ideal S1 .f32) (funext fun a => by
      match a with
      | ⟨0, _⟩ => rfl)
  refine (congrArg (fun d => k0_pay1 (F := Ideal) (iblk m c 1 t) (iblk m c 2 t) (iblk m c 3 t) d y) hd).trans ?_
  refine (congrArg (k0_pay1 (F := Ideal) (iblk m c 1 t) (iblk m c 2 t) (iblk m c 3 t) ((iblk m c 0 t : Vec Ideal S1 .f32) (ix1 0))) hy).trans ((out_apply m c t (y 0) (y 1)).trans ?_)
  blk_ext [idx t]

end Cert.NormAIdeal.Hand

namespace Cert.NormARefIdeal.Hand

open Cert.NormARefIdeal Cert.NormARefIdeal.Gen Cert.W4

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = NormAIdeal.Hand.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2⟩) (Value.run m ρ)
  generalize m ((c.tc : Thread nD τ).loc main_arg0) = x
  generalize m ((c.tc : Thread nD τ).loc main_arg1) = g
  generalize m ((c.tc : Thread nD τ).loc main_arg2) = p
  generalize m ((c.tc : Thread nD τ).loc main_arg3) = d
  funext y
  unfold NormAIdeal.Hand.G nrm clip
  pointwise []
  rfl

end Cert.NormARefIdeal.Hand

end
-- ==== Proof.NormBValue.lean ====
module

public import proofs.«01_k».proof.Proof.NormEpi
public import proofs.«01_k».proof.Proof.Gen.NormBIdeal.Value
public import proofs.«01_k».proof.Proof.Gen.NormBRefIdeal.Run

/-! Both programs of the second norm end with the same codes. -/

@[expose] public section

set_option maxRecDepth 16384

noncomputable section

open Idealize.ShloMosaic Idealize.ShloMosaic.TcCoe Idealize.ShloMosaic.Tactic Idealize.SL.Sem
open Idealize.ShloMosaic.ValueIdx hiding ix1 ix2
open Idealize.ShloMosaic.Pipeline (Dat)

namespace Cert.NormBIdeal.Hand

open Cert.NormBIdeal Cert.NormBIdeal.Gen Cert.W4

/-- An entry of a block. -/
theorem pay_apply (x : Vec Ideal S256x8192 .f32) (g p : Vec Ideal S1x8192 .f32) (d : Elt Ideal .f32) (i : Fin 256) (k : Fin 8192) :
    k0_pay1 x g p d (ix2 i k) = nrm (fun j => x (ix2 i j)) (g (ix2 (0 : Fin 1) k)) (p (ix2 (0 : Fin 1) k)) d k := by
  unfold nrm clip
  pointwise [k0_pay1]

variable (m : (ℓ : Loc nD τ sig) → Buf (Elt Ideal) ℓ) (ρ : Dev nD → PrngReg)

/-- The codes as a function of the arguments. -/
def G (x : Vec Ideal S6144x8192 .f32) (g p : Vec Ideal S8192 .f32) (d : Vec Ideal S1 .f32) : Vec Ideal S6144x8192 .fp8e4m3 := fun y =>
  nrm (fun j => x (ix2 (y 0 : Fin 6144) j)) (g (ix1 (y 1 : Fin 8192))) (p (ix1 (y 1 : Fin 8192))) (d (ix1 0)) (y 1)

theorem idx : ∀ t : Fin cfg0.N, win0_0.index t = ![0] ∧ win0_1.index t = ![t.val, 0] ∧ win0_2.index t = ![0, 0] ∧ win0_3.index t = ![0, 0] ∧ win0_4.index t = ![t.val, 0] :=
  (by decide +kernel : ∀ t : Fin grid0.N, win0_0.index t = ![0] ∧ win0_1.index t = ![t.val, 0] ∧ win0_2.index t = ![0, 0] ∧ win0_3.index t = ![0, 0] ∧ win0_4.index t = ![t.val, 0])

theorem lt24 (t : Fin cfg0.N) : t.val < 24 := t.isLt

theorem rd1 (c : Dev nD) (t : Fin cfg0.N) (i : Fin 256) (k : Fin 8192) :
    (iblk m c 1 t : Vec Ideal S256x8192 .f32) (ix2 i k)
      = (m ((c : Thread nD τ).loc main_arg0) : Vec Ideal S6144x8192 .f32) (ix2 (⟨256 * t.val + i.val, by have := lt24 t; omega⟩ : Fin 6144) k) := by
  blk_point [iblk, V, idx t]

theorem rd0 (c : Dev nD) (t : Fin cfg0.N) :
    (iblk m c 0 t : Vec Ideal S1 .f32) (ix1 0) = (m ((c : Thread nD τ).loc main_arg3) : Vec Ideal S1 .f32) (ix1 0) := by
  blk_point [iblk, V, idx t]

theorem rd2 (c : Dev nD) (t : Fin cfg0.N) (k : Fin 8192) :
    (iblk m c 2 t : Vec Ideal S1x8192 .f32) (ix2 (0 : Fin 1) k) = (m ((c : Thread nD τ).loc main_arg1) : Vec Ideal S8192 .f32) (ix1 k) := by
  blk_point [iblk, idx t]

theorem rd3 (c : Dev nD) (t : Fin cfg0.N) (k : Fin 8192) :
    (iblk m c 3 t : Vec Ideal S1x8192 .f32) (ix2 (0 : Fin 1) k) = (m ((c : Thread nD τ).loc main_arg2) : Vec Ideal S8192 .f32) (ix1 k) := by
  blk_point [iblk, idx t]

/-- A point's block is the result's rows there. -/
theorem out_apply (c : Dev nD) (t : Fin cfg0.N) (i : Fin 256) (k : Fin 8192) :
    k0_pay1 (iblk m c 1 t) (iblk m c 2 t) (iblk m c 3 t) ((iblk m c 0 t : Vec Ideal S1 .f32) (ix1 0)) (ix2 i k)
      = G (m ((c : Thread nD τ).loc main_arg0)) (m ((c : Thread nD τ).loc main_arg1)) (m ((c : Thread nD τ).loc main_arg2)) (m ((c : Thread nD τ).loc main_arg3))
          (ix2 (⟨256 * t.val + i.val, by have := lt24 t; omega⟩ : Fin 6144) k) := by
  refine (pay_apply (iblk m c 1 t) (iblk m c 2 t) (iblk m c 3 t) ((iblk m c 0 t : Vec Ideal S1 .f32) (ix1 0)) i k).trans ?_
  rw [rd0, rd2, rd3, show (fun j => (iblk m c 1 t : Vec Ideal S256x8192 .f32) (ix2 i j)) = _ from funext fun j => rd1 m c t i j]
  rfl

/-- The result array after the run. -/
theorem final (c : Dev nD) : (dats m 0 c).arrAt 4 (cfgs 0).N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  have hy : y = ix2 (y 0 : Fin 256) (y 1 : Fin 8192) := funext fun a => by
    match a with
    | ⟨0, _⟩ => rfl
    | ⟨1, _⟩ => rfl
  have hd : View.ld (iblk m c 0 t : Vec Ideal S1 .f32) (Rect.unit ![0] ![1] inb_S1_S1_0) (Shape.Idx.first (show 0 < S1.numel by decide)) = (iblk m c 0 t : Vec Ideal S1 .f32) (ix1 0) :=
    congrArg (iblk m c 0 t : Vec Ideal S1 .f32) (funext fun a => by
      match a with
      | ⟨0, _⟩ => rfl)
  refine (congrArg (fun d => k0_pay1 (F := Ideal) (iblk m c 1 t) (iblk m c 2 t) (iblk m c 3 t) d y) hd).trans ?_
  refine (congrArg (k0_pay1 (F := Ideal) (iblk m c 1 t) (iblk m c 2 t) (iblk m c 3 t) ((iblk m c 0 t : Vec Ideal S1 .f32) (ix1 0))) hy).trans ((out_apply m c t (y 0) (y 1)).trans ?_)
  blk_ext [idx t]

end Cert.NormBIdeal.Hand

namespace Cert.NormBRefIdeal.Hand

open Cert.NormBRefIdeal Cert.NormBRefIdeal.Gen Cert.W4

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = NormBIdeal.Hand.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2⟩) (Value.run m ρ)
  generalize m ((c.tc : Thread nD τ).loc main_arg0) = x
  generalize m ((c.tc : Thread nD τ).loc main_arg1) = g
  generalize m ((c.tc : Thread nD τ).loc main_arg2) = p
  generalize m ((c.tc : Thread nD τ).loc main_arg3) = d
  funext y
  unfold NormBIdeal.Hand.G nrm clip
  pointwise []
  rfl

end Cert.NormBRefIdeal.Hand

end
-- ==== Proof.NormAlgebraic.lean ====
module

public import proofs.«01_k».proof.Defs
public import proofs.«01_k».proof.Proof.NormAValue
public import proofs.«01_k».proof.Proof.NormBValue

/-! Kernel and reference of the two norms end with the same codes; the references' frames. -/

@[expose] public section

set_option maxRecDepth 16384

noncomputable section

open Idealize.ShloMosaic Idealize.ShloMosaic.TcCoe Idealize.SL.Sem

namespace Cert.NormA.Hand

theorem algebraic : Cert.algebraic_NormAIdeal_NormARefIdeal (hNormAIdeal := Cert.NormAIdeal.Gen.facts) (hNormARefIdeal := Cert.NormARefIdeal.Gen.facts) := by
  intro m g m' g' _ hm
  refine ⟨fun c => Cert.NormAIdeal.Hand.G (m ((c.tc : Thread Cert.NormAIdeal.nD Cert.NormAIdeal.τ).loc Cert.NormAIdeal.main_arg0)) (m ((c.tc : Thread Cert.NormAIdeal.nD Cert.NormAIdeal.τ).loc Cert.NormAIdeal.main_arg1)) (m ((c.tc : Thread Cert.NormAIdeal.nD Cert.NormAIdeal.τ).loc Cert.NormAIdeal.main_arg2)) (m ((c.tc : Thread Cert.NormAIdeal.nD Cert.NormAIdeal.τ).loc Cert.NormAIdeal.main_arg3)),
    (θ_run _ _ _).mono (fun r h c => ⟨(h c).1.trans (Cert.NormAIdeal.Hand.final m c), (h c).2⟩) (Cert.NormAIdeal.Value.run_blocks m g), ?_⟩
  refine (θ_run _ _ _).mono (fun r h c => ⟨(h c).1.trans ?_, (h c).2⟩) (Cert.NormARefIdeal.Hand.run m' g')
  obtain ⟨e0, e1, e2, e3⟩ := hm c
  rw [e0, e1, e2, e3]

/-- The reference has host code only and no semaphores. -/
theorem frame_ref : Cert.quiescent_NormARefIdeal (hNormARefIdeal := Cert.NormARefIdeal.Gen.facts) := fun m ρ _ =>
  (θ_run _ _ _).mono (fun r h => ⟨fun c => (h c).2, sem_eq_zero_of_no_sems (by decide) r.2⟩) (Cert.NormARefIdeal.Hand.run m ρ)

end Cert.NormA.Hand

namespace Cert.NormB.Hand

theorem algebraic : Cert.algebraic_NormBIdeal_NormBRefIdeal (hNormBIdeal := Cert.NormBIdeal.Gen.facts) (hNormBRefIdeal := Cert.NormBRefIdeal.Gen.facts) := by
  intro m g m' g' _ hm
  refine ⟨fun c => Cert.NormBIdeal.Hand.G (m ((c.tc : Thread Cert.NormBIdeal.nD Cert.NormBIdeal.τ).loc Cert.NormBIdeal.main_arg0)) (m ((c.tc : Thread Cert.NormBIdeal.nD Cert.NormBIdeal.τ).loc Cert.NormBIdeal.main_arg1)) (m ((c.tc : Thread Cert.NormBIdeal.nD Cert.NormBIdeal.τ).loc Cert.NormBIdeal.main_arg2)) (m ((c.tc : Thread Cert.NormBIdeal.nD Cert.NormBIdeal.τ).loc Cert.NormBIdeal.main_arg3)),
    (θ_run _ _ _).mono (fun r h c => ⟨(h c).1.trans (Cert.NormBIdeal.Hand.final m c), (h c).2⟩) (Cert.NormBIdeal.Value.run_blocks m g), ?_⟩
  refine (θ_run _ _ _).mono (fun r h c => ⟨(h c).1.trans ?_, (h c).2⟩) (Cert.NormBRefIdeal.Hand.run m' g')
  obtain ⟨e0, e1, e2, e3⟩ := hm c
  rw [e0, e1, e2, e3]

/-- The reference has host code only and no semaphores. -/
theorem frame_ref : Cert.quiescent_NormBRefIdeal (hNormBRefIdeal := Cert.NormBRefIdeal.Gen.facts) := fun m ρ _ =>
  (θ_run _ _ _).mono (fun r h => ⟨fun c => (h c).2, sem_eq_zero_of_no_sems (by decide) r.2⟩) (Cert.NormBRefIdeal.Hand.run m ρ)

end Cert.NormB.Hand

end
-- ==== Proof.lean ====
module

public import proofs.«01_k».proof.Defs
public import proofs.«01_k».proof.Proof.Gen.Gu
public import proofs.«01_k».proof.Proof.Gen.GuIdeal
public import proofs.«01_k».proof.Proof.Gen.GuRefIdeal.Value
public import proofs.«01_k».proof.Proof.GuFrame
public import proofs.«01_k».proof.Proof.Gen.Down
public import proofs.«01_k».proof.Proof.Gen.DownIdeal
public import proofs.«01_k».proof.Proof.Gen.DownRefIdeal.Value
public import proofs.«01_k».proof.Proof.DownFrame
public import proofs.«01_k».proof.Proof.DownAlgebraic
public import proofs.«01_k».proof.Proof.Gen.Oproj
public import proofs.«01_k».proof.Proof.Gen.OprojIdeal
public import proofs.«01_k».proof.Proof.Gen.OprojRefIdeal.Value
public import proofs.«01_k».proof.Proof.OprojFrame
public import proofs.«01_k».proof.Proof.OprojAlgebraic
public import proofs.«01_k».proof.Proof.Gen.Qkv
public import proofs.«01_k».proof.Proof.Gen.QkvIdeal
public import proofs.«01_k».proof.Proof.Gen.QkvRefIdeal.Value
public import proofs.«01_k».proof.Proof.QkvFrame
public import proofs.«01_k».proof.Proof.QkvAlgebraic
public import proofs.«01_k».proof.Proof.Gen.NormA.Frame
public import proofs.«01_k».proof.Proof.Gen.NormAIdeal.Value
public import proofs.«01_k».proof.Proof.Gen.NormARefIdeal.Run
public import proofs.«01_k».proof.Proof.Gen.NormB.Frame
public import proofs.«01_k».proof.Proof.Gen.NormBIdeal.Value
public import proofs.«01_k».proof.Proof.Gen.NormBRefIdeal.Run
public import proofs.«01_k».proof.Proof.GuIdealFrame
public import proofs.«01_k».proof.Proof.GuAlgebraic
public import proofs.«01_k».proof.Proof.NormAlgebraic
public import Idealize.ShloMosaic.Adequacy
public import Idealize.ShloMosaic.Init

@[expose] public section

noncomputable section

namespace Cert.Proof

open Idealize.ShloMosaic Idealize.SL.Sem Cert.Gu

theorem claim : Cert.Claim := ⟨Cert.Gu.Gen.facts, Cert.GuIdeal.Gen.facts, Cert.GuRefIdeal.Gen.facts,
  Cert.Down.Gen.facts, Cert.DownIdeal.Gen.facts, Cert.DownRefIdeal.Gen.facts,
  Cert.Oproj.Gen.facts, Cert.OprojIdeal.Gen.facts, Cert.OprojRefIdeal.Gen.facts,
  Cert.Qkv.Gen.facts, Cert.QkvIdeal.Gen.facts, Cert.QkvRefIdeal.Gen.facts,
  Cert.NormA.Gen.facts, Cert.NormAIdeal.Gen.facts, Cert.NormARefIdeal.Gen.facts,
  Cert.NormB.Gen.facts, Cert.NormBIdeal.Gen.facts, Cert.NormBRefIdeal.Gen.facts,
  fun m ρ _ => Cert.Gu.Hand.frame m ρ, fun m ρ _ => Cert.GuIdeal.Hand.frame m ρ, fun m ρ _ => Cert.GuRefIdeal.Gen.frame m ρ,
  fun m ρ _ => Cert.Down.Hand.frame m ρ, fun m ρ _ => Cert.DownIdeal.Hand.frame m ρ, fun m ρ _ => Cert.DownRefIdeal.Gen.frame m ρ,
  fun m ρ _ => Cert.Oproj.Hand.frame m ρ, fun m ρ _ => Cert.OprojIdeal.Hand.frame m ρ, fun m ρ _ => Cert.OprojRefIdeal.Gen.frame m ρ,
  fun m ρ _ => Cert.Qkv.Hand.frame m ρ, fun m ρ _ => Cert.QkvIdeal.Hand.frame m ρ, fun m ρ _ => Cert.QkvRefIdeal.Gen.frame m ρ,
  fun m ρ _ => Cert.NormA.Gen.frame m ρ, fun m ρ _ => Cert.NormAIdeal.Gen.frame m ρ, Cert.NormA.Hand.frame_ref,
  fun m ρ _ => Cert.NormB.Gen.frame m ρ, fun m ρ _ => Cert.NormBIdeal.Gen.frame m ρ, Cert.NormB.Hand.frame_ref,
  trivial, Cert.Gu.Hand.algebraic, trivial, Cert.Down.Hand.algebraic, trivial, Cert.Oproj.Hand.algebraic, trivial, Cert.Qkv.Hand.algebraic, trivial, Cert.NormA.Hand.algebraic, trivial, Cert.NormB.Hand.algebraic⟩

end Cert.Proof

end
